-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextIdeal_regular2 [hPre_regular2 : Cert.Pre_regular2.Facts] (m : (ℓ : Loc Cert.ContextIdeal.nD Cert.ContextIdeal.τ Cert.ContextIdeal.sig) → Buf (Elt Ideal) ℓ) : Prop :=
  ∀ c : Dev Cert.ContextIdeal.nD,
    (Cert.Pre_regular2.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5)) (m ((c.tc : Thread Cert.ContextIdeal.nD Cert.ContextIdeal.τ).loc Cert.ContextIdeal.main_arg6)) (m ((c.tc : Thread Cert.ContextIdeal.nD Cert.ContextIdeal.τ).loc Cert.ContextIdeal.main_arg7)) (m ((c.tc : Thread Cert.ContextIdeal.nD Cert.ContextIdeal.τ).loc Cert.ContextIdeal.main_arg8)) (m ((c.tc : Thread Cert.ContextIdeal.nD Cert.ContextIdeal.τ).loc Cert.ContextIdeal.main_arg9)) (m ((c.tc : Thread Cert.ContextIdeal.nD Cert.ContextIdeal.τ).loc Cert.ContextIdeal.main_arg10))) = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_regular2 [hPre_regular2 : Cert.Pre_regular2.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_regular2.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5)) (m ((c.tc : Thread Cert.ContextReferenceIdeal.nD Cert.ContextReferenceIdeal.τ).loc Cert.ContextReferenceIdeal.main_arg6)) (m ((c.tc : Thread Cert.ContextReferenceIdeal.nD Cert.ContextReferenceIdeal.τ).loc Cert.ContextReferenceIdeal.main_arg7)) (m ((c.tc : Thread Cert.ContextReferenceIdeal.nD Cert.ContextReferenceIdeal.τ).loc Cert.ContextReferenceIdeal.main_arg8)) (m ((c.tc : Thread Cert.ContextReferenceIdeal.nD Cert.ContextReferenceIdeal.τ).loc Cert.ContextReferenceIdeal.main_arg9)) (m ((c.tc : Thread Cert.ContextReferenceIdeal.nD Cert.ContextReferenceIdeal.τ).loc Cert.ContextReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5)
      ∧ r.2.mem ((c.tc : Thread Cert.Context.nD Cert.Context.τ).loc Cert.Context.main_arg6) = m ((c.tc : Thread Cert.Context.nD Cert.Context.τ).loc Cert.Context.main_arg6)
      ∧ r.2.mem ((c.tc : Thread Cert.Context.nD Cert.Context.τ).loc Cert.Context.main_arg7) = m ((c.tc : Thread Cert.Context.nD Cert.Context.τ).loc Cert.Context.main_arg7)
      ∧ r.2.mem ((c.tc : Thread Cert.Context.nD Cert.Context.τ).loc Cert.Context.main_arg8) = m ((c.tc : Thread Cert.Context.nD Cert.Context.τ).loc Cert.Context.main_arg8)
      ∧ r.2.mem ((c.tc : Thread Cert.Context.nD Cert.Context.τ).loc Cert.Context.main_arg9) = m ((c.tc : Thread Cert.Context.nD Cert.Context.τ).loc Cert.Context.main_arg9)
      ∧ r.2.mem ((c.tc : Thread Cert.Context.nD Cert.Context.τ).loc Cert.Context.main_arg10) = m ((c.tc : Thread Cert.Context.nD Cert.Context.τ).loc Cert.Context.main_arg10))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10))
      ∧ r.2.sem = fun _ => 0)

def quiescent_ContextIdeal_pre_regular2 [hContextIdeal : Cert.ContextIdeal.Facts] [hPre_regular2 : Cert.Pre_regular2.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal_regular2 m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
      ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
      ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
      ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
      ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
      ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6)
      ∧ r.2.mem ((c.tc : Thread Cert.ContextReferenceIdeal.nD Cert.ContextReferenceIdeal.τ).loc Cert.ContextReferenceIdeal.main_arg7) = m ((c.tc : Thread Cert.ContextReferenceIdeal.nD Cert.ContextReferenceIdeal.τ).loc Cert.ContextReferenceIdeal.main_arg7)
      ∧ r.2.mem ((c.tc : Thread Cert.ContextReferenceIdeal.nD Cert.ContextReferenceIdeal.τ).loc Cert.ContextReferenceIdeal.main_arg8) = m ((c.tc : Thread Cert.ContextReferenceIdeal.nD Cert.ContextReferenceIdeal.τ).loc Cert.ContextReferenceIdeal.main_arg8)
      ∧ r.2.mem ((c.tc : Thread Cert.ContextReferenceIdeal.nD Cert.ContextReferenceIdeal.τ).loc Cert.ContextReferenceIdeal.main_arg9) = m ((c.tc : Thread Cert.ContextReferenceIdeal.nD Cert.ContextReferenceIdeal.τ).loc Cert.ContextReferenceIdeal.main_arg9)
      ∧ r.2.mem ((c.tc : Thread Cert.ContextReferenceIdeal.nD Cert.ContextReferenceIdeal.τ).loc Cert.ContextReferenceIdeal.main_arg10) = m ((c.tc : Thread Cert.ContextReferenceIdeal.nD Cert.ContextReferenceIdeal.τ).loc Cert.ContextReferenceIdeal.main_arg10))
      ∧ r.2.sem = fun _ => 0)

def quiescent_ContextReferenceIdeal_pre_regular2 [hContextReferenceIdeal : Cert.ContextReferenceIdeal.Facts] [hPre_regular2 : Cert.Pre_regular2.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_regular2 m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5)
      ∧ r.2.mem ((c.tc : Thread Cert.ContextReferenceIdeal.nD Cert.ContextReferenceIdeal.τ).loc Cert.ContextReferenceIdeal.main_arg6) = m ((c.tc : Thread Cert.ContextReferenceIdeal.nD Cert.ContextReferenceIdeal.τ).loc Cert.ContextReferenceIdeal.main_arg6)
      ∧ r.2.mem ((c.tc : Thread Cert.ContextReferenceIdeal.nD Cert.ContextReferenceIdeal.τ).loc Cert.ContextReferenceIdeal.main_arg7) = m ((c.tc : Thread Cert.ContextReferenceIdeal.nD Cert.ContextReferenceIdeal.τ).loc Cert.ContextReferenceIdeal.main_arg7)
      ∧ r.2.mem ((c.tc : Thread Cert.ContextReferenceIdeal.nD Cert.ContextReferenceIdeal.τ).loc Cert.ContextReferenceIdeal.main_arg8) = m ((c.tc : Thread Cert.ContextReferenceIdeal.nD Cert.ContextReferenceIdeal.τ).loc Cert.ContextReferenceIdeal.main_arg8)
      ∧ r.2.mem ((c.tc : Thread Cert.ContextReferenceIdeal.nD Cert.ContextReferenceIdeal.τ).loc Cert.ContextReferenceIdeal.main_arg9) = m ((c.tc : Thread Cert.ContextReferenceIdeal.nD Cert.ContextReferenceIdeal.τ).loc Cert.ContextReferenceIdeal.main_arg9)
      ∧ r.2.mem ((c.tc : Thread Cert.ContextReferenceIdeal.nD Cert.ContextReferenceIdeal.τ).loc Cert.ContextReferenceIdeal.main_arg10) = m ((c.tc : Thread Cert.ContextReferenceIdeal.nD Cert.ContextReferenceIdeal.τ).loc Cert.ContextReferenceIdeal.main_arg10))
      ∧ r.2.sem = fun _ => 0)

def preserves_Kernel_KernelIdeal : Prop :=
  IdealRules.named_const.Statement Cert.KernelIdeal.κ "half_decay" .f32 0xC0B8AA3B#32 (((-4) * (Real.log 2)⁻¹ : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v148) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Context_ContextIdeal : Prop :=
  IdealRules.named_const.Statement Cert.ContextIdeal.κ "half_decay" .f32 0xC0B8AA3B#32 (((-4) * (Real.log 2)⁻¹ : ℝ) : EReal)

def algebraic_ContextIdeal_ContextReferenceIdeal_pre_regular2 [hContextIdeal : Cert.ContextIdeal.Facts] [hContextReferenceIdeal : Cert.ContextReferenceIdeal.Facts] [hPre_regular2 : Cert.Pre_regular2.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal_regular2 m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)
      ∧ m' ((c.tc : Thread Cert.ContextReferenceIdeal.nD Cert.ContextReferenceIdeal.τ).loc Cert.ContextReferenceIdeal.main_arg4) = m ((c.tc : Thread Cert.ContextIdeal.nD Cert.ContextIdeal.τ).loc Cert.ContextIdeal.main_arg4)
      ∧ m' ((c.tc : Thread Cert.ContextReferenceIdeal.nD Cert.ContextReferenceIdeal.τ).loc Cert.ContextReferenceIdeal.main_arg5) = m ((c.tc : Thread Cert.ContextIdeal.nD Cert.ContextIdeal.τ).loc Cert.ContextIdeal.main_arg5)
      ∧ m' ((c.tc : Thread Cert.ContextReferenceIdeal.nD Cert.ContextReferenceIdeal.τ).loc Cert.ContextReferenceIdeal.main_arg6) = m ((c.tc : Thread Cert.ContextIdeal.nD Cert.ContextIdeal.τ).loc Cert.ContextIdeal.main_arg6)
      ∧ m' ((c.tc : Thread Cert.ContextReferenceIdeal.nD Cert.ContextReferenceIdeal.τ).loc Cert.ContextReferenceIdeal.main_arg7) = m ((c.tc : Thread Cert.ContextIdeal.nD Cert.ContextIdeal.τ).loc Cert.ContextIdeal.main_arg7)
      ∧ m' ((c.tc : Thread Cert.ContextReferenceIdeal.nD Cert.ContextReferenceIdeal.τ).loc Cert.ContextReferenceIdeal.main_arg8) = m ((c.tc : Thread Cert.ContextIdeal.nD Cert.ContextIdeal.τ).loc Cert.ContextIdeal.main_arg8)
      ∧ m' ((c.tc : Thread Cert.ContextReferenceIdeal.nD Cert.ContextReferenceIdeal.τ).loc Cert.ContextReferenceIdeal.main_arg9) = m ((c.tc : Thread Cert.ContextIdeal.nD Cert.ContextIdeal.τ).loc Cert.ContextIdeal.main_arg9)
      ∧ m' ((c.tc : Thread Cert.ContextReferenceIdeal.nD Cert.ContextReferenceIdeal.τ).loc Cert.ContextReferenceIdeal.main_arg10) = m ((c.tc : Thread Cert.ContextIdeal.nD Cert.ContextIdeal.τ).loc Cert.ContextIdeal.main_arg10)) →
    ∃ (v0 : (c : Dev Cert.ContextIdeal.nD) → Buf (Elt Ideal) ((c.tc : Thread Cert.ContextIdeal.nD Cert.ContextIdeal.τ).loc Cert.ContextIdeal.main_v35)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v35) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5)
          ∧ r.2.mem ((c.tc : Thread Cert.ContextIdeal.nD Cert.ContextIdeal.τ).loc Cert.ContextIdeal.main_arg6) = m ((c.tc : Thread Cert.ContextIdeal.nD Cert.ContextIdeal.τ).loc Cert.ContextIdeal.main_arg6)
          ∧ r.2.mem ((c.tc : Thread Cert.ContextIdeal.nD Cert.ContextIdeal.τ).loc Cert.ContextIdeal.main_arg7) = m ((c.tc : Thread Cert.ContextIdeal.nD Cert.ContextIdeal.τ).loc Cert.ContextIdeal.main_arg7)
          ∧ r.2.mem ((c.tc : Thread Cert.ContextIdeal.nD Cert.ContextIdeal.τ).loc Cert.ContextIdeal.main_arg8) = m ((c.tc : Thread Cert.ContextIdeal.nD Cert.ContextIdeal.τ).loc Cert.ContextIdeal.main_arg8)
          ∧ r.2.mem ((c.tc : Thread Cert.ContextIdeal.nD Cert.ContextIdeal.τ).loc Cert.ContextIdeal.main_arg9) = m ((c.tc : Thread Cert.ContextIdeal.nD Cert.ContextIdeal.τ).loc Cert.ContextIdeal.main_arg9)
          ∧ r.2.mem ((c.tc : Thread Cert.ContextIdeal.nD Cert.ContextIdeal.τ).loc Cert.ContextIdeal.main_arg10) = m ((c.tc : Thread Cert.ContextIdeal.nD Cert.ContextIdeal.τ).loc Cert.ContextIdeal.main_arg10))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v177) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3)
          ∧ r.2.mem ((c.tc : Thread Cert.ContextReferenceIdeal.nD Cert.ContextReferenceIdeal.τ).loc Cert.ContextReferenceIdeal.main_arg4) = m' ((c.tc : Thread Cert.ContextReferenceIdeal.nD Cert.ContextReferenceIdeal.τ).loc Cert.ContextReferenceIdeal.main_arg4)
          ∧ r.2.mem ((c.tc : Thread Cert.ContextReferenceIdeal.nD Cert.ContextReferenceIdeal.τ).loc Cert.ContextReferenceIdeal.main_arg5) = m' ((c.tc : Thread Cert.ContextReferenceIdeal.nD Cert.ContextReferenceIdeal.τ).loc Cert.ContextReferenceIdeal.main_arg5)
          ∧ r.2.mem ((c.tc : Thread Cert.ContextReferenceIdeal.nD Cert.ContextReferenceIdeal.τ).loc Cert.ContextReferenceIdeal.main_arg6) = m' ((c.tc : Thread Cert.ContextReferenceIdeal.nD Cert.ContextReferenceIdeal.τ).loc Cert.ContextReferenceIdeal.main_arg6)
          ∧ r.2.mem ((c.tc : Thread Cert.ContextReferenceIdeal.nD Cert.ContextReferenceIdeal.τ).loc Cert.ContextReferenceIdeal.main_arg7) = m' ((c.tc : Thread Cert.ContextReferenceIdeal.nD Cert.ContextReferenceIdeal.τ).loc Cert.ContextReferenceIdeal.main_arg7)
          ∧ r.2.mem ((c.tc : Thread Cert.ContextReferenceIdeal.nD Cert.ContextReferenceIdeal.τ).loc Cert.ContextReferenceIdeal.main_arg8) = m' ((c.tc : Thread Cert.ContextReferenceIdeal.nD Cert.ContextReferenceIdeal.τ).loc Cert.ContextReferenceIdeal.main_arg8)
          ∧ r.2.mem ((c.tc : Thread Cert.ContextReferenceIdeal.nD Cert.ContextReferenceIdeal.τ).loc Cert.ContextReferenceIdeal.main_arg9) = m' ((c.tc : Thread Cert.ContextReferenceIdeal.nD Cert.ContextReferenceIdeal.τ).loc Cert.ContextReferenceIdeal.main_arg9)
          ∧ r.2.mem ((c.tc : Thread Cert.ContextReferenceIdeal.nD Cert.ContextReferenceIdeal.τ).loc Cert.ContextReferenceIdeal.main_arg10) = m' ((c.tc : Thread Cert.ContextReferenceIdeal.nD Cert.ContextReferenceIdeal.τ).loc Cert.ContextReferenceIdeal.main_arg10))

def Claim : Prop :=
  ∃ (hKernel : Cert.Kernel.Facts) (hKernelIdeal : Cert.KernelIdeal.Facts) (hReferenceIdeal : Cert.ReferenceIdeal.Facts) (hContext : Cert.Context.Facts) (hContextIdeal : Cert.ContextIdeal.Facts) (hContextReferenceIdeal : Cert.ContextReferenceIdeal.Facts) (hPre_regular : Cert.Pre_regular.Facts) (hPre_regular2 : Cert.Pre_regular2.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ quiescent_Context (hContext := hContext)
    ∧ quiescent_ContextIdeal (hContextIdeal := hContextIdeal)
    ∧ quiescent_ContextIdeal_pre_regular2 (hContextIdeal := hContextIdeal) (hPre_regular2 := hPre_regular2)
    ∧ quiescent_ContextReferenceIdeal (hContextReferenceIdeal := hContextReferenceIdeal)
    ∧ quiescent_ContextReferenceIdeal_pre_regular2 (hContextReferenceIdeal := hContextReferenceIdeal) (hPre_regular2 := hPre_regular2)
    ∧ preserves_Kernel_KernelIdeal
    ∧ algebraic_KernelIdeal_ReferenceIdeal_pre_regular (hKernelIdeal := hKernelIdeal) (hReferenceIdeal := hReferenceIdeal) (hPre_regular := hPre_regular)
    ∧ preserves_Context_ContextIdeal
    ∧ algebraic_ContextIdeal_ContextReferenceIdeal_pre_regular2 (hContextIdeal := hContextIdeal) (hContextReferenceIdeal := hContextReferenceIdeal) (hPre_regular2 := hPre_regular2)
-- ==== Pre_regular.lean ====
abbrev S2x8192x1024 : Shape := ⟨3, ![2, 8192, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S2x2x512 : Shape := ⟨3, ![2, 2, 512]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x2048 : Shape := ⟨2, ![1024, 2048]⟩
abbrev S2x8192x2048 : Shape := ⟨3, ![2, 8192, 2048]⟩
abbrev S2x8192x512 : Shape := ⟨3, ![2, 8192, 512]⟩
abbrev S2x8195x512 : Shape := ⟨3, ![2, 8195, 512]⟩
abbrev S1x1x512 : Shape := ⟨3, ![1, 1, 512]⟩
abbrev S512 : Shape := ⟨1, ![512]⟩
abbrev S2x8192x4x128 : Shape := ⟨4, ![2, 8192, 4, 128]⟩
abbrev S1x1x4x128x128 : Shape := ⟨5, ![1, 1, 4, 128, 128]⟩
abbrev S4x128x128 : Shape := ⟨3, ![4, 128, 128]⟩
abbrev S4x128x2x8192 : Shape := ⟨4, ![4, 128, 2, 8192]⟩

class Facts : Prop where
  slices_S8x3072_S2x1024_0_0 : S8x3072.Slices ![0, 0] S2x1024
  bcast_S2x1024_S2x1x1024_0_2 : S2x1024.BroadcastsInDim S2x1x1024 (![0, 2] : Fin 2 → Fin S2x1x1024.rank)
  slices_S8x3072_S2x1024_0_1024 : S8x3072.Slices ![0, 1024] S2x1024
  reducesTo_S2x8192x1024_S2x8192_d2 : S2x8192x1024.ReducesTo [2] S2x8192
  h_S_ : 0 < S_.numel
  bcast_S2x8192_S2x8192x1_0_1 : S2x8192.BroadcastsInDim S2x8192x1 (![0, 1] : Fin 2 → Fin S2x8192x1.rank)
  bcast_S_S2x8192x1 : S_.BroadcastsInDim S2x8192x1 (![] : Fin 0 → Fin S2x8192x1.rank)
  bcast_S2x8192x1_S2x8192x1024_0_1_2 : S2x8192x1.BroadcastsInDim S2x8192x1024 (![0, 1, 2] : Fin 3 → Fin S2x8192x1024.rank)
  shapeCasts_S1x1024_S1024 : S1x1024.ShapeCasts S1024
  bcast_S1024_S1x1x1024_2 : S1024.BroadcastsInDim S1x1x1024 (![2] : Fin 1 → Fin S1x1x1024.rank)
  bcast_S1x1x1024_S2x8192x1024_0_1_2 : S1x1x1024.BroadcastsInDim S2x8192x1024 (![0, 1, 2] : Fin 3 → Fin S2x8192x1024.rank)
  bcast_S_S2x1x1024 : S_.BroadcastsInDim S2x1x1024 (![] : Fin 0 → Fin S2x1x1024.rank)
  bcast_S2x1x1024_S2x8192x1024_0_1_2 : S2x1x1024.BroadcastsInDim S2x8192x1024 (![0, 1, 2] : Fin 3 → Fin S2x8192x1024.rank)
  shapeCasts_S1x1024x2048_S1024x2048 : S1x1024x2048.ShapeCasts S1024x2048
  slices_S2x8192x2048_S2x8192x512_0_0_1024 : S2x8192x2048.Slices ![0, 0, 1024] S2x8192x512
  pads_S2x8192x512_S2x8195x512_000_210_000 : S2x8192x512.Pads (![0, 2, 0] : Fin 3 → Nat) ![0, 1, 0] ![0, 0, 0] S2x8195x512
  slices_S2x8195x512_S2x8192x512_0_0_0 : S2x8195x512.Slices ![0, 0, 0] S2x8192x512
  slices_S1x4x512_S1x1x512_0_0_0 : S1x4x512.Slices ![0, 0, 0] S1x1x512
  shapeCasts_S1x1x512_S512 : S1x1x512.ShapeCasts S512
  bcast_S512_S1x1x512_2 : S512.BroadcastsInDim S1x1x512 (![2] : Fin 1 → Fin S1x1x512.rank)
  bcast_S1x1x512_S2x8192x512_0_1_2 : S1x1x512.BroadcastsInDim S2x8192x512 (![0, 1, 2] : Fin 3 → Fin S2x8192x512.rank)
  slices_S2x8195x512_S2x8192x512_0_1_0 : S2x8195x512.Slices ![0, 1, 0] S2x8192x512
  slices_S1x4x512_S1x1x512_0_1_0 : S1x4x512.Slices ![0, 1, 0] S1x1x512
  slices_S2x8195x512_S2x8192x512_0_2_0 : S2x8195x512.Slices ![0, 2, 0] S2x8192x512
  slices_S1x4x512_S1x1x512_0_2_0 : S1x4x512.Slices ![0, 2, 0] S1x1x512
  slices_S2x8195x512_S2x8192x512_0_3_0 : S2x8195x512.Slices ![0, 3, 0] S2x8192x512
  slices_S1x4x512_S1x1x512_0_3_0 : S1x4x512.Slices ![0, 3, 0] S1x1x512
  shapeCasts_S1x512_S512 : S1x512.ShapeCasts S512
  shapeCasts_S2x8192x512_S2x8192x4x128 : S2x8192x512.ShapeCasts S2x8192x4x128
  slices_S1x2x4x128x128_S1x1x4x128x128_0_0_0_0_0 : S1x2x4x128x128.Slices ![0, 0, 0, 0, 0] S1x1x4x128x128
  shapeCasts_S1x1x4x128x128_S4x128x128 : S1x1x4x128x128.ShapeCasts S4x128x128
  transposes_S4x128x2x8192_S2x8192x4x128_2_3_0_1 : S4x128x2x8192.Transposes [2, 3, 0, 1] S2x8192x4x128
  shapeCasts_S2x8192x4x128_S2x8192x512 : S2x8192x4x128.ShapeCasts S2x8192x512
  slices_S1x2x512_S1x1x512_0_0_0 : S1x2x512.Slices ![0, 0, 0] S1x1x512
  bcast_S_S2x8192x512 : S_.BroadcastsInDim S2x8192x512 (![] : Fin 0 → Fin S2x8192x512.rank)
  bcast_S_S512 : S_.BroadcastsInDim S512 (![] : Fin 0 → Fin S512.rank)
  reducesTo_S2x8192x512_S_d0_1_2 : S2x8192x512.ReducesTo [0, 1, 2] S_
  slices_S2x8192x2048_S2x8192x512_0_0_512 : S2x8192x2048.Slices ![0, 0, 512] S2x8192x512
  slices_S2x8192x2048_S2x8192x512_0_0_1536 : S2x8192x2048.Slices ![0, 0, 1536] S2x8192x512
  dot_S2x8192x1024_S1024x2048_S2x8192x2048_2_0_01_1_n_n_wf : DotDims.WF S2x8192x1024 S1024x2048 S2x8192x2048 [2] [0] [0, 1] [1] [] []
  dot_S4x128x128_S2x8192x4x128_S4x128x2x8192_1_3_2_01_0_2_wf : DotDims.WF S4x128x128 S2x8192x4x128 S4x128x2x8192 [1] [3] [2] [0, 1] [0] [2]

variable [Facts]

def dot_S2x8192x1024_S1024x2048_S2x8192x2048_2_0_01_1_n_n : DotDims S2x8192x1024 S1024x2048 S2x8192x2048 where
  lhsContracting := [2]
  rhsContracting := [0]
  lhsNonContracting := [0, 1]
  rhsNonContracting := [1]
  lhsBatch := []
  rhsBatch := []
  wf := dot_S2x8192x1024_S1024x2048_S2x8192x2048_2_0_01_1_n_n_wf
def dot_S4x128x128_S2x8192x4x128_S4x128x2x8192_1_3_2_01_0_2 : DotDims S4x128x128 S2x8192x4x128 S4x128x2x8192 where
  lhsContracting := [1]
  rhsContracting := [3]
  lhsNonContracting := [2]
  rhsNonContracting := [0, 1]
  lhsBatch := [0]
  rhsBatch := [2]
  wf := dot_S4x128x128_S2x8192x4x128_S4x128x2x8192_1_3_2_01_0_2_wf
def fn_part5 {F : FTy → Type} [FloatOps F] (main_v102 : IVec S_ 1) (main_v103 : FVec F S2x8192x512 .f32) (main_v104 : FVec F S2x8192x512 .f32) : IVec S_ 1 :=
  let main_v105 : IVec S2x8192x512 1 := cmpf .ogt main_v103 main_v104
  let main_c_13 : IVec S_ 1 := constantI S_ 1 1#1
  let main_v106 : IVec S_ 1 := (fun x v => Host.reduce IntOp.andi x v reducesTo_S2x8192x512_S_d0_1_2 h_S_) main_v105 main_c_13
  let main_v107 : IVec S_ 1 := andi main_v102 main_v106
  main_v107

def fn_part4 {F : FTy → Type} [FloatOps F] (main_v25 : FVec F S2x8192x2048 .f32) (main_v77 : FVec F S2x8192x512 .f32) (main_v82 : FVec F S512 .f32) (main_v86 : FVec F S512 .f32) : IVec S_ 1 :=
  let main_v87 : FVec F S512 .f32 := addf main_v82 main_v86
  let main_v88 : FVec F S1x1x512 .f32 := broadcastInDim S1x1x512 ![2] bcast_S512_S1x1x512_2 main_v87
  let main_v89 : FVec F S2x8192x512 .f32 := broadcastInDim S2x8192x512 ![0, 1, 2] bcast_S1x1x512_S2x8192x512_0_1_2 main_v88
  let main_v90 : FVec F S2x8192x512 .f32 := mulf main_v77 main_v89
  let main_cst_8 : FVec F S_ .f32 := constant S_ .f32 0x40000000#32
  let main_v91 : FVec F S2x8192x512 .f32 := broadcastInDim S2x8192x512 ![] bcast_S_S2x8192x512 main_cst_8
  let main_v92 : FVec F S2x8192x512 .f32 := mulf main_v91 main_v90
  let main_v93 : FVec F S2x8192x512 .f32 := Host.expm1 main_v92
  let main_v94 : FVec F S2x8192x512 .f32 := Host.negf main_v93
  let main_cst_9 : FVec F S_ .f32 := constant S_ .f32 0x0DA24260#32
  let main_v95 : FVec F S2x8192x512 .f32 := broadcastInDim S2x8192x512 ![] bcast_S_S2x8192x512 main_cst_9
  let main_v96 : IVec S2x8192x512 1 := cmpf .oge main_v94 main_v95
  let main_c : IVec S_ 1 := constantI S_ 1 1#1
  let main_v97 : IVec S_ 1 := (fun x v => Host.reduce IntOp.andi x v reducesTo_S2x8192x512_S_d0_1_2 h_S_) main_v96 main_c
  let main_v98 : FVec F S2x8192x512 .f32 := (extractStridedSlice S2x8192x512 ![0, 0, 512] · slices_S2x8192x2048_S2x8192x512_0_0_512) main_v25
  let main_cst_10 : FVec F S_ .f32 := constant S_ .f32 0xFF800000#32
  let main_v99 : FVec F S2x8192x512 .f32 := broadcastInDim S2x8192x512 ![] bcast_S_S2x8192x512 main_cst_10
  let main_v100 : IVec S2x8192x512 1 := cmpf .ogt main_v98 main_v99
  let main_c_11 : IVec S_ 1 := constantI S_ 1 1#1
  let main_v101 : IVec S_ 1 := (fun x v => Host.reduce IntOp.andi x v reducesTo_S2x8192x512_S_d0_1_2 h_S_) main_v100 main_c_11
  let main_v102 : IVec S_ 1 := andi main_v97 main_v101
  let main_v103 : FVec F S2x8192x512 .f32 := (extractStridedSlice S2x8192x512 ![0, 0, 1536] · slices_S2x8192x2048_S2x8192x512_0_0_1536) main_v25
  let main_cst_12 : FVec F S_ .f32 := constant S_ .f32 0xFF800000#32
  let main_v104 : FVec F S2x8192x512 .f32 := broadcastInDim S2x8192x512 ![] bcast_S_S2x8192x512 main_cst_12
  fn_part5 (F := F) main_v102 main_v103 main_v104

def fn_part3 {F : FTy → Type} [FloatOps F] (main_arg10 : FVec F S1x2x512 .f32) (main_v25 : FVec F S2x8192x2048 .f32) (main_v64 : FVec F S2x8192x512 .f32) (main_v66 : FVec F S512 .f32) : IVec S_ 1 :=
  let main_v67 : FVec F S1x1x512 .f32 := broadcastInDim S1x1x512 ![2] bcast_S512_S1x1x512_2 main_v66
  let main_v68 : FVec F S2x8192x512 .f32 := broadcastInDim S2x8192x512 ![0, 1, 2] bcast_S1x1x512_S2x8192x512_0_1_2 main_v67
  let main_v69 : FVec F S2x8192x512 .f32 := addf main_v64 main_v68
  let main_v70 : FVec F S2x8192x512 .f32 := Host.negf main_v69
  let main_v71 : FVec F S2x8192x512 .f32 := Host.exp main_v70
  let main_cst_4 : FVec F S_ .f32 := constant S_ .f32 0x3F800000#32
  let main_v72 : FVec F S2x8192x512 .f32 := broadcastInDim S2x8192x512 ![] bcast_S_S2x8192x512 main_cst_4
  let main_v73 : FVec F S2x8192x512 .f32 := addf main_v72 main_v71
  let main_cst_5 : FVec F S_ .f32 := constant S_ .f32 0x3F800000#32
  let main_v74 : FVec F S2x8192x512 .f32 := broadcastInDim S2x8192x512 ![] bcast_S_S2x8192x512 main_cst_5
  let main_v75 : FVec F S2x8192x512 .f32 := Host.divf main_v74 main_v73
  let main_cst_6 : FVec F S_ .f32 := constant S_ .f32 0xC1000000#32
  let main_v76 : FVec F S2x8192x512 .f32 := broadcastInDim S2x8192x512 ![] bcast_S_S2x8192x512 main_cst_6
  let main_v77 : FVec F S2x8192x512 .f32 := mulf main_v76 main_v75
  let main_v78 : FVec F S1x1x512 .f32 := (extractStridedSlice S1x1x512 ![0, 0, 0] · slices_S1x2x512_S1x1x512_0_0_0) main_arg10
  let main_v79 : FVec F S512 .f32 := shapeCast S512 main_v78 shapeCasts_S1x1x512_S512
  let main_v80 : FVec F S512 .f32 := Host.negf main_v79
  let main_cst_7 : FVec F S_ .f32 := constant S_ .f32 0x00000000#32
  let main_v81 : FVec F S512 .f32 := broadcastInDim S512 ![] bcast_S_S512 main_cst_7
  let main_v82 : FVec F S512 .f32 := maximumf main_v80 main_v81
  let main_v83 : FVec F S512 .f32 := Host.absf main_v80
  let main_v84 : FVec F S512 .f32 := Host.negf main_v83
  let main_v85 : FVec F S512 .f32 := Host.exp main_v84
  let main_v86 : FVec F S512 .f32 := Host.log1p main_v85
  fn_part4 (F := F) main_v25 main_v77 main_v82 main_v86

def fn_part2 {F : FTy → Type} [FloatOps F] (main_arg4 : FVec F S1x4x512 .f32) (main_arg5 : FVec F S1x512 .f32) (main_arg6 : FVec F S1x2x4x128x128 .f32) (main_arg7 : FVec F S1x2x512 .f32) (main_arg10 : FVec F S1x2x512 .f32) (main_v25 : FVec F S2x8192x2048 .f32) (main_v27 : FVec F S2x8195x512 .f32) (main_v40 : FVec F S2x8192x512 .f32) (main_v41 : FVec F S2x8192x512 .f32) (main_v42 : FVec F S1x1x512 .f32) : IVec S_ 1 :=
  let main_v43 : FVec F S512 .f32 := shapeCast S512 main_v42 shapeCasts_S1x1x512_S512
  let main_v44 : FVec F S1x1x512 .f32 := broadcastInDim S1x1x512 ![2] bcast_S512_S1x1x512_2 main_v43
  let main_v45 : FVec F S2x8192x512 .f32 := broadcastInDim S2x8192x512 ![0, 1, 2] bcast_S1x1x512_S2x8192x512_0_1_2 main_v44
  let main_v46 : FVec F S2x8192x512 .f32 := mulf main_v41 main_v45
  let main_v47 : FVec F S2x8192x512 .f32 := addf main_v40 main_v46
  let main_v48 : FVec F S2x8192x512 .f32 := (extractStridedSlice S2x8192x512 ![0, 3, 0] · slices_S2x8195x512_S2x8192x512_0_3_0) main_v27
  let main_v49 : FVec F S1x1x512 .f32 := (extractStridedSlice S1x1x512 ![0, 3, 0] · slices_S1x4x512_S1x1x512_0_3_0) main_arg4
  let main_v50 : FVec F S512 .f32 := shapeCast S512 main_v49 shapeCasts_S1x1x512_S512
  let main_v51 : FVec F S1x1x512 .f32 := broadcastInDim S1x1x512 ![2] bcast_S512_S1x1x512_2 main_v50
  let main_v52 : FVec F S2x8192x512 .f32 := broadcastInDim S2x8192x512 ![0, 1, 2] bcast_S1x1x512_S2x8192x512_0_1_2 main_v51
  let main_v53 : FVec F S2x8192x512 .f32 := mulf main_v48 main_v52
  let main_v54 : FVec F S2x8192x512 .f32 := addf main_v47 main_v53
  let main_v55 : FVec F S512 .f32 := shapeCast S512 main_arg5 shapeCasts_S1x512_S512
  let main_v56 : FVec F S1x1x512 .f32 := broadcastInDim S1x1x512 ![2] bcast_S512_S1x1x512_2 main_v55
  let main_v57 : FVec F S2x8192x512 .f32 := broadcastInDim S2x8192x512 ![0, 1, 2] bcast_S1x1x512_S2x8192x512_0_1_2 main_v56
  let main_v58 : FVec F S2x8192x512 .f32 := addf main_v54 main_v57
  let main_v59 : FVec F S2x8192x4x128 .f32 := shapeCast S2x8192x4x128 main_v58 shapeCasts_S2x8192x512_S2x8192x4x128
  let main_v60 : FVec F S1x1x4x128x128 .f32 := (extractStridedSlice S1x1x4x128x128 ![0, 0, 0, 0, 0] · slices_S1x2x4x128x128_S1x1x4x128x128_0_0_0_0_0) main_arg6
  let main_v61 : FVec F S4x128x128 .f32 := shapeCast S4x128x128 main_v60 shapeCasts_S1x1x4x128x128_S4x128x128
  let main_v62 : FVec F S4x128x2x8192 .f32 := (fun l r => Host.dotGeneral dot_S4x128x128_S2x8192x4x128_S4x128x2x8192_1_3_2_01_0_2 none l r) main_v61 main_v59
  let main_v63 : FVec F S2x8192x4x128 .f32 := (transpose S2x8192x4x128 [2, 3, 0, 1] · transposes_S4x128x2x8192_S2x8192x4x128_2_3_0_1) main_v62
  let main_v64 : FVec F S2x8192x512 .f32 := shapeCast S2x8192x512 main_v63 shapeCasts_S2x8192x4x128_S2x8192x512
  let main_v65 : FVec F S1x1x512 .f32 := (extractStridedSlice S1x1x512 ![0, 0, 0] · slices_S1x2x512_S1x1x512_0_0_0) main_arg7
  let main_v66 : FVec F S512 .f32 := shapeCast S512 main_v65 shapeCasts_S1x1x512_S512
  fn_part3 (F := F) main_arg10 main_v25 main_v64 main_v66

def fn_part1 {F : FTy → Type} [FloatOps F] (main_arg3 : FVec F S1x1024x2048 .f32) (main_arg4 : FVec F S1x4x512 .f32) (main_arg5 : FVec F S1x512 .f32) (main_arg6 : FVec F S1x2x4x128x128 .f32) (main_arg7 : FVec F S1x2x512 .f32) (main_arg10 : FVec F S1x2x512 .f32) (main_v1 : FVec F S2x1x1024 .f32) (main_v17 : FVec F S2x8192x1024 .f32) (main_v19 : FVec F S2x1x1024 .f32) : IVec S_ 1 :=
  let main_v20 : FVec F S2x8192x1024 .f32 := broadcastInDim S2x8192x1024 ![0, 1, 2] bcast_S2x1x1024_S2x8192x1024_0_1_2 main_v19
  let main_v21 : FVec F S2x8192x1024 .f32 := mulf main_v17 main_v20
  let main_v22 : FVec F S2x8192x1024 .f32 := broadcastInDim S2x8192x1024 ![0, 1, 2] bcast_S2x1x1024_S2x8192x1024_0_1_2 main_v1
  let main_v23 : FVec F S2x8192x1024 .f32 := addf main_v21 main_v22
  let main_v24 : FVec F S1024x2048 .f32 := shapeCast S1024x2048 main_arg3 shapeCasts_S1x1024x2048_S1024x2048
  let main_v25 : FVec F S2x8192x2048 .f32 := (fun l r => Host.dotGeneral dot_S2x8192x1024_S1024x2048_S2x8192x2048_2_0_01_1_n_n none l r) main_v23 main_v24
  let main_v26 : FVec F S2x8192x512 .f32 := (extractStridedSlice S2x8192x512 ![0, 0, 1024] · slices_S2x8192x2048_S2x8192x512_0_0_1024) main_v25
  let main_cst_3 : FVec F S_ .f32 := constant S_ .f32 0x00000000#32
  let main_v27 : FVec F S2x8195x512 .f32 := (fun x v => pad S2x8195x512 ![0, 2, 0] ![0, 1, 0] ![0, 0, 0] x v pads_S2x8192x512_S2x8195x512_000_210_000 h_S_) main_v26 main_cst_3
  let main_v28 : FVec F S2x8192x512 .f32 := (extractStridedSlice S2x8192x512 ![0, 0, 0] · slices_S2x8195x512_S2x8192x512_0_0_0) main_v27
  let main_v29 : FVec F S1x1x512 .f32 := (extractStridedSlice S1x1x512 ![0, 0, 0] · slices_S1x4x512_S1x1x512_0_0_0) main_arg4
  let main_v30 : FVec F S512 .f32 := shapeCast S512 main_v29 shapeCasts_S1x1x512_S512
  let main_v31 : FVec F S1x1x512 .f32 := broadcastInDim S1x1x512 ![2] bcast_S512_S1x1x512_2 main_v30
  let main_v32 : FVec F S2x8192x512 .f32 := broadcastInDim S2x8192x512 ![0, 1, 2] bcast_S1x1x512_S2x8192x512_0_1_2 main_v31
  let main_v33 : FVec F S2x8192x512 .f32 := mulf main_v28 main_v32
  let main_v34 : FVec F S2x8192x512 .f32 := (extractStridedSlice S2x8192x512 ![0, 1, 0] · slices_S2x8195x512_S2x8192x512_0_1_0) main_v27
  let main_v35 : FVec F S1x1x512 .f32 := (extractStridedSlice S1x1x512 ![0, 1, 0] · slices_S1x4x512_S1x1x512_0_1_0) main_arg4
  let main_v36 : FVec F S512 .f32 := shapeCast S512 main_v35 shapeCasts_S1x1x512_S512
  let main_v37 : FVec F S1x1x512 .f32 := broadcastInDim S1x1x512 ![2] bcast_S512_S1x1x512_2 main_v36
  let main_v38 : FVec F S2x8192x512 .f32 := broadcastInDim S2x8192x512 ![0, 1, 2] bcast_S1x1x512_S2x8192x512_0_1_2 main_v37
  let main_v39 : FVec F S2x8192x512 .f32 := mulf main_v34 main_v38
  let main_v40 : FVec F S2x8192x512 .f32 := addf main_v33 main_v39
  let main_v41 : FVec F S2x8192x512 .f32 := (extractStridedSlice S2x8192x512 ![0, 2, 0] · slices_S2x8195x512_S2x8192x512_0_2_0) main_v27
  let main_v42 : FVec F S1x1x512 .f32 := (extractStridedSlice S1x1x512 ![0, 2, 0] · slices_S1x4x512_S1x1x512_0_2_0) main_arg4
  fn_part2 (F := F) main_arg4 main_arg5 main_arg6 main_arg7 main_arg10 main_v25 main_v27 main_v40 main_v41 main_v42

def fn {F : FTy → Type} [FloatOps F] (main_arg0 : FVec F S2x8192x1024 .f32) (main_arg1 : FVec F S8x3072 .f32) (main_arg2 : FVec F S1x1024 .f32) (main_arg3 : FVec F S1x1024x2048 .f32) (main_arg4 : FVec F S1x4x512 .f32) (main_arg5 : FVec F S1x512 .f32) (main_arg6 : FVec F S1x2x4x128x128 .f32) (main_arg7 : FVec F S1x2x512 .f32) (main_arg8 : FVec F S1x2x4x128x128 .f32) (main_arg9 : FVec F S1x2x512 .f32) (main_arg10 : FVec F S1x2x512 .f32) (main_arg11 : FVec F S2x2x512 .f32) : IVec S_ 1 :=
  let main_v0 : FVec F S2x1024 .f32 := (extractStridedSlice S2x1024 ![0, 0] · slices_S8x3072_S2x1024_0_0) main_arg1
  let main_v1 : FVec F S2x1x1024 .f32 := broadcastInDim S2x1x1024 ![0, 2] bcast_S2x1024_S2x1x1024_0_2 main_v0
  let main_v2 : FVec F S2x1024 .f32 := (extractStridedSlice S2x1024 ![0, 1024] · slices_S8x3072_S2x1024_0_1024) main_arg1
  let main_v3 : FVec F S2x1x1024 .f32 := broadcastInDim S2x1x1024 ![0, 2] bcast_S2x1024_S2x1x1024_0_2 main_v2
  let main_v4 : FVec F S2x8192x1024 .f32 := mulf main_arg0 main_arg0
  let main_cst : FVec F S_ .f32 := constant S_ .f32 0x00000000#32
  let main_v5 : FVec F S2x8192 .f32 := (fun x v => Host.reduceAdd x v reducesTo_S2x8192x1024_S2x8192_d2 h_S_) main_v4 main_cst
  let main_v6 : FVec F S2x8192x1 .f32 := broadcastInDim S2x8192x1 ![0, 1] bcast_S2x8192_S2x8192x1_0_1 main_v5
  let main_cst_0 : FVec F S_ .f32 := constant S_ .f32 0x44800000#32
  let main_v7 : FVec F S2x8192x1 .f32 := broadcastInDim S2x8192x1 ![] bcast_S_S2x8192x1 main_cst_0
  let main_v8 : FVec F S2x8192x1 .f32 := Host.divf main_v6 main_v7
  let main_cst_1 : FVec F S_ .f32 := constant S_ .f32 0x358637BD#32
  let main_v9 : FVec F S2x8192x1 .f32 := broadcastInDim S2x8192x1 ![] bcast_S_S2x8192x1 main_cst_1
  let main_v10 : FVec F S2x8192x1 .f32 := addf main_v8 main_v9
  let main_v11 : FVec F S2x8192x1 .f32 := Host.rsqrt main_v10
  let main_v12 : FVec F S2x8192x1024 .f32 := broadcastInDim S2x8192x1024 ![0, 1, 2] bcast_S2x8192x1_S2x8192x1024_0_1_2 main_v11
  let main_v13 : FVec F S2x8192x1024 .f32 := mulf main_arg0 main_v12
  let main_v14 : FVec F S1024 .f32 := shapeCast S1024 main_arg2 shapeCasts_S1x1024_S1024
  let main_v15 : FVec F S1x1x1024 .f32 := broadcastInDim S1x1x1024 ![2] bcast_S1024_S1x1x1024_2 main_v14
  let main_v16 : FVec F S2x8192x1024 .f32 := broadcastInDim S2x8192x1024 ![0, 1, 2] bcast_S1x1x1024_S2x8192x1024_0_1_2 main_v15
  let main_v17 : FVec F S2x8192x1024 .f32 := mulf main_v13 main_v16
  let main_cst_2 : FVec F S_ .f32 := constant S_ .f32 0x3F800000#32
  let main_v18 : FVec F S2x1x1024 .f32 := broadcastInDim S2x1x1024 ![] bcast_S_S2x1x1024 main_cst_2
  let main_v19 : FVec F S2x1x1024 .f32 := addf main_v18 main_v3
  fn_part1 (F := F) main_arg3 main_arg4 main_arg5 main_arg6 main_arg7 main_arg10 main_v1 main_v17 main_v19
-- ==== Pre_regular2.lean ====
abbrev S2x256x1024 : Shape := ⟨3, ![2, 256, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S_ : Shape := ⟨0, ![]⟩
abbrev S2x256 : Shape := ⟨2, ![2, 256]⟩
abbrev S2x256x1 : Shape := ⟨3, ![2, 256, 1]⟩
abbrev S1024 : Shape := ⟨1, ![1024]⟩
abbrev S1x1x1024 : Shape := ⟨3, ![1, 1, 1024]⟩
abbrev S1024x2048 : Shape := ⟨2, ![1024, 2048]⟩
abbrev S2x256x2048 : Shape := ⟨3, ![2, 256, 2048]⟩
abbrev S2x256x512 : Shape := ⟨3, ![2, 256, 512]⟩
abbrev S2x259x512 : Shape := ⟨3, ![2, 259, 512]⟩
abbrev S1x1x512 : Shape := ⟨3, ![1, 1, 512]⟩
abbrev S512 : Shape := ⟨1, ![512]⟩
abbrev S1x1x4x128x128 : Shape := ⟨5, ![1, 1, 4, 128, 128]⟩
abbrev S4x128x128 : Shape := ⟨3, ![4, 128, 128]⟩
abbrev S2x256x4x128 : Shape := ⟨4, ![2, 256, 4, 128]⟩
abbrev S4x128x2x256 : Shape := ⟨4, ![4, 128, 2, 256]⟩

class Facts : Prop where
  reducesTo_S2x256x1024_S2x256_d2 : S2x256x1024.ReducesTo [2] S2x256
  h_S_ : 0 < S_.numel
  bcast_S2x256_S2x256x1_0_1 : S2x256.BroadcastsInDim S2x256x1 (![0, 1] : Fin 2 → Fin S2x256x1.rank)
  bcast_S_S2x256x1 : S_.BroadcastsInDim S2x256x1 (![] : Fin 0 → Fin S2x256x1.rank)
  bcast_S2x256x1_S2x256x1024_0_1_2 : S2x256x1.BroadcastsInDim S2x256x1024 (![0, 1, 2] : Fin 3 → Fin S2x256x1024.rank)
  shapeCasts_S1x1024_S1024 : S1x1024.ShapeCasts S1024
  bcast_S1024_S1x1x1024_2 : S1024.BroadcastsInDim S1x1x1024 (![2] : Fin 1 → Fin S1x1x1024.rank)
  bcast_S1x1x1024_S2x256x1024_0_1_2 : S1x1x1024.BroadcastsInDim S2x256x1024 (![0, 1, 2] : Fin 3 → Fin S2x256x1024.rank)
  slices_S8x3072_S1x1024_2_1024 : S8x3072.Slices ![2, 1024] S1x1024
  bcast_S_S1024 : S_.BroadcastsInDim S1024 (![] : Fin 0 → Fin S1024.rank)
  slices_S8x3072_S1x1024_2_0 : S8x3072.Slices ![2, 0] S1x1024
  shapeCasts_S1x1024x2048_S1024x2048 : S1x1024x2048.ShapeCasts S1024x2048
  slices_S2x256x2048_S2x256x512_0_0_1024 : S2x256x2048.Slices ![0, 0, 1024] S2x256x512
  pads_S2x256x512_S2x259x512_000_210_000 : S2x256x512.Pads (![0, 2, 0] : Fin 3 → Nat) ![0, 1, 0] ![0, 0, 0] S2x259x512
  slices_S2x259x512_S2x256x512_0_0_0 : S2x259x512.Slices ![0, 0, 0] S2x256x512
  slices_S1x4x512_S1x1x512_0_0_0 : S1x4x512.Slices ![0, 0, 0] S1x1x512
  shapeCasts_S1x1x512_S512 : S1x1x512.ShapeCasts S512
  bcast_S512_S1x1x512_2 : S512.BroadcastsInDim S1x1x512 (![2] : Fin 1 → Fin S1x1x512.rank)
  bcast_S1x1x512_S2x256x512_0_1_2 : S1x1x512.BroadcastsInDim S2x256x512 (![0, 1, 2] : Fin 3 → Fin S2x256x512.rank)
  slices_S2x259x512_S2x256x512_0_1_0 : S2x259x512.Slices ![0, 1, 0] S2x256x512
  slices_S1x4x512_S1x1x512_0_1_0 : S1x4x512.Slices ![0, 1, 0] S1x1x512
  slices_S2x259x512_S2x256x512_0_2_0 : S2x259x512.Slices ![0, 2, 0] S2x256x512
  slices_S1x4x512_S1x1x512_0_2_0 : S1x4x512.Slices ![0, 2, 0] S1x1x512
  slices_S2x259x512_S2x256x512_0_3_0 : S2x259x512.Slices ![0, 3, 0] S2x256x512
  slices_S1x4x512_S1x1x512_0_3_0 : S1x4x512.Slices ![0, 3, 0] S1x1x512
  shapeCasts_S1x512_S512 : S1x512.ShapeCasts S512
  slices_S1x2x4x128x128_S1x1x4x128x128_0_0_0_0_0 : S1x2x4x128x128.Slices ![0, 0, 0, 0, 0] S1x1x4x128x128
  shapeCasts_S1x1x4x128x128_S4x128x128 : S1x1x4x128x128.ShapeCasts S4x128x128
  slices_S1x2x512_S1x1x512_0_0_0 : S1x2x512.Slices ![0, 0, 0] S1x1x512
  shapeCasts_S2x256x512_S2x256x4x128 : S2x256x512.ShapeCasts S2x256x4x128
  transposes_S4x128x2x256_S2x256x4x128_2_3_0_1 : S4x128x2x256.Transposes [2, 3, 0, 1] S2x256x4x128
  shapeCasts_S2x256x4x128_S2x256x512 : S2x256x4x128.ShapeCasts S2x256x512
  bcast_S_S2x256x512 : S_.BroadcastsInDim S2x256x512 (![] : Fin 0 → Fin S2x256x512.rank)
  bcast_S_S512 : S_.BroadcastsInDim S512 (![] : Fin 0 → Fin S512.rank)
  reducesTo_S2x256x512_S_d0_1_2 : S2x256x512.ReducesTo [0, 1, 2] S_
  slices_S1x2x4x128x128_S1x1x4x128x128_0_1_0_0_0 : S1x2x4x128x128.Slices ![0, 1, 0, 0, 0] S1x1x4x128x128
  slices_S1x2x512_S1x1x512_0_1_0 : S1x2x512.Slices ![0, 1, 0] S1x1x512
  dot_S2x256x1024_S1024x2048_S2x256x2048_2_0_01_1_n_n_wf : DotDims.WF S2x256x1024 S1024x2048 S2x256x2048 [2] [0] [0, 1] [1] [] []
  dot_S4x128x128_S2x256x4x128_S4x128x2x256_1_3_2_01_0_2_wf : DotDims.WF S4x128x128 S2x256x4x128 S4x128x2x256 [1] [3] [2] [0, 1] [0] [2]

variable [Facts]

def dot_S2x256x1024_S1024x2048_S2x256x2048_2_0_01_1_n_n : DotDims S2x256x1024 S1024x2048 S2x256x2048 where
  lhsContracting := [2]
  rhsContracting := [0]
  lhsNonContracting := [0, 1]
  rhsNonContracting := [1]
  lhsBatch := []
  rhsBatch := []
  wf := dot_S2x256x1024_S1024x2048_S2x256x2048_2_0_01_1_n_n_wf
def dot_S4x128x128_S2x256x4x128_S4x128x2x256_1_3_2_01_0_2 : DotDims S4x128x128 S2x256x4x128 S4x128x2x256 where
  lhsContracting := [1]
  rhsContracting := [3]
  lhsNonContracting := [2]
  rhsNonContracting := [0, 1]
  lhsBatch := [0]
  rhsBatch := [2]
  wf := dot_S4x128x128_S2x256x4x128_S4x128x2x256_1_3_2_01_0_2_wf
def fn_part6 {F : FTy → Type} [FloatOps F] (main_v99 : IVec S_ 1) (main_v120 : FVec F S2x256x512 .f32) (main_v123 : FVec F S512 .f32) (main_v127 : FVec F S512 .f32) : IVec S_ 1 :=
  let main_v128 : FVec F S512 .f32 := addf main_v123 main_v127
  let main_v129 : FVec F S1x1x512 .f32 := broadcastInDim S1x1x512 ![2] bcast_S512_S1x1x512_2 main_v128
  let main_v130 : FVec F S2x256x512 .f32 := broadcastInDim S2x256x512 ![0, 1, 2] bcast_S1x1x512_S2x256x512_0_1_2 main_v129
  let main_v131 : FVec F S2x256x512 .f32 := mulf main_v120 main_v130
  let main_cst_14 : FVec F S_ .f32 := constant S_ .f32 0x40000000#32
  let main_v132 : FVec F S2x256x512 .f32 := broadcastInDim S2x256x512 ![] bcast_S_S2x256x512 main_cst_14
  let main_v133 : FVec F S2x256x512 .f32 := mulf main_v132 main_v131
  let main_v134 : FVec F S2x256x512 .f32 := Host.expm1 main_v133
  let main_v135 : FVec F S2x256x512 .f32 := Host.negf main_v134
  let main_cst_15 : FVec F S_ .f32 := constant S_ .f32 0x0DA24260#32
  let main_v136 : FVec F S2x256x512 .f32 := broadcastInDim S2x256x512 ![] bcast_S_S2x256x512 main_cst_15
  let main_v137 : IVec S2x256x512 1 := cmpf .oge main_v135 main_v136
  let main_c_16 : IVec S_ 1 := constantI S_ 1 1#1
  let main_v138 : IVec S_ 1 := (fun x v => Host.reduce IntOp.andi x v reducesTo_S2x256x512_S_d0_1_2 h_S_) main_v137 main_c_16
  let main_v139 : IVec S_ 1 := andi main_v99 main_v138
  main_v139

def fn_part5 {F : FTy → Type} [FloatOps F] (main_v99 : IVec S_ 1) (main_v103 : FVec F S512 .f32) (main_v105 : FVec F S512 .f32) (main_v107 : FVec F S4x128x2x256 .f32) : IVec S_ 1 :=
  let main_v108 : FVec F S2x256x4x128 .f32 := (transpose S2x256x4x128 [2, 3, 0, 1] · transposes_S4x128x2x256_S2x256x4x128_2_3_0_1) main_v107
  let main_v109 : FVec F S2x256x512 .f32 := shapeCast S2x256x512 main_v108 shapeCasts_S2x256x4x128_S2x256x512
  let main_v110 : FVec F S1x1x512 .f32 := broadcastInDim S1x1x512 ![2] bcast_S512_S1x1x512_2 main_v103
  let main_v111 : FVec F S2x256x512 .f32 := broadcastInDim S2x256x512 ![0, 1, 2] bcast_S1x1x512_S2x256x512_0_1_2 main_v110
  let main_v112 : FVec F S2x256x512 .f32 := addf main_v109 main_v111
  let main_v113 : FVec F S2x256x512 .f32 := Host.negf main_v112
  let main_v114 : FVec F S2x256x512 .f32 := Host.exp main_v113
  let main_cst_10 : FVec F S_ .f32 := constant S_ .f32 0x3F800000#32
  let main_v115 : FVec F S2x256x512 .f32 := broadcastInDim S2x256x512 ![] bcast_S_S2x256x512 main_cst_10
  let main_v116 : FVec F S2x256x512 .f32 := addf main_v115 main_v114
  let main_cst_11 : FVec F S_ .f32 := constant S_ .f32 0x3F800000#32
  let main_v117 : FVec F S2x256x512 .f32 := broadcastInDim S2x256x512 ![] bcast_S_S2x256x512 main_cst_11
  let main_v118 : FVec F S2x256x512 .f32 := Host.divf main_v117 main_v116
  let main_cst_12 : FVec F S_ .f32 := constant S_ .f32 0xC1000000#32
  let main_v119 : FVec F S2x256x512 .f32 := broadcastInDim S2x256x512 ![] bcast_S_S2x256x512 main_cst_12
  let main_v120 : FVec F S2x256x512 .f32 := mulf main_v119 main_v118
  let main_v121 : FVec F S512 .f32 := Host.negf main_v105
  let main_cst_13 : FVec F S_ .f32 := constant S_ .f32 0x00000000#32
  let main_v122 : FVec F S512 .f32 := broadcastInDim S512 ![] bcast_S_S512 main_cst_13
  let main_v123 : FVec F S512 .f32 := maximumf main_v121 main_v122
  let main_v124 : FVec F S512 .f32 := Host.absf main_v121
  let main_v125 : FVec F S512 .f32 := Host.negf main_v124
  let main_v126 : FVec F S512 .f32 := Host.exp main_v125
  let main_v127 : FVec F S512 .f32 := Host.log1p main_v126
  fn_part6 (F := F) main_v99 main_v120 main_v123 main_v127

def fn_part4 {F : FTy → Type} [FloatOps F] (main_arg6 : FVec F S1x2x4x128x128 .f32) (main_arg7 : FVec F S1x2x512 .f32) (main_arg10 : FVec F S1x2x512 .f32) (main_v60 : FVec F S2x256x512 .f32) (main_v81 : FVec F S2x256x512 .f32) (main_v84 : FVec F S512 .f32) (main_v86 : FVec F S512 .f32) : IVec S_ 1 :=
  let main_v87 : FVec F S512 .f32 := Host.exp main_v86
  let main_v88 : FVec F S512 .f32 := Host.log1p main_v87
  let main_v89 : FVec F S512 .f32 := addf main_v84 main_v88
  let main_v90 : FVec F S1x1x512 .f32 := broadcastInDim S1x1x512 ![2] bcast_S512_S1x1x512_2 main_v89
  let main_v91 : FVec F S2x256x512 .f32 := broadcastInDim S2x256x512 ![0, 1, 2] bcast_S1x1x512_S2x256x512_0_1_2 main_v90
  let main_v92 : FVec F S2x256x512 .f32 := mulf main_v81 main_v91
  let main_cst_8 : FVec F S_ .f32 := constant S_ .f32 0x40000000#32
  let main_v93 : FVec F S2x256x512 .f32 := broadcastInDim S2x256x512 ![] bcast_S_S2x256x512 main_cst_8
  let main_v94 : FVec F S2x256x512 .f32 := mulf main_v93 main_v92
  let main_v95 : FVec F S2x256x512 .f32 := Host.expm1 main_v94
  let main_v96 : FVec F S2x256x512 .f32 := Host.negf main_v95
  let main_cst_9 : FVec F S_ .f32 := constant S_ .f32 0x0DA24260#32
  let main_v97 : FVec F S2x256x512 .f32 := broadcastInDim S2x256x512 ![] bcast_S_S2x256x512 main_cst_9
  let main_v98 : IVec S2x256x512 1 := cmpf .oge main_v96 main_v97
  let main_c : IVec S_ 1 := constantI S_ 1 1#1
  let main_v99 : IVec S_ 1 := (fun x v => Host.reduce IntOp.andi x v reducesTo_S2x256x512_S_d0_1_2 h_S_) main_v98 main_c
  let main_v100 : FVec F S1x1x4x128x128 .f32 := (extractStridedSlice S1x1x4x128x128 ![0, 1, 0, 0, 0] · slices_S1x2x4x128x128_S1x1x4x128x128_0_1_0_0_0) main_arg6
  let main_v101 : FVec F S4x128x128 .f32 := shapeCast S4x128x128 main_v100 shapeCasts_S1x1x4x128x128_S4x128x128
  let main_v102 : FVec F S1x1x512 .f32 := (extractStridedSlice S1x1x512 ![0, 1, 0] · slices_S1x2x512_S1x1x512_0_1_0) main_arg7
  let main_v103 : FVec F S512 .f32 := shapeCast S512 main_v102 shapeCasts_S1x1x512_S512
  let main_v104 : FVec F S1x1x512 .f32 := (extractStridedSlice S1x1x512 ![0, 1, 0] · slices_S1x2x512_S1x1x512_0_1_0) main_arg10
  let main_v105 : FVec F S512 .f32 := shapeCast S512 main_v104 shapeCasts_S1x1x512_S512
  let main_v106 : FVec F S2x256x4x128 .f32 := shapeCast S2x256x4x128 main_v60 shapeCasts_S2x256x512_S2x256x4x128
  let main_v107 : FVec F S4x128x2x256 .f32 := (fun l r => Host.dotGeneral dot_S4x128x128_S2x256x4x128_S4x128x2x256_1_3_2_01_0_2 none l r) main_v101 main_v106
  fn_part5 (F := F) main_v99 main_v103 main_v105 main_v107

def fn_part3 {F : FTy → Type} [FloatOps F] (main_arg6 : FVec F S1x2x4x128x128 .f32) (main_arg7 : FVec F S1x2x512 .f32) (main_arg10 : FVec F S1x2x512 .f32) (main_v60 : FVec F S2x256x512 .f32) (main_v62 : FVec F S4x128x128 .f32) (main_v64 : FVec F S512 .f32) (main_v66 : FVec F S512 .f32) : IVec S_ 1 :=
  let main_v67 : FVec F S2x256x4x128 .f32 := shapeCast S2x256x4x128 main_v60 shapeCasts_S2x256x512_S2x256x4x128
  let main_v68 : FVec F S4x128x2x256 .f32 := (fun l r => Host.dotGeneral dot_S4x128x128_S2x256x4x128_S4x128x2x256_1_3_2_01_0_2 none l r) main_v62 main_v67
  let main_v69 : FVec F S2x256x4x128 .f32 := (transpose S2x256x4x128 [2, 3, 0, 1] · transposes_S4x128x2x256_S2x256x4x128_2_3_0_1) main_v68
  let main_v70 : FVec F S2x256x512 .f32 := shapeCast S2x256x512 main_v69 shapeCasts_S2x256x4x128_S2x256x512
  let main_v71 : FVec F S1x1x512 .f32 := broadcastInDim S1x1x512 ![2] bcast_S512_S1x1x512_2 main_v64
  let main_v72 : FVec F S2x256x512 .f32 := broadcastInDim S2x256x512 ![0, 1, 2] bcast_S1x1x512_S2x256x512_0_1_2 main_v71
  let main_v73 : FVec F S2x256x512 .f32 := addf main_v70 main_v72
  let main_v74 : FVec F S2x256x512 .f32 := Host.negf main_v73
  let main_v75 : FVec F S2x256x512 .f32 := Host.exp main_v74
  let main_cst_4 : FVec F S_ .f32 := constant S_ .f32 0x3F800000#32
  let main_v76 : FVec F S2x256x512 .f32 := broadcastInDim S2x256x512 ![] bcast_S_S2x256x512 main_cst_4
  let main_v77 : FVec F S2x256x512 .f32 := addf main_v76 main_v75
  let main_cst_5 : FVec F S_ .f32 := constant S_ .f32 0x3F800000#32
  let main_v78 : FVec F S2x256x512 .f32 := broadcastInDim S2x256x512 ![] bcast_S_S2x256x512 main_cst_5
  let main_v79 : FVec F S2x256x512 .f32 := Host.divf main_v78 main_v77
  let main_cst_6 : FVec F S_ .f32 := constant S_ .f32 0xC1000000#32
  let main_v80 : FVec F S2x256x512 .f32 := broadcastInDim S2x256x512 ![] bcast_S_S2x256x512 main_cst_6
  let main_v81 : FVec F S2x256x512 .f32 := mulf main_v80 main_v79
  let main_v82 : FVec F S512 .f32 := Host.negf main_v66
  let main_cst_7 : FVec F S_ .f32 := constant S_ .f32 0x00000000#32
  let main_v83 : FVec F S512 .f32 := broadcastInDim S512 ![] bcast_S_S512 main_cst_7
  let main_v84 : FVec F S512 .f32 := maximumf main_v82 main_v83
  let main_v85 : FVec F S512 .f32 := Host.absf main_v82
  let main_v86 : FVec F S512 .f32 := Host.negf main_v85
  fn_part4 (F := F) main_arg6 main_arg7 main_arg10 main_v60 main_v81 main_v84 main_v86

def fn_part2 {F : FTy → Type} [FloatOps F] (main_arg4 : FVec F S1x4x512 .f32) (main_arg5 : FVec F S1x512 .f32) (main_arg6 : FVec F S1x2x4x128x128 .f32) (main_arg7 : FVec F S1x2x512 .f32) (main_arg10 : FVec F S1x2x512 .f32) (main_v29 : FVec F S2x259x512 .f32) (main_v42 : FVec F S2x256x512 .f32) : IVec S_ 1 :=
  let main_v43 : FVec F S2x256x512 .f32 := (extractStridedSlice S2x256x512 ![0, 2, 0] · slices_S2x259x512_S2x256x512_0_2_0) main_v29
  let main_v44 : FVec F S1x1x512 .f32 := (extractStridedSlice S1x1x512 ![0, 2, 0] · slices_S1x4x512_S1x1x512_0_2_0) main_arg4
  let main_v45 : FVec F S512 .f32 := shapeCast S512 main_v44 shapeCasts_S1x1x512_S512
  let main_v46 : FVec F S1x1x512 .f32 := broadcastInDim S1x1x512 ![2] bcast_S512_S1x1x512_2 main_v45
  let main_v47 : FVec F S2x256x512 .f32 := broadcastInDim S2x256x512 ![0, 1, 2] bcast_S1x1x512_S2x256x512_0_1_2 main_v46
  let main_v48 : FVec F S2x256x512 .f32 := mulf main_v43 main_v47
  let main_v49 : FVec F S2x256x512 .f32 := addf main_v42 main_v48
  let main_v50 : FVec F S2x256x512 .f32 := (extractStridedSlice S2x256x512 ![0, 3, 0] · slices_S2x259x512_S2x256x512_0_3_0) main_v29
  let main_v51 : FVec F S1x1x512 .f32 := (extractStridedSlice S1x1x512 ![0, 3, 0] · slices_S1x4x512_S1x1x512_0_3_0) main_arg4
  let main_v52 : FVec F S512 .f32 := shapeCast S512 main_v51 shapeCasts_S1x1x512_S512
  let main_v53 : FVec F S1x1x512 .f32 := broadcastInDim S1x1x512 ![2] bcast_S512_S1x1x512_2 main_v52
  let main_v54 : FVec F S2x256x512 .f32 := broadcastInDim S2x256x512 ![0, 1, 2] bcast_S1x1x512_S2x256x512_0_1_2 main_v53
  let main_v55 : FVec F S2x256x512 .f32 := mulf main_v50 main_v54
  let main_v56 : FVec F S2x256x512 .f32 := addf main_v49 main_v55
  let main_v57 : FVec F S512 .f32 := shapeCast S512 main_arg5 shapeCasts_S1x512_S512
  let main_v58 : FVec F S1x1x512 .f32 := broadcastInDim S1x1x512 ![2] bcast_S512_S1x1x512_2 main_v57
  let main_v59 : FVec F S2x256x512 .f32 := broadcastInDim S2x256x512 ![0, 1, 2] bcast_S1x1x512_S2x256x512_0_1_2 main_v58
  let main_v60 : FVec F S2x256x512 .f32 := addf main_v56 main_v59
  let main_v61 : FVec F S1x1x4x128x128 .f32 := (extractStridedSlice S1x1x4x128x128 ![0, 0, 0, 0, 0] · slices_S1x2x4x128x128_S1x1x4x128x128_0_0_0_0_0) main_arg6
  let main_v62 : FVec F S4x128x128 .f32 := shapeCast S4x128x128 main_v61 shapeCasts_S1x1x4x128x128_S4x128x128
  let main_v63 : FVec F S1x1x512 .f32 := (extractStridedSlice S1x1x512 ![0, 0, 0] · slices_S1x2x512_S1x1x512_0_0_0) main_arg7
  let main_v64 : FVec F S512 .f32 := shapeCast S512 main_v63 shapeCasts_S1x1x512_S512
  let main_v65 : FVec F S1x1x512 .f32 := (extractStridedSlice S1x1x512 ![0, 0, 0] · slices_S1x2x512_S1x1x512_0_0_0) main_arg10
  let main_v66 : FVec F S512 .f32 := shapeCast S512 main_v65 shapeCasts_S1x1x512_S512
  fn_part3 (F := F) main_arg6 main_arg7 main_arg10 main_v60 main_v62 main_v64 main_v66

def fn_part1 {F : FTy → Type} [FloatOps F] (main_arg1 : FVec F S8x3072 .f32) (main_arg3 : FVec F S1x1024x2048 .f32) (main_arg4 : FVec F S1x4x512 .f32) (main_arg5 : FVec F S1x512 .f32) (main_arg6 : FVec F S1x2x4x128x128 .f32) (main_arg7 : FVec F S1x2x512 .f32) (main_arg10 : FVec F S1x2x512 .f32) (main_v13 : FVec F S2x256x1024 .f32) (main_v19 : FVec F S2x256x1024 .f32) : IVec S_ 1 :=
  let main_v20 : FVec F S2x256x1024 .f32 := mulf main_v13 main_v19
  let main_v21 : FVec F S1x1024 .f32 := (extractStridedSlice S1x1024 ![2, 0] · slices_S8x3072_S1x1024_2_0) main_arg1
  let main_v22 : FVec F S1024 .f32 := shapeCast S1024 main_v21 shapeCasts_S1x1024_S1024
  let main_v23 : FVec F S1x1x1024 .f32 := broadcastInDim S1x1x1024 ![2] bcast_S1024_S1x1x1024_2 main_v22
  let main_v24 : FVec F S2x256x1024 .f32 := broadcastInDim S2x256x1024 ![0, 1, 2] bcast_S1x1x1024_S2x256x1024_0_1_2 main_v23
  let main_v25 : FVec F S2x256x1024 .f32 := addf main_v20 main_v24
  let main_v26 : FVec F S1024x2048 .f32 := shapeCast S1024x2048 main_arg3 shapeCasts_S1x1024x2048_S1024x2048
  let main_v27 : FVec F S2x256x2048 .f32 := (fun l r => Host.dotGeneral dot_S2x256x1024_S1024x2048_S2x256x2048_2_0_01_1_n_n none l r) main_v25 main_v26
  let main_v28 : FVec F S2x256x512 .f32 := (extractStridedSlice S2x256x512 ![0, 0, 1024] · slices_S2x256x2048_S2x256x512_0_0_1024) main_v27
  let main_cst_3 : FVec F S_ .f32 := constant S_ .f32 0x00000000#32
  let main_v29 : FVec F S2x259x512 .f32 := (fun x v => pad S2x259x512 ![0, 2, 0] ![0, 1, 0] ![0, 0, 0] x v pads_S2x256x512_S2x259x512_000_210_000 h_S_) main_v28 main_cst_3
  let main_v30 : FVec F S2x256x512 .f32 := (extractStridedSlice S2x256x512 ![0, 0, 0] · slices_S2x259x512_S2x256x512_0_0_0) main_v29
  let main_v31 : FVec F S1x1x512 .f32 := (extractStridedSlice S1x1x512 ![0, 0, 0] · slices_S1x4x512_S1x1x512_0_0_0) main_arg4
  let main_v32 : FVec F S512 .f32 := shapeCast S512 main_v31 shapeCasts_S1x1x512_S512
  let main_v33 : FVec F S1x1x512 .f32 := broadcastInDim S1x1x512 ![2] bcast_S512_S1x1x512_2 main_v32
  let main_v34 : FVec F S2x256x512 .f32 := broadcastInDim S2x256x512 ![0, 1, 2] bcast_S1x1x512_S2x256x512_0_1_2 main_v33
  let main_v35 : FVec F S2x256x512 .f32 := mulf main_v30 main_v34
  let main_v36 : FVec F S2x256x512 .f32 := (extractStridedSlice S2x256x512 ![0, 1, 0] · slices_S2x259x512_S2x256x512_0_1_0) main_v29
  let main_v37 : FVec F S1x1x512 .f32 := (extractStridedSlice S1x1x512 ![0, 1, 0] · slices_S1x4x512_S1x1x512_0_1_0) main_arg4
  let main_v38 : FVec F S512 .f32 := shapeCast S512 main_v37 shapeCasts_S1x1x512_S512
  let main_v39 : FVec F S1x1x512 .f32 := broadcastInDim S1x1x512 ![2] bcast_S512_S1x1x512_2 main_v38
  let main_v40 : FVec F S2x256x512 .f32 := broadcastInDim S2x256x512 ![0, 1, 2] bcast_S1x1x512_S2x256x512_0_1_2 main_v39
  let main_v41 : FVec F S2x256x512 .f32 := mulf main_v36 main_v40
  let main_v42 : FVec F S2x256x512 .f32 := addf main_v35 main_v41
  fn_part2 (F := F) main_arg4 main_arg5 main_arg6 main_arg7 main_arg10 main_v29 main_v42

def fn {F : FTy → Type} [FloatOps F] (main_arg0 : FVec F S2x256x1024 .f32) (main_arg1 : FVec F S8x3072 .f32) (main_arg2 : FVec F S1x1024 .f32) (main_arg3 : FVec F S1x1024x2048 .f32) (main_arg4 : FVec F S1x4x512 .f32) (main_arg5 : FVec F S1x512 .f32) (main_arg6 : FVec F S1x2x4x128x128 .f32) (main_arg7 : FVec F S1x2x512 .f32) (main_arg8 : FVec F S1x2x4x128x128 .f32) (main_arg9 : FVec F S1x2x512 .f32) (main_arg10 : FVec F S1x2x512 .f32) : IVec S_ 1 :=
  let main_v0 : FVec F S2x256x1024 .f32 := mulf main_arg0 main_arg0
  let main_cst : FVec F S_ .f32 := constant S_ .f32 0x00000000#32
  let main_v1 : FVec F S2x256 .f32 := (fun x v => Host.reduceAdd x v reducesTo_S2x256x1024_S2x256_d2 h_S_) main_v0 main_cst
  let main_v2 : FVec F S2x256x1 .f32 := broadcastInDim S2x256x1 ![0, 1] bcast_S2x256_S2x256x1_0_1 main_v1
  let main_cst_0 : FVec F S_ .f32 := constant S_ .f32 0x44800000#32
  let main_v3 : FVec F S2x256x1 .f32 := broadcastInDim S2x256x1 ![] bcast_S_S2x256x1 main_cst_0
  let main_v4 : FVec F S2x256x1 .f32 := Host.divf main_v2 main_v3
  let main_cst_1 : FVec F S_ .f32 := constant S_ .f32 0x358637BD#32
  let main_v5 : FVec F S2x256x1 .f32 := broadcastInDim S2x256x1 ![] bcast_S_S2x256x1 main_cst_1
  let main_v6 : FVec F S2x256x1 .f32 := addf main_v4 main_v5
  let main_v7 : FVec F S2x256x1 .f32 := Host.rsqrt main_v6
  let main_v8 : FVec F S2x256x1024 .f32 := broadcastInDim S2x256x1024 ![0, 1, 2] bcast_S2x256x1_S2x256x1024_0_1_2 main_v7
  let main_v9 : FVec F S2x256x1024 .f32 := mulf main_arg0 main_v8
  let main_v10 : FVec F S1024 .f32 := shapeCast S1024 main_arg2 shapeCasts_S1x1024_S1024
  let main_v11 : FVec F S1x1x1024 .f32 := broadcastInDim S1x1x1024 ![2] bcast_S1024_S1x1x1024_2 main_v10
  let main_v12 : FVec F S2x256x1024 .f32 := broadcastInDim S2x256x1024 ![0, 1, 2] bcast_S1x1x1024_S2x256x1024_0_1_2 main_v11
  let main_v13 : FVec F S2x256x1024 .f32 := mulf main_v9 main_v12
  let main_v14 : FVec F S1x1024 .f32 := (extractStridedSlice S1x1024 ![2, 1024] · slices_S8x3072_S1x1024_2_1024) main_arg1
  let main_v15 : FVec F S1024 .f32 := shapeCast S1024 main_v14 shapeCasts_S1x1024_S1024
  let main_cst_2 : FVec F S_ .f32 := constant S_ .f32 0x3F800000#32
  let main_v16 : FVec F S1024 .f32 := broadcastInDim S1024 ![] bcast_S_S1024 main_cst_2
  let main_v17 : FVec F S1024 .f32 := addf main_v16 main_v15
  let main_v18 : FVec F S1x1x1024 .f32 := broadcastInDim S1x1x1024 ![2] bcast_S1024_S1x1x1024_2 main_v17
  let main_v19 : FVec F S2x256x1024 .f32 := broadcastInDim S2x256x1024 ![0, 1, 2] bcast_S1x1x1024_S2x256x1024_0_1_2 main_v18
  fn_part1 (F := F) main_arg1 main_arg3 main_arg4 main_arg5 main_arg6 main_arg7 main_arg10 main_v13 main_v19
-- ==== Kernel.lean ====
abbrev S2x8192x1024 : Shape := ⟨3, ![2, 8192, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S2x2x512 : Shape := ⟨3, ![2, 2, 512]⟩
abbrev S1x1024x512 : Shape := ⟨3, ![1, 1024, 512]⟩
abbrev S1024x512 : Shape := ⟨2, ![1024, 512]⟩
abbrev S_ : Shape := ⟨0, ![]⟩
abbrev S1024x2048 : Shape := ⟨2, ![1024, 2048]⟩
abbrev S2x4x128x128 : Shape := ⟨4, ![2, 4, 128, 128]⟩
abbrev S2x4x128x256 : Shape := ⟨4, ![2, 4, 128, 256]⟩
abbrev S2x512 : Shape := ⟨2, ![2, 512]⟩
abbrev S2x1024 : Shape := ⟨2, ![2, 1024]⟩
abbrev S2x1x1024 : Shape := ⟨3, ![2, 1, 1024]⟩
abbrev S4x512 : Shape := ⟨2, ![4, 512]⟩
abbrev S4x1x512 : Shape := ⟨3, ![4, 1, 512]⟩
abbrev S4x16x512 : Shape := ⟨3, ![4, 16, 512]⟩
abbrev S16x512 : Shape := ⟨2, ![16, 512]⟩
abbrev S1024 : Shape := ⟨1, ![1024]⟩
abbrev S2x8192x512 : Shape := ⟨3, ![2, 8192, 512]⟩
abbrev S1x1024x1024 : Shape := ⟨3, ![1, 1024, 1024]⟩
abbrev S1x8x1024 : Shape := ⟨3, ![1, 8, 1024]⟩
abbrev S1x4x128x256 : Shape := ⟨4, ![1, 4, 128, 256]⟩
abbrev S1x1x1024 : Shape := ⟨3, ![1, 1, 1024]⟩
abbrev S1040x1024 : Shape := ⟨2, ![1040, 1024]⟩
abbrev S4x1088x128 : Shape := ⟨3, ![4, 1088, 128]⟩
abbrev S1072x512 : Shape := ⟨2, ![1072, 512]⟩
abbrev S1024x1024 : Shape := ⟨2, ![1024, 1024]⟩
abbrev S8x512 : Shape := ⟨2, ![8, 512]⟩
abbrev S1x1x512 : Shape := ⟨3, ![1, 1, 512]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S1040x512 : Shape := ⟨2, ![1040, 512]⟩
abbrev S64x128 : Shape := ⟨2, ![64, 128]⟩
abbrev S1x64x128 : Shape := ⟨3, ![1, 64, 128]⟩
abbrev S1x16x128 : Shape := ⟨3, ![1, 16, 128]⟩
abbrev S16x128 : Shape := ⟨2, ![16, 128]⟩
abbrev S15x512 : Shape := ⟨2, ![15, 512]⟩
abbrev S1x16x512 : Shape := ⟨3, ![1, 16, 512]⟩
abbrev S1x1024x128 : Shape := ⟨3, ![1, 1024, 128]⟩
abbrev S1024x128 : Shape := ⟨2, ![1024, 128]⟩
abbrev S1x1x128x256 : Shape := ⟨4, ![1, 1, 128, 256]⟩
abbrev S128x256 : Shape := ⟨2, ![128, 256]⟩
abbrev S1024x256 : Shape := ⟨2, ![1024, 256]⟩
abbrev S1x1x128 : Shape := ⟨3, ![1, 1, 128]⟩
abbrev S1x128 : Shape := ⟨2, ![1, 128]⟩
abbrev S512x1024 : Shape := ⟨2, ![512, 1024]⟩
abbrev S512x512 : Shape := ⟨2, ![512, 512]⟩
abbrev S1x512x512 : Shape := ⟨3, ![1, 512, 512]⟩

abbrev nBuf : Space → Nat
  | .hbm => 57
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S8x3072, .f32⟩
  | .hbm, ⟨2, _⟩ => ⟨S1x1024, .f32⟩
  | .hbm, ⟨3, _⟩ => ⟨S1x1024x2048, .f32⟩
  | .hbm, ⟨4, _⟩ => ⟨S1x4x512, .f32⟩
  | .hbm, ⟨5, _⟩ => ⟨S1x512, .f32⟩
  | .hbm, ⟨6, _⟩ => ⟨S1x2x4x128x128, .f32⟩
  | .hbm, ⟨7, _⟩ => ⟨S1x2x512, .f32⟩
  | .hbm, ⟨8, _⟩ => ⟨S1x2x4x128x128, .f32⟩
  | .hbm, ⟨9, _⟩ => ⟨S1x2x512, .f32⟩
  | .hbm, ⟨10, _⟩ => ⟨S1x2x512, .f32⟩
  | .hbm, ⟨11, _⟩ => ⟨S2x2x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1x1024x512, .f32⟩
  | .hbm, ⟨20, _⟩ => ⟨S1024x512, .f32⟩
  | .hbm, ⟨21, _⟩ => ⟨S1x1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x2048, .f32⟩
  | .hbm, ⟨27, _⟩ => ⟨S1024x2048, .bf16⟩
  | .hbm, ⟨28, _⟩ => ⟨S2x4x128x128, .f32⟩
  | .hbm, ⟨29, _⟩ => ⟨S2x4x128x128, .f32⟩
  | .hbm, ⟨30, _⟩ => ⟨S2x4x128x256, .f32⟩
  | .hbm, ⟨31, _⟩ => ⟨S2x4x128x256, .bf16⟩
  | .hbm, ⟨32, _⟩ => ⟨S2x512, .f32⟩
  | .hbm, ⟨33, _⟩ => ⟨S2x512, .f32⟩
  | .hbm, ⟨34, _⟩ => ⟨S2x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S4x512, .f32⟩
  | .hbm, ⟨40, _⟩ => ⟨S4x1x512, .f32⟩
  | .hbm, ⟨41, _⟩ => ⟨S_, .f32⟩
  | .hbm, ⟨42, _⟩ => ⟨S4x1x512, .f32⟩
  | .hbm, ⟨43, _⟩ => ⟨S4x1x512, .f32⟩
  | .hbm, ⟨44, _⟩ => ⟨S4x16x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S16x512, .f32⟩
  | .hbm, ⟨49, _⟩ => ⟨S1024, .f32⟩
  | .hbm, ⟨50, _⟩ => ⟨S1x1024, .f32⟩
  | .hbm, ⟨51, _⟩ => ⟨S2x512, .f32⟩
  | .hbm, ⟨52, _⟩ => ⟨S2x8192x512, .bf16⟩
  | .hbm, ⟨53, _⟩ => ⟨S2x8192x512, .bf16⟩
  | .hbm, ⟨54, _⟩ => ⟨S2x8192x512, .bf16⟩
  | .hbm, ⟨55, _⟩ => ⟨S2x8192x512, .bf16⟩
  | .hbm, ⟨56, _⟩ => ⟨S2x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x3072, .f32⟩
  | .local _ .vmem, ⟨5, _⟩ => ⟨S1x1024, .f32⟩
  | .local _ .vmem, ⟨6, _⟩ => ⟨S1024x2048, .bf16⟩
  | .local _ .vmem, ⟨7, _⟩ => ⟨S4x16x512, .f32⟩
  | .local _ .vmem, ⟨8, _⟩ => ⟨S16x512, .f32⟩
  | .local _ .vmem, ⟨9, _⟩ => ⟨S1x4x128x256, .bf16⟩
  | .local _ .vmem, ⟨10, _⟩ => ⟨S1x1x1024, .f32⟩
  | .local _ .vmem, ⟨11, _⟩ => ⟨S2x512, .f32⟩
  | .local _ .vmem, ⟨12, _⟩ => ⟨S1x2x512, .f32⟩
  | .local _ .vmem, ⟨13, _⟩ => ⟨S1x2x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1040x1024, .bf16⟩
  | .local _ .vmem, ⟨25, _⟩ => ⟨S4x1088x128, .f32⟩
  | .local _ .vmem, ⟨26, _⟩ => ⟨S1072x512, .f32⟩
  | .local _ .vmem, ⟨27, _⟩ => ⟨S1024x512, .f32⟩
  | .local _ .vmem, ⟨28, _⟩ => ⟨S1024x1024, .f32⟩
  | .local _ .vmem, ⟨29, _⟩ => ⟨S1024x512, .f32⟩
  | .local _ .vmem, ⟨30, _⟩ => ⟨S1024x512, .f32⟩
  | .local _ .vmem, ⟨31, _⟩ => ⟨S8x512, .f32⟩
  | .local _ .vmem, ⟨32, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev main_v35_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v5 : Index := Scalar.indexCast arg0
  let c1024 : Index := 1024#32
  ![v5.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "half_decay" => some (((-4) * (Real.log 2)⁻¹ : ℝ) : EReal)
  | _ => none
-- ==== ReferenceIdeal.lean ====
abbrev S2x8192x1024 : Shape := ⟨3, ![2, 8192, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S2x2x512 : Shape := ⟨3, ![2, 2, 512]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x2048 : Shape := ⟨2, ![1024, 2048]⟩
abbrev S2x8192x2048 : Shape := ⟨3, ![2, 8192, 2048]⟩
abbrev S2x8192x512 : Shape := ⟨3, ![2, 8192, 512]⟩
abbrev S2x8195x512 : Shape := ⟨3, ![2, 8195, 512]⟩
abbrev S1x1x512 : Shape := ⟨3, ![1, 1, 512]⟩
abbrev S512 : Shape := ⟨1, ![512]⟩
abbrev S2x8192x4x128 : Shape := ⟨4, ![2, 8192, 4, 128]⟩
abbrev S1x1x4x128x128 : Shape := ⟨5, ![1, 1, 4, 128, 128]⟩
abbrev S4x128x128 : Shape := ⟨3, ![4, 128, 128]⟩
abbrev S4x128x2x8192 : Shape := ⟨4, ![4, 128, 2, 8192]⟩
abbrev S2x1x512 : Shape := ⟨3, ![2, 1, 512]⟩
abbrev S2x8x16x64x512 : Shape := ⟨5, ![2, 8, 16, 64, 512]⟩
abbrev S2x8x64x16x512 : Shape := ⟨5, ![2, 8, 64, 16, 512]⟩

abbrev nBuf : Space → Nat
  | .hbm => 221
  | .vmem => 0
  | .smem => 0
  | _ => 0

abbrev hbmTy0_0 (i : Nat) : BufTy := match i % 128 with
  | 0 => ⟨S2x8192x1024, .f32⟩
  | 1 => ⟨S8x3072, .f32⟩
  | 2 => ⟨S1x1024, .f32⟩
  | 3 => ⟨S1x1024x2048, .f32⟩
  | 4 => ⟨S1x4x512, .f32⟩
  | 5 => ⟨S1x512, .f32⟩
  | 6 => ⟨S1x2x4x128x128, .f32⟩
  | 7 => ⟨S1x2x512, .f32⟩
  | 8 => ⟨S1x2x4x128x128, .f32⟩
  | 9 => ⟨S1x2x512, .f32⟩
  | 10 => ⟨S1x2x512, .f32⟩
  | 11 => ⟨S2x2x512, .f32⟩
  | 12 => ⟨S2x1024, .f32⟩
  | 13 => ⟨S2x1x1024, .f32⟩
  | 14 => ⟨S2x1024, .f32⟩
  | 15 => ⟨S2x1x1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1024, .f32⟩
  | 30 => ⟨S1x1x1024, .f32⟩
  | 31 => ⟨S2x8192x1024, .f32⟩
  | 32 => ⟨S2x8192x1024, .f32⟩
  | 33 => ⟨S_, .f32⟩
  | 34 => ⟨S2x1x1024, .f32⟩
  | 35 => ⟨S2x1x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S1024x2048, .f32⟩
  | 41 => ⟨S2x8192x2048, .f32⟩
  | 42 => ⟨S2x8192x512, .f32⟩
  | 43 => ⟨S2x8192x512, .f32⟩
  | 44 => ⟨S2x8192x512, .f32⟩
  | 45 => ⟨S2x8192x512, .f32⟩
  | 46 => ⟨S_, .f32⟩
  | 47 => ⟨S2x8195x512, .f32⟩
  | 48 => ⟨S2x8192x512, .f32⟩
  | 49 => ⟨S1x1x512, .f32⟩
  | 50 => ⟨S512, .f32⟩
  | 51 => ⟨S1x1x512, .f32⟩
  | 52 => ⟨S2x8192x512, .f32⟩
  | 53 => ⟨S2x8192x512, .f32⟩
  | 54 => ⟨S2x8192x512, .f32⟩
  | 55 => ⟨S1x1x512, .f32⟩
  | 56 => ⟨S512, .f32⟩
  | 57 => ⟨S1x1x512, .f32⟩
  | 58 => ⟨S2x8192x512, .f32⟩
  | 59 => ⟨S2x8192x512, .f32⟩
  | 60 => ⟨S2x8192x512, .f32⟩
  | 61 => ⟨S2x8192x512, .f32⟩
  | 62 => ⟨S1x1x512, .f32⟩
  | 63 => ⟨S512, .f32⟩
  | 64 => ⟨S1x1x512, .f32⟩
  | 65 => ⟨S2x8192x512, .f32⟩
  | 66 => ⟨S2x8192x512, .f32⟩
  | 67 => ⟨S2x8192x512, .f32⟩
  | 68 => ⟨S2x8192x512, .f32⟩
  | 69 => ⟨S1x1x512, .f32⟩
  | 70 => ⟨S512, .f32⟩
  | 71 => ⟨S1x1x512, .f32⟩
  | 72 => ⟨S2x8192x512, .f32⟩
  | 73 => ⟨S2x8192x512, .f32⟩
  | 74 => ⟨S2x8192x512, .f32⟩
  | 75 => ⟨S512, .f32⟩
  | 76 => ⟨S1x1x512, .f32⟩
  | 77 => ⟨S2x8192x512, .f32⟩
  | 78 => ⟨S2x8192x512, .f32⟩
  | 79 => ⟨S2x8192x4x128, .f32⟩
  | 80 => ⟨S1x1x4x128x128, .f32⟩
  | 81 => ⟨S4x128x128, .f32⟩
  | 82 => ⟨S4x128x2x8192, .f32⟩
  | 83 => ⟨S2x8192x4x128, .f32⟩
  | 84 => ⟨S2x8192x512, .f32⟩
  | 85 => ⟨S1x1x512, .f32⟩
  | 86 => ⟨S512, .f32⟩
  | 87 => ⟨S1x1x512, .f32⟩
  | 88 => ⟨S2x8192x512, .f32⟩
  | 89 => ⟨S2x8192x512, .f32⟩
  | 90 => ⟨S2x8192x512, .f32⟩
  | 91 => ⟨S2x8192x512, .f32⟩
  | 92 => ⟨S_, .f32⟩
  | 93 => ⟨S2x8192x512, .f32⟩
  | 94 => ⟨S2x8192x512, .f32⟩
  | 95 => ⟨S_, .f32⟩
  | 96 => ⟨S2x8192x512, .f32⟩
  | 97 => ⟨S2x8192x512, .f32⟩
  | 98 => ⟨S_, .f32⟩
  | 99 => ⟨S2x8192x512, .f32⟩
  | 100 => ⟨S2x8192x512, .f32⟩
  | 101 => ⟨S1x1x512, .f32⟩
  | 102 => ⟨S512, .f32⟩
  | 103 => ⟨S512, .f32⟩
  | 104 => ⟨S_, .f32⟩
  | 105 => ⟨S512, .f32⟩
  | 106 => ⟨S512, .f32⟩
  | 107 => ⟨S512, .f32⟩
  | 108 => ⟨S512, .f32⟩
  | 109 => ⟨S512, .f32⟩
  | 110 => ⟨S512, .f32⟩
  | 111 => ⟨S512, .f32⟩
  | 112 => ⟨S1x1x512, .f32⟩
  | 113 => ⟨S2x8192x512, .f32⟩
  | 114 => ⟨S2x8192x512, .f32⟩
  | 115 => ⟨S2x8192x512, .f32⟩
  | 116 => ⟨S_, .f32⟩
  | 117 => ⟨S2x8192x512, .f32⟩
  | 118 => ⟨S2x8192x512, .f32⟩
  | 119 => ⟨S2x8192x512, .f32⟩
  | 120 => ⟨S2x8192x512, .f32⟩
  | 121 => ⟨S2x8192x512, .f32⟩
  | 122 => ⟨S2x8192x4x128, .f32⟩
  | 123 => ⟨S1x1x4x128x128, .f32⟩
  | 124 => ⟨S4x128x128, .f32⟩
  | 125 => ⟨S4x128x2x8192, .f32⟩
  | 126 => ⟨S2x8192x4x128, .f32⟩
  | 127 => ⟨S2x8192x512, .f32⟩
  | _ => ⟨S2x8192x1024, .f32⟩

abbrev hbmTy0_1 (i : Nat) : BufTy := match i % 128 with
  | 0 => ⟨S1x1x512, .f32⟩
  | 1 => ⟨S512, .f32⟩
  | 2 => ⟨S1x1x512, .f32⟩
  | 3 => ⟨S2x8192x512, .f32⟩
  | 4 => ⟨S2x8192x512, .f32⟩
  | 5 => ⟨S2x8192x512, .f32⟩
  | 6 => ⟨S2x8192x512, .f32⟩
  | 7 => ⟨S_, .f32⟩
  | 8 => ⟨S2x8192x512, .f32⟩
  | 9 => ⟨S2x8192x512, .f32⟩
  | 10 => ⟨S_, .f32⟩
  | 11 => ⟨S2x8192x512, .f32⟩
  | 12 => ⟨S2x8192x512, .f32⟩
  | 13 => ⟨S2x8192x512, .f32⟩
  | 14 => ⟨S2x8192x512, .f32⟩
  | 15 => ⟨S2x1x512, .f32⟩
  | 16 => ⟨S_, .f32⟩
  | 17 => ⟨S2x8192x512, .f32⟩
  | 18 => ⟨S_, .i32⟩
  | 19 => ⟨S_, .i32⟩
  | 20 => ⟨S2x8192x512, .f32⟩
  | 21 => ⟨S2x8192x512, .f32⟩
  | 22 => ⟨S_, .i32⟩
  | 23 => ⟨S_, .i32⟩
  | 24 => ⟨S2x1x512, .f32⟩
  | 25 => ⟨S2x8192x512, .f32⟩
  | 26 => ⟨S_, .i32⟩
  | 27 => ⟨S_, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S2x1x512, .f32⟩
  | 39 => ⟨S2x1x512, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S2x1x512, .f32⟩
  | 49 => ⟨S2x1x512, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S2x8192x512, .f32⟩
  | 59 => ⟨S_, .i32⟩
  | 60 => ⟨S_, .i32⟩
  | 61 => ⟨S2x8192x512, .bf16⟩
  | 62 => ⟨S2x8192x512, .f32⟩
  | 63 => ⟨S2x8192x512, .f32⟩
  | 64 => ⟨S_, .f32⟩
  | 65 => ⟨S2x8192x512, .f32⟩
  | 66 => ⟨S2x8192x512, .f32⟩
  | 67 => ⟨S_, .f32⟩
  | 68 => ⟨S2x8192x512, .f32⟩
  | 69 => ⟨S2x8192x512, .f32⟩
  | 70 => ⟨S2x8192x512, .f32⟩
  | 71 => ⟨S2x8192x512, .bf16⟩
  | 72 => ⟨S2x8192x512, .f32⟩
  | 73 => ⟨S2x8192x512, .f32⟩
  | 74 => ⟨S_, .f32⟩
  | 75 => ⟨S2x8192x512, .f32⟩
  | 76 => ⟨S2x8192x512, .f32⟩
  | 77 => ⟨S_, .f32⟩
  | 78 => ⟨S2x8192x512, .f32⟩
  | 79 => ⟨S2x8192x512, .f32⟩
  | 80 => ⟨S2x8192x512, .f32⟩
  | 81 => ⟨S2x8192x512, .bf16⟩
  | 82 => ⟨S_, .f32⟩
  | 83 => ⟨S2x8192x512, .f32⟩
  | 84 => ⟨S2x8192x512, .f32⟩
  | 85 => ⟨S2x8x16x64x512, .f32⟩
  | 86 => ⟨S2x8x64x16x512, .f32⟩
  | 87 => ⟨S2x8192x512, .f32⟩
  | 88 => ⟨S2x8192x512, .bf16⟩
  | 89 => ⟨S2x8x16x64x512, .f32⟩
  | 90 => ⟨S2x8x64x16x512, .f32⟩
  | 91 => ⟨S2x8192x512, .f32⟩
  | 92 => ⟨S2x8192x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_4 : Ref sig .tc := ⟨.hbm, 92, rfl⟩
abbrev main_v75 : Ref sig .tc := ⟨.hbm, 93, rfl⟩
abbrev main_v76 : Ref sig .tc := ⟨.hbm, 94, rfl⟩
abbrev main_cst_5 : Ref sig .tc := ⟨.hbm, 95, rfl⟩
abbrev main_v77 : Ref sig .tc := ⟨.hbm, 96, rfl⟩
abbrev main_v78 : Ref sig .tc := ⟨.hbm, 97, rfl⟩
abbrev main_cst_6 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_8 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_9 : Ref sig .tc := ⟨.hbm, 135, rfl⟩
abbrev main_v113 : Ref sig .tc := ⟨.hbm, 136, rfl⟩
abbrev main_v114 : Ref sig .tc := ⟨.hbm, 137, rfl⟩
abbrev main_cst_10 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_11 : Ref sig .tc := ⟨.hbm, 144, rfl⟩
abbrev main_v120 : Ref sig .tc := ⟨.hbm, 145, rfl⟩
abbrev main_c : Ref sig .tc := ⟨.hbm, 146, rfl⟩
abbrev main_c_12 : Ref sig .tc := ⟨.hbm, 147, rfl⟩
abbrev main_v121_0 : Ref sig .tc := ⟨.hbm, 148, rfl⟩
abbrev main_v121_1 : Ref sig .tc := ⟨.hbm, 149, rfl⟩
abbrev main_v121_2 : Ref sig .tc := ⟨.hbm, 150, rfl⟩
abbrev main_v121_3 : Ref sig .tc := ⟨.hbm, 151, rfl⟩
abbrev main_v121_4 : Ref sig .tc := ⟨.hbm, 152, rfl⟩
abbrev main_v121_5 : Ref sig .tc := ⟨.hbm, 153, rfl⟩
abbrev main_while0c_c_23 : Ref sig .tc := ⟨.hbm, 154, rfl⟩
abbrev main_while0c_v149 : Ref sig .tc := ⟨.hbm, 155, rfl⟩
abbrev main_while0b_c_23 : Ref sig .tc := ⟨.hbm, 156, rfl⟩
abbrev main_while0b_v149 : Ref sig .tc := ⟨.hbm, 157, rfl⟩
abbrev main_while0b_c_24 : Ref sig .tc := ⟨.hbm, 158, rfl⟩
abbrev main_while0b_v150 : Ref sig .tc := ⟨.hbm, 159, rfl⟩
abbrev main_while0b_v151 : Ref sig .tc := ⟨.hbm, 160, rfl⟩
abbrev main_while0b_c_25 : Ref sig .tc := ⟨.hbm, 161, rfl⟩
abbrev main_while0b_v152 : Ref sig .tc := ⟨.hbm, 162, rfl⟩
abbrev main_while0b_v153 : Ref sig .tc := ⟨.hbm, 163, rfl⟩
abbrev main_while0b_c_26 : Ref sig .tc := ⟨.hbm, 164, rfl⟩
abbrev main_while0b_c_27 : Ref sig .tc := ⟨.hbm, 165, rfl⟩
abbrev main_while0b_v154 : Ref sig .tc := ⟨.hbm, 166, rfl⟩
abbrev main_while0b_v155 : Ref sig .tc := ⟨.hbm, 167, rfl⟩
abbrev main_while0b_c_28 : Ref sig .tc := ⟨.hbm, 168, rfl⟩
abbrev main_while0b_v156 : Ref sig .tc := ⟨.hbm, 169, rfl⟩
abbrev main_while0b_v157 : Ref sig .tc := ⟨.hbm, 170, rfl⟩
abbrev main_while0b_c_29 : Ref sig .tc := ⟨.hbm, 171, rfl⟩
abbrev main_while0b_v158 : Ref sig .tc := ⟨.hbm, 172, rfl⟩
abbrev main_while0b_v159 : Ref sig .tc := ⟨.hbm, 173, rfl⟩
abbrev main_while0b_c_30 : Ref sig .tc := ⟨.hbm, 174, rfl⟩
abbrev main_while0b_c_31 : Ref sig .tc := ⟨.hbm, 175, rfl⟩
abbrev main_while0b_v160 : Ref sig .tc := ⟨.hbm, 176, rfl⟩
abbrev main_while0b_v161 : Ref sig .tc := ⟨.hbm, 177, rfl⟩
abbrev main_while0b_c_32 : Ref sig .tc := ⟨.hbm, 178, rfl⟩
abbrev main_while0b_v162 : Ref sig .tc := ⟨.hbm, 179, rfl⟩
abbrev main_while0b_v163 : Ref sig .tc := ⟨.hbm, 180, rfl⟩
abbrev main_while0b_c_33 : Ref sig .tc := ⟨.hbm, 181, rfl⟩
abbrev main_while0b_v164 : Ref sig .tc := ⟨.hbm, 182, rfl⟩
abbrev main_while0b_v165 : Ref sig .tc := ⟨.hbm, 183, rfl⟩
abbrev main_while0b_c_34 : Ref sig .tc := ⟨.hbm, 184, rfl⟩
abbrev main_while0b_c_35 : Ref sig .tc := ⟨.hbm, 185, rfl⟩
abbrev main_while0b_v166 : Ref sig .tc := ⟨.hbm, 186, rfl⟩
abbrev main_while0b_c_36 : Ref sig .tc := ⟨.hbm, 187, rfl⟩
abbrev main_while0b_v167 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_cst_13 : Ref sig .tc := ⟨.hbm, 192, rfl⟩
abbrev main_v125 : Ref sig .tc := ⟨.hbm, 193, rfl⟩
abbrev main_v126 : Ref sig .tc := ⟨.hbm, 194, rfl⟩
abbrev main_cst_14 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_15 : Ref sig .tc := ⟨.hbm, 202, rfl⟩
abbrev main_v133 : Ref sig .tc := ⟨.hbm, 203, rfl⟩
abbrev main_v134 : Ref sig .tc := ⟨.hbm, 204, rfl⟩
abbrev main_cst_16 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_17 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩

abbrev nD : Nat := 1
abbrev τ : Topo := Topo.v7x

variable {F : FTy → Type} [FloatOps F]

abbrev main_while0_count : Scf.Loop 32 := ⟨0#32, 8192#32, 1#32⟩
-- ==== Context.lean ====
abbrev S2x256x1024 : Shape := ⟨3, ![2, 256, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S1x1024x512 : Shape := ⟨3, ![1, 1024, 512]⟩
abbrev S1024x512 : Shape := ⟨2, ![1024, 512]⟩
abbrev S_ : Shape := ⟨0, ![]⟩
abbrev S1024x2048 : Shape := ⟨2, ![1024, 2048]⟩
abbrev S2x4x128x128 : Shape := ⟨4, ![2, 4, 128, 128]⟩
abbrev S2x4x128x256 : Shape := ⟨4, ![2, 4, 128, 256]⟩
abbrev S2x512 : Shape := ⟨2, ![2, 512]⟩
abbrev S2x1024 : Shape := ⟨2, ![2, 1024]⟩
abbrev S2x1x1024 : Shape := ⟨3, ![2, 1, 1024]⟩
abbrev S4x512 : Shape := ⟨2, ![4, 512]⟩
abbrev S4x1x512 : Shape := ⟨3, ![4, 1, 512]⟩
abbrev S4x16x512 : Shape := ⟨3, ![4, 16, 512]⟩
abbrev S16x512 : Shape := ⟨2, ![16, 512]⟩
abbrev S1024 : Shape := ⟨1, ![1024]⟩
abbrev S2x2x512 : Shape := ⟨3, ![2, 2, 512]⟩
abbrev S1x256x1024 : Shape := ⟨3, ![1, 256, 1024]⟩
abbrev S1x4x128x256 : Shape := ⟨4, ![1, 4, 128, 256]⟩
abbrev S1x1x1024 : Shape := ⟨3, ![1, 1, 1024]⟩
abbrev S4x320x128 : Shape := ⟨3, ![4, 320, 128]⟩
abbrev S304x512 : Shape := ⟨2, ![304, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S16x128 : Shape := ⟨2, ![16, 128]⟩
abbrev S1x16x128 : Shape := ⟨3, ![1, 16, 128]⟩
abbrev S15x512 : Shape := ⟨2, ![15, 512]⟩
abbrev S1x16x512 : Shape := ⟨3, ![1, 16, 512]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x1x128 : Shape := ⟨3, ![1, 1, 128]⟩
abbrev S1x128 : Shape := ⟨2, ![1, 128]⟩
abbrev S1x1x512 : Shape := ⟨3, ![1, 1, 512]⟩

abbrev nBuf : Space → Nat
  | .hbm => 52
  | .vmem => 20
  | .smem => 0
  | _ => 0

abbrev bufTy : (tb : Table) → Fin (tcTables nBuf tb) → BufTy
  | .hbm, ⟨0, _⟩ => ⟨S2x256x1024, .f32⟩
  | .hbm, ⟨1, _⟩ => ⟨S8x3072, .f32⟩
  | .hbm, ⟨2, _⟩ => ⟨S1x1024, .f32⟩
  | .hbm, ⟨3, _⟩ => ⟨S1x1024x2048, .f32⟩
  | .hbm, ⟨4, _⟩ => ⟨S1x4x512, .f32⟩
  | .hbm, ⟨5, _⟩ => ⟨S1x512, .f32⟩
  | .hbm, ⟨6, _⟩ => ⟨S1x2x4x128x128, .f32⟩
  | .hbm, ⟨7, _⟩ => ⟨S1x2x512, .f32⟩
  | .hbm, ⟨8, _⟩ => ⟨S1x2x4x128x128, .f32⟩
  | .hbm, ⟨9, _⟩ => ⟨S1x2x512, .f32⟩
  | .hbm, ⟨10, _⟩ => ⟨S1x2x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1x1024x512, .f32⟩
  | .hbm, ⟨19, _⟩ => ⟨S1024x512, .f32⟩
  | .hbm, ⟨20, _⟩ => ⟨S1x1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x2048, .f32⟩
  | .hbm, ⟨26, _⟩ => ⟨S1024x2048, .bf16⟩
  | .hbm, ⟨27, _⟩ => ⟨S2x4x128x128, .f32⟩
  | .hbm, ⟨28, _⟩ => ⟨S2x4x128x128, .f32⟩
  | .hbm, ⟨29, _⟩ => ⟨S2x4x128x256, .f32⟩
  | .hbm, ⟨30, _⟩ => ⟨S2x4x128x256, .bf16⟩
  | .hbm, ⟨31, _⟩ => ⟨S2x512, .f32⟩
  | .hbm, ⟨32, _⟩ => ⟨S2x512, .f32⟩
  | .hbm, ⟨33, _⟩ => ⟨S2x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S4x512, .f32⟩
  | .hbm, ⟨39, _⟩ => ⟨S4x1x512, .f32⟩
  | .hbm, ⟨40, _⟩ => ⟨S_, .f32⟩
  | .hbm, ⟨41, _⟩ => ⟨S4x1x512, .f32⟩
  | .hbm, ⟨42, _⟩ => ⟨S4x1x512, .f32⟩
  | .hbm, ⟨43, _⟩ => ⟨S4x16x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S16x512, .f32⟩
  | .hbm, ⟨48, _⟩ => ⟨S1024, .f32⟩
  | .hbm, ⟨49, _⟩ => ⟨S1x1024, .f32⟩
  | .hbm, ⟨50, _⟩ => ⟨S2x512, .f32⟩
  | .hbm, ⟨51, _⟩ => ⟨S2x2x512, .f32⟩
  | .local _ .vmem, ⟨0, _⟩ => ⟨S1x256x1024, .f32⟩
  | .local _ .vmem, ⟨1, _⟩ => ⟨S1x256x1024, .f32⟩
  | .local _ .vmem, ⟨2, _⟩ => ⟨S8x3072, .f32⟩
  | .local _ .vmem, ⟨3, _⟩ => ⟨S1x1024, .f32⟩
  | .local _ .vmem, ⟨4, _⟩ => ⟨S1024x512, .bf16⟩
  | .local _ .vmem, ⟨5, _⟩ => ⟨S4x16x512, .f32⟩
  | .local _ .vmem, ⟨6, _⟩ => ⟨S16x512, .f32⟩
  | .local _ .vmem, ⟨7, _⟩ => ⟨S1x4x128x256, .bf16⟩
  | .local _ .vmem, ⟨8, _⟩ => ⟨S1x1x1024, .f32⟩
  | .local _ .vmem, ⟨9, _⟩ => ⟨S1x4x128x256, .bf16⟩
  | .local _ .vmem, ⟨10, _⟩ => ⟨S1x1x1024, .f32⟩
  | .local _ .vmem, ⟨11, _⟩ => ⟨S2x512, .f32⟩
  | .local _ .vmem, ⟨12, _⟩ => ⟨S1x2x512, .f32⟩
  | .local _ .vmem, ⟨13, _⟩ => ⟨S1x2x512, .f32⟩
  | .local _ .vmem, ⟨14, _⟩ => ⟨S4x320x128, .f32⟩
  | .local _ .vmem, ⟨15, _⟩ => ⟨S304x512, .f32⟩
  | .local _ .vmem, ⟨16, _⟩ => ⟨S256x512, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ContextIdeal.lean ====
variable {F : FTy → Type} [FloatOps F] [Named F]
def κ : String → Option EReal := fun
  | "half_decay" => some (((-4) * (Real.log 2)⁻¹ : ℝ) : EReal)
  | _ => none
-- ==== ContextReferenceIdeal.lean ====
abbrev S2x256x1024 : Shape := ⟨3, ![2, 256, 1024]⟩
abbrev S8x3072 : Shape := ⟨2, ![8, 3072]⟩
abbrev S1x1024 : Shape := ⟨2, ![1, 1024]⟩
abbrev S1x1024x2048 : Shape := ⟨3, ![1, 1024, 2048]⟩
abbrev S1x4x512 : Shape := ⟨3, ![1, 4, 512]⟩
abbrev S1x512 : Shape := ⟨2, ![1, 512]⟩
abbrev S1x2x4x128x128 : Shape := ⟨5, ![1, 2, 4, 128, 128]⟩
abbrev S1x2x512 : Shape := ⟨3, ![1, 2, 512]⟩
abbrev S_ : Shape := ⟨0, ![]⟩
abbrev S2x256 : Shape := ⟨2, ![2, 256]⟩
abbrev S2x256x1 : Shape := ⟨3, ![2, 256, 1]⟩
abbrev S1024 : Shape := ⟨1, ![1024]⟩
abbrev S1x1x1024 : Shape := ⟨3, ![1, 1, 1024]⟩
abbrev S1024x2048 : Shape := ⟨2, ![1024, 2048]⟩
abbrev S2x256x2048 : Shape := ⟨3, ![2, 256, 2048]⟩
abbrev S2x256x512 : Shape := ⟨3, ![2, 256, 512]⟩
abbrev S2x259x512 : Shape := ⟨3, ![2, 259, 512]⟩
abbrev S1x1x512 : Shape := ⟨3, ![1, 1, 512]⟩
abbrev S512 : Shape := ⟨1, ![512]⟩
abbrev S1x1x4x128x128 : Shape := ⟨5, ![1, 1, 4, 128, 128]⟩
abbrev S4x128x128 : Shape := ⟨3, ![4, 128, 128]⟩
abbrev S2x256x4x128 : Shape := ⟨4, ![2, 256, 4, 128]⟩
abbrev S4x128x2x256 : Shape := ⟨4, ![4, 128, 2, 256]⟩
abbrev S2x1x512 : Shape := ⟨3, ![2, 1, 512]⟩
abbrev S2x2x512 : Shape := ⟨3, ![2, 2, 512]⟩

abbrev nBuf : Space → Nat
  | .hbm => 266
  | .vmem => 0
  | .smem => 0
  | _ => 0

abbrev hbmTy0_0 (i : Nat) : BufTy := match i % 128 with
  | 0 => ⟨S2x256x1024, .f32⟩
  | 1 => ⟨S8x3072, .f32⟩
  | 2 => ⟨S1x1024, .f32⟩
  | 3 => ⟨S1x1024x2048, .f32⟩
  | 4 => ⟨S1x4x512, .f32⟩
  | 5 => ⟨S1x512, .f32⟩
  | 6 => ⟨S1x2x4x128x128, .f32⟩
  | 7 => ⟨S1x2x512, .f32⟩
  | 8 => ⟨S1x2x4x128x128, .f32⟩
  | 9 => ⟨S1x2x512, .f32⟩
  | 10 => ⟨S1x2x512, .f32⟩
  | 11 => ⟨S2x256x1024, .f32⟩
  | 12 => ⟨S_, .f32⟩
  | 13 => ⟨S2x256, .f32⟩
  | 14 => ⟨S2x256x1, .f32⟩
  | 15 => ⟨S_, .f32⟩
  | 16 => ⟨S2x256x1, .f32⟩
  | 17 => ⟨S2x256x1, .f32⟩
  | 18 => ⟨S_, .f32⟩
  | 19 => ⟨S2x256x1, .f32⟩
  | 20 => ⟨S2x256x1, .f32⟩
  | 21 => ⟨S2x256x1, .f32⟩
  | 22 => ⟨S2x256x1024, .f32⟩
  | 23 => ⟨S2x256x1024, .f32⟩
  | 24 => ⟨S1024, .f32⟩
  | 25 => ⟨S1x1x1024, .f32⟩
  | 26 => ⟨S2x256x1024, .f32⟩
  | 27 => ⟨S2x256x1024, .f32⟩
  | 28 => ⟨S1x1024, .f32⟩
  | 29 => ⟨S1024, .f32⟩
  | 30 => ⟨S_, .f32⟩
  | 31 => ⟨S1024, .f32⟩
  | 32 => ⟨S1024, .f32⟩
  | 33 => ⟨S1x1x1024, .f32⟩
  | 34 => ⟨S2x256x1024, .f32⟩
  | 35 => ⟨S2x256x1024, .f32⟩
  | 36 => ⟨S1x1024, .f32⟩
  | 37 => ⟨S1024, .f32⟩
  | 38 => ⟨S1x1x1024, .f32⟩
  | 39 => ⟨S2x256x1024, .f32⟩
  | 40 => ⟨S2x256x1024, .f32⟩
  | 41 => ⟨S1024x2048, .f32⟩
  | 42 => ⟨S2x256x2048, .f32⟩
  | 43 => ⟨S2x256x512, .f32⟩
  | 44 => ⟨S_, .f32⟩
  | 45 => ⟨S2x259x512, .f32⟩
  | 46 => ⟨S2x256x512, .f32⟩
  | 47 => ⟨S1x1x512, .f32⟩
  | 48 => ⟨S512, .f32⟩
  | 49 => ⟨S1x1x512, .f32⟩
  | 50 => ⟨S2x256x512, .f32⟩
  | 51 => ⟨S2x256x512, .f32⟩
  | 52 => ⟨S2x256x512, .f32⟩
  | 53 => ⟨S1x1x512, .f32⟩
  | 54 => ⟨S512, .f32⟩
  | 55 => ⟨S1x1x512, .f32⟩
  | 56 => ⟨S2x256x512, .f32⟩
  | 57 => ⟨S2x256x512, .f32⟩
  | 58 => ⟨S2x256x512, .f32⟩
  | 59 => ⟨S2x256x512, .f32⟩
  | 60 => ⟨S1x1x512, .f32⟩
  | 61 => ⟨S512, .f32⟩
  | 62 => ⟨S1x1x512, .f32⟩
  | 63 => ⟨S2x256x512, .f32⟩
  | 64 => ⟨S2x256x512, .f32⟩
  | 65 => ⟨S2x256x512, .f32⟩
  | 66 => ⟨S2x256x512, .f32⟩
  | 67 => ⟨S1x1x512, .f32⟩
  | 68 => ⟨S512, .f32⟩
  | 69 => ⟨S1x1x512, .f32⟩
  | 70 => ⟨S2x256x512, .f32⟩
  | 71 => ⟨S2x256x512, .f32⟩
  | 72 => ⟨S2x256x512, .f32⟩
  | 73 => ⟨S512, .f32⟩
  | 74 => ⟨S1x1x512, .f32⟩
  | 75 => ⟨S2x256x512, .f32⟩
  | 76 => ⟨S2x256x512, .f32⟩
  | 77 => ⟨S1x1x4x128x128, .f32⟩
  | 78 => ⟨S4x128x128, .f32⟩
  | 79 => ⟨S1x1x512, .f32⟩
  | 80 => ⟨S512, .f32⟩
  | 81 => ⟨S1x1x512, .f32⟩
  | 82 => ⟨S512, .f32⟩
  | 83 => ⟨S2x256x4x128, .f32⟩
  | 84 => ⟨S4x128x2x256, .f32⟩
  | 85 => ⟨S2x256x4x128, .f32⟩
  | 86 => ⟨S2x256x512, .f32⟩
  | 87 => ⟨S1x1x512, .f32⟩
  | 88 => ⟨S2x256x512, .f32⟩
  | 89 => ⟨S2x256x512, .f32⟩
  | 90 => ⟨S2x256x512, .f32⟩
  | 91 => ⟨S2x256x512, .f32⟩
  | 92 => ⟨S_, .f32⟩
  | 93 => ⟨S2x256x512, .f32⟩
  | 94 => ⟨S2x256x512, .f32⟩
  | 95 => ⟨S_, .f32⟩
  | 96 => ⟨S2x256x512, .f32⟩
  | 97 => ⟨S2x256x512, .f32⟩
  | 98 => ⟨S_, .f32⟩
  | 99 => ⟨S2x256x512, .f32⟩
  | 100 => ⟨S2x256x512, .f32⟩
  | 101 => ⟨S512, .f32⟩
  | 102 => ⟨S_, .f32⟩
  | 103 => ⟨S512, .f32⟩
  | 104 => ⟨S512, .f32⟩
  | 105 => ⟨S512, .f32⟩
  | 106 => ⟨S512, .f32⟩
  | 107 => ⟨S512, .f32⟩
  | 108 => ⟨S512, .f32⟩
  | 109 => ⟨S512, .f32⟩
  | 110 => ⟨S1x1x512, .f32⟩
  | 111 => ⟨S2x256x512, .f32⟩
  | 112 => ⟨S2x256x512, .f32⟩
  | 113 => ⟨S2x256x512, .f32⟩
  | 114 => ⟨S_, .f32⟩
  | 115 => ⟨S2x256x512, .f32⟩
  | 116 => ⟨S2x256x512, .f32⟩
  | 117 => ⟨S2x256x512, .f32⟩
  | 118 => ⟨S2x256x512, .f32⟩
  | 119 => ⟨S2x256x512, .f32⟩
  | 120 => ⟨S1x1x4x128x128, .f32⟩
  | 121 => ⟨S4x128x128, .f32⟩
  | 122 => ⟨S1x1x512, .f32⟩
  | 123 => ⟨S512, .f32⟩
  | 124 => ⟨S2x256x4x128, .f32⟩
  | 125 => ⟨S4x128x2x256, .f32⟩
  | 126 => ⟨S2x256x4x128, .f32⟩
  | 127 => ⟨S2x256x512, .f32⟩
  | _ => ⟨S2x256x1024, .f32⟩

abbrev hbmTy0_1 (i : Nat) : BufTy := match i % 128 with
  | 0 => ⟨S1x1x512, .f32⟩
  | 1 => ⟨S2x256x512, .f32⟩
  | 2 => ⟨S2x256x512, .f32⟩
  | 3 => ⟨S2x256x512, .f32⟩
  | 4 => ⟨S2x256x512, .f32⟩
  | 5 => ⟨S_, .f32⟩
  | 6 => ⟨S2x256x512, .f32⟩
  | 7 => ⟨S2x256x512, .f32⟩
  | 8 => ⟨S_, .f32⟩
  | 9 => ⟨S2x256x512, .f32⟩
  | 10 => ⟨S2x256x512, .f32⟩
  | 11 => ⟨S2x256x512, .f32⟩
  | 12 => ⟨S2x256x512, .f32⟩
  | 13 => ⟨S1x1x4x128x128, .f32⟩
  | 14 => ⟨S4x128x128, .f32⟩
  | 15 => ⟨S1x1x512, .f32⟩
  | 16 => ⟨S512, .f32⟩
  | 17 => ⟨S1x1x512, .f32⟩
  | 18 => ⟨S512, .f32⟩
  | 19 => ⟨S2x256x4x128, .f32⟩
  | 20 => ⟨S4x128x2x256, .f32⟩
  | 21 => ⟨S2x256x4x128, .f32⟩
  | 22 => ⟨S2x256x512, .f32⟩
  | 23 => ⟨S1x1x512, .f32⟩
  | 24 => ⟨S2x256x512, .f32⟩
  | 25 => ⟨S2x256x512, .f32⟩
  | 26 => ⟨S2x256x512, .f32⟩
  | 27 => ⟨S2x256x512, .f32⟩
  | 28 => ⟨S_, .f32⟩
  | 29 => ⟨S2x256x512, .f32⟩
  | 30 => ⟨S2x256x512, .f32⟩
  | 31 => ⟨S_, .f32⟩
  | 32 => ⟨S2x256x512, .f32⟩
  | 33 => ⟨S2x256x512, .f32⟩
  | 34 => ⟨S_, .f32⟩
  | 35 => ⟨S2x256x512, .f32⟩
  | 36 => ⟨S2x256x512, .f32⟩
  | 37 => ⟨S512, .f32⟩
  | 38 => ⟨S_, .f32⟩
  | 39 => ⟨S512, .f32⟩
  | 40 => ⟨S512, .f32⟩
  | 41 => ⟨S512, .f32⟩
  | 42 => ⟨S512, .f32⟩
  | 43 => ⟨S512, .f32⟩
  | 44 => ⟨S512, .f32⟩
  | 45 => ⟨S512, .f32⟩
  | 46 => ⟨S1x1x512, .f32⟩
  | 47 => ⟨S2x256x512, .f32⟩
  | 48 => ⟨S2x256x512, .f32⟩
  | 49 => ⟨S2x256x512, .f32⟩
  | 50 => ⟨S_, .f32⟩
  | 51 => ⟨S2x256x512, .f32⟩
  | 52 => ⟨S2x256x512, .f32⟩
  | 53 => ⟨S2x256x512, .f32⟩
  | 54 => ⟨S2x256x512, .f32⟩
  | 55 => ⟨S2x256x512, .f32⟩
  | 56 => ⟨S1x1x4x128x128, .f32⟩
  | 57 => ⟨S4x128x128, .f32⟩
  | 58 => ⟨S1x1x512, .f32⟩
  | 59 => ⟨S512, .f32⟩
  | 60 => ⟨S2x256x4x128, .f32⟩
  | 61 => ⟨S4x128x2x256, .f32⟩
  | 62 => ⟨S2x256x4x128, .f32⟩
  | 63 => ⟨S2x256x512, .f32⟩
  | 64 => ⟨S1x1x512, .f32⟩
  | 65 => ⟨S2x256x512, .f32⟩
  | 66 => ⟨S2x256x512, .f32⟩
  | 67 => ⟨S2x256x512, .f32⟩
  | 68 => ⟨S2x256x512, .f32⟩
  | 69 => ⟨S_, .f32⟩
  | 70 => ⟨S2x256x512, .f32⟩
  | 71 => ⟨S2x256x512, .f32⟩
  | 72 => ⟨S_, .f32⟩
  | 73 => ⟨S2x256x512, .f32⟩
  | 74 => ⟨S2x256x512, .f32⟩
  | 75 => ⟨S2x256x512, .f32⟩
  | 76 => ⟨S2x256x512, .f32⟩
  | 77 => ⟨S_, .f32⟩
  | 78 => ⟨S2x1x512, .f32⟩
  | 79 => ⟨S_, .i32⟩
  | 80 => ⟨S_, .i32⟩
  | 81 => ⟨S2x256x512, .f32⟩
  | 82 => ⟨S2x256x512, .f32⟩
  | 83 => ⟨S2x256x512, .f32⟩
  | 84 => ⟨S2x256x512, .f32⟩
  | 85 => ⟨S_, .i32⟩
  | 86 => ⟨S_, .i32⟩
  | 87 => ⟨S2x1x512, .f32⟩
  | 88 => ⟨S2x1x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S2x1x512, .f32⟩
  | 102 => ⟨S2x1x512, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S2x1x512, .f32⟩
  | 112 => ⟨S2x1x512, .f32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S2x1x512, .f32⟩
  | 124 => ⟨S2x1x512, .f32⟩
  | 125 => ⟨S_, .i32⟩
  | 126 => ⟨S_, .i1⟩
  | 127 => ⟨S_, .i32⟩
  | _ => ⟨S2x256x1024, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S2x1x512, .f32⟩
  | 6 => ⟨S2x1x512, .f32⟩
  | 7 => ⟨S_, .i32⟩
  | 8 => ⟨S_, .i32⟩
  | 9 => ⟨S2x2x512, .f32⟩
  | _ => ⟨S2x256x1024, .f32⟩

abbrev hbmTy (i : Nat) : BufTy := match i / 128 with
  | 0 => hbmTy0_0 i
  | 1 => hbmTy0_1 i
  | 2 => hbmTy0_2 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_4 : Ref sig .tc := ⟨.hbm, 92, rfl⟩
abbrev main_v76 : Ref sig .tc := ⟨.hbm, 93, rfl⟩
abbrev main_v77 : Ref sig .tc := ⟨.hbm, 94, rfl⟩
abbrev main_cst_5 : Ref sig .tc := ⟨.hbm, 95, rfl⟩
abbrev main_v78 : Ref sig .tc := ⟨.hbm, 96, rfl⟩
abbrev main_v79 : Ref sig .tc := ⟨.hbm, 97, rfl⟩
abbrev main_cst_6 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_7 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_8 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_9 : Ref sig .tc := ⟨.hbm, 133, rfl⟩
abbrev main_v112 : Ref sig .tc := ⟨.hbm, 134, rfl⟩
abbrev main_v113 : Ref sig .tc := ⟨.hbm, 135, rfl⟩
abbrev main_cst_10 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_11 : Ref sig .tc := ⟨.hbm, 156, rfl⟩
abbrev main_v133 : Ref sig .tc := ⟨.hbm, 157, rfl⟩
abbrev main_v134 : Ref sig .tc := ⟨.hbm, 158, rfl⟩
abbrev main_cst_12 : Ref sig .tc := ⟨.hbm, 159, rfl⟩
abbrev main_v135 : Ref sig .tc := ⟨.hbm, 160, rfl⟩
abbrev main_v136 : Ref sig .tc := ⟨.hbm, 161, rfl⟩
abbrev main_cst_13 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_14 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_15 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_cst_16 : Ref sig .tc := ⟨.hbm, 197, rfl⟩
abbrev main_v169 : Ref sig .tc := ⟨.hbm, 198, rfl⟩
abbrev main_v170 : Ref sig .tc := ⟨.hbm, 199, rfl⟩
abbrev main_cst_17 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_cst_18 : Ref sig .tc := ⟨.hbm, 205, rfl⟩
abbrev main_v175 : Ref sig .tc := ⟨.hbm, 206, rfl⟩
abbrev main_c : Ref sig .tc := ⟨.hbm, 207, rfl⟩
abbrev main_c_19 : Ref sig .tc := ⟨.hbm, 208, rfl⟩
abbrev main_v176_0 : Ref sig .tc := ⟨.hbm, 209, rfl⟩
abbrev main_v176_1 : Ref sig .tc := ⟨.hbm, 210, rfl⟩
abbrev main_v176_2 : Ref sig .tc := ⟨.hbm, 211, rfl⟩
abbrev main_v176_3 : Ref sig .tc := ⟨.hbm, 212, rfl⟩
abbrev main_v176_4 : Ref sig .tc := ⟨.hbm, 213, rfl⟩
abbrev main_v176_5 : Ref sig .tc := ⟨.hbm, 214, rfl⟩
abbrev main_v176_6 : Ref sig .tc := ⟨.hbm, 215, rfl⟩
abbrev main_v176_7 : Ref sig .tc := ⟨.hbm, 216, rfl⟩
abbrev main_while0c_c_27 : Ref sig .tc := ⟨.hbm, 217, rfl⟩
abbrev main_while0c_v178 : Ref sig .tc := ⟨.hbm, 218, rfl⟩
abbrev main_while0b_c_27 : Ref sig .tc := ⟨.hbm, 219, rfl⟩
abbrev main_while0b_v178 : Ref sig .tc := ⟨.hbm, 220, rfl⟩
abbrev main_while0b_c_28 : Ref sig .tc := ⟨.hbm, 221, rfl⟩
abbrev main_while0b_v179 : Ref sig .tc := ⟨.hbm, 222, rfl⟩
abbrev main_while0b_v180 : Ref sig .tc := ⟨.hbm, 223, rfl⟩
abbrev main_while0b_c_29 : Ref sig .tc := ⟨.hbm, 224, rfl⟩
abbrev main_while0b_v181 : Ref sig .tc := ⟨.hbm, 225, rfl⟩
abbrev main_while0b_v182 : Ref sig .tc := ⟨.hbm, 226, rfl⟩
abbrev main_while0b_c_30 : Ref sig .tc := ⟨.hbm, 227, rfl⟩
abbrev main_while0b_c_31 : Ref sig .tc := ⟨.hbm, 228, rfl⟩
abbrev main_while0b_v183 : Ref sig .tc := ⟨.hbm, 229, rfl⟩
abbrev main_while0b_v184 : Ref sig .tc := ⟨.hbm, 230, rfl⟩
abbrev main_while0b_c_32 : Ref sig .tc := ⟨.hbm, 231, rfl⟩
abbrev main_while0b_v185 : Ref sig .tc := ⟨.hbm, 232, rfl⟩
abbrev main_while0b_v186 : Ref sig .tc := ⟨.hbm, 233, rfl⟩
abbrev main_while0b_c_33 : Ref sig .tc := ⟨.hbm, 234, rfl⟩
abbrev main_while0b_v187 : Ref sig .tc := ⟨.hbm, 235, rfl⟩
abbrev main_while0b_v188 : Ref sig .tc := ⟨.hbm, 236, rfl⟩
abbrev main_while0b_c_34 : Ref sig .tc := ⟨.hbm, 237, rfl⟩
abbrev main_while0b_c_35 : Ref sig .tc := ⟨.hbm, 238, rfl⟩
abbrev main_while0b_v189 : Ref sig .tc := ⟨.hbm, 239, rfl⟩
abbrev main_while0b_v190 : Ref sig .tc := ⟨.hbm, 240, rfl⟩
abbrev main_while0b_c_36 : Ref sig .tc := ⟨.hbm, 241, rfl⟩
abbrev main_while0b_v191 : Ref sig .tc := ⟨.hbm, 242, rfl⟩
abbrev main_while0b_c_37 : Ref sig .tc := ⟨.hbm, 243, rfl⟩
abbrev main_while0b_v192 : Ref sig .tc := ⟨.hbm, 244, rfl⟩
abbrev main_while0b_v193 : Ref sig .tc := ⟨.hbm, 245, rfl⟩
abbrev main_while0b_c_38 : Ref sig .tc := ⟨.hbm, 246, rfl⟩
abbrev main_while0b_v194 : Ref sig .tc := ⟨.hbm, 247, rfl⟩
abbrev main_while0b_v195 : Ref sig .tc := ⟨.hbm, 248, rfl⟩
abbrev main_while0b_c_39 : Ref sig .tc := ⟨.hbm, 249, rfl⟩
abbrev main_while0b_c_40 : Ref sig .tc := ⟨.hbm, 250, rfl⟩
abbrev main_while0b_v196 : Ref sig .tc := ⟨.hbm, 251, rfl⟩
abbrev main_while0b_v197 : Ref sig .tc := ⟨.hbm, 252, rfl⟩
abbrev main_while0b_c_41 : Ref sig .tc := ⟨.hbm, 253, rfl⟩
abbrev main_while0b_v198 : Ref sig .tc := ⟨.hbm, 254, rfl⟩
abbrev main_while0b_v199 : Ref sig .tc := ⟨.hbm, 255, rfl⟩
abbrev main_while0b_c_42 : Ref sig .tc := ⟨.hbm, 256, rfl⟩
abbrev main_while0b_v200 : Ref sig .tc := ⟨.hbm, 257, rfl⟩
abbrev main_while0b_v201 : Ref sig .tc := ⟨.hbm, 258, rfl⟩
abbrev main_while0b_c_43 : Ref sig .tc := ⟨.hbm, 259, rfl⟩
abbrev main_while0b_c_44 : Ref sig .tc := ⟨.hbm, 260, rfl⟩
abbrev main_while0b_v202 : Ref sig .tc := ⟨.hbm, 261, rfl⟩
abbrev main_while0b_v203 : Ref sig .tc := ⟨.hbm, 262, rfl⟩
abbrev main_while0b_c_45 : Ref sig .tc := ⟨.hbm, 263, rfl⟩
abbrev main_while0b_v204 : Ref sig .tc := ⟨.hbm, 264, rfl⟩
abbrev main_v177 : Ref sig .tc := ⟨.hbm, 265, rfl⟩

abbrev nD : Nat := 1
abbrev τ : Topo := Topo.v7x

variable {F : FTy → Type} [FloatOps F]

abbrev main_while0_count : Scf.Loop 32 := ⟨0#32, 256#32, 1#32⟩
-- ==== Proof.Spec.lean ====
/- The forward pass over the extended reals: the modulated rows, their projection, the centred convolution, the gates and the
   recurrence, each as a function of natural-number coordinates; and the identities that join the kernel's forms
   (halved weights, `tanh`, `2 ^ x`, `om * rsqrt om`) to the reference's (`1 / (1 + exp (-x))`, `exp`, `sqrt`). The gates and the decays
   are real numbers whatever the arguments are. -/
module

public import Idealize.ShloMosaic.PureOps.Ideal.Laws
public import Idealize.ShloMosaic.Lib.IdealHost
public import Mathlib.Analysis.SpecialFunctions.Pow.Real
public import Mathlib.Analysis.Complex.Trigonometric

@[expose] public section

noncomputable section

namespace Cert.Proof.Fwd

open Idealize.ShloMosaic
open scoped BigOperators

/-! ## Functions of a real number -/

/-- The real number the single-precision pattern of `1e-6` denotes. -/
def eps : ℝ := 8796093 * (2 : ℝ) ^ (-43 : ℤ)

theorem eps_pos : 0 < eps := by unfold eps; positivity

/-- The real number the single-precision pattern of `1e-30` denotes. -/
def tiny : ℝ := 10633824 * (2 : ℝ) ^ (-123 : ℤ)

theorem tiny_pos : 0 < tiny := by unfold tiny; positivity

/-- The logistic function. -/
def sig (y : ℝ) : ℝ := 1 / (1 + Real.exp (-y))

/-- The softplus function, in the form both programs use. -/
def softplus (y : ℝ) : ℝ := max y 0 + Real.log (1 + Real.exp (-|y|))

theorem tanh_half (y : ℝ) : Real.tanh (1 / 2 * y) = 2 * sig y - 1 := by
  have h : Real.exp (-y) = Real.exp (-(1 / 2 * y)) * Real.exp (-(1 / 2 * y)) := by rw [← Real.exp_add]; ring_nf
  have h1 : Real.exp (1 / 2 * y) * Real.exp (-(1 / 2 * y)) = 1 := by rw [← Real.exp_add]; simp
  rw [Real.tanh_eq_sinh_div_cosh, Real.sinh_eq, Real.cosh_eq, sig, h]
  have hp : 0 < Real.exp (1 / 2 * y) := Real.exp_pos _
  have hq : 0 < Real.exp (-(1 / 2 * y)) := Real.exp_pos _
  generalize Real.exp (1 / 2 * y) = p at *
  generalize Real.exp (-(1 / 2 * y)) = q at *
  have hpq : p = 1 / q := by field_simp; linarith
  subst hpq
  field_simp
  ring

/-- The kernel's square root: a number that is at least a positive bound, times its reciprocal root. -/
theorem mul_inv_sqrt {y c : ℝ} (hc : 0 < c) (hy : c ≤ y) : y * (Real.sqrt (max y c))⁻¹ = Real.sqrt y := by
  rw [max_eq_left hy]
  have h : 0 < y := hc.trans_le hy
  have hs : 0 < Real.sqrt y := Real.sqrt_pos.mpr h
  field_simp
  exact (Real.sq_sqrt h.le).symm

theorem one_sub_sq (y : ℝ) : 1 - Real.exp y * Real.exp y = -(Real.exp (2 * y) - 1) := by
  rw [← Real.exp_add]; ring_nf

/-! ## The extended-real operations at real numbers -/

theorem tanh_coe (r : ℝ) : Ideal.tanh (r : EReal) = ((Real.tanh r : ℝ) : EReal) := rfl
theorem exp_coe (r : ℝ) : Ideal.exp (r : EReal) = ((Real.exp r : ℝ) : EReal) := rfl
theorem exp2_coe (r : ℝ) : Ideal.exp2 (r : EReal) = ((Real.rpow 2 r : ℝ) : EReal) := rfl

theorem sqrt_coe {r : ℝ} (h : 0 ≤ r) : Ideal.sqrt (r : EReal) = ((Real.sqrt r : ℝ) : EReal) := by
  show (if r < 0 then (⊥ : EReal) else _) = _
  rw [if_neg (not_lt.mpr h)]

theorem rsqrt_coe {r : ℝ} (h : 0 < r) : Ideal.rsqrt (r : EReal) = (((Real.sqrt r)⁻¹ : ℝ) : EReal) := by
  show (if r < 0 then (⊥ : EReal) else if r = 0 then ⊤ else _) = _
  rw [if_neg (not_lt.mpr h.le), if_neg h.ne']

theorem log1p_coe {r : ℝ} (h : 0 ≤ r) : Ideal.log1p (r : EReal) = ((Real.log (1 + r) : ℝ) : EReal) := by
  have e : (1 : EReal) + (r : EReal) = ((1 + r : ℝ) : EReal) := by rw [EReal.coe_add, EReal.coe_one]
  rw [Ideal.log1p, e]
  show (if 1 + r ≤ 0 then (⊥ : EReal) else _) = _
  rw [if_neg (by linarith)]

theorem div_coe (x : ℝ) {y : ℝ} (h : y ≠ 0) : Ideal.div (x : EReal) (y : EReal) = ((x / y : ℝ) : EReal) := by
  have hy : (y : EReal) ≠ 0 := by exact_mod_cast h
  rw [Ideal.div, if_neg hy, ← EReal.coe_inv, ← EReal.coe_mul, div_eq_mul_inv]

theorem max_coe (x y : ℝ) : max (x : EReal) (y : EReal) = ((max x y : ℝ) : EReal) := (EReal.coe_strictMono.monotone.map_max).symm

theorem abs_coe (x : ℝ) : max (x : EReal) (-(x : EReal)) = ((|x| : ℝ) : EReal) := by
  rw [← EReal.coe_neg, max_coe]; rfl

theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem one_coe : (1 : EReal) = ((1 : ℝ) : EReal) := rfl
theorem zero_coe : (0 : EReal) = ((0 : ℝ) : EReal) := rfl

/-! ## Bit patterns -/

theorem bits_eps : Ideal.ofBits .f32 0x358637BD#32 = ((eps : ℝ) : EReal) := by
  simp [Ideal.ofBits, Ideal.ieee, eps]
theorem bits_tiny : Ideal.ofBits .f32 0x0DA24260#32 = ((tiny : ℝ) : EReal) := by
  simp [Ideal.ofBits, Ideal.ieee, tiny]
theorem bits_one : Ideal.ofBits .f32 0x3F800000#32 = ((1 : ℝ) : EReal) := by
  simp [Ideal.ofBits, Ideal.ieee]; rw [← EReal.coe_mul]; norm_num
theorem bits_two : Ideal.ofBits .f32 0x40000000#32 = ((2 : ℝ) : EReal) := by
  simp [Ideal.ofBits, Ideal.ieee]; rw [← EReal.coe_mul]; norm_num
theorem bits_half : Ideal.ofBits .f32 0x3F000000#32 = ((1 / 2 : ℝ) : EReal) := by
  simp [Ideal.ofBits, Ideal.ieee]; rw [← EReal.coe_mul]; norm_num
theorem bits_neg_eight : Ideal.ofBits .f32 0xC1000000#32 = ((-8 : ℝ) : EReal) := by
  simp [Ideal.ofBits, Ideal.ieee]; rw [← EReal.coe_mul]; norm_num
theorem bits_1024 : Ideal.ofBits .f32 0x44800000#32 = ((1024 : ℝ) : EReal) := by
  simp [Ideal.ofBits, Ideal.ieee]; rw [← EReal.coe_mul]; norm_num
theorem bits_inf : Ideal.ofBits .f32 0x7F800000#32 = (⊤ : EReal) := by
  simp [Ideal.ofBits, Ideal.ieee]

/-- An array read at natural-number coordinates. -/
def rdE {s : Shape} (A : s.Idx → EReal) (f : Fin s.rank → ℕ) : EReal :=
  if h : ∀ a, f a < s.size a then A (fun a => ⟨f a, h a⟩) else 0

theorem rdE_eq {s : Shape} (A : s.Idx → EReal) (i : s.Idx) (f : Fin s.rank → ℕ) (hf : ∀ a, (i a).val = f a) : A i = rdE A f := by
  have hi : (fun a => (⟨f a, hf a ▸ (i a).isLt⟩ : Fin (s.size a))) = i := funext fun a => Fin.ext (hf a).symm
  have h : ∀ a, f a < s.size a := fun a => hf a ▸ (i a).isLt
  unfold rdE
  rw [dif_pos h, hi]

/-! ## Functions of an extended real -/

/-- The logistic function. -/
def sg : EReal → ℝ
  | ⊥ => 0
  | ⊤ => 1
  | (r : ℝ) => sig r

/-- The softplus function. -/
def spl (y : EReal) : EReal := max y 0 + Ideal.log1p (Ideal.exp (-(max y (-y))))

/-- The exponential, as a real number. -/
def ex (l : EReal) : ℝ := (Ideal.exp l).toReal

/-- One half, and the factor of a decay's exponent in base two. -/
def half : EReal := ((1 / 2 : ℝ) : EReal)
def rate : EReal := (((-4) * (Real.log 2)⁻¹ : ℝ) : EReal)

theorem sg_nonneg (y : EReal) : 0 ≤ sg y := by
  induction y using EReal.rec with
  | bot => exact le_rfl
  | top => exact zero_le_one
  | coe r => show 0 ≤ sig r; unfold sig; positivity

theorem logistic_sg (y : EReal) : Ideal.div ((1 : ℝ) : EReal) (((1 : ℝ) : EReal) + Ideal.exp (-y)) = ((sg y : ℝ) : EReal) := by
  induction y using EReal.rec with
  | bot =>
    show Ideal.div ((1 : ℝ) : EReal) (((1 : ℝ) : EReal) + (⊤ : EReal)) = ((0 : ℝ) : EReal)
    rw [EReal.coe_add_top, Ideal.div, if_neg EReal.top_ne_zero, EReal.inv_top, mul_zero]
    rfl
  | top =>
    show Ideal.div ((1 : ℝ) : EReal) (((1 : ℝ) : EReal) + ((0 : ℝ) : EReal)) = ((1 : ℝ) : EReal)
    rw [← EReal.coe_add, div_coe _ (by norm_num)]
    norm_num
  | coe r =>
    rw [← EReal.coe_neg, exp_coe, ← EReal.coe_add, div_coe _ (by positivity)]
    rfl

theorem tanh_sg (y : EReal) : Ideal.tanh (half * y) = ((2 * sg y - 1 : ℝ) : EReal) := by
  unfold half
  induction y using EReal.rec with
  | bot =>
    rw [EReal.coe_mul_bot_of_pos (by norm_num)]
    show ((-1 : EReal)) = ((2 * 0 - 1 : ℝ) : EReal)
    norm_num
  | top =>
    rw [EReal.coe_mul_top_of_pos (by norm_num)]
    show ((1 : EReal)) = ((2 * 1 - 1 : ℝ) : EReal)
    norm_num
  | coe r =>
    rw [← EReal.coe_mul, tanh_coe, tanh_half]
    rfl

theorem spl_cases (y : EReal) : spl y = ⊤ ∨ ∃ r : ℝ, spl y = (r : EReal) := by
  induction y using EReal.rec with
  | bot =>
    refine .inr ⟨0, ?_⟩
    show max (⊥ : EReal) 0 + Ideal.log1p (Ideal.exp (-(max (⊥ : EReal) ⊤))) = _
    rw [max_eq_right bot_le, max_eq_right bot_le]
    show (0 : EReal) + Ideal.log1p ((0 : ℝ) : EReal) = _
    rw [log1p_coe le_rfl]
    simp
  | top =>
    refine .inl ?_
    show max (⊤ : EReal) 0 + Ideal.log1p (Ideal.exp (-(max (⊤ : EReal) ⊥))) = _
    rw [max_eq_left le_top, max_eq_left le_top]
    show (⊤ : EReal) + Ideal.log1p ((0 : ℝ) : EReal) = _
    rw [log1p_coe le_rfl, EReal.top_add_coe]
  | coe r =>
    refine .inr ⟨softplus r, ?_⟩
    unfold spl
    rw [abs_coe, ← EReal.coe_neg, exp_coe, log1p_coe (Real.exp_pos _).le, zero_coe, max_coe, ← EReal.coe_add]
    rfl

theorem ex_nonneg (l : EReal) : 0 ≤ ex l := by
  induction l using EReal.rec with
  | bot => exact le_rfl
  | top => exact le_rfl
  | coe r => exact (Real.exp_pos r).le

theorem exp_ex {l : EReal} (h : l ≠ ⊤) : Ideal.exp l = ((ex l : ℝ) : EReal) := by
  induction l using EReal.rec with
  | bot => rfl
  | top => exact absurd rfl h
  | coe r => rfl

theorem gap_ex {l : EReal} (h : l ≠ ⊤) : -(Ideal.exp (((2 : ℝ) : EReal) * l) - ((1 : ℝ) : EReal)) = ((1 - ex l * ex l : ℝ) : EReal) := by
  induction l using EReal.rec with
  | bot =>
    rw [EReal.coe_mul_bot_of_pos (by norm_num)]
    show -(((0 : ℝ) : EReal) - ((1 : ℝ) : EReal)) = ((1 - 0 * 0 : ℝ) : EReal)
    rw [← EReal.coe_sub, ← EReal.coe_neg]
    norm_num
  | top => exact absurd rfl h
  | coe r =>
    rw [← EReal.coe_mul, exp_coe, ← EReal.coe_sub, ← EReal.coe_neg, ← one_sub_sq]
    rfl

/-- The logarithm of a decay from its gate and its rate is not `⊤`. -/
theorem log_ne_top (y s : EReal) : ((-8 : ℝ) : EReal) * ((sg y : ℝ) : EReal) * spl s ≠ ⊤ := by
  rw [← EReal.coe_mul]
  rcases spl_cases s with h | ⟨r, h⟩
  · rw [h]
    rcases (sg_nonneg y).eq_or_lt with h0 | h0
    · rw [← h0]; simp
    · rw [EReal.coe_mul_top_of_neg (by linarith)]; exact bot_ne_top
  · rw [h, ← EReal.coe_mul]
    exact EReal.coe_ne_top _

/-- A decay as a power of two: with an infinite rate, the bound excludes a gate at zero. -/
theorem exp2_ex (y s : EReal) (hg : tiny ≤ 1 - ex (((-8 : ℝ) : EReal) * ((sg y : ℝ) : EReal) * spl s) * ex (((-8 : ℝ) : EReal) * ((sg y : ℝ) : EReal) * spl s)) :
    Ideal.exp2 (Ideal.tanh (half * y) * (rate * spl s) + rate * spl s) = ((ex (((-8 : ℝ) : EReal) * ((sg y : ℝ) : EReal) * spl s) : ℝ) : EReal) := by
  have hl : 0 < Real.log 2 := Real.log_pos (by norm_num)
  rw [← EReal.coe_mul] at hg ⊢
  rw [tanh_sg]
  rcases spl_cases s with h | ⟨r, h⟩
  · rw [h] at hg ⊢
    have h0 : 0 < sg y := by
      refine (sg_nonneg y).lt_of_ne fun h0 => ?_
      rw [← h0] at hg
      have e : ex (((-8 * 0 : ℝ) : EReal) * ⊤) = 1 := by
        rw [mul_zero, EReal.coe_zero, zero_mul]
        exact Real.exp_zero
      rw [e] at hg
      have := tiny_pos
      linarith
    have hr : rate * ⊤ = ⊥ := EReal.coe_mul_top_of_neg (by have := inv_pos.mpr hl; linarith)
    rw [hr, EReal.add_bot, EReal.coe_mul_top_of_neg (by linarith)]
    rfl
  · rw [h]
    unfold rate
    simp only [← EReal.coe_mul, ← EReal.coe_add]
    show ((Real.rpow 2 _ : ℝ) : EReal) = ((Real.exp _ : ℝ) : EReal)
    congr 1
    show (2 : ℝ) ^ (_ : ℝ) = _
    rw [Real.rpow_def_of_pos (by norm_num)]
    congr 1
    field_simp
    ring

/-- A real factor that is not negative distributes. -/
theorem coe_mul_add {r : ℝ} (h : 0 ≤ r) (y z : EReal) : (r : EReal) * (y + z) = (r : EReal) * y + (r : EReal) * z :=
  EReal.left_distrib_of_nonneg_of_ne_top (by exact_mod_cast h) (EReal.coe_ne_top _) y z

theorem half_add (y z : EReal) : half * (y + z) = half * y + half * z := coe_mul_add (by norm_num) y z

theorem half_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_add, ih]

/-- A number times its logistic, and the kernel's gating of a half: they differ at `⊥` alone. -/
def silu (y : EReal) : EReal := y * ((sg y : ℝ) : EReal)

theorem silu_half {y : EReal} (h : y ≠ ⊥) : half * y * Ideal.tanh (half * y) + half * y = silu y := by
  rw [tanh_sg]
  unfold half silu
  induction y using EReal.rec with
  | bot => exact absurd rfl h
  | top =>
    rw [EReal.coe_mul_top_of_pos (by norm_num)]
    show (⊤ : EReal) * ((2 * 1 - 1 : ℝ) : EReal) + ⊤ = ⊤ * ((1 : ℝ) : EReal)
    rw [EReal.top_mul_coe_of_pos (by norm_num), EReal.top_mul_coe_of_pos (by norm_num)]
    rfl
  | coe r =>
    simp only [← EReal.coe_mul, ← EReal.coe_add]
    congr 1
    show 1 / 2 * r * (2 * sig r - 1) + 1 / 2 * r = r * sig r
    ring

/-! ## The forward pass -/

/-- The arguments as functions of natural-number coordinates. -/
structure Args where
  x : ℕ → ℕ → ℕ → EReal
  md : ℕ → ℕ → EReal
  gain : ℕ → EReal
  w : ℕ → ℕ → EReal
  cw : ℕ → ℕ → EReal
  cb : ℕ → EReal
  wr : ℕ → ℕ → ℕ → EReal
  br : ℕ → EReal
  wi : ℕ → ℕ → ℕ → EReal
  bi : ℕ → EReal
  lam : ℕ → EReal
  fin : ℕ → ℕ → EReal

variable (A : Args)

/-- The reciprocal of a row's root mean square. -/
def rms (b t : ℕ) : EReal :=
  Ideal.rsqrt (Ideal.div (∑ k : Fin 1024, A.x b t k * A.x b t k) ((1024 : ℝ) : EReal) + ((eps : ℝ) : EReal))

/-- The normalised and modulated rows. -/
def hx (b t k : ℕ) : EReal := A.x b t k * rms A b t * A.gain k * (((1 : ℝ) : EReal) + A.md b (1024 + k)) + A.md b k

/-- The projection. -/
def z (b t n : ℕ) : EReal := ∑ k : Fin 1024, hx A b t k * A.w k n

/-- The recurrent branch's input with two zero rows before and one after. -/
def up (b t n : ℕ) : EReal := if 2 ≤ t ∧ t < 8194 then z A b (t - 2) (1024 + n) else 0

/-- The centred convolution of width four. -/
def v (b t n : ℕ) : EReal :=
  up A b t n * A.cw 0 n + up A b (t + 1) n * A.cw 1 n + up A b (t + 2) n * A.cw 2 n + up A b (t + 3) n * A.cw 3 n + A.cb n

/-- The argument of a gate. -/
def pre (w : ℕ → ℕ → ℕ → EReal) (c : ℕ → EReal) (b t n : ℕ) : EReal :=
  (∑ d : Fin 128, v A b t (128 * (n / 128) + d) * w (n / 128) d (n % 128)) + c n

/-- The logarithm of the decay. -/
def logA (b t n : ℕ) : EReal := ((-8 : ℝ) : EReal) * ((sg (pre A A.wr A.br b t n) : ℝ) : EReal) * spl (-A.lam n)

/-- The decay. -/
def dec (b t n : ℕ) : ℝ := ex (logA A b t n)

theorem dec_nonneg (b t n : ℕ) : 0 ≤ dec A b t n := ex_nonneg _

/-- `1 - a ^ 2`. -/
def gap (b t n : ℕ) : ℝ := 1 - dec A b t n * dec A b t n

/-- The input term of the recurrence. -/
def bx (b t n : ℕ) : EReal := ((Real.sqrt (gap A b t n) : ℝ) : EReal) * (((sg (pre A A.wi A.bi b t n) : ℝ) : EReal) * v A b t n)

/-- The recurrence: the state before position `t`. -/
def hst (b n : ℕ) : ℕ → EReal
  | 0 => A.fin b n
  | t + 1 => ((dec A b t n : ℝ) : EReal) * hst b n t + bx A b t n

/-- What both programs need to agree: `1 - a ^ 2` is at least the bound, and no column that is gated is `⊥`. -/
structure Tame : Prop where
  gap : ∀ b t n, b < 2 → t < 8192 → n < 512 → tiny ≤ gap A b t n
  gf : ∀ b t n, b < 2 → t < 8192 → n < 512 → z A b t (512 + n) ≠ ⊥
  gl : ∀ b t n, b < 2 → t < 8192 → n < 512 → z A b t (1536 + n) ≠ ⊥

/-- The position kept in row `p`: within each tile of 1024 positions, position `64 m + s` is kept in row `16 s + m`. -/
def unslab (p : ℕ) : ℕ := 1024 * (p / 1024) + 64 * (p % 16) + p % 1024 / 16

end Cert.Proof.Fwd

end
-- ==== Proof.RefTerms.lean ====
/- The reference program's stages as functions of whole arrays: the projection, the convolution, a gate, the logarithm of
   the decay and the recurrence's input term; and each buffer of @main before its loop as one of them. -/
module

public import proofs.«01_k».proof.Proof.Gen.ReferenceIdeal.Run
public import proofs.«01_k».proof.Proof.Spec
public import Idealize.ShloMosaic.Lib.Pointwise

@[expose] public section

noncomputable section

namespace Cert.Proof.Ref

open Idealize.ShloMosaic Idealize.ShloMosaic.TcCoe Cert.ReferenceIdeal Cert.ReferenceIdeal.Gen

/-- The normalised and modulated rows. -/
def hxT (x : FVec Ideal S2x8192x1024 .f32) (md : FVec Ideal S8x3072 .f32) (g : FVec Ideal S1x1024 .f32) : FVec Ideal S2x8192x1024 .f32 :=
  addf (mulf (mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
      (broadcastInDim S2x8192x1024 ![0, 1, 2] bcast_S1x1x1024_S2x8192x1024_0_1_2
        (broadcastInDim S1x1x1024 ![2] bcast_S1024_S1x1x1024_2 (shapeCast S1024 g shapeCasts_S1x1024_S1024))))
      (broadcastInDim S2x8192x1024 ![0, 1, 2] bcast_S2x1x1024_S2x8192x1024_0_1_2
        (addf (broadcastInDim S2x1x1024 ![] bcast_S_S2x1x1024 (constant S_ .f32 0x3F800000#32))
          (broadcastInDim S2x1x1024 ![0, 2] bcast_S2x1024_S2x1x1024_0_2 (extractStridedSlice S2x1024 ![0, 1024] md slices_S8x3072_S2x1024_0_1024)))))
    (broadcastInDim S2x8192x1024 ![0, 1, 2] bcast_S2x1x1024_S2x8192x1024_0_1_2
      (broadcastInDim S2x1x1024 ![0, 2] bcast_S2x1024_S2x1x1024_0_2 (extractStridedSlice S2x1024 ![0, 0] md slices_S8x3072_S2x1024_0_0)))

/-- The projection. -/
def zT (x : FVec Ideal S2x8192x1024 .f32) (md : FVec Ideal S8x3072 .f32) (g : FVec Ideal S1x1024 .f32) (w : FVec Ideal S1x1024x2048 .f32) :
    FVec Ideal S2x8192x2048 .f32 :=
  Host.dotGeneral dot_S2x8192x1024_S1024x2048_S2x8192x2048_2_0_01_1_n_n none (hxT x md g)
    (shapeCast S1024x2048 w shapeCasts_S1x1024x2048_S1024x2048)

/-- The recurrent branch's input, padded along the positions. -/
def upT (z : FVec Ideal S2x8192x2048 .f32) : FVec Ideal S2x8195x512 .f32 :=
  pad S2x8195x512 ![0, 2, 0] ![0, 1, 0] ![0, 0, 0] (extractStridedSlice S2x8192x512 ![0, 0, 1024] z slices_S2x8192x2048_S2x8192x512_0_0_1024)
    (constant S_ .f32 0x00000000#32) pads_S2x8192x512_S2x8195x512_000_210_000 h_S_

/-- A row of 512 laid along both other axes. -/
def rowT (r : FVec Ideal S512 .f32) : FVec Ideal S2x8192x512 .f32 :=
  broadcastInDim S2x8192x512 ![0, 1, 2] bcast_S1x1x512_S2x8192x512_0_1_2 (broadcastInDim S1x1x512 ![2] bcast_S512_S1x1x512_2 r)

/-- The centred convolution. -/
def vT (u : FVec Ideal S2x8195x512 .f32) (cw : FVec Ideal S1x4x512 .f32) (cb : FVec Ideal S1x512 .f32) : FVec Ideal S2x8192x512 .f32 :=
  addf (addf (addf (addf
    (mulf (extractStridedSlice S2x8192x512 ![0, 0, 0] u slices_S2x8195x512_S2x8192x512_0_0_0)
      (rowT (shapeCast S512 (extractStridedSlice S1x1x512 ![0, 0, 0] cw slices_S1x4x512_S1x1x512_0_0_0) shapeCasts_S1x1x512_S512)))
    (mulf (extractStridedSlice S2x8192x512 ![0, 1, 0] u slices_S2x8195x512_S2x8192x512_0_1_0)
      (rowT (shapeCast S512 (extractStridedSlice S1x1x512 ![0, 1, 0] cw slices_S1x4x512_S1x1x512_0_1_0) shapeCasts_S1x1x512_S512))))
    (mulf (extractStridedSlice S2x8192x512 ![0, 2, 0] u slices_S2x8195x512_S2x8192x512_0_2_0)
      (rowT (shapeCast S512 (extractStridedSlice S1x1x512 ![0, 2, 0] cw slices_S1x4x512_S1x1x512_0_2_0) shapeCasts_S1x1x512_S512))))
    (mulf (extractStridedSlice S2x8192x512 ![0, 3, 0] u slices_S2x8195x512_S2x8192x512_0_3_0)
      (rowT (shapeCast S512 (extractStridedSlice S1x1x512 ![0, 3, 0] cw slices_S1x4x512_S1x1x512_0_3_0) shapeCasts_S1x1x512_S512))))
    (rowT (shapeCast S512 cb shapeCasts_S1x512_S512))

/-- The argument of a gate: a product with one 128 by 128 matrix for each of four groups of columns, and a bias. -/
def preT (v : FVec Ideal S2x8192x512 .f32) (w : FVec Ideal S1x2x4x128x128 .f32) (b : FVec Ideal S1x2x512 .f32) : FVec Ideal S2x8192x512 .f32 :=
  addf (shapeCast S2x8192x512 (transpose S2x8192x4x128 [2, 3, 0, 1]
      (Host.dotGeneral dot_S4x128x128_S2x8192x4x128_S4x128x2x8192_1_3_2_01_0_2 none
        (shapeCast S4x128x128 (extractStridedSlice S1x1x4x128x128 ![0, 0, 0, 0, 0] w slices_S1x2x4x128x128_S1x1x4x128x128_0_0_0_0_0)
          shapeCasts_S1x1x4x128x128_S4x128x128)
        (shapeCast S2x8192x4x128 v shapeCasts_S2x8192x512_S2x8192x4x128))
      transposes_S4x128x2x8192_S2x8192x4x128_2_3_0_1) shapeCasts_S2x8192x4x128_S2x8192x512)
    (rowT (shapeCast S512 (extractStridedSlice S1x1x512 ![0, 0, 0] b slices_S1x2x512_S1x1x512_0_0_0) shapeCasts_S1x1x512_S512))

/-- The logistic function. -/
def sigT (y : FVec Ideal S2x8192x512 .f32) : FVec Ideal S2x8192x512 .f32 :=
  Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf y)))

/-- The softplus function of a row, negated. -/
def softT (lam : FVec Ideal S1x2x512 .f32) : FVec Ideal S512 .f32 :=
  addf (maximumf (Host.negf (shapeCast S512 (extractStridedSlice S1x1x512 ![0, 0, 0] lam slices_S1x2x512_S1x1x512_0_0_0) shapeCasts_S1x1x512_S512))
      (broadcastInDim S512 ![] bcast_S_S512 (constant S_ .f32 0x00000000#32)))
    (Host.log1p (Host.exp (Host.negf (Host.absf (Host.negf
      (shapeCast S512 (extractStridedSlice S1x1x512 ![0, 0, 0] lam slices_S1x2x512_S1x1x512_0_0_0) shapeCasts_S1x1x512_S512))))))

/-- The logarithm of the decay. -/
def logT (v : FVec Ideal S2x8192x512 .f32) (w : FVec Ideal S1x2x4x128x128 .f32) (b lam : FVec Ideal S1x2x512 .f32) : FVec Ideal S2x8192x512 .f32 :=
  mulf (mulf (broadcastInDim S2x8192x512 ![] bcast_S_S2x8192x512 (constant S_ .f32 0xC1000000#32)) (sigT (preT v w b))) (rowT (softT lam))

/-- One less the decay's square. -/
def gapT (l : FVec Ideal S2x8192x512 .f32) : FVec Ideal S2x8192x512 .f32 :=
  Host.negf (Host.expm1 (mulf (broadcastInDim S2x8192x512 ![] bcast_S_S2x8192x512 (constant S_ .f32 0x40000000#32)) l))

/-- The input term of the recurrence. -/
def bxT (l v : FVec Ideal S2x8192x512 .f32) (w : FVec Ideal S1x2x4x128x128 .f32) (b : FVec Ideal S1x2x512 .f32) : FVec Ideal S2x8192x512 .f32 :=
  mulf (Host.sqrt (gapT l)) (mulf (sigT (preT v w b)) v)

/-- An array's rows in the kept order: within each tile of 1024 positions, `16 s + m` holds position `64 m + s`. -/
def slabT (y : FVec Ideal S2x8192x512 .f32) : FVec Ideal S2x8192x512 .f32 :=
  shapeCast S2x8192x512 (transpose S2x8x64x16x512 [0, 1, 3, 2, 4] (shapeCast S2x8x16x64x512 y shapeCasts_S2x8192x512_S2x8x16x64x512)
    transposes_S2x8x16x64x512_S2x8x64x16x512_0_1_3_2_4) shapeCasts_S2x8x64x16x512_S2x8192x512

section Entry

variable (V : Valuation τ sig (Elt Ideal))

abbrev zV : FVec Ideal S2x8192x2048 .f32 :=
  zT (V (Proc.devRef .tc main_arg0)) (V (Proc.devRef .tc main_arg1)) (V (Proc.devRef .tc main_arg2)) (V (Proc.devRef .tc main_arg3))
abbrev vV : FVec Ideal S2x8192x512 .f32 := vT (upT (zV V)) (V (Proc.devRef .tc main_arg4)) (V (Proc.devRef .tc main_arg5))
abbrev logV : FVec Ideal S2x8192x512 .f32 :=
  logT (vV V) (V (Proc.devRef .tc main_arg6)) (V (Proc.devRef .tc main_arg7)) (V (Proc.devRef .tc main_arg10))

theorem entry_v26 : StableHlo.after hostOps0 V (Proc.devRef .tc main_v26)
    = extractStridedSlice S2x8192x512 ![0, 0, 0] (zV V) slices_S2x8192x2048_S2x8192x512_0_0_0 := by
  after_reads_simp; rfl

theorem entry_v27 : StableHlo.after hostOps0 V (Proc.devRef .tc main_v27)
    = extractStridedSlice S2x8192x512 ![0, 0, 512] (zV V) slices_S2x8192x2048_S2x8192x512_0_0_512 := by
  after_reads_simp; rfl

theorem entry_v29 : StableHlo.after hostOps0 V (Proc.devRef .tc main_v29)
    = extractStridedSlice S2x8192x512 ![0, 0, 1536] (zV V) slices_S2x8192x2048_S2x8192x512_0_0_1536 := by
  after_reads_simp; rfl

theorem entry_v61 : StableHlo.after hostOps0 V (Proc.devRef .tc main_v61) = vV V := by
  after_reads_simp; rfl

theorem entry_a : StableHlo.after hostOps0 V (Proc.devRef .tc main_v121_0) = Host.exp (logV V) := by
  after_reads_simp; rfl

theorem entry_bx : StableHlo.after hostOps0 V (Proc.devRef .tc main_v121_1)
    = bxT (logV V) (vV V) (V (Proc.devRef .tc main_arg8)) (V (Proc.devRef .tc main_arg9)) := by
  after_reads_simp; rfl

theorem entry_h : StableHlo.after hostOps0 V (Proc.devRef .tc main_v121_4)
    = extractStridedSlice S2x1x512 ![0, 0, 0] (V (Proc.devRef .tc main_arg11)) slices_S2x2x512_S2x1x512_0_0_0 := by
  after_reads_simp; rfl

theorem entry_k : StableHlo.after hostOps0 V (Proc.devRef .tc main_v121_3) = constantI S_ 32 0#32 := by
  after_reads_simp; rfl

end Entry

end Cert.Proof.Ref

end
-- ==== Proof.RefValue.lean ====
/- The reference program's stages read element by element: each array's element is the one the forward pass of Spec.lean gives at its coordinates. -/
module

public import proofs.«01_k».proof.Proof.RefTerms

@[expose] public section

noncomputable section

namespace Cert.Proof.Ref

open Idealize.ShloMosaic Idealize.ShloMosaic.TcCoe Cert.ReferenceIdeal Cert.ReferenceIdeal.Gen Cert.Proof.Fwd

/-- The arrays hold the given arguments. -/
structure Holds (A : Args) (x : S2x8192x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal)
    (fin : S2x2x512.Idx → EReal) : Prop where
  x : ∀ b t k, x (ix3 b t k) = (A.x b.val t.val k.val)
  md : ∀ b k, md (ix2 b k) = (A.md b.val k.val)
  g : ∀ b k, g (ix2 b k) = (A.gain k.val)
  w : ∀ b k n, w (ix3 b k n) = (A.w k.val n.val)
  cw : ∀ b k n, cw (ix3 b k n) = (A.cw k.val n.val)
  cb : ∀ b n, cb (ix2 b n) = (A.cb n.val)
  wr : ∀ a h d e, wr (ix5 a 0 h d e) = (A.wr h.val d.val e.val)
  br : ∀ a n, br (ix3 a 0 n) = (A.br n.val)
  wi : ∀ a h d e, wi (ix5 a 0 h d e) = (A.wi h.val d.val e.val)
  bi : ∀ a n, bi (ix3 a 0 n) = (A.bi n.val)
  lam : ∀ a n, lam (ix3 a 0 n) = (A.lam n.val)
  fin : ∀ b n, fin (ix3 b 0 n) = (A.fin b.val n.val)

/-- The arguments that given arrays hold. -/
def argsOf (x : S2x8192x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal)
    (fin : S2x2x512.Idx → EReal) : Args where
  x b t k := rdE x ![b, t, k]
  md b k := rdE md ![b, k]
  gain k := rdE g ![0, k]
  w k n := rdE w ![0, k, n]
  cw k n := rdE cw ![0, k, n]
  cb n := rdE cb ![0, n]
  wr h d e := rdE wr ![0, 0, h, d, e]
  br n := rdE br ![0, 0, n]
  wi h d e := rdE wi ![0, 0, h, d, e]
  bi n := rdE bi ![0, 0, n]
  lam n := rdE lam ![0, 0, n]
  fin b n := rdE fin ![b, 0, n]

theorem holds_argsOf (x : S2x8192x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal) (fin : S2x2x512.Idx → EReal) :
    Holds (argsOf x md g w cw cb wr br wi bi lam fin) x md g w cw cb wr br wi bi lam fin := by
  constructor
  · intro b t k; exact rdE_eq _ _ _ fun a => by fin_cases a <;> rfl
  · intro b k; exact rdE_eq _ _ _ fun a => by fin_cases a <;> rfl
  · intro b k; rw [Subsingleton.elim b 0]; exact rdE_eq _ _ _ fun a => by fin_cases a <;> rfl
  · intro b k n; rw [Subsingleton.elim b 0]; exact rdE_eq _ _ _ fun a => by fin_cases a <;> rfl
  · intro b k n; rw [Subsingleton.elim b 0]; exact rdE_eq _ _ _ fun a => by fin_cases a <;> rfl
  · intro b n; rw [Subsingleton.elim b 0]; exact rdE_eq _ _ _ fun a => by fin_cases a <;> rfl
  · intro b h d e; rw [Subsingleton.elim b 0]; exact rdE_eq _ _ _ fun a => by fin_cases a <;> rfl
  · intro b n; rw [Subsingleton.elim b 0]; exact rdE_eq _ _ _ fun a => by fin_cases a <;> rfl
  · intro b h d e; rw [Subsingleton.elim b 0]; exact rdE_eq _ _ _ fun a => by fin_cases a <;> rfl
  · intro b n; rw [Subsingleton.elim b 0]; exact rdE_eq _ _ _ fun a => by fin_cases a <;> rfl
  · intro b n; rw [Subsingleton.elim b 0]; exact rdE_eq _ _ _ fun a => by fin_cases a <;> rfl
  · intro b n; exact rdE_eq _ _ _ fun a => by fin_cases a <;> rfl

section Stages

variable {A : Args} {x : FVec Ideal S2x8192x1024 .f32} {md : FVec Ideal S8x3072 .f32} {g : FVec Ideal S1x1024 .f32}
  {w : FVec Ideal S1x1024x2048 .f32} {cw : FVec Ideal S1x4x512 .f32} {cb : FVec Ideal S1x512 .f32} {wr : FVec Ideal S1x2x4x128x128 .f32}
  {br : FVec Ideal S1x2x512 .f32} {wi : FVec Ideal S1x2x4x128x128 .f32} {bi lam : FVec Ideal S1x2x512 .f32}
  {fin : FVec Ideal S2x2x512 .f32} (H : Holds A x md g w cw cb wr br wi bi lam fin)

include H

theorem hxT_val (b : Fin 2) (t : Fin 8192) (k : Fin 1024) : hxT x md g (ix3 b t k) = (hx A b t k) := by
  pointwise [hxT]
  simp only [H.x, H.g, H.md, bits_1024, bits_eps, one_coe]
  rfl

theorem zT_val (b : Fin 2) (t : Fin 8192) (n : Fin 2048) : zT x md g w (ix3 b t n) = (z A b t n) := by
  unfold zT
  have h := hxT_val H
  generalize hxT x md g = X at h
  pointwise []
  simp only [h, H.w]
  rfl

theorem upT_val (b : Fin 2) (t : Fin 8195) (n : Fin 512) : upT (zT x md g w) (ix3 b t n) = (up A b t n) := by
  have h := zT_val H
  generalize zT x md g w = Z at h
  pointwise [upT]
  unfold up
  by_cases hp : 2 ≤ t.val ∧ t.val - 2 < 8192
  · rw [dif_pos hp, if_pos (by omega), h]
  · rw [dif_neg hp, if_neg (by omega)]

theorem vT_val (b : Fin 2) (t : Fin 8192) (n : Fin 512) :
    vT (upT (zT x md g w)) cw cb (ix3 b t n) = (v A b t n) := by
  have h := upT_val H
  generalize upT (zT x md g w) = U at h
  pointwise [vT, rowT]
  simp only [h, H.cw, H.cb]
  unfold v
  simp only [Nat.add_comm _ t.val]
  rfl

omit H in
theorem preT_val {V : FVec Ideal S2x8192x512 .f32} (hV : ∀ b t n, V (ix3 b t n) = (v A b t n))
    {W : FVec Ideal S1x2x4x128x128 .f32} {c : FVec Ideal S1x2x512 .f32} {W' : ℕ → ℕ → ℕ → EReal} {c' : ℕ → EReal}
    (hW : ∀ a h d e, W (ix5 a 0 h d e) = (W' h.val d.val e.val)) (hc : ∀ a n, c (ix3 a 0 n) = (c' n.val))
    (b : Fin 2) (t : Fin 8192) (n : Fin 512) : preT V W c (ix3 b t n) = (pre A W' c' b t n) := by
  pointwise [preT, rowT]
  simp only [hV, hW, hc]
  unfold pre
  simp only [mul_comm]

omit H in
theorem sigT_val {y : FVec Ideal S2x8192x512 .f32} {i : S2x8192x512.Idx} {r : EReal} (h : y i = r) : sigT y i = ((sg r : ℝ) : EReal) := by
  idx_vars i
  pointwise [sigT]
  rw [h, one_coe, logistic_sg]

theorem softT_val (n : Fin 512) : softT lam (ix1 n) = spl (-A.lam n) := by
  pointwise [softT]
  rw [H.lam]
  rfl

theorem logT_val {V : FVec Ideal S2x8192x512 .f32} (hV : ∀ b t n, V (ix3 b t n) = (v A b t n))
    (b : Fin 2) (t : Fin 8192) (n : Fin 512) : logT V wr br lam (ix3 b t n) = (logA A b t n) := by
  have hs := sigT_val (preT_val hV H.wr H.br b t n)
  have hl := softT_val H n
  unfold logT
  generalize sigT (preT V wr br) = S at hs
  generalize softT lam = L at hl
  pointwise [rowT]
  rw [hs, hl, bits_neg_eight]
  rfl

theorem gapT_val {V : FVec Ideal S2x8192x512 .f32} (hV : ∀ b t n, V (ix3 b t n) = (v A b t n))
    (b : Fin 2) (t : Fin 8192) (n : Fin 512) : gapT (logT V wr br lam) (ix3 b t n) = ((gap A b t n : ℝ) : EReal) := by
  have hl := logT_val H hV b t n
  generalize logT V wr br lam = L at hl
  pointwise [gapT]
  rw [hl, bits_two, one_coe]
  exact gap_ex (log_ne_top _ _)

theorem decT_val {V : FVec Ideal S2x8192x512 .f32} (hV : ∀ b t n, V (ix3 b t n) = (v A b t n))
    (b : Fin 2) (t : Fin 8192) (n : Fin 512) : Host.exp (logT V wr br lam) (ix3 b t n) = ((dec A b t n : ℝ) : EReal) := by
  have hl := logT_val H hV b t n
  generalize logT V wr br lam = L at hl
  pointwise []
  rw [hl]
  exact exp_ex (log_ne_top _ _)

theorem bxT_val {V : FVec Ideal S2x8192x512 .f32} (hV : ∀ b t n, V (ix3 b t n) = (v A b t n))
    (b : Fin 2) (t : Fin 8192) (n : Fin 512) (hg : 0 ≤ gap A b t n) :
    bxT (logT V wr br lam) V wi bi (ix3 b t n) = (bx A b t n) := by
  have hs := sigT_val (preT_val hV H.wi H.bi b t n)
  have hl := gapT_val H hV b t n
  unfold bxT
  generalize sigT (preT V wi bi) = S at hs
  generalize gapT (logT V wr br lam) = L at hl
  pointwise []
  rw [hs, hl, hV, sqrt_coe hg]
  rfl

omit H in
theorem slabT_val {y : FVec Ideal S2x8192x512 .f32} {f : ℕ → ℕ → ℕ → EReal} (h : ∀ b t n, y (ix3 b t n) = (f b.val t.val n.val))
    (b : Fin 2) (t : Fin 8192) (n : Fin 512) : slabT y (ix3 b t n) = (f b (unslab t) n) := by
  pointwise [slabT]
  rw [h]
  have : t.val / 1024 * 1024 + t.val % 16 * 64 + t.val / 16 % 64 = unslab t.val := by unfold unslab; omega
  simp only [this]

end Stages

end Cert.Proof.Ref

end
-- ==== Proof.Regular.lean ====
/- What the precondition says: `1 - a ^ 2` is at least the bound everywhere, and no column that is gated is `⊥`. -/
module

public import proofs.«01_k».proof.Pre_regular
public import proofs.«01_k».proof.Proof.RefValue
public import Idealize.ShloMosaic.Lib.ReduceAll

@[expose] public section

noncomputable section

namespace Cert.Proof.Regular

open Idealize.ShloMosaic Cert.ReferenceIdeal Cert.Proof.Fwd Cert.Proof.Ref

instance facts : Cert.Pre_regular.Facts := by constructor <;> decide

theorem and_one {a b : BitVec 1} (h : a &&& b = 1#1) : a = 1#1 ∧ b = 1#1 := by
  revert a b; decide

instance : Subsingleton S_.Idx := ⟨fun a b => funext fun i => i.elim0⟩

theorem gap_of {y : FVec Ideal S2x8192x512 .f32} {hb : S_.BroadcastsInDim S2x8192x512 ![]} {init : IVec S_ 1}
    {h : S2x8192x512.ReducesTo [0, 1, 2] S_} {hu : 0 < S_.numel} {j : S_.Idx}
    (e : Host.reduce IntOp.andi (cmpf .oge y (broadcastInDim S2x8192x512 ![] hb (constant S_ .f32 0x0DA24260#32))) init h hu j = 1#1)
    (i : S2x8192x512.Idx) : (tiny) ≤ y i := by
  have hi := Host.reduce_andi_all _ _ _ _ _ e i
  replace hi : BitVec.ofBool (decide (Ideal.ofBits .f32 0x0DA24260#32 ≤ y i)) = 1#1 := hi
  rw [bits_tiny] at hi
  by_contra hc
  rw [decide_eq_false hc] at hi
  exact absurd hi (by decide)

theorem bits_bot : Ideal.ofBits .f32 0xFF800000#32 = (⊥ : EReal) := by
  simp [Ideal.ofBits, Ideal.ieee]

theorem above_of {y : FVec Ideal S2x8192x512 .f32} {hb : S_.BroadcastsInDim S2x8192x512 ![]} {init : IVec S_ 1}
    {h : S2x8192x512.ReducesTo [0, 1, 2] S_} {hu : 0 < S_.numel} {j : S_.Idx}
    (e : Host.reduce IntOp.andi (cmpf .ogt y (broadcastInDim S2x8192x512 ![] hb (constant S_ .f32 0xFF800000#32))) init h hu j = 1#1)
    (i : S2x8192x512.Idx) : y i ≠ ⊥ := by
  have hi := Host.reduce_andi_all _ _ _ _ _ e i
  replace hi : BitVec.ofBool (decide (Ideal.ofBits .f32 0xFF800000#32 < y i)) = 1#1 := hi
  rw [bits_bot] at hi
  intro hc
  rw [hc, decide_eq_false (lt_irrefl _)] at hi
  exact absurd hi (by decide)

variable {x : FVec Ideal S2x8192x1024 .f32} {md : FVec Ideal S8x3072 .f32} {g : FVec Ideal S1x1024 .f32}
  {w : FVec Ideal S1x1024x2048 .f32} {cw : FVec Ideal S1x4x512 .f32} {cb : FVec Ideal S1x512 .f32} {wr : FVec Ideal S1x2x4x128x128 .f32}
  {br : FVec Ideal S1x2x512 .f32} {wi : FVec Ideal S1x2x4x128x128 .f32} {bi lam : FVec Ideal S1x2x512 .f32}
  {fin : FVec Ideal S2x2x512 .f32}

theorem sliced_val {A : Args} (H : Holds A x md g w cw cb wr br wi bi lam fin) (off : ℕ) (h : S2x8192x2048.Slices ![0, 0, off] S2x8192x512)
    (b : Fin 2) (t : Fin 8192) (n : Fin 512) :
    (extractStridedSlice S2x8192x512 ![0, 0, off] (zT x md g w) h : FVec Ideal S2x8192x512 .f32) (ix3 b t n) = z A b t (off + n) := by
  have hz := zT_val H
  generalize zT x md g w = Z at hz
  pointwise []
  rw [hz]

theorem regular_tame (h : Cert.Pre_regular.fn (F := Ideal) x md g w cw cb wr br wi bi lam fin = fun _ => 1#1) :
    Tame (argsOf x md g w cw cb wr br wi bi lam fin) := by
  have h0 := congrFun h ix0
  obtain ⟨h0, hl⟩ := and_one h0
  obtain ⟨h0, hf⟩ := and_one h0
  have H := holds_argsOf x md g w cw cb wr br wi bi lam fin
  constructor
  · intro b t n hb ht hn
    have hv : ((tiny : ℝ) : EReal) ≤ gapT (logT (vT (upT (zT x md g w)) cw cb) wr br lam) (ix3 ⟨b, hb⟩ ⟨t, ht⟩ ⟨n, hn⟩) := gap_of h0 _
    rw [gapT_val H (vT_val H) ⟨b, hb⟩ ⟨t, ht⟩ ⟨n, hn⟩] at hv
    exact_mod_cast hv
  · intro b t n hb ht hn
    have hv : (extractStridedSlice S2x8192x512 ![0, 0, 512] (zT x md g w) (by decide) : FVec Ideal S2x8192x512 .f32)
        (ix3 ⟨b, hb⟩ ⟨t, ht⟩ ⟨n, hn⟩) ≠ ⊥ := above_of hf _
    rw [sliced_val H] at hv
    exact hv
  · intro b t n hb ht hn
    have hv : (extractStridedSlice S2x8192x512 ![0, 0, 1536] (zT x md g w) (by decide) : FVec Ideal S2x8192x512 .f32)
        (ix3 ⟨b, hb⟩ ⟨t, ht⟩ ⟨n, hn⟩) ≠ ⊥ := above_of hl _
    rw [sliced_val H] at hv
    exact hv

end Cert.Proof.Regular

end
-- ==== Proof.RefLoop.lean ====
/- The reference program's loop: after `k` trips the state is the recurrence's at position `k`, and the kept
   array holds the states after each position below `k`. -/
module

public import proofs.«01_k».proof.Proof.RefValue
public import Idealize.ShloMosaic.Lib.DynamicIndex

@[expose] public section

noncomputable section

namespace Cert.Proof.Ref

open Idealize.ShloMosaic Idealize.ShloMosaic.TcCoe Cert.ReferenceIdeal Cert.ReferenceIdeal.Gen Cert.ReferenceIdeal.Value Cert.Proof.Fwd

/-- The three starts of the loop's slices: only the middle one moves. -/
abbrev startsOf (t : IVec S_ 32) : Fin S2x8192x512.rank → Int := fun k =>
  ((![constantI S_ 32 0#32, select (cmpi .slt t (constantI S_ 32 0#32)) (addi (id t) (constantI S_ 32 8192#32)) t,
    constantI S_ 32 0#32] : Fin 3 → IVec S_ 32) k (Shape.Idx.first h_S_)).toInt

theorem startsOf_eq (k : ℕ) (hk : k < 8192) : ∀ a, startsOf (constantI S_ 32 (BitVec.ofNat 32 k)) a = ((![0, k, 0] : Fin 3 → ℕ) a : Int) := by
  intro a
  have hi : (BitVec.ofNat 32 k).toInt = k := toInt_ofNat_of_lt (by omega)
  fin_cases a
  · rfl
  · show (select _ _ _ _ : BitVec 32).toInt = _
    rw [select_slt_zero_of_nonneg]
    · exact hi
    · show 0 ≤ (BitVec.ofNat 32 k).toInt
      omega
  · rfl

theorem sliceAt (y : FVec Ideal S2x8192x512 .f32) (k : ℕ) (hk : k < 8192) (b : Fin 2) (n : Fin 512) :
    Host.dynamicSlice S2x1x512 y (startsOf (constantI S_ 32 (BitVec.ofNat 32 k))) sliceFits_S2x8192x512_S2x1x512 (ix3 b 0 n)
      = y (ix3 b ⟨k, hk⟩ n) := by
  have ho : S2x8192x512.Slices ![0, k, 0] S2x1x512 := ⟨rfl, by intro a; fin_cases a <;> simp [Shape.size]; omega⟩
  rw [Host.dynamicSlice_eq_extractStridedSlice _ _ _ ![0, k, 0] _ ho (startsOf_eq k hk)]
  pointwise []

theorem updateAt (y : FVec Ideal S2x8192x512 .f32) (u : FVec Ideal S2x1x512 .f32) (k : ℕ) (hk : k < 8192) (b : Fin 2) (t : Fin 8192) (n : Fin 512) :
    Host.dynamicUpdateSlice y u (startsOf (constantI S_ 32 (BitVec.ofNat 32 k))) updateFits_S2x8192x512_S2x1x512 (ix3 b t n)
      = if t.val = k then u (ix3 b 0 n) else y (ix3 b t n) := by
  have ho : S2x8192x512.Slices ![0, k, 0] S2x1x512 := ⟨rfl, by intro a; fin_cases a <;> simp [Shape.size]; omega⟩
  rw [Host.dynamicUpdateSlice_eq_updateSlice _ _ _ _ ![0, k, 0] (fun a => by
    have := ho.2 a; rw [startsOf_eq k hk a]; omega) ho]
  pointwise []
  by_cases h : t.val = k
  · rw [dif_pos (by omega), if_pos h]
    congr 2
    exact Fin.ext (by show t.val - k = 0; omega)
  · rw [dif_neg (by omega), if_neg h]

/-- What the loop carries before trip `k`. -/
structure Carried (A : Args) (k : ℕ) (V : Valuation τ sig (Elt Ideal)) : Prop where
  a : ∀ b t n, (V (Proc.devRef .tc main_v121_0) : FVec Ideal S2x8192x512 .f32) (ix3 b t n) = ((dec A b.val t.val n.val : ℝ) : EReal)
  bx : ∀ b t n, (V (Proc.devRef .tc main_v121_1) : FVec Ideal S2x8192x512 .f32) (ix3 b t n) = (bx A b.val t.val n.val)
  ctr : V (Proc.devRef .tc main_v121_3) = constantI S_ 32 (BitVec.ofNat 32 k)
  h : ∀ b n, (V (Proc.devRef .tc main_v121_4) : FVec Ideal S2x1x512 .f32) (ix3 b 0 n) = (hst A b.val n.val k)
  out : ∀ b t n, t.val < k → (V (Proc.devRef .tc main_v121_5) : FVec Ideal S2x8192x512 .f32) (ix3 b t n) = (hst A b.val n.val (t.val + 1))

theorem Carried.next {A : Args} {k : ℕ} {V : Valuation τ sig (Elt Ideal)} (hk : k < 8192) (C : Carried A k V) : Carried A (k + 1) (STEP V) := by
  have hr : ∀ b n, (res_main_while0b_v161 V : FVec Ideal S2x1x512 .f32) (ix3 b 0 n) = (hst A b.val n.val (k + 1)) := by
    intro b n
    unfold res_main_while0b_v161
    rw [C.ctr]
    show Host.dynamicSlice S2x1x512 _ (startsOf _) _ (ix3 b 0 n) * (V (Proc.devRef .tc main_v121_4) : FVec Ideal S2x1x512 .f32) (ix3 b 0 n)
      + Host.dynamicSlice S2x1x512 _ (startsOf _) _ (ix3 b 0 n) = _
    rw [sliceAt _ k hk, sliceAt _ k hk, C.a, C.bx, C.h]
    rfl
  refine ⟨?_, ?_, ?_, ?_, ?_⟩
  · rw [STEP_main_v121_0]; exact C.a
  · rw [STEP_main_v121_1]; exact C.bx
  · rw [STEP_main_v121_3]
    unfold step_main_v121_3
    rw [C.ctr]
    funext i
    show BitVec.ofNat 32 k + 1#32 = BitVec.ofNat 32 (k + 1)
    rw [BitVec.ofNat_add]
  · rw [STEP_main_v121_4]; exact hr
  · intro b t n ht
    rw [STEP_main_v121_5]
    unfold step_main_v121_5
    rw [C.ctr]
    refine (updateAt _ _ k hk b t n).trans ?_
    split
    · rename_i h; rw [hr, h]
    · exact C.out b t n (by omega)

theorem Carried.iterate {A : Args} {V : Valuation τ sig (Elt Ideal)} (C : Carried A 0 V) : ∀ k ≤ 8192, Carried A k (STEP^[k] V)
  | 0, _ => C
  | k + 1, hk => by
    rw [Function.iterate_succ_apply']
    exact (C.iterate k (by omega)).next (by omega)

end Cert.Proof.Ref

end
-- ==== Proof.RefRun.lean ====
/- What the reference program leaves in its five results: the forward pass over the extended reals. -/
module

public import proofs.«01_k».proof.Proof.RefLoop

@[expose] public section

noncomputable section

namespace Cert.Proof.Fwd

open Idealize.ShloMosaic

/-- A function of three coordinates as an array of 2 by 8192 by 512 extended reals. -/
def arr (f : ℕ → ℕ → ℕ → EReal) : (⟨3, ![2, 8192, 512]⟩ : Shape).Idx → EReal :=
  fun i => (f (i 0).val (i 1).val (i 2).val)

/-- The five results, each as a function of its coordinates. -/
def outUf (A : Args) (b t n : ℕ) : EReal := z A b t n
def outGf (A : Args) (b t n : ℕ) : EReal := silu (z A b t (512 + n))
def outGl (A : Args) (b t n : ℕ) : EReal := silu (z A b t (1536 + n))
def outV (A : Args) (b p n : ℕ) : EReal := half * v A b (unslab p) n
def outHf (A : Args) (b p n : ℕ) : EReal := hst A b n (unslab p + 1)

theorem eq_arr {y : (⟨3, ![2, 8192, 512]⟩ : Shape).Idx → EReal} {f : ℕ → ℕ → ℕ → EReal}
    (h : ∀ b t n, y (ix3 b t n) = (f b.val t.val n.val)) : y = arr f := by
  funext i
  idx_vars i
  exact h i0 i1 i2

end Cert.Proof.Fwd

namespace Cert.Proof.Ref

open Idealize.ShloMosaic Idealize.ShloMosaic.TcCoe Cert.ReferenceIdeal Cert.ReferenceIdeal.Gen Cert.ReferenceIdeal.Value Cert.Proof.Fwd
open Idealize.SL.Sem
open Idealize.ShloMosaic.StableHlo (finalContents)

section Post

variable (V : Valuation τ sig (Elt Ideal))

theorem post_v122 : StableHlo.after hostOps0_1 V (Proc.devRef .tc main_v122)
    = (truncf .bf16 (V (Proc.devRef .tc main_v26) : FVec Ideal S2x8192x512 .f32) bitsLt_bf16_f32 : FVec Ideal S2x8192x512 .bf16) := by
  after_reads_simp

theorem post_v130 : StableHlo.after hostOps0_1 V (Proc.devRef .tc main_v130)
    = truncf .bf16 (mulf (V (Proc.devRef .tc main_v27) : FVec Ideal S2x8192x512 .f32) (sigT (V (Proc.devRef .tc main_v27)))) bitsLt_bf16_f32 := by
  after_reads_simp; rfl

theorem post_v138 : StableHlo.after hostOps0_1 V (Proc.devRef .tc main_v138)
    = truncf .bf16 (mulf (V (Proc.devRef .tc main_v29) : FVec Ideal S2x8192x512 .f32) (sigT (V (Proc.devRef .tc main_v29)))) bitsLt_bf16_f32 := by
  after_reads_simp; rfl

theorem post_v144 : StableHlo.after hostOps0_1 V (Proc.devRef .tc main_v144)
    = truncf .bf16 (slabT (mulf (broadcastInDim S2x8192x512 ![] bcast_S_S2x8192x512 (constant S_ .f32 0x3F000000#32))
        (V (Proc.devRef .tc main_v61)))) bitsLt_bf16_f32 := by
  after_reads_simp; rfl

theorem post_v148 : StableHlo.after hostOps0_1 V (Proc.devRef .tc main_v148)
    = truncf .bf16 (slabT (V (Proc.devRef .tc main_v121_5))) bitsLt_bf16_f32 := by
  after_reads_simp; rfl

end Post

theorem atK_keep (m : (ℓ : Loc nD τ sig) → Buf (Elt Ideal) ℓ) (c : Dev nD) {r : Ref sig .tc} (hb : r ∉ while0Ops0_W) (hc : r ∉ condOps_W) :
    ∀ k, atK m k c (Proc.devRef .tc r) = StableHlo.entryContents preI m c (Proc.devRef .tc r)
  | 0 => rfl
  | k + 1 => by
    show StableHlo.after while0Ops0 (StableHlo.after condOps (atK m k c)) (Proc.devRef .tc r) = _
    rw [StableHlo.after_of_writes_sub _ _ while0Ops0_writes hb, StableHlo.after_of_writes_sub _ _ condOps_writes hc]
    exact atK_keep m c hb hc k

variable (m : (ℓ : Loc nD τ sig) → Buf (Elt Ideal) ℓ)

/-- The arguments on a device. -/
abbrev HoldsAt (A : Args) (c : Dev nD) : Prop :=
  Holds A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

section Final

variable {m} {A : Args} {c : Dev nD} (H : HoldsAt m A c)

include H

theorem sliced_val (off : ℕ) (h : S2x8192x2048.Slices ![0, 0, off] S2x8192x512) (b : Fin 2) (t : Fin 8192) (n : Fin 512) :
    extractStridedSlice S2x8192x512 ![0, 0, off] (zV (StableHlo.launchContents m c)) h (ix3 b t n) = (z A b t (off + n)) := by
  have hz := zT_val H
  show extractStridedSlice S2x8192x512 ![0, 0, off] (zT _ _ _ _) h (ix3 b t n) = _
  generalize zT _ _ _ _ = Z at hz
  pointwise []
  rw [hz]

theorem final_v122 : finalContents condOps preI bodyI postI 8192 m c (Proc.devRef .tc main_v122) = arr (outUf A) := by
  show StableHlo.after hostOps0_1 (StableHlo.after condOps (atK m 8192 c)) _ = _
  rw [post_v122, StableHlo.after_of_writes_sub _ _ condOps_writes (by decide), atK_keep m c (by decide) (by decide)]
  show (truncf .bf16 (StableHlo.after hostOps0 (StableHlo.launchContents m c) (Proc.devRef .tc main_v26) : FVec Ideal S2x8192x512 .f32) bitsLt_bf16_f32 : FVec Ideal S2x8192x512 .bf16) = _
  rw [entry_v26]
  refine eq_arr fun b t n => ?_
  rw [ValueIdx.truncf_apply, sliced_val H]
  simp only [outUf, Nat.zero_add]

theorem silu_val {y : FVec Ideal S2x8192x512 .f32} {f : ℕ → ℕ → ℕ → EReal} (hy : ∀ b t n, y (ix3 b t n) = (f b.val t.val n.val)) :
    truncf .bf16 (mulf y (sigT y)) bitsLt_bf16_f32 = arr fun b t n => silu (f b t n) := by
  refine eq_arr fun b t n => ?_
  rw [ValueIdx.truncf_apply, ValueIdx.mulf_apply, sigT_val (hy b t n), hy]
  rfl

theorem final_v130 : finalContents condOps preI bodyI postI 8192 m c (Proc.devRef .tc main_v130) = arr (outGf A) := by
  show StableHlo.after hostOps0_1 (StableHlo.after condOps (atK m 8192 c)) _ = _
  rw [post_v130, StableHlo.after_of_writes_sub _ _ condOps_writes (by decide), atK_keep m c (by decide) (by decide)]
  show truncf .bf16 (mulf (StableHlo.after hostOps0 (StableHlo.launchContents m c) (Proc.devRef .tc main_v27) : FVec Ideal S2x8192x512 .f32)
    (sigT (StableHlo.after hostOps0 (StableHlo.launchContents m c) (Proc.devRef .tc main_v27)))) _ = _
  rw [entry_v27]
  exact silu_val H (sliced_val H 512 _)

theorem final_v138 : finalContents condOps preI bodyI postI 8192 m c (Proc.devRef .tc main_v138) = arr (outGl A) := by
  show StableHlo.after hostOps0_1 (StableHlo.after condOps (atK m 8192 c)) _ = _
  rw [post_v138, StableHlo.after_of_writes_sub _ _ condOps_writes (by decide), atK_keep m c (by decide) (by decide)]
  show truncf .bf16 (mulf (StableHlo.after hostOps0 (StableHlo.launchContents m c) (Proc.devRef .tc main_v29) : FVec Ideal S2x8192x512 .f32)
    (sigT (StableHlo.after hostOps0 (StableHlo.launchContents m c) (Proc.devRef .tc main_v29)))) _ = _
  rw [entry_v29]
  exact silu_val H (sliced_val H 1536 _)

theorem vV_val (b : Fin 2) (t : Fin 8192) (n : Fin 512) : vV (StableHlo.launchContents m c) (ix3 b t n) = (v A b t n) :=
  vT_val H b t n

theorem final_v144 : finalContents condOps preI bodyI postI 8192 m c (Proc.devRef .tc main_v144) = arr (outV A) := by
  show StableHlo.after hostOps0_1 (StableHlo.after condOps (atK m 8192 c)) _ = _
  rw [post_v144, StableHlo.after_of_writes_sub _ _ condOps_writes (by decide), atK_keep m c (by decide) (by decide)]
  show truncf .bf16 (slabT (mulf _ (StableHlo.after hostOps0 (StableHlo.launchContents m c) (Proc.devRef .tc main_v61) : FVec Ideal S2x8192x512 .f32))) _ = _
  rw [entry_v61]
  refine eq_arr fun b t n => ?_
  rw [ValueIdx.truncf_apply]
  refine slabT_val (f := fun b t n => half * v A b t n) (fun b t n => ?_) b t n
  rw [ValueIdx.mulf_apply, vV_val H b t n]
  pointwise []
  rw [bits_half]
  rfl

theorem entry_carried (hg : ∀ (b : Fin 2) (t : Fin 8192) (n : Fin 512), 0 ≤ gap A b t n) : Carried A 0 (StableHlo.entryContents preI m c) := by
  refine ⟨?_, ?_, ?_, ?_, ?_⟩
  · show ∀ b t n, (StableHlo.after hostOps0 (StableHlo.launchContents m c) (Proc.devRef .tc main_v121_0) : FVec Ideal S2x8192x512 .f32) (ix3 b t n) = _
    rw [entry_a]
    exact decT_val H (vV_val H)
  · show ∀ b t n, (StableHlo.after hostOps0 (StableHlo.launchContents m c) (Proc.devRef .tc main_v121_1) : FVec Ideal S2x8192x512 .f32) (ix3 b t n) = _
    rw [entry_bx]
    exact fun b t n => bxT_val H (vV_val H) b t n (hg b t n)
  · show StableHlo.after hostOps0 (StableHlo.launchContents m c) (Proc.devRef .tc main_v121_3) = _
    rw [entry_k]
  · show ∀ b n, (StableHlo.after hostOps0 (StableHlo.launchContents m c) (Proc.devRef .tc main_v121_4) : FVec Ideal S2x1x512 .f32) (ix3 b 0 n) = _
    rw [entry_h]
    intro b n
    pointwise []
    exact H.fin b n
  · intro b t n h; omega

theorem final_v148 (hg : ∀ (b : Fin 2) (t : Fin 8192) (n : Fin 512), 0 ≤ gap A b t n) :
    finalContents condOps preI bodyI postI 8192 m c (Proc.devRef .tc main_v148) = arr (outHf A) := by
  show StableHlo.after hostOps0_1 (StableHlo.after condOps (atK m 8192 c)) _ = _
  rw [post_v148, StableHlo.after_of_writes_sub _ _ condOps_writes (by decide), atK_agree m c 8192 main_v121_5 (by decide)]
  have hC := (entry_carried H hg).iterate 8192 le_rfl
  refine eq_arr fun b t n => ?_
  rw [ValueIdx.truncf_apply]
  exact slabT_val (f := fun b t n => hst A b n (t + 1)) (fun b t n => hC.out b t n t.isLt) b t n

end Final

end Cert.Proof.Ref

end
-- ==== Proof.RefFrame.lean ====
/- The reference program as a run: it stops, keeps its arguments, and leaves the forward pass over the extended reals in its five results. -/
module

public import proofs.«01_k».proof.Proof.RefRun
public import Idealize.ShloMosaic.Lib.Quiescent
public import Idealize.ShloMosaic.Lib.StableHlo.RunHlo

@[expose] public section

noncomputable section

namespace Cert.Proof.Ref

open Idealize.ShloMosaic Idealize.SL.Sem Cert.ReferenceIdeal Cert.ReferenceIdeal.Gen Cert.ReferenceIdeal.Value Cert.Proof.Fwd
open Idealize.ShloMosaic.StableHlo (finalContents)

/-- The buffers written after the loop. -/
abbrev post_W : List (Ref sig .tc) :=
  [main_v122, main_v123, main_v124, main_cst_13, main_v125, main_v126, main_cst_14, main_v127, main_v128, main_v129, main_v130, main_v131, main_v132, main_cst_15, main_v133, main_v134, main_cst_16, main_v135, main_v136, main_v137, main_v138, main_cst_17, main_v139, main_v140, main_v141, main_v142, main_v143, main_v144, main_v145, main_v146, main_v147, main_v148]

theorem post_writes : (hostOps0_1 : List (HloOp τ sig (Elt Ideal))).Forall fun op => op.writes ⊆ (post_W.map (Proc.devRef (τ := τ) .tc)).toFinset :=
  StableHlo.forall_writes_sub_of_map rfl

/-- A buffer that nothing writes ends as it began. -/
theorem kept (m : (ℓ : Loc nD τ sig) → Buf (Elt Ideal) ℓ) (c : Dev nD) {r : Ref sig .tc} (h0 : r ∉ hostOps0_W) (hb : r ∉ while0Ops0_W)
    (hc : r ∉ condOps_W) (h1 : r ∉ post_W) :
    finalContents condOps preI bodyI postI 8192 m c (Proc.devRef .tc r) = m ((c.tc : Thread nD τ).loc r) := by
  show StableHlo.after hostOps0_1 (StableHlo.after condOps (atK m 8192 c)) _ = _
  rw [StableHlo.after_of_writes_sub _ _ post_writes h1, StableHlo.after_of_writes_sub _ _ condOps_writes hc, atK_keep m c hb hc]
  show StableHlo.after hostOps0 (StableHlo.launchContents m c) _ = _
  rw [StableHlo.after_of_writes_sub _ _ hostOps0_writes h0]

/-- The arguments at the end, as at the start. -/
abbrev Keeps (m : (ℓ : Loc nD τ sig) → Buf (Elt Ideal) ℓ) (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)

theorem keeps_of {m : (ℓ : Loc nD τ sig) → Buf (Elt Ideal) ℓ} {s : MemSt nD τ sig (Elt Ideal)}
    (h : ∀ (c : Dev nD) (b : Ref sig .tc), (Proc.devRef .tc b : DevRef τ sig).isScoped = false →
      s.mem ((c.tc : Thread nD τ).loc b) = finalContents condOps preI bodyI postI 8192 m c (Proc.devRef .tc b)) (c : Dev nD) : Keeps m s c := by
  refine ⟨?_, ?_, ?_, ?_, ?_, ?_, ?_, ?_, ?_, ?_, ?_, ?_⟩ <;>
  exact (h c _ rfl).trans (kept m c (by decide) (by decide) (by decide) (by decide))

variable (m : (ℓ : Loc nD τ sig) → Buf (Elt Ideal) ℓ) (ρ : Dev nD → PrngReg)

/-- The reference stops without fault, its arguments as they were and no semaphore raised. -/
theorem frame : θ_run (defs (F := Ideal)) (onTc (τ := τ) (main (F := Ideal))) ⟨m, fun _ => 0, ρ⟩
    (fun r => (∀ c, Keeps m r.2 c) ∧ r.2.sem = fun _ => 0) :=
  θ_run_mono (run_fold m ρ) fun r h => ⟨keeps_of h, sem_eq_zero_of_no_sems rfl r.2⟩

/-- The reference leaves the forward pass over the extended reals. -/
theorem run (A : Dev nD → Args) (H : ∀ c, HoldsAt m (A c) c)
    (hg : ∀ c (b : Fin 2) (t : Fin 8192) (n : Fin 512), 0 ≤ gap (A c) b t n) :
    θ_run (defs (F := Ideal)) (onTc (τ := τ) (main (F := Ideal))) ⟨m, fun _ => 0, ρ⟩
    (fun r => ∀ c : Dev nD, r.2.mem ((c.tc : Thread nD τ).loc main_v122) = arr (outUf (A c))
      ∧ r.2.mem ((c.tc : Thread nD τ).loc main_v130) = arr (outGf (A c))
      ∧ r.2.mem ((c.tc : Thread nD τ).loc main_v138) = arr (outGl (A c))
      ∧ r.2.mem ((c.tc : Thread nD τ).loc main_v144) = arr (outV (A c))
      ∧ r.2.mem ((c.tc : Thread nD τ).loc main_v148) = arr (outHf (A c))
      ∧ Keeps m r.2 c) :=
  θ_run_mono (run_fold m ρ) fun _ h c =>
    ⟨(h c main_v122 rfl).trans (final_v122 (H c)), (h c main_v130 rfl).trans (final_v130 (H c)), (h c main_v138 rfl).trans (final_v138 (H c)),
      (h c main_v144 rfl).trans (final_v144 (H c)), (h c main_v148 rfl).trans (final_v148 (H c) (hg c)), keeps_of h c⟩

end Cert.Proof.Ref

end
-- ==== Proof.Blocks.lean ====
/- Arrays given by functions of natural-number coordinates into the extended reals: the stores that leave one, the loads that read a block
   of one, and the elementwise operations on them. -/
module

public import proofs.«01_k».proof.Proof.Spec
public import Idealize.ShloMosaic.Lib.Pipeline.ReadBack
public import Idealize.ShloMosaic.Lib.Pointwise
public import Idealize.ShloMosaic.Lib.Pipeline.ValueKit

@[expose] public section

noncomputable section

namespace Cert.Proof.Fwd

open Idealize.ShloMosaic
open Idealize.ShloMosaic.View (Piece PiecesOf canon)

/-- A function of two coordinates as an array. -/
def m2 {n0 n1 : ℕ} (f : ℕ → ℕ → EReal) : (⟨2, ![n0, n1]⟩ : Shape).Idx → EReal := fun i => (f (i 0).val (i 1).val)

/-- A function of three coordinates as an array. -/
def m3 {n0 n1 n2 : ℕ} (f : ℕ → ℕ → ℕ → EReal) : (⟨3, ![n0, n1, n2]⟩ : Shape).Idx → EReal :=
  fun i => (f (i 0).val (i 1).val (i 2).val)

/-- A function of four coordinates as an array. -/
def m4 {n0 n1 n2 n3 : ℕ} (f : ℕ → ℕ → ℕ → ℕ → EReal) : (⟨4, ![n0, n1, n2, n3]⟩ : Shape).Idx → EReal :=
  fun i => (f (i 0).val (i 1).val (i 2).val (i 3).val)

theorem m2_ix {n0 n1 : ℕ} (f : ℕ → ℕ → EReal) (p : Fin n0) (q : Fin n1) : m2 f (ix2 p q) = (f p q) := rfl
theorem m3_ix {n0 n1 n2 : ℕ} (f : ℕ → ℕ → ℕ → EReal) (p : Fin n0) (q : Fin n1) (r : Fin n2) : m3 f (ix3 p q r) = (f p q r) := rfl
theorem m4_ix {n0 n1 n2 n3 : ℕ} (f : ℕ → ℕ → ℕ → ℕ → EReal) (p : Fin n0) (q : Fin n1) (r : Fin n2) (s : Fin n3) :
    m4 f (ix4 p q r s) = (f p q r s) := rfl

theorem eq_m2 {n0 n1 : ℕ} {y : (⟨2, ![n0, n1]⟩ : Shape).Idx → EReal} {f : ℕ → ℕ → EReal}
    (h : ∀ p q, y (ix2 p q) = (f p q)) : y = m2 f := by
  funext i
  rw [eq_ix2 i]
  exact h _ _

theorem eq_m3 {n0 n1 n2 : ℕ} {y : (⟨3, ![n0, n1, n2]⟩ : Shape).Idx → EReal} {f : ℕ → ℕ → ℕ → EReal}
    (h : ∀ p q r, y (ix3 p q r) = (f p q r)) : y = m3 f := by
  funext i
  rw [eq_ix3 i]
  exact h _ _ _

theorem eq_m4 {n0 n1 n2 n3 : ℕ} {y : (⟨4, ![n0, n1, n2, n3]⟩ : Shape).Idx → EReal} {f : ℕ → ℕ → ℕ → ℕ → EReal}
    (h : ∀ p q r s, y (ix4 p q r s) = (f p q r s)) : y = m4 f := by
  funext i
  rw [eq_ix4 i]
  exact h _ _ _ _

theorem m2_congr {n0 n1 : ℕ} {f g : ℕ → ℕ → EReal} (h : ∀ p q, p < n0 → q < n1 → f p q = g p q) : (m2 f : (⟨2, ![n0, n1]⟩ : Shape).Idx → EReal) = m2 g :=
  funext fun i => (h _ _ (i 0).isLt (i 1).isLt)

theorem m3_congr {n0 n1 n2 : ℕ} {f g : ℕ → ℕ → ℕ → EReal} (h : ∀ p q r, p < n0 → q < n1 → r < n2 → f p q r = g p q r) :
    (m3 f : (⟨3, ![n0, n1, n2]⟩ : Shape).Idx → EReal) = m3 g :=
  funext fun i => (h _ _ _ (i 0).isLt (i 1).isLt (i 2).isLt)

/-! ## Stores -/

theorem piece2 {n0 n1 k0 k1 o0 o1 : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {g f : ℕ → ℕ → EReal} (hw : w = m2 g)
    (h : ∀ p q, p < k0 → q < k1 → g p q = f (o0 + p) (o1 + q)) :
    ∀ x : (Rect.unit (s := ⟨2, ![n0, n1]⟩) ![o0, o1] ![k0, k1] inb).shape.Idx,
      w x = m2 f ((Rect.unit (s := ⟨2, ![n0, n1]⟩) ![o0, o1] ![k0, k1] inb).emb x) := by
  subst hw
  intro x
  have h0 := ValueKit.rect_emb_unit_val (s := ⟨2, ![n0, n1]⟩) ![o0, o1] ![k0, k1] inb x 0
  have h1 := ValueKit.rect_emb_unit_val (s := ⟨2, ![n0, n1]⟩) ![o0, o1] ![k0, k1] inb x 1
  refine ((h _ _ (x 0).isLt (x 1).isLt).trans ?_)
  exact congrArg₂ f h0.symm h1.symm

theorem piece3 {n0 n1 n2 k0 k1 k2 o0 o1 o2 : ℕ}
    {inb : ∀ a, (![o0, o1, o2] : Fin 3 → ℕ) a + (![k0, k1, k2] : Fin 3 → ℕ) a ≤ (⟨3, ![n0, n1, n2]⟩ : Shape).size a}
    {w : (⟨3, ![k0, k1, k2]⟩ : Shape).Idx → EReal} {g f : ℕ → ℕ → ℕ → EReal} (hw : w = m3 g)
    (h : ∀ p q r, p < k0 → q < k1 → r < k2 → g p q r = f (o0 + p) (o1 + q) (o2 + r)) :
    ∀ x : (Rect.unit (s := ⟨3, ![n0, n1, n2]⟩) ![o0, o1, o2] ![k0, k1, k2] inb).shape.Idx,
      w x = m3 f ((Rect.unit (s := ⟨3, ![n0, n1, n2]⟩) ![o0, o1, o2] ![k0, k1, k2] inb).emb x) := by
  subst hw
  intro x
  have h0 := ValueKit.rect_emb_unit_val (s := ⟨3, ![n0, n1, n2]⟩) ![o0, o1, o2] ![k0, k1, k2] inb x 0
  have h1 := ValueKit.rect_emb_unit_val (s := ⟨3, ![n0, n1, n2]⟩) ![o0, o1, o2] ![k0, k1, k2] inb x 1
  have h2 := ValueKit.rect_emb_unit_val (s := ⟨3, ![n0, n1, n2]⟩) ![o0, o1, o2] ![k0, k1, k2] inb x 2
  refine ((h _ _ _ (x 0).isLt (x 1).isLt (x 2).isLt).trans ?_)
  have e : ∀ {a a' b b' c c' : ℕ}, a' = a → b' = b → c' = c → f a b c = f a' b' c' := fun h h' h'' => by rw [h, h', h'']
  exact e h0 h1 h2

/-- A further store on a list of blocks. -/
theorem cons2 {n0 n1 k0 k1 o0 o1 : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {g f : ℕ → ℕ → EReal} {L : List (Piece (Elt Ideal) ⟨2, ![n0, n1]⟩ .f32)} (hw : w = m2 g)
    (h : ∀ p q, p < k0 → q < k1 → g p q = f (o0 + p) (o1 + q)) (hL : PiecesOf (Val := Elt Ideal) (e := .f32) (m2 f) L) :
    PiecesOf (Val := Elt Ideal) (e := .f32) (m2 f) (⟨Rect.unit (s := ⟨2, ![n0, n1]⟩) ![o0, o1] ![k0, k1] inb, w⟩ :: L) :=
  ⟨piece2 (inb := inb) hw h, hL⟩

theorem cons2b {n0 n1 k0 k1 o0 o1 : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {g f : ℕ → ℕ → EReal} {L : List (Piece (Elt Ideal) ⟨2, ![n0, n1]⟩ .bf16)} (hw : w = m2 g)
    (h : ∀ p q, p < k0 → q < k1 → g p q = f (o0 + p) (o1 + q)) (hL : PiecesOf (Val := Elt Ideal) (e := .bf16) (m2 f) L) :
    PiecesOf (Val := Elt Ideal) (e := .bf16) (m2 f) (⟨Rect.unit (s := ⟨2, ![n0, n1]⟩) ![o0, o1] ![k0, k1] inb, w⟩ :: L) :=
  ⟨piece2 (inb := inb) hw h, hL⟩

theorem cons3 {n0 n1 n2 k0 k1 k2 o0 o1 o2 : ℕ}
    {inb : ∀ a, (![o0, o1, o2] : Fin 3 → ℕ) a + (![k0, k1, k2] : Fin 3 → ℕ) a ≤ (⟨3, ![n0, n1, n2]⟩ : Shape).size a}
    {w : (⟨3, ![k0, k1, k2]⟩ : Shape).Idx → EReal} {g f : ℕ → ℕ → ℕ → EReal} {L : List (Piece (Elt Ideal) ⟨3, ![n0, n1, n2]⟩ .f32)} (hw : w = m3 g)
    (h : ∀ p q r, p < k0 → q < k1 → r < k2 → g p q r = f (o0 + p) (o1 + q) (o2 + r)) (hL : PiecesOf (Val := Elt Ideal) (e := .f32) (m3 f) L) :
    PiecesOf (Val := Elt Ideal) (e := .f32) (m3 f) (⟨Rect.unit (s := ⟨3, ![n0, n1, n2]⟩) ![o0, o1, o2] ![k0, k1, k2] inb, w⟩ :: L) :=
  ⟨piece3 (inb := inb) hw h, hL⟩

theorem cons3b {n0 n1 n2 k0 k1 k2 o0 o1 o2 : ℕ}
    {inb : ∀ a, (![o0, o1, o2] : Fin 3 → ℕ) a + (![k0, k1, k2] : Fin 3 → ℕ) a ≤ (⟨3, ![n0, n1, n2]⟩ : Shape).size a}
    {w : (⟨3, ![k0, k1, k2]⟩ : Shape).Idx → EReal} {g f : ℕ → ℕ → ℕ → EReal} {L : List (Piece (Elt Ideal) ⟨3, ![n0, n1, n2]⟩ .bf16)} (hw : w = m3 g)
    (h : ∀ p q r, p < k0 → q < k1 → r < k2 → g p q r = f (o0 + p) (o1 + q) (o2 + r)) (hL : PiecesOf (Val := Elt Ideal) (e := .bf16) (m3 f) L) :
    PiecesOf (Val := Elt Ideal) (e := .bf16) (m3 f) (⟨Rect.unit (s := ⟨3, ![n0, n1, n2]⟩) ![o0, o1, o2] ![k0, k1, k2] inb, w⟩ :: L) :=
  ⟨piece3 (inb := inb) hw h, hL⟩

/-! ## Loads -/

section Loads

variable {sig : RefSig} {κ : Kind} {sp : Space} {e : EltTy} {s : Shape}

/-- A load at indices that the stores cover reads the function the stores are blocks of. -/
theorem readCov_pieces {v : View sig κ sp s e} {L : List (Piece (Elt Ideal) s e)} {G : s.Idx → Elt Ideal e} {B : LoadRect s}
    (hL : PiecesOf G L) (hc : ∀ j, ∃ p ∈ L, B.idx j ∈ p.1.set) : v.readCov L B = fun j => G (B.idx j) := by
  rw [View.readCov_eq_canon']
  exact funext fun j => View.canon_apply_of_pieces G L hL.mem _ (hc j)

theorem idx2 {n0 n1 k0 k1 o0 o1 : ℕ} {off : Fin 2 → ℕ} (f : ℕ → ℕ → EReal) (h0 : off 0 = o0) (h1 : off 1 = o1)
    (inb : ∀ a, off a + (![k0, k1] : Fin 2 → ℕ) a ≤ (⟨2, ![n0, n1]⟩ : Shape).size a) :
    (fun j => m2 f ((Rect.unit (s := ⟨2, ![n0, n1]⟩) off ![k0, k1] inb).toLoadRect.idx j))
      = (m2 fun p q => f (o0 + p) (o1 + q) : (⟨2, ![k0, k1]⟩ : Shape).Idx → EReal) := by
  subst h0 h1
  funext j
  refine (congrArg₂ f ?_ ?_) <;> exact ValueKit.rect_emb_unit_val (s := ⟨2, ![n0, n1]⟩) off ![k0, k1] inb j _

theorem idx3 {n0 n1 n2 k0 k1 k2 : ℕ} {off : Fin 3 → ℕ} (f : ℕ → ℕ → ℕ → EReal)
    (inb : ∀ a, off a + (![k0, k1, k2] : Fin 3 → ℕ) a ≤ (⟨3, ![n0, n1, n2]⟩ : Shape).size a) :
    (fun j => m3 f ((Rect.unit (s := ⟨3, ![n0, n1, n2]⟩) off ![k0, k1, k2] inb).toLoadRect.idx j))
      = (m3 fun p q r => f (off 0 + p) (off 1 + q) (off 2 + r) : (⟨3, ![k0, k1, k2]⟩ : Shape).Idx → EReal) := by
  funext j
  have e : ∀ {a a' b b' c c' : ℕ}, a' = a → b' = b → c' = c → f a' b' c' = f a b c := fun h h' h'' => by rw [h, h', h'']
  refine (e ?_ ?_ ?_) <;> exact ValueKit.rect_emb_unit_val (s := ⟨3, ![n0, n1, n2]⟩) off ![k0, k1, k2] inb j _

theorem idx4 {n0 n1 n2 n3 k0 k1 k2 k3 : ℕ} {off : Fin 4 → ℕ} (f : ℕ → ℕ → ℕ → ℕ → EReal)
    (inb : ∀ a, off a + (![k0, k1, k2, k3] : Fin 4 → ℕ) a ≤ (⟨4, ![n0, n1, n2, n3]⟩ : Shape).size a) :
    (fun j => m4 f ((Rect.unit (s := ⟨4, ![n0, n1, n2, n3]⟩) off ![k0, k1, k2, k3] inb).toLoadRect.idx j))
      = (m4 fun p q r s => f (off 0 + p) (off 1 + q) (off 2 + r) (off 3 + s) : (⟨4, ![k0, k1, k2, k3]⟩ : Shape).Idx → EReal) := by
  funext j
  have e : ∀ {a a' b b' c c' d d' : ℕ}, a' = a → b' = b → c' = c → d' = d → f a' b' c' d' = f a b c d := fun h h' h'' hd => by rw [h, h', h'', hd]
  refine (e ?_ ?_ ?_ ?_) <;> exact ValueKit.rect_emb_unit_val (s := ⟨4, ![n0, n1, n2, n3]⟩) off ![k0, k1, k2, k3] inb j _

/-- A load of a whole buffer's block. -/
theorem load_whole {m : Memref sig κ sp s e} (hm : m.IsWhole) (x : s.Idx → Elt Ideal e) (B : Rect s) :
    View.readAt (Elt Ideal) m.view B.toLoadRect (hm.unread x) = fun j => x (B.toLoadRect.idx j) := by
  rw [View.readAt_eq_ld, hm.read_unread]

theorem load2 {n0 n1 k0 k1 : ℕ} {off : Fin 2 → ℕ} {m : Memref sig κ sp ⟨2, ![n0, n1]⟩ .f32} (hm : m.IsWhole)
    {x : (⟨2, ![n0, n1]⟩ : Shape).Idx → EReal} {f : ℕ → ℕ → EReal} (hx : x = m2 f) (o0 o1 : ℕ) (h0 : off 0 = o0) (h1 : off 1 = o1)
    {inb : ∀ a, off a + (![k0, k1] : Fin 2 → ℕ) a ≤ (⟨2, ![n0, n1]⟩ : Shape).size a} :
    (View.readAt (Elt Ideal) m.view (Rect.unit (s := ⟨2, ![n0, n1]⟩) off ![k0, k1] inb).toLoadRect (hm.unread (Val := Elt Ideal) x) :
      (⟨2, ![k0, k1]⟩ : Shape).Idx → EReal) = m2 fun p q => f (o0 + p) (o1 + q) := by
  subst hx
  exact (load_whole hm _ _).trans (idx2 f h0 h1 inb)

theorem load2b {n0 n1 k0 k1 : ℕ} {off : Fin 2 → ℕ} {m : Memref sig κ sp ⟨2, ![n0, n1]⟩ .bf16} (hm : m.IsWhole)
    {x : (⟨2, ![n0, n1]⟩ : Shape).Idx → EReal} {f : ℕ → ℕ → EReal} (hx : x = m2 f) (o0 o1 : ℕ) (h0 : off 0 = o0) (h1 : off 1 = o1)
    {inb : ∀ a, off a + (![k0, k1] : Fin 2 → ℕ) a ≤ (⟨2, ![n0, n1]⟩ : Shape).size a} :
    (View.readAt (Elt Ideal) m.view (Rect.unit (s := ⟨2, ![n0, n1]⟩) off ![k0, k1] inb).toLoadRect (hm.unread (Val := Elt Ideal) x) :
      (⟨2, ![k0, k1]⟩ : Shape).Idx → EReal) = m2 fun p q => f (o0 + p) (o1 + q) := by
  subst hx
  exact (load_whole hm _ _).trans (idx2 f h0 h1 inb)

theorem load3 {n0 n1 n2 k0 k1 k2 : ℕ} {off : Fin 3 → ℕ} {m : Memref sig κ sp ⟨3, ![n0, n1, n2]⟩ .f32} (hm : m.IsWhole)
    {x : (⟨3, ![n0, n1, n2]⟩ : Shape).Idx → EReal} {f : ℕ → ℕ → ℕ → EReal} (hx : x = m3 f)
    {inb : ∀ a, off a + (![k0, k1, k2] : Fin 3 → ℕ) a ≤ (⟨3, ![n0, n1, n2]⟩ : Shape).size a} :
    (View.readAt (Elt Ideal) m.view (Rect.unit (s := ⟨3, ![n0, n1, n2]⟩) off ![k0, k1, k2] inb).toLoadRect (hm.unread (Val := Elt Ideal) x) :
      (⟨3, ![k0, k1, k2]⟩ : Shape).Idx → EReal) = m3 fun p q r => f (off 0 + p) (off 1 + q) (off 2 + r) := by
  subst hx
  exact (load_whole hm _ _).trans (idx3 f inb)

theorem load4b {n0 n1 n2 n3 k0 k1 k2 k3 : ℕ} {off : Fin 4 → ℕ} {m : Memref sig κ sp ⟨4, ![n0, n1, n2, n3]⟩ .bf16} (hm : m.IsWhole)
    {x : (⟨4, ![n0, n1, n2, n3]⟩ : Shape).Idx → EReal} {f : ℕ → ℕ → ℕ → ℕ → EReal} (hx : x = m4 f)
    {inb : ∀ a, off a + (![k0, k1, k2, k3] : Fin 4 → ℕ) a ≤ (⟨4, ![n0, n1, n2, n3]⟩ : Shape).size a} :
    (View.readAt (Elt Ideal) m.view (Rect.unit (s := ⟨4, ![n0, n1, n2, n3]⟩) off ![k0, k1, k2, k3] inb).toLoadRect (hm.unread (Val := Elt Ideal) x) :
      (⟨4, ![k0, k1, k2, k3]⟩ : Shape).Idx → EReal) = m4 fun p q r s => f (off 0 + p) (off 1 + q) (off 2 + r) (off 3 + s) := by
  subst hx
  exact (load_whole hm _ _).trans (idx4 f inb)

theorem back2 {n0 n1 k0 k1 : ℕ} {off : Fin 2 → ℕ} {v : View sig κ sp ⟨2, ![n0, n1]⟩ .f32} {L : List (Piece (Elt Ideal) ⟨2, ![n0, n1]⟩ .f32)} {f : ℕ → ℕ → EReal}
    (hL : PiecesOf (Val := Elt Ideal) (e := .f32) (m2 f) L) {inb : ∀ a, off a + (![k0, k1] : Fin 2 → ℕ) a ≤ (⟨2, ![n0, n1]⟩ : Shape).size a}
    (hc : ∀ j, ∃ p ∈ L, (Rect.unit (s := ⟨2, ![n0, n1]⟩) off ![k0, k1] inb).toLoadRect.idx j ∈ p.1.set) :
    (v.readCov L (Rect.unit (s := ⟨2, ![n0, n1]⟩) off ![k0, k1] inb).toLoadRect : (⟨2, ![k0, k1]⟩ : Shape).Idx → EReal)
      = m2 fun p q => f (off 0 + p) (off 1 + q) :=
  (readCov_pieces hL hc).trans (idx2 f rfl rfl inb)

theorem back2b {n0 n1 k0 k1 : ℕ} {off : Fin 2 → ℕ} {v : View sig κ sp ⟨2, ![n0, n1]⟩ .bf16} {L : List (Piece (Elt Ideal) ⟨2, ![n0, n1]⟩ .bf16)} {f : ℕ → ℕ → EReal}
    (hL : PiecesOf (Val := Elt Ideal) (e := .bf16) (m2 f) L) {inb : ∀ a, off a + (![k0, k1] : Fin 2 → ℕ) a ≤ (⟨2, ![n0, n1]⟩ : Shape).size a}
    (hc : ∀ j, ∃ p ∈ L, (Rect.unit (s := ⟨2, ![n0, n1]⟩) off ![k0, k1] inb).toLoadRect.idx j ∈ p.1.set) :
    (v.readCov L (Rect.unit (s := ⟨2, ![n0, n1]⟩) off ![k0, k1] inb).toLoadRect : (⟨2, ![k0, k1]⟩ : Shape).Idx → EReal)
      = m2 fun p q => f (off 0 + p) (off 1 + q) :=
  (readCov_pieces hL hc).trans (idx2 f rfl rfl inb)

theorem back3b {n0 n1 n2 k0 k1 k2 : ℕ} {off : Fin 3 → ℕ} {v : View sig κ sp ⟨3, ![n0, n1, n2]⟩ .bf16} {L : List (Piece (Elt Ideal) ⟨3, ![n0, n1, n2]⟩ .bf16)}
    {f : ℕ → ℕ → ℕ → EReal} (hL : PiecesOf (Val := Elt Ideal) (e := .bf16) (m3 f) L)
    {inb : ∀ a, off a + (![k0, k1, k2] : Fin 3 → ℕ) a ≤ (⟨3, ![n0, n1, n2]⟩ : Shape).size a}
    (hc : ∀ j, ∃ p ∈ L, (Rect.unit (s := ⟨3, ![n0, n1, n2]⟩) off ![k0, k1, k2] inb).toLoadRect.idx j ∈ p.1.set) :
    (v.readCov L (Rect.unit (s := ⟨3, ![n0, n1, n2]⟩) off ![k0, k1, k2] inb).toLoadRect : (⟨3, ![k0, k1, k2]⟩ : Shape).Idx → EReal)
      = m3 fun p q r => f (off 0 + p) (off 1 + q) (off 2 + r) :=
  (readCov_pieces hL hc).trans (idx3 f inb)

/-- A load of every `t`-th row of one slice of a rank-three buffer. -/
theorem backStrided {n0 n1 n2 k t o0 o1 : ℕ} {v : View sig κ sp ⟨3, ![n0, n1, n2]⟩ .f32} {L : List (Piece (Elt Ideal) ⟨3, ![n0, n1, n2]⟩ .f32)}
    {f : ℕ → ℕ → ℕ → EReal} (hL : PiecesOf (Val := Elt Ideal) (e := .f32) (m3 f) L)
    {inb : ∀ a, (![1, k, n2] : Fin 3 → ℕ) a = 0 ∨ (![o0, o1, 0] : Fin 3 → ℕ) a + (![1, t, 1] : Fin 3 → ℕ) a * ((![1, k, n2] : Fin 3 → ℕ) a - 1)
      < (⟨3, ![n0, n1, n2]⟩ : Shape).size a}
    (hc : ∀ j, ∃ p ∈ L, (⟨![o0, o1, 0], ![1, k, n2], ![1, t, 1], inb⟩ : LoadRect ⟨3, ![n0, n1, n2]⟩).idx j ∈ p.1.set) :
    (v.readCov L (⟨![o0, o1, 0], ![1, k, n2], ![1, t, 1], inb⟩ : LoadRect ⟨3, ![n0, n1, n2]⟩) : (⟨3, ![1, k, n2]⟩ : Shape).Idx → EReal)
      = m3 fun _ q r => f o0 (o1 + t * q) r := by
  rw [readCov_pieces hL hc]
  funext j
  have h0 : (j 0).val = 0 := by have : (j 0).val < 1 := (j 0).isLt; omega
  have e : ∀ {a a' b b' c c' : ℕ}, a' = a → b' = b → c' = c → f a' b' c' = f a b c := fun h h' h'' => by rw [h, h', h'']
  refine (e ?_ ?_ ?_)
  · show o0 + 1 * (j 0).val = o0
    omega
  · rfl
  · show 0 + 1 * (j 2).val = _
    omega

end Loads

end Cert.Proof.Fwd

end
-- ==== Proof.TileTerms.lean ====
/- The kernel's operations on one tile, read element by element. -/
module

public import proofs.«01_k».proof.Proof.Blocks
public import proofs.«01_k».proof.Proof.Gen.KernelIdeal.Frame.RunA

@[expose] public section

noncomputable section

namespace Cert.Proof.Fwd

open Idealize.ShloMosaic Cert.KernelIdeal Cert.KernelIdeal.Gen
open Idealize.ShloMosaic.View (Piece PiecesOf canon)

/-- The normalised and modulated rows of a block of 64. -/
def mod64 (x : FVec Ideal S64x1024 .f32) (sc sh : FVec Ideal S1x1024 .f32) (g : FVec Ideal S1x1024 .f32) : FVec Ideal S64x1024 .f32 :=
  addf (mulf (mulf x (broadcastTo S64x1024 (rsqrt (addf (divf (shapeCast S64x1 (multiReduction .add [1] S64 (mulf x x) 0x00000000#32
    reduces_S64x1024_S64 (.inl rfl) rfl) shapeCasts_S64_S64x1) (broadcast S64x1 (FloatOps.ofBits .f32 1149239296#32)))
      (broadcast S64x1 (FloatOps.ofBits .f32 897988541#32)))) broadcasts_S64x1_S64x1024))
    (broadcastTo S64x1024 (mulf g (addf (broadcast S1x1024 (FloatOps.ofBits .f32 1065353216#32)) sc)) broadcasts_S1x1024_S64x1024))
    (broadcastTo S64x1024 sh broadcasts_S1x1024_S64x1024)

theorem mod64_val {A : Args} {b t : ℕ} {x : FVec Ideal S64x1024 .f32} {sc sh g : FVec Ideal S1x1024 .f32}
    (ex : x = m2 fun p k => A.x b (t + p) k) (esc : sc = m2 fun _ k => A.md b (1024 + k)) (esh : sh = m2 fun _ k => A.md b k)
    (eg : g = m2 fun _ k => A.gain k) : mod64 x sc sh g = m2 fun p k => hx A b (t + p) k := by
  refine eq_m2 fun p k => ?_
  pointwise [mod64]
  subst ex esc esh eg
  simp only [m2_ix, bits_1024, bits_eps, bits_one]
  unfold hx rms
  rw [mul_assoc (A.x b (t + p) k * _)]
  rfl

/-- The normalised and modulated rows of a block of 8. -/
def mod8 (x : FVec Ideal S8x1024 .f32) (sc sh : FVec Ideal S1x1024 .f32) (g : FVec Ideal S1x1024 .f32) : FVec Ideal S8x1024 .f32 :=
  addf (mulf (mulf x (broadcastTo S8x1024 (rsqrt (addf (divf (shapeCast S8x1 (multiReduction .add [1] S8 (mulf x x) 0x00000000#32
    reduces_S8x1024_S8 (.inl rfl) rfl) shapeCasts_S8_S8x1) (broadcast S8x1 (FloatOps.ofBits .f32 1149239296#32)))
      (broadcast S8x1 (FloatOps.ofBits .f32 897988541#32)))) broadcasts_S8x1_S8x1024))
    (broadcastTo S8x1024 (mulf g (addf (broadcast S1x1024 (FloatOps.ofBits .f32 1065353216#32)) sc)) broadcasts_S1x1024_S8x1024))
    (broadcastTo S8x1024 sh broadcasts_S1x1024_S8x1024)

theorem mod8_val {A : Args} {b t : ℕ} {x : FVec Ideal S8x1024 .f32} {sc sh g : FVec Ideal S1x1024 .f32}
    (ex : x = m2 fun p k => A.x b (t + p) k) (esc : sc = m2 fun _ k => A.md b (1024 + k)) (esh : sh = m2 fun _ k => A.md b k)
    (eg : g = m2 fun _ k => A.gain k) : mod8 x sc sh g = m2 fun p k => hx A b (t + p) k := by
  refine eq_m2 fun p k => ?_
  pointwise [mod8]
  subst ex esc esh eg
  simp only [m2_ix, bits_1024, bits_eps, bits_one]
  unfold hx rms
  rw [mul_assoc (A.x b (t + p) k * _)]
  rfl

/-! ## The tile's rows -/

section Rows

variable (A : Args) (b j : ℕ)

/-- The modulated rows of the tile, eight rows of the next tile, and eight rows of zeros. -/
def rowHx (r k : ℕ) : EReal :=
  if r < 1024 then hx A b (1024 * j + r) k else if r < 1032 then hx A b (8 * min ((j + 1) * 128) 1023 + (r - 1024)) k else 0

/-- The recurrent branch's columns of those rows. -/
def rowU (r n : ℕ) : EReal := ∑ k : Fin 1024, rowHx A b j r k * A.w k (1024 + n)

/-- The same, in four column groups, each run of 64 rows followed by four rows that are not used. -/
def padU (p q r : ℕ) : EReal := rowU A b j (64 * (q / 68) + q % 68) (128 * p + r)

/-- The position kept in a row of the slab order. -/
def slot (r : ℕ) : ℕ := 1024 * j + 64 * (r % 16) + r / 16

/-- The padded input of the convolution in the slab order. -/
def extU (r n : ℕ) : EReal := up A b (slot j r) n

/-- Half of the convolution in the slab order. -/
def slabV (r n : ℕ) : EReal := half * v A b (slot j r) n

/-- The decay and the input term of the recurrence in the slab order. -/
def slabG (r n : ℕ) : EReal := if n < 512 then ((dec A b (slot j r) n : ℝ) : EReal) else bx A b (slot j r) (n - 512)

end Rows

theorem halo_val {x : FVec Ideal S8x1024 .f32} {f : ℕ → ℕ → EReal} (ex : x = m2 f) :
    (shapeCast S16x1024 (truncf .bf16 (concatenate S16x1024 0 [⟨S8x1024, x⟩, ⟨S8x1024, (broadcast S8x1024 (FloatOps.ofBits .f32 0#32) : FVec Ideal S8x1024 .f32)⟩]
      concatenates_S8x1024_S8x1024_S16x1024_d0 : FVec Ideal S16x1024 .f32) bitsLt_bf16_f32 : FVec Ideal S16x1024 .bf16) shapeCasts_S16x1024_S16x1024 :
      FVec Ideal S16x1024 .bf16) = m2 fun p k => if p < 8 then f p k else 0 := by
  refine eq_m2 fun p k => ?_
  pointwise []
  subst ex
  split <;> rfl

theorem truncCast64_val {x : FVec Ideal S64x1024 .f32} {f : ℕ → ℕ → EReal} (ex : x = m2 f) :
    (shapeCast S64x1024 (truncf .bf16 x bitsLt_bf16_f32 : FVec Ideal S64x1024 .bf16) shapeCasts_S64x1024_S64x1024 : FVec Ideal S64x1024 .bf16) = m2 f := by
  refine eq_m2 fun p k => ?_
  pointwise []
  subst ex
  rfl

theorem mat1040_val {x : FVec Ideal S1040x1024 .bf16} {w : FVec Ideal S1024x512 .bf16} {f g : ℕ → ℕ → EReal} (ex : x = m2 f) (ew : w = m2 g) :
    (matmul dot_S1040x1024_S1024x512_S1040x512_1_0_0_1_n_n none x (shapeCast S1024x512 w shapeCasts_S1024x512_S1024x512 : FVec Ideal S1024x512 .bf16)
      (constant S1040x512 .f32 0#32) : FVec Ideal S1040x512 .f32) = m2 fun r n => ∑ k : Fin 1024, f r k * g k n := by
  refine eq_m2 fun p n => ?_
  pointwise []
  subst ex ew
  simp only [m2_ix]

theorem mat1024_val {x : FVec Ideal S1024x1024 .bf16} {w : FVec Ideal S1024x512 .bf16} {f g : ℕ → ℕ → EReal} (ex : x = m2 f) (ew : w = m2 g) :
    (matmul dot_S1024x1024_S1024x512_S1024x512_1_0_0_1_n_n none x (shapeCast S1024x512 w shapeCasts_S1024x512_S1024x512 : FVec Ideal S1024x512 .bf16)
      (constant S1024x512 .f32 0#32) : FVec Ideal S1024x512 .f32) = m2 fun r n => ∑ k : Fin 1024, f r k * g k n := by
  refine eq_m2 fun p n => ?_
  pointwise []
  subst ex ew
  simp only [m2_ix]

theorem mat512_val {x : FVec Ideal S512x1024 .bf16} {w : FVec Ideal S1024x512 .bf16} {f g : ℕ → ℕ → EReal} (ex : x = m2 f) (ew : w = m2 g) :
    (matmul dot_S512x1024_S1024x512_S512x512_1_0_0_1_n_n none x (shapeCast S1024x512 w shapeCasts_S1024x512_S1024x512 : FVec Ideal S1024x512 .bf16)
      (constant S512x512 .f32 0#32) : FVec Ideal S512x512 .f32) = m2 fun r n => ∑ k : Fin 1024, f r k * g k n := by
  refine eq_m2 fun p n => ?_
  pointwise []
  subst ex ew
  simp only [m2_ix]

theorem mat256_val {x : FVec Ideal S1x1024x128 .bf16} {w : FVec Ideal S1x1x128x256 .bf16} {f : ℕ → ℕ → ℕ → EReal} {g : ℕ → ℕ → ℕ → ℕ → EReal} (ex : x = m3 f)
    (ew : w = m4 g) :
    (matmul dot_S1024x128_S128x256_S1024x256_1_0_0_1_n_n none (shapeCast S1024x128 x shapeCasts_S1x1024x128_S1024x128 : FVec Ideal S1024x128 .bf16)
      (shapeCast S128x256 w shapeCasts_S1x1x128x256_S128x256 : FVec Ideal S128x256 .bf16)
      (constant S1024x256 .f32 0#32) : FVec Ideal S1024x256 .f32) = m2 fun r n => ∑ k : Fin 128, f 0 r k * g 0 0 k n := by
  refine eq_m2 fun p n => ?_
  pointwise []
  subst ex ew
  simp only [m3_ix, m4_ix]
  refine Finset.sum_congr rfl fun k _ => ?_
  exact congrArg₂ (· * ·) (congrArg₂ (f 0) rfl rfl) rfl

/-- A plain output block. -/
theorem plain_val {x : FVec Ideal S1024x512 .f32} {f : ℕ → ℕ → EReal} (ex : x = m2 f) :
    (shapeCast S1x1024x512 (truncf .bf16 x bitsLt_bf16_f32 : FVec Ideal S1024x512 .bf16) shapeCasts_S1024x512_S1x1024x512 : FVec Ideal S1x1024x512 .bf16)
      = m3 fun _ r n => f r n := by
  refine eq_m3 fun o r n => ?_
  pointwise []
  subst ex
  rfl

/-- A gated output block: half the gate's argument times one plus its hyperbolic tangent. -/
theorem silu_val {x : FVec Ideal S512x512 .f32} {f : ℕ → ℕ → EReal} (ex : x = m2 fun r n => half * f r n)
    (hf : ∀ r n, r < 512 → n < 512 → f r n ≠ ⊥) :
    (shapeCast S1x512x512 (truncf .bf16 (addf (mulf x (tanh x)) x) bitsLt_bf16_f32 : FVec Ideal S512x512 .bf16) shapeCasts_S512x512_S1x512x512 :
      FVec Ideal S1x512x512 .bf16) = m3 fun _ r n => silu (f r n) := by
  refine eq_m3 fun o r n => ?_
  pointwise []
  subst ex
  exact silu_half (hf r n r.isLt n.isLt)

/-! ## The padded rows -/

theorem padPiece_val {o0 o1 : ℕ} {u : FVec Ideal S1040x512 .f32} {f : ℕ → ℕ → EReal} (eu : u = m2 f) {h : S1040x512.Slices ![o0, o1] S64x128} :
    (shapeCast S1x64x128 (extractStridedSlice S64x128 ![o0, o1] u h : FVec Ideal S64x128 .f32) shapeCasts_S64x128_S1x64x128 : FVec Ideal S1x64x128 .f32)
      = m3 fun _ q r => f (o0 + q) (o1 + r) := by
  refine eq_m3 fun o q r => ?_
  pointwise []
  subst eu
  rfl

theorem extPiece_val {x : FVec Ideal S1x16x128 .f32} {f : ℕ → ℕ → ℕ → EReal} (ex : x = m3 f) :
    (shapeCast S16x128 (shapeCast S16x128 x shapeCasts_S1x16x128_S16x128 : FVec Ideal S16x128 .f32) shapeCasts_S16x128_S16x128 : FVec Ideal S16x128 .f32)
      = m2 fun q r => f 0 q r := by
  refine eq_m2 fun q r => ?_
  pointwise []
  subst ex
  rfl

theorem rowSlice_val {o : ℕ} {u : FVec Ideal S1040x512 .f32} {f : ℕ → ℕ → EReal} (eu : u = m2 f) {h : S1040x512.Slices ![o, 0] S1x512} :
    (extractStridedSlice S1x512 ![o, 0] u h : FVec Ideal S1x512 .f32) = m2 fun _ n => f o n := by
  refine eq_m2 fun q r => ?_
  obtain rfl : q = 0 := Subsingleton.elim _ _
  pointwise []
  subst eu
  rfl

theorem cast1_val {x : FVec Ideal S1x512 .f32} {f : ℕ → ℕ → EReal} (ex : x = m2 f) :
    (shapeCast S1x512 x shapeCasts_S1x512_S1x512 : FVec Ideal S1x512 .f32) = m2 f := by
  refine eq_m2 fun q r => ?_
  obtain rfl : q = 0 := Subsingleton.elim _ _
  pointwise []
  subst ex
  rfl

theorem before_val {c : FVec Ideal S1x512 .f32} {u : FVec Ideal S16x512 .f32} {f : ℕ → EReal} {g : ℕ → ℕ → EReal} (ec : c = m2 fun _ n => f n) (eu : u = m2 g) :
    (shapeCast S16x512 (concatenate S16x512 0 [⟨S1x512, c⟩, ⟨S15x512, (extractStridedSlice S15x512 ![0, 0] u slices_S16x512_o0_0_S15x512 : FVec Ideal S15x512 .f32)⟩]
      concatenates_S1x512_S15x512_S16x512_d0 : FVec Ideal S16x512 .f32) shapeCasts_S16x512_S16x512 : FVec Ideal S16x512 .f32)
      = m2 fun p n => if p = 0 then f n else g (p - 1) n := by
  refine eq_m2 fun p n => ?_
  pointwise []
  subst ec eu
  split
  · rename_i h
    have h1 : p.val = 0 := Nat.lt_one_iff.mp h
    exact (if_pos h1).symm
  · rename_i h
    have h1 : ¬ p.val = 0 := fun e => h (Nat.lt_one_iff.mpr e)
    refine Eq.trans ?_ (if_neg h1).symm
    first | rfl | exact congrArg (fun k => (g k n.val)) (Nat.zero_add _)

theorem after_val {c : FVec Ideal S1x512 .f32} {u : FVec Ideal S16x512 .f32} {f : ℕ → EReal} {g : ℕ → ℕ → EReal} (ec : c = m2 fun _ n => f n) (eu : u = m2 g) :
    (shapeCast S16x512 (concatenate S16x512 0 [⟨S15x512, (extractStridedSlice S15x512 ![1, 0] u slices_S16x512_o1_0_S15x512 : FVec Ideal S15x512 .f32)⟩, ⟨S1x512, c⟩]
      concatenates_S15x512_S1x512_S16x512_d0 : FVec Ideal S16x512 .f32) shapeCasts_S16x512_S16x512 : FVec Ideal S16x512 .f32)
      = m2 fun p n => if p < 15 then g (1 + p) n else f n := by
  refine eq_m2 fun p n => ?_
  pointwise []
  subst ec eu
  split <;> rfl

theorem last_val {i : grid0.Coords} {c : FVec Ideal S1x512 .f32} {f : ℕ → EReal} (ec : c = m2 fun _ n => f n) :
    (Scalar.select (Scalar.cmpi .eq (BitVec.ofNat 32 (i 1).val) 7#32) (broadcast S1x512 (FloatOps.ofBits .f32 0#32) : FVec Ideal S1x512 .f32) c)
      = m2 fun _ n => if (i 1).val = 7 then 0 else f n := by
  have h8 : (i 1).val < 8 := (i 1).isLt
  refine eq_m2 fun p n => ?_
  by_cases h : (i 1).val = 7
  · rw [h, if_pos rfl]
    show (FloatOps.ofBits .f32 0#32 : Ideal .f32) = _
    pointwise []
  · have hc : Scalar.cmpi .eq (BitVec.ofNat 32 (i 1).val) 7#32 ≠ 1#1 := by
      revert h
      generalize (i 1).val = t at h8
      interval_cases t <;> decide
    unfold Scalar.select
    refine (congrFun (if_neg hc) _).trans ?_
    rw [if_neg h, ec]; rfl

/-! ## The convolution -/

/-- The convolution of sixteen rows, from its bias, its weights and the four shifts of its input. -/
def convT (c w0 w1 w2 w3 r0 r1 r2 r3 : FVec Ideal S16x512 .f32) : FVec Ideal S16x512 .f32 :=
  addf (addf (addf (addf c (mulf w0 r0)) (mulf w1 r1)) (mulf w2 r2)) (mulf w3 r3)

theorem wrow_val {x : FVec Ideal S1x16x512 .f32} {f : ℕ → ℕ → ℕ → EReal} (ex : x = m3 f) :
    (shapeCast S16x512 x shapeCasts_S1x16x512_S16x512 : FVec Ideal S16x512 .f32) = m2 fun p n => f 0 p n := by
  refine eq_m2 fun q r => ?_
  pointwise []
  subst ex
  rfl

theorem cast16_val {x : FVec Ideal S16x512 .f32} {f : ℕ → ℕ → EReal} (ex : x = m2 f) :
    (shapeCast S16x512 x shapeCasts_S16x512_S16x512 : FVec Ideal S16x512 .f32) = m2 f := by
  refine eq_m2 fun q r => ?_
  pointwise []
  subst ex
  rfl

theorem out16_val {x : FVec Ideal S16x512 .f32} {f : ℕ → ℕ → EReal} (ex : x = m2 f) :
    (shapeCast S1x16x512 (truncf .bf16 x bitsLt_bf16_f32 : FVec Ideal S16x512 .bf16) shapeCasts_S16x512_S1x16x512 : FVec Ideal S1x16x512 .bf16)
      = m3 fun _ q r => f q r := by
  refine eq_m3 fun o q r => ?_
  pointwise []
  subst ex
  rfl

theorem convT_val {c w0 w1 w2 w3 r0 r1 r2 r3 : FVec Ideal S16x512 .f32} {f0 f1 f2 f3 f4 f5 f6 f7 f8 : ℕ → ℕ → EReal} (e0 : c = m2 f0) (e1 : w0 = m2 f1)
    (e2 : w1 = m2 f2) (e3 : w2 = m2 f3) (e4 : w3 = m2 f4) (e5 : r0 = m2 f5) (e6 : r1 = m2 f6) (e7 : r2 = m2 f7) (e8 : r3 = m2 f8) :
    convT c w0 w1 w2 w3 r0 r1 r2 r3
      = m2 fun p n => f0 p n + f1 p n * f5 p n + f2 p n * f6 p n + f3 p n * f7 p n + f4 p n * f8 p n := by
  refine eq_m2 fun q r => ?_
  pointwise [convT]
  subst e0 e1 e2 e3 e4 e5 e6 e7 e8
  simp only [m2_ix]

theorem conv_slot {A : Args} {b j r p n : ℕ} (hr : r % 16 = 0) (hp : p < 16) :
    half * A.cb n + half * A.cw 0 n * extU A b j (r + p) n + half * A.cw 1 n * extU A b j (r + 16 + p) n
      + half * A.cw 2 n * extU A b j (r + 32 + p) n + half * A.cw 3 n * extU A b j (r + 48 + p) n = slabV A b j (r + p) n := by
  unfold extU slabV slot v
  rw [show (r + 16 + p) % 16 = (r + p) % 16 by omega, show (r + 32 + p) % 16 = (r + p) % 16 by omega, show (r + 48 + p) % 16 = (r + p) % 16 by omega,
    show (r + 16 + p) / 16 = (r + p) / 16 + 1 by omega, show (r + 32 + p) / 16 = (r + p) / 16 + 2 by omega, show (r + 48 + p) / 16 = (r + p) / 16 + 3 by omega]
  simp only [← Nat.add_assoc, half_add, mul_assoc, mul_comm (A.cw _ _)]
  rw [add_comm (half * A.cb n)]
  abel

/-! ## The gates -/

theorem rate_val {x : FVec Ideal S1x512 .f32} {f : ℕ → EReal} (ex : ∀ n, x (ix2 0 n) = (f n.val)) :
    k0_pay667 (F := Ideal) x = m2 fun _ n => rate * spl (-f n) := by
  refine eq_m2 fun o n => ?_
  obtain rfl : o = 0 := Subsingleton.elim _ _
  pointwise [k0_pay667]
  simp only [ex, zero_sub]
  rfl

/-- The argument of a gate on 1024 rows. -/
def argT {o : ℕ} (M : FVec Ideal S1024x256 .f32) (c : FVec Ideal S1x1x128 .f32) (h : S1024x256.Slices ![0, o] S1024x128) : FVec Ideal S1024x128 .f32 :=
  addf (extractStridedSlice S1024x128 ![0, o] M h)
    (broadcastTo S1024x128 (shapeCast S1x128 c shapeCasts_S1x1x128_S1x128 : FVec Ideal S1x128 .f32) broadcasts_S1x128_S1024x128)

theorem argT_val {o : ℕ} {M : FVec Ideal S1024x256 .f32} {c : FVec Ideal S1x1x128 .f32} {f : ℕ → ℕ → EReal} {g : ℕ → ℕ → ℕ → EReal} (eM : M = m2 f) (ec : c = m3 g)
    {h : S1024x256.Slices ![0, o] S1024x128} : argT M c h = m2 fun r n => f r (o + n) + g 0 0 n := by
  refine eq_m2 fun q r => ?_
  pointwise [argT]
  subst eM ec
  simp only [m2_ix, m3_ix, ← EReal.coe_add]
  rfl

/-- The decay from the argument of its gate. -/
def decT {o : ℕ} (y : FVec Ideal S1024x128 .f32) (P : FVec Ideal S1x512 .f32) (h : S1x512.Slices ![0, o] S1x128) : FVec Ideal S1024x128 .f32 :=
  exp2 (addf (mulf (tanh y) (broadcastTo S1024x128 (extractStridedSlice S1x128 ![0, o] P h : FVec Ideal S1x128 .f32) broadcasts_S1x128_S1024x128))
    (broadcastTo S1024x128 (extractStridedSlice S1x128 ![0, o] P h : FVec Ideal S1x128 .f32) broadcasts_S1x128_S1024x128))

theorem decT_val {o : ℕ} {y : FVec Ideal S1024x128 .f32} {P : FVec Ideal S1x512 .f32} {f : ℕ → ℕ → EReal} {g : ℕ → EReal} (ey : y = m2 fun r n => half * f r n)
    (eP : P = m2 fun _ n => rate * spl (g n)) {h : S1x512.Slices ![0, o] S1x128}
    (hg : ∀ r n, r < 1024 → n < 128 → tiny ≤ 1 - ex (((-8 : ℝ) : EReal) * ((sg (f r n) : ℝ) : EReal) * spl (g (o + n)))
      * ex (((-8 : ℝ) : EReal) * ((sg (f r n) : ℝ) : EReal) * spl (g (o + n)))) :
    decT y P h = m2 fun r n => ((ex (((-8 : ℝ) : EReal) * ((sg (f r n) : ℝ) : EReal) * spl (g (o + n))) : ℝ) : EReal) := by
  refine eq_m2 fun q r => ?_
  pointwise [decT]
  subst ey eP
  simp only [m2_ix]
  exact exp2_ex _ _ (hg q r q.isLt r.isLt)

/-- The input term of the recurrence from the decay, the argument of its gate and half the convolution. -/
def bxT (a y v : FVec Ideal S1024x128 .f32) : FVec Ideal S1024x128 .f32 :=
  mulf (mulf (subf (broadcast S1024x128 (FloatOps.ofBits .f32 1065353216#32)) (mulf a a))
    (rsqrt (maximumf (subf (broadcast S1024x128 (FloatOps.ofBits .f32 1065353216#32)) (mulf a a)) (broadcast S1024x128 (FloatOps.ofBits .f32 228737632#32)))))
    (mulf (addf (tanh y) (broadcast S1024x128 (FloatOps.ofBits .f32 1065353216#32))) v)

theorem bxT_val {a y v : FVec Ideal S1024x128 .f32} {f : ℕ → ℕ → ℝ} {g w : ℕ → ℕ → EReal} (ea : a = m2 fun r n => ((f r n : ℝ) : EReal))
    (ey : y = m2 fun r n => half * g r n) (ev : v = m2 fun r n => half * w r n) (hg : ∀ r n, r < 1024 → n < 128 → tiny ≤ 1 - f r n * f r n) :
    bxT a y v = m2 fun r n => ((Real.sqrt (1 - f r n * f r n) : ℝ) : EReal) * (((sg (g r n) : ℝ) : EReal) * w r n) := by
  refine eq_m2 fun q r => ?_
  pointwise [bxT]
  subst ea ey ev
  have h := hg q r q.isLt r.isLt
  simp only [m2_ix, bits_one, one_coe, bits_tiny, tanh_sg, ← EReal.coe_mul, ← EReal.coe_add, ← EReal.coe_sub, max_coe]
  rw [rsqrt_coe (lt_max_of_lt_right tiny_pos), ← EReal.coe_mul, mul_inv_sqrt tiny_pos h]
  unfold half
  rw [← mul_assoc (((_ : ℝ) : EReal)) (((1 / 2 : ℝ) : EReal)), ← EReal.coe_mul]
  congr 3
  ring

theorem castG_val {x : FVec Ideal S1024x128 .f32} {f : ℕ → ℕ → EReal} (ex : x = m2 f) :
    (shapeCast S1024x128 x shapeCasts_S1024x128_S1024x128 : FVec Ideal S1024x128 .f32) = m2 f := by
  refine eq_m2 fun q r => ?_
  pointwise []
  subst ex
  rfl

end Cert.Proof.Fwd

end
-- ==== Proof.TileIn.lean ====
/- The blocks one tile of the kernel is given, and its loads of them. -/
module

public import proofs.«01_k».proof.Proof.TileTerms

@[expose] public section

noncomputable section

namespace Cert.Proof.Fwd

open Idealize.ShloMosaic Cert.KernelIdeal Cert.KernelIdeal.Gen
open Idealize.ShloMosaic.View (Piece PiecesOf canon)

/-! ## The blocks a tile is given -/

/-- The blocks of tile `j` of row `b`. -/
structure Tile (A : Args) (b j : ℕ) (x0 : FVec Ideal S1x1024x1024 .f32) (x1 : FVec Ideal S1x8x1024 .f32) (x2 : FVec Ideal S8x3072 .f32)
    (x3 : FVec Ideal S1x1024 .f32) (x4 : FVec Ideal S1024x2048 .bf16) (x5 : FVec Ideal S4x16x512 .f32) (x6 : FVec Ideal S16x512 .f32)
    (x7 : FVec Ideal S1x4x128x256 .bf16) (x8 : FVec Ideal S1x1x1024 .f32) (x9 : FVec Ideal S2x512 .f32) (x10 : FVec Ideal S1x2x512 .f32) : Prop where
  x : x0 = m3 fun _ p k => A.x b (1024 * j + p) k
  halo : x1 = m3 fun _ p k => A.x b (8 * min ((j + 1) * 128) 1023 + p) k
  md : x2 = m2 A.md
  gain : x3 = m2 fun _ n => A.gain n
  w : x4 = m2 fun m n => if n % 1024 < 512 then A.w m n else half * A.w m n
  cw : x5 = m3 fun m _ n => half * A.cw m n
  cb : x6 = m2 fun _ n => half * A.cb n
  wg : x7 = m4 fun _ h d e => if e < 128 then A.wr h d e else A.wi h d (e - 128)
  bg : x8 = m3 fun _ _ n => half * (if n < 512 then A.br n else A.bi (n - 512))
  lam : ∀ n : Fin 512, x9 (ix2 0 n) = (A.lam n)
  fin : ∀ n : Fin 512, x10 (ix3 0 0 n) = (A.fin b n)

theorem slab64_val {x : FVec Ideal S1x64x1024 .f32} {f : ℕ → ℕ → ℕ → EReal} (ex : x = m3 f) :
    (shapeCast S64x1024 x shapeCasts_S1x64x1024_S64x1024 : FVec Ideal S64x1024 .f32) = m2 fun p k => f 0 p k := by
  refine eq_m2 fun q r => ?_
  pointwise []
  subst ex
  rfl

theorem slab8_val {x : FVec Ideal S1x8x1024 .f32} {f : ℕ → ℕ → ℕ → EReal} (ex : x = m3 f) :
    (shapeCast S8x1024 x shapeCasts_S1x8x1024_S8x1024 : FVec Ideal S8x1024 .f32) = m2 fun p k => f 0 p k := by
  refine eq_m2 fun q r => ?_
  pointwise []
  subst ex
  rfl

theorem castk_val {x : FVec Ideal S1x1024 .f32} {f : ℕ → EReal} (ex : x = m2 fun _ n => f n) :
    (shapeCast S1x1024 x shapeCasts_S1x1024_S1x1024 : FVec Ideal S1x1024 .f32) = m2 fun _ n => f n := by
  refine eq_m2 fun q r => ?_
  obtain rfl : q = 0 := Subsingleton.elim _ _
  pointwise []
  subst ex
  rfl

section Rows

variable {A : Args} {b j : ℕ}

theorem x_load {m : Memref Cert.KernelIdeal.sig .tc .vmem S1x1024x1024 .f32} (hm : m.IsWhole) {x : FVec Ideal S1x1024x1024 .f32}
    (ex : x = m3 fun _ p k => A.x b (1024 * j + p) k) {o : ℕ} {inb : ∀ a, (![0, o, 0] : Fin 3 → ℕ) a + S1x64x1024.size a ≤ S1x1024x1024.size a} :
    (shapeCast S64x1024 (View.readAt (Elt Ideal) m.view (Rect.unit (s := S1x1024x1024) ![0, o, 0] S1x64x1024.size inb).toLoadRect (hm.unread x) :
      FVec Ideal S1x64x1024 .f32) shapeCasts_S1x64x1024_S64x1024 : FVec Ideal S64x1024 .f32) = m2 fun p k => A.x b (1024 * j + o + p) k := by
  refine (slab64_val (load3 hm ex)).trans (m2_congr fun p k _ _ => ?_)
  show A.x b (1024 * j + (o + p)) (0 + k) = _
  rw [Nat.add_assoc, Nat.zero_add]

theorem halo_load {m : Memref Cert.KernelIdeal.sig .tc .vmem S1x8x1024 .f32} (hm : m.IsWhole) {x : FVec Ideal S1x8x1024 .f32} {t : ℕ}
    (ex : x = m3 fun _ p k => A.x b (t + p) k) {inb : ∀ a, (![0, 0, 0] : Fin 3 → ℕ) a + S1x8x1024.size a ≤ S1x8x1024.size a} :
    (shapeCast S8x1024 (View.readAt (Elt Ideal) m.view (Rect.unit (s := S1x8x1024) ![0, 0, 0] S1x8x1024.size inb).toLoadRect (hm.unread x) :
      FVec Ideal S1x8x1024 .f32) shapeCasts_S1x8x1024_S8x1024 : FVec Ideal S8x1024 .f32) = m2 fun p k => A.x b (t + p) k := by
  refine (slab8_val (load3 hm ex)).trans (m2_congr fun p k _ _ => ?_)
  show A.x b (t + (0 + p)) (0 + k) = _
  rw [Nat.zero_add, Nat.zero_add]

theorem gain_load {m : Memref Cert.KernelIdeal.sig .tc .vmem S1x1024 .f32} (hm : m.IsWhole) {x : FVec Ideal S1x1024 .f32}
    (ex : x = m2 fun _ n => A.gain n) {inb : ∀ a, (![0, 0] : Fin 2 → ℕ) a + S1x1024.size a ≤ S1x1024.size a} :
    (shapeCast S1x1024 (View.readAt (Elt Ideal) m.view (Rect.unit (s := S1x1024) ![0, 0] S1x1024.size inb).toLoadRect (hm.unread x) :
      FVec Ideal S1x1024 .f32) shapeCasts_S1x1024_S1x1024 : FVec Ideal S1x1024 .f32) = m2 fun _ k => A.gain k := by
  refine (castk_val (f := A.gain) ((load2 hm ex 0 0 rfl rfl).trans (m2_congr fun p k _ _ => ?_)))
  rw [Nat.zero_add]

theorem md_load {m : Memref Cert.KernelIdeal.sig .tc .vmem S8x3072 .f32} (hm : m.IsWhole) {x : FVec Ideal S8x3072 .f32}
    (ex : x = m2 A.md) {off : Fin 2 → ℕ} (h0 : off 0 = b) {o : ℕ} (h1 : off 1 = o) {inb : ∀ a, off a + S1x1024.size a ≤ S8x3072.size a} :
    (View.readAt (Elt Ideal) m.view (Rect.unit (s := S8x3072) off S1x1024.size inb).toLoadRect (hm.unread x) :
      FVec Ideal S1x1024 .f32) = m2 fun _ k => A.md b (o + k) := by
  refine (load2 hm ex b o h0 h1).trans (m2_congr fun p k hp _ => ?_)
  obtain rfl : p = 0 := by omega
  rfl

theorem rowHx_lo {o : ℕ} (p k : ℕ) (h : o + p < 1024) : hx A b (1024 * j + o + p) k = rowHx A b j (o + p) (0 + k) := by
  rw [rowHx, if_pos h, Nat.add_assoc, Nat.zero_add]

theorem rowHx_hi (p k : ℕ) (_ : p < 16) :
    (if p < 8 then hx A b (8 * min ((j + 1) * 128) 1023 + p) k else 0) = rowHx A b j (1024 + p) (0 + k) := by
  unfold rowHx
  rw [if_neg (show ¬ 1024 + p < 1024 by omega), Nat.zero_add, Nat.add_sub_cancel_left]
  exact if_congr (by omega) rfl rfl

theorem off1_row {i : grid0.Coords} (hb : (i 0).val = b) : k0_off1 i 0 = b := by
  subst hb
  have h : (i 0).val < 2 := (i 0).isLt
  show (Scalar.indexCast (BitVec.ofNat 32 (i 0).val)).toNat = _
  generalize (i 0).val = t at h
  interval_cases t <;> rfl

theorem off2_row {i : grid0.Coords} (hb : (i 0).val = b) : k0_off2 i 0 = b := off1_row hb

/-- The halves of the modulation that a tile reads. -/
theorem scale_load {m : Memref Cert.KernelIdeal.sig .tc .vmem S8x3072 .f32} (hm : m.IsWhole) {x : FVec Ideal S8x3072 .f32}
    (ex : x = m2 A.md) {i : grid0.Coords} (hb : (i 0).val = b) {inb : ∀ a, k0_off2 i a + S1x1024.size a ≤ S8x3072.size a} :
    (View.readAt (Elt Ideal) m.view (Rect.unit (s := S8x3072) (k0_off2 i) S1x1024.size inb).toLoadRect (hm.unread x) :
      FVec Ideal S1x1024 .f32) = m2 fun _ k => A.md b (1024 + k) :=
  md_load hm ex (off2_row hb) rfl

theorem shift_load {m : Memref Cert.KernelIdeal.sig .tc .vmem S8x3072 .f32} (hm : m.IsWhole) {x : FVec Ideal S8x3072 .f32}
    (ex : x = m2 A.md) {i : grid0.Coords} (hb : (i 0).val = b) {inb : ∀ a, k0_off1 i a + S1x1024.size a ≤ S8x3072.size a} :
    (View.readAt (Elt Ideal) m.view (Rect.unit (s := S8x3072) (k0_off1 i) S1x1024.size inb).toLoadRect (hm.unread x) :
      FVec Ideal S1x1024 .f32) = m2 fun _ k => A.md b k :=
  (md_load hm ex (off1_row hb) (o := 0) rfl).trans (m2_congr fun p k _ _ => by rw [Nat.zero_add])

/-- The columns of the weights from `o`. -/
theorem w_load {m : Memref Cert.KernelIdeal.sig .tc .vmem S1024x2048 .bf16} (hm : m.IsWhole) {x : FVec Ideal S1024x2048 .bf16}
    (ex : x = m2 fun m n => if n % 1024 < 512 then A.w m n else half * A.w m n) {o : ℕ} {inb : ∀ a, (![0, o] : Fin 2 → ℕ) a + S1024x512.size a ≤ S1024x2048.size a} :
    (View.readAt (Elt Ideal) m.view (Rect.unit (s := S1024x2048) ![0, o] S1024x512.size inb).toLoadRect (hm.unread x) :
      FVec Ideal S1024x512 .bf16) = m2 fun k n => if (o + n) % 1024 < 512 then A.w k (o + n) else half * A.w k (o + n) :=
  (load2b hm ex 0 o rfl rfl).trans (m2_congr fun p k _ _ => by rw [Nat.zero_add])

end Rows

end Cert.Proof.Fwd

end
-- ==== Proof.KernelIn.lean ====
/- What the kernel's windows hold at each of its sixteen points: the blocks of tile `t % 8` of row `t / 8`. -/
module

public import proofs.«01_k».proof.Proof.TileIn
public import proofs.«01_k».proof.Proof.RefValue
public import proofs.«01_k».proof.Proof.Gen.KernelIdeal.Frame

@[expose] public section

noncomputable section

namespace Cert.Proof.Fwd

open Idealize.ShloMosaic Idealize.ShloMosaic.TcCoe Idealize.SL.Sem
open Cert.Proof.Ref Cert.KernelIdeal Cert.KernelIdeal.Gen

section Host

variable {A : Args} {V : Valuation τ Cert.KernelIdeal.sig (Elt Ideal)}

/-- The arguments the valuation holds are the given ones. -/
abbrev Given (A : Args) (V : Valuation τ Cert.KernelIdeal.sig (Elt Ideal)) : Prop :=
  Holds A (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))

theorem host_gain (H : Given A V) : (StableHlo.after hostOps0 V (Proc.devRef .tc main_v33) : _ → EReal) = (m2 fun _ n => A.gain n : FVec Ideal S1x1024 .f32) := by
  after_reads_simp
  refine eq_m2 fun p k => ?_
  obtain rfl : p = 0 := Subsingleton.elim _ _
  pointwise []
  exact H.g _ _

theorem host_lam (H : Given A V) (n : Fin 512) : (StableHlo.after hostOps0 V (Proc.devRef .tc main_v34) : FVec Ideal S2x512 .f32) (ix2 0 n) = (A.lam n) := by
  after_reads_simp
  pointwise []
  exact H.lam _ _

theorem half_mul (y : EReal) : Ideal.ofBits .f32 0x3F000000#32 * y = half * y := by
  rw [bits_half]
  rfl

theorem host_cb (H : Given A V) : (StableHlo.after hostOps0 V (Proc.devRef .tc main_v31) : _ → EReal) = (m2 fun _ n => half * A.cb n : FVec Ideal S16x512 .f32) := by
  after_reads_simp
  refine eq_m2 fun p k => ?_
  pointwise []
  rw [H.cb]
  exact half_mul _

theorem host_cw (H : Given A V) : (StableHlo.after hostOps0 V (Proc.devRef .tc main_v28) : _ → EReal) = (m3 fun m _ n => half * A.cw m n : FVec Ideal S4x16x512 .f32) := by
  after_reads_simp
  refine eq_m3 fun p q k => ?_
  pointwise []
  rw [H.cw]
  exact half_mul _

theorem host_bg (H : Given A V) (n : Fin 1024) : (StableHlo.after hostOps0 V (Proc.devRef .tc main_v23) : FVec Ideal S2x1x1024 .f32) (ix3 0 0 n)
    = (half * (if n.val < 512 then A.br n.val else A.bi (n.val - 512))) := by
  after_reads_simp
  pointwise []
  rw [← half_mul]
  congr 1
  split
  · after_reads_simp
    pointwise []
    exact H.br _ _
  · after_reads_simp
    pointwise []
    exact H.bi _ _

theorem host_wg (H : Given A V) (h : Fin 4) (d : Fin 128) (e : Fin 256) :
    (StableHlo.after hostOps0 V (Proc.devRef .tc main_v17) : FVec Ideal S2x4x128x256 .bf16) (ix4 0 h d e)
      = (if e.val < 128 then A.wr h d e.val else A.wi h d (e.val - 128)) := by
  after_reads_simp
  pointwise []
  split
  · after_reads_simp
    pointwise []
    exact H.wr _ _ _ _
  · after_reads_simp
    pointwise []
    exact H.wi _ _ _ _

theorem w_keep {y : EReal} {p n k : ℕ} (hy : y = (A.w p n)) (e : n = k) (h : k % 1024 < 512) :
    y = (if k % 1024 < 512 then A.w p k else half * A.w p k) := by
  subst e
  rw [if_pos h, hy]

theorem w_half {y : EReal} {p n k : ℕ} (hy : y = (A.w p n)) (e : n = k) (h : ¬ k % 1024 < 512) :
    Ideal.ofBits .f32 0x3F000000#32 * y = (if k % 1024 < 512 then A.w p k else half * A.w p k) := by
  subst e
  rw [if_neg h, hy]
  exact half_mul _

theorem host_w (H : Given A V) : (StableHlo.after hostOps0 V (Proc.devRef .tc main_v13) : _ → EReal)
    = (m2 fun m n => if n % 1024 < 512 then A.w m n else half * A.w m n : FVec Ideal S1024x2048 .bf16) := by
  after_reads_simp
  refine eq_m2 fun p k => ?_
  pointwise []
  have hk := k.isLt
  split
  · rename_i h1
    after_reads_simp
    pointwise []
    refine w_keep (H.w _ _ _) ?_ ?_
    · rfl
    · omega
  split
  · rename_i h1 h2
    after_reads_simp
    pointwise []
    refine w_half (H.w _ _ _) ?_ ?_
    · show 512 + (k.val - 512) = k.val
      omega
    · omega
  split
  · rename_i h1 h2 h3
    after_reads_simp
    pointwise []
    refine w_keep (H.w _ _ _) ?_ ?_
    · show 1024 + (k.val - 512 - 512) = k.val
      omega
    · omega
  · rename_i h1 h2 h3
    after_reads_simp
    pointwise []
    refine w_half (H.w _ _ _) ?_ ?_
    · show 1536 + (k.val - 512 - 512 - 512) = k.val
      omega
    · omega

end Host

/-! ## The windows -/

theorem at2 {n0 n1 : ℕ} {X : (⟨2, ![n0, n1]⟩ : Shape).Idx → EReal} {f : ℕ → ℕ → EReal} (h : ∀ p q, X (ix2 p q) = (f p.val q.val))
    (i : (⟨2, ![n0, n1]⟩ : Shape).Idx) {a b : ℕ} (ha : (i 0).val = a) (hb : (i 1).val = b) : X i = (f a b) := by
  subst ha hb
  exact (congrArg X (by funext a; fin_cases a <;> rfl)).trans (h (i 0) (i 1))

theorem at3 {n0 n1 n2 : ℕ} {X : (⟨3, ![n0, n1, n2]⟩ : Shape).Idx → EReal} {f : ℕ → ℕ → ℕ → EReal}
    (h : ∀ p q r, X (ix3 p q r) = (f p.val q.val r.val)) (i : (⟨3, ![n0, n1, n2]⟩ : Shape).Idx) {a b c : ℕ}
    (ha : (i 0).val = a) (hb : (i 1).val = b) (hc : (i 2).val = c) : X i = (f a b c) := by
  subst ha hb hc
  exact (congrArg X (by funext a; fin_cases a <;> rfl)).trans (h (i 0) (i 1) (i 2))

theorem coord_row (t : Fin cfg0.N) : (grid0.coords t 0).val = t.val / 8 := by
  have e0 : (grid0.coords t 0).val = t.val / 8 % 2 := Pipeline.Grid.coords_val t 0 (by decide) rfl
  have h : t.val < 16 := lt_of_lt_of_eq t.isLt N_0
  omega

theorem coord_tile (t : Fin cfg0.N) : (grid0.coords t 1).val = t.val % 8 := by
  have e1 : (grid0.coords t 1).val = t.val / 1 % 8 := Pipeline.Grid.coords_val t 1 (by decide) rfl
  omega

theorem index_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem index_halo : ∀ t : Fin cfg0.N, win0_1.index t 0 = t.val / 8 ∧ win0_1.index t 1 = min ((t.val % 8 + 1) * 128) 1023 ∧ win0_1.index t 2 = 0 :=
  (by decide +kernel : ∀ t : Fin grid0.N, win0_1.index t 0 = t.val / 8 ∧ win0_1.index t 1 = min ((t.val % 8 + 1) * 128) 1023 ∧ win0_1.index t 2 = 0)

theorem index_fin : ∀ t : Fin cfg0.N, win0_10.index t 0 = t.val / 8 ∧ win0_10.index t 1 = 0 ∧ win0_10.index t 2 = 0 :=
  (by decide +kernel : ∀ t : Fin grid0.N, win0_10.index t 0 = t.val / 8 ∧ win0_10.index t 1 = 0 ∧ win0_10.index t 2 = 0)

section Windows

variable {m : (ℓ : Loc nD τ Cert.KernelIdeal.sig) → Buf (Elt Ideal) ℓ} {A : Args} {c : Dev nD}

/-- The kernel's arguments in the memory are the given ones. -/
abbrev KHolds (m : (ℓ : Loc nD τ Cert.KernelIdeal.sig) → Buf (Elt Ideal) ℓ) (A : Args) (c : Dev nD) : Prop := Given A (fun b => m (c, b))

theorem block_x (H : KHolds m A c) (t : Fin cfg0.N) :
    (iblk m c 0 t : FVec Ideal S1x1024x1024 .f32) = m3 fun _ p k => A.x (t.val / 8) (1024 * (t.val % 8) + p) k := by
  refine eq_m3 fun a p k => ?_
  unfold iblk
  rw [View.read_apply]
  show (V m c main_arg0 : S2x8192x1024.Idx → EReal) _ = _
  rw [V_main_arg0]
  obtain ⟨h0, h1, h2⟩ := index_x t
  refine at3 (f := A.x) H.x _ ?_ ?_ ?_
  · show win0_0.index t 0 * 1 + 1 * a.val = t.val / 8
    omega
  · show win0_0.index t 1 * 1024 + 1 * p.val = 1024 * (t.val % 8) + p.val
    omega
  · show win0_0.index t 2 * 1024 + 1 * k.val = k.val
    omega

theorem block_halo (H : KHolds m A c) (t : Fin cfg0.N) :
    (iblk m c 1 t : FVec Ideal S1x8x1024 .f32) = m3 fun _ p k => A.x (t.val / 8) (8 * min ((t.val % 8 + 1) * 128) 1023 + p) k := by
  refine eq_m3 fun a p k => ?_
  unfold iblk
  rw [View.read_apply]
  show (V m c main_arg0 : S2x8192x1024.Idx → EReal) _ = _
  rw [V_main_arg0]
  obtain ⟨h0, h1, h2⟩ := index_halo t
  refine at3 (f := A.x) H.x _ ?_ ?_ ?_
  · show win0_1.index t 0 * 1 + 1 * a.val = t.val / 8
    omega
  · show win0_1.index t 1 * 8 + 1 * p.val = 8 * min ((t.val % 8 + 1) * 128) 1023 + p.val
    omega
  · show win0_1.index t 2 * 1024 + 1 * k.val = k.val
    omega

theorem block_fin (H : KHolds m A c) (t : Fin cfg0.N) (n : Fin 512) :
    (iblk m c 10 t : FVec Ideal S1x2x512 .f32) (ix3 0 0 n) = (A.fin (t.val / 8) n) := by
  unfold iblk
  rw [View.read_apply]
  show (V m c main_arg11 : S2x2x512.Idx → EReal) _ = _
  rw [V_main_arg11]
  obtain ⟨h0, h1, h2⟩ := index_fin t
  have e : ∀ i : S2x2x512.Idx, (i 0).val = t.val / 8 → (i 1).val = 0 → (i 2).val = n.val →
      (m ((c : Thread nD τ).loc main_arg11) : S2x2x512.Idx → EReal) i = (A.fin (t.val / 8) n) := by
    intro i e0 e1 e2
    rw [← e0, ← e2]
    idx_vars i
    obtain rfl : i1 = 0 := Fin.ext e1
    exact H.fin _ _
  refine e _ ?_ ?_ ?_
  · show win0_10.index t 0 * 1 + 1 * 0 = t.val / 8
    omega
  · show win0_10.index t 1 * 2 + 1 * 0 = 0
    omega
  · show win0_10.index t 2 * 512 + 1 * n.val = n.val
    omega

theorem block_md (H : KHolds m A c) (t : Fin cfg0.N) : (iblk m c 2 t : FVec Ideal S8x3072 .f32) = m2 A.md := by
  refine eq_m2 fun p k => ?_
  unfold iblk
  rw [View.read_apply]
  show (V m c main_arg1 : S8x3072.Idx → EReal) _ = _
  rw [V_main_arg1]
  refine at2 (f := A.md) H.md _ ?_ ?_
  · show 0 * 8 + 1 * p.val = p.val
    omega
  · show 0 * 3072 + 1 * k.val = k.val
    omega

theorem block_gain (H : KHolds m A c) (t : Fin cfg0.N) : (iblk m c 3 t : FVec Ideal S1x1024 .f32) = m2 fun _ n => A.gain n := by
  refine eq_m2 fun p k => ?_
  unfold iblk
  rw [View.read_apply]
  show (V m c main_v33 : S1x1024.Idx → EReal) _ = _
  rw [show (V m c main_v33 : S1x1024.Idx → EReal) = _ from host_gain H]
  refine at2 (f := fun _ n => A.gain n) (fun _ _ => rfl) _ rfl ?_
  show 0 * 1024 + 1 * k.val = k.val
  omega

theorem block_w (H : KHolds m A c) (t : Fin cfg0.N) :
    (iblk m c 4 t : FVec Ideal S1024x2048 .bf16) = m2 fun m n => if n % 1024 < 512 then A.w m n else half * A.w m n := by
  refine eq_m2 fun p k => ?_
  unfold iblk
  rw [View.read_apply]
  show (V m c main_v13 : S1024x2048.Idx → EReal) _ = _
  rw [show (V m c main_v13 : S1024x2048.Idx → EReal) = _ from host_w H]
  refine at2 (f := fun m n => if n % 1024 < 512 then A.w m n else half * A.w m n) (fun _ _ => rfl) _ ?_ ?_
  · show 0 * 1024 + 1 * p.val = p.val
    omega
  · show 0 * 2048 + 1 * k.val = k.val
    omega

theorem block_cw (H : KHolds m A c) (t : Fin cfg0.N) : (iblk m c 5 t : FVec Ideal S4x16x512 .f32) = m3 fun m _ n => half * A.cw m n := by
  refine eq_m3 fun p q k => ?_
  unfold iblk
  rw [View.read_apply]
  show (V m c main_v28 : S4x16x512.Idx → EReal) _ = _
  rw [show (V m c main_v28 : S4x16x512.Idx → EReal) = _ from host_cw H]
  refine at3 (f := fun m _ n => half * A.cw m n) (fun _ _ _ => rfl) _ ?_ rfl ?_
  · show 0 * 4 + 1 * p.val = p.val
    omega
  · show 0 * 512 + 1 * k.val = k.val
    omega

theorem block_cb (H : KHolds m A c) (t : Fin cfg0.N) : (iblk m c 6 t : FVec Ideal S16x512 .f32) = m2 fun _ n => half * A.cb n := by
  refine eq_m2 fun p k => ?_
  unfold iblk
  rw [View.read_apply]
  show (V m c main_v31 : S16x512.Idx → EReal) _ = _
  rw [show (V m c main_v31 : S16x512.Idx → EReal) = _ from host_cb H]
  refine at2 (f := fun _ n => half * A.cb n) (fun _ _ => rfl) _ rfl ?_
  show 0 * 512 + 1 * k.val = k.val
  omega

theorem block_lam (H : KHolds m A c) (t : Fin cfg0.N) (n : Fin 512) :
    (iblk m c 9 t : FVec Ideal S2x512 .f32) (ix2 0 n) = (A.lam n) := by
  unfold iblk
  rw [View.read_apply]
  show (V m c main_v34 : S2x512.Idx → EReal) _ = _
  refine Eq.trans (congrArg _ ?_) (host_lam H n)
  funext a
  apply Fin.ext
  match a with
  | ⟨0, _⟩ => rfl
  | ⟨1, _⟩ =>
    show 0 * 512 + 1 * n.val = n.val
    omega

theorem block_bg (H : KHolds m A c) (t : Fin cfg0.N) :
    (iblk m c 8 t : FVec Ideal S1x1x1024 .f32) = m3 fun _ _ n => half * (if n < 512 then A.br n else A.bi (n - 512)) := by
  refine eq_m3 fun p q n => ?_
  obtain rfl : p = 0 := Subsingleton.elim _ _
  obtain rfl : q = 0 := Subsingleton.elim _ _
  unfold iblk
  rw [View.read_apply]
  show (V m c main_v23 : S2x1x1024.Idx → EReal) _ = _
  refine Eq.trans (congrArg _ ?_) (host_bg H n)
  funext a
  apply Fin.ext
  match a with
  | ⟨0, _⟩ => rfl
  | ⟨1, _⟩ => rfl
  | ⟨2, _⟩ =>
    show 0 * 1024 + 1 * n.val = n.val
    omega

theorem block_wg (H : KHolds m A c) (t : Fin cfg0.N) :
    (iblk m c 7 t : FVec Ideal S1x4x128x256 .bf16) = m4 fun _ h d e => if e < 128 then A.wr h d e else A.wi h d (e - 128) := by
  refine eq_m4 fun p h d e => ?_
  obtain rfl : p = 0 := Subsingleton.elim _ _
  unfold iblk
  rw [View.read_apply]
  show (V m c main_v17 : S2x4x128x256.Idx → EReal) _ = _
  refine Eq.trans (congrArg _ ?_) (host_wg H h d e)
  funext a
  apply Fin.ext
  match a with
  | ⟨0, _⟩ => rfl
  | ⟨1, _⟩ =>
    show 0 * 4 + 1 * h.val = h.val
    omega
  | ⟨2, _⟩ =>
    show 0 * 128 + 1 * d.val = d.val
    omega
  | ⟨3, _⟩ =>
    show 0 * 256 + 1 * e.val = e.val
    omega

/-- The blocks of a point are those of its tile. -/
theorem tile_at (H : KHolds m A c) (t : Fin cfg0.N) :
    Tile A (t.val / 8) (t.val % 8) (iblk m c 0 t) (iblk m c 1 t) (iblk m c 2 t) (iblk m c 3 t) (iblk m c 4 t) (iblk m c 5 t) (iblk m c 6 t)
      (iblk m c 7 t) (iblk m c 8 t) (iblk m c 9 t) (iblk m c 10 t) :=
  ⟨block_x H t, block_halo H t, block_md H t, block_gain H t, block_w H t, block_cw H t, block_cb H t, block_wg H t, block_bg H t,
    block_lam H t, block_fin H t⟩

end Windows

end Cert.Proof.Fwd
-- ==== Proof.TileOps.lean ====
/- The operations of one tile of the kernel on the blocks it is given. -/
module

public import proofs.«01_k».proof.Proof.TileIn

@[expose] public section

noncomputable section

namespace Cert.Proof.Fwd

open Idealize.ShloMosaic Cert.KernelIdeal Cert.KernelIdeal.Gen
open Idealize.ShloMosaic.View (Piece PiecesOf canon)

section Rows

variable {A : Args} {b j : ℕ}

theorem rowU_sum (r n : ℕ) (hn : n < 512) :
    (∑ k : Fin 1024, rowHx A b j (0 + r) (0 + k) * if (1024 + n) % 1024 < 512 then A.w k (1024 + n) else half * A.w k (1024 + n)) = rowU A b j r n := by
  unfold rowU
  refine Finset.sum_congr rfl fun k _ => ?_
  rw [if_pos (by omega), Nat.zero_add, Nat.zero_add]

theorem rowU_eq {r n : ℕ} (hr : r < 1024) : rowU A b j r n = z A b (1024 * j + r) (1024 + n) := by
  unfold rowU z
  refine Finset.sum_congr rfl fun k _ => ?_
  rw [rowHx, if_pos hr]

theorem padU_row {o0 o1 o2 o3 : ℕ} (h : o0 = 64 * (o3 / 68)) (h' : o3 % 68 = 0) (h'' : o1 = 128 * o2) {p q r : ℕ} (hp : p < 1) (hq : q < 64) :
    rowU A b j (o0 + q) (o1 + r) = padU A b j (o2 + p) (o3 + q) (0 + r) := by
  obtain rfl : p = 0 := by omega
  unfold padU
  rw [show (o3 + q) / 68 = o3 / 68 by omega, show (o3 + q) % 68 = q by omega, h, h'', Nat.add_zero, Nat.zero_add]

theorem extU_row {o0 o1 o2 o3 : ℕ} (h : o2 = 16 * (o1 + 2)) (h' : o1 < 64) (h'' : o3 = 128 * o0) (hj : j < 8) {p r : ℕ} (hp : p < 16) :
    padU A b j o0 (o1 + 68 * p) r = extU A b j (o2 + p) (o3 + r) := by
  unfold padU extU up slot
  rw [show (o1 + 68 * p) / 68 = p by omega, show (o1 + 68 * p) % 68 = o1 by omega, rowU_eq (by omega), if_pos (by omega), h'']
  congr 1
  omega

theorem slot_val (r p : ℕ) (hr : r % 16 = 0) (hp : p < 16) : slot j (r + p) = 1024 * j + 64 * p + r / 16 := by
  unfold slot
  omega

theorem extU_at {r p n t : ℕ} (h : slot j (r + p) = t) : extU A b j (r + p) n = up A b t n := by unfold extU; rw [h]

theorem before_row {o : ℕ} (ho : o = 0 ∨ o = 16) {f : ℕ → EReal} (hf : ∀ n, f n = up A b (1024 * j + o / 16) n) {p n : ℕ} (hp : p < 16) :
    (if p = 0 then f n else extU A b j (o + 1024 + (p - 1)) (0 + n)) = extU A b j (o + p) (0 + n) := by
  unfold extU
  split
  · rename_i h
    subst h
    rw [hf, Nat.zero_add]
    congr 1
    unfold slot
    omega
  · congr 1
    unfold slot
    omega

theorem after_row (hj : j < 8) {f : ℕ → EReal} (hf : ∀ n, f n = if j = 7 then 0 else rowU A b j 1024 n) {p n : ℕ} (hp : p < 16) :
    (if p < 15 then extU A b j (32 + (1 + p)) (0 + n) else f n) = extU A b j (1056 + p) (0 + n) := by
  unfold extU
  split
  · congr 1
    unfold slot
    omega
  · rw [hf, Nat.zero_add]
    unfold up
    by_cases h : j = 7
    · rw [if_pos h, if_neg (by unfold slot; omega)]
    · rw [if_neg h, if_pos (by unfold slot; omega)]
      unfold rowU z
      refine Finset.sum_congr rfl fun k _ => ?_
      rw [rowHx, if_neg (by omega), if_pos (by omega)]
      congr 2
      unfold slot
      omega

/-! ## The convolution of a tile -/

theorem cw_load {m : Memref Cert.KernelIdeal.sig .tc .vmem S4x16x512 .f32} (hm : m.IsWhole) {x : FVec Ideal S4x16x512 .f32}
    (ex : x = m3 fun m _ n => half * A.cw m n) {o : ℕ} {inb : ∀ a, (![o, 0, 0] : Fin 3 → ℕ) a + S1x16x512.size a ≤ S4x16x512.size a} :
    (shapeCast S16x512 (View.readAt (Elt Ideal) m.view (Rect.unit (s := S4x16x512) ![o, 0, 0] S1x16x512.size inb).toLoadRect (hm.unread x) :
      FVec Ideal S1x16x512 .f32) shapeCasts_S1x16x512_S16x512 : FVec Ideal S16x512 .f32) = m2 fun _ n => half * A.cw o n := by
  refine (wrow_val (load3 hm ex)).trans (m2_congr fun p k _ _ => ?_)
  show half * A.cw (o + 0) (0 + k) = _
  rw [Nat.add_zero, Nat.zero_add]

theorem cb_load {m : Memref Cert.KernelIdeal.sig .tc .vmem S16x512 .f32} (hm : m.IsWhole) {x : FVec Ideal S16x512 .f32}
    (ex : x = m2 fun _ n => half * A.cb n) {inb : ∀ a, (![0, 0] : Fin 2 → ℕ) a + S16x512.size a ≤ S16x512.size a} :
    (shapeCast S16x512 (View.readAt (Elt Ideal) m.view (Rect.unit (s := S16x512) ![0, 0] S16x512.size inb).toLoadRect (hm.unread x) :
      FVec Ideal S16x512 .f32) shapeCasts_S16x512_S16x512 : FVec Ideal S16x512 .f32) = m2 fun _ n => half * A.cb n := by
  refine (cast16_val (load2 hm ex 0 0 rfl rfl)).trans (m2_congr fun p k _ _ => ?_)
  rw [Nat.zero_add]

theorem ext_load {v : View Cert.KernelIdeal.sig .tc .vmem S1072x512 .f32} {L : List (Piece (Elt Ideal) S1072x512 .f32)}
    (hU : PiecesOf (Val := Elt Ideal) (e := .f32) (m2 (extU A b j)) L) (hc : ∀ y : S1072x512.Idx, ∃ p ∈ L, y ∈ p.1.set) {o r : ℕ} (ho : o = r)
    {inb : ∀ a, (![o, 0] : Fin 2 → ℕ) a + S16x512.size a ≤ S1072x512.size a} :
    (v.readCov L (Rect.unit (s := S1072x512) ![o, 0] S16x512.size inb).toLoadRect : FVec Ideal S16x512 .f32) = m2 fun p n => extU A b j (r + p) n := by
  subst ho
  refine (back2 hU fun _ => hc _).trans (m2_congr fun p n _ _ => ?_)
  show extU A b j (o + p) (0 + n) = _
  rw [Nat.zero_add]

theorem conv_val {c w0 w1 w2 w3 r0 r1 r2 r3 : FVec Ideal S16x512 .f32} {r : ℕ} (hr : r % 16 = 0) (e0 : c = m2 fun _ n => half * A.cb n)
    (e1 : w0 = m2 fun _ n => half * A.cw 0 n) (e2 : w1 = m2 fun _ n => half * A.cw 1 n) (e3 : w2 = m2 fun _ n => half * A.cw 2 n)
    (e4 : w3 = m2 fun _ n => half * A.cw 3 n) (e5 : r0 = m2 fun p n => extU A b j (r + p) n) (e6 : r1 = m2 fun p n => extU A b j (r + 16 + p) n)
    (e7 : r2 = m2 fun p n => extU A b j (r + 32 + p) n) (e8 : r3 = m2 fun p n => extU A b j (r + 48 + p) n) :
    convT c w0 w1 w2 w3 r0 r1 r2 r3 = m2 fun p n => slabV A b j (r + p) n :=
  (convT_val e0 e1 e2 e3 e4 e5 e6 e7 e8).trans (m2_congr fun _ _ hp _ => conv_slot hr hp)

/-! ## The gates of a tile -/

theorem bg_load {m : Memref Cert.KernelIdeal.sig .tc .vmem S1x1x1024 .f32} (hm : m.IsWhole) {x : FVec Ideal S1x1x1024 .f32}
    (ex : x = m3 fun _ _ n => half * (if n < 512 then A.br n else A.bi (n - 512))) {o : ℕ}
    {inb : ∀ a, (![0, 0, o] : Fin 3 → ℕ) a + S1x1x128.size a ≤ S1x1x1024.size a} :
    (View.readAt (Elt Ideal) m.view (Rect.unit (s := S1x1x1024) ![0, 0, o] S1x1x128.size inb).toLoadRect (hm.unread x) :
      FVec Ideal S1x1x128 .f32) = m3 fun _ _ n => half * (if o + n < 512 then A.br (o + n) else A.bi (o + n - 512)) :=
  load3 hm ex

theorem wg_load {m : Memref Cert.KernelIdeal.sig .tc .vmem S1x4x128x256 .bf16} (hm : m.IsWhole) {x : FVec Ideal S1x4x128x256 .bf16}
    (ex : x = m4 fun _ h d e => if e < 128 then A.wr h d e else A.wi h d (e - 128)) {o : ℕ}
    {inb : ∀ a, (![0, o, 0, 0] : Fin 4 → ℕ) a + S1x1x128x256.size a ≤ S1x4x128x256.size a} :
    (View.readAt (Elt Ideal) m.view (Rect.unit (s := S1x4x128x256) ![0, o, 0, 0] S1x1x128x256.size inb).toLoadRect (hm.unread x) :
      FVec Ideal S1x1x128x256 .bf16) = m4 fun _ h d e => if 0 + e < 128 then A.wr (o + h) (0 + d) (0 + e) else A.wi (o + h) (0 + d) (0 + e - 128) :=
  load4b hm ex

theorem lam_load {m : Memref Cert.KernelIdeal.sig .tc .vmem S2x512 .f32} (hm : m.IsWhole) {x : FVec Ideal S2x512 .f32}
    (ex : ∀ n : Fin 512, x (ix2 0 n) = (A.lam n)) {inb : ∀ a, (![0, 0] : Fin 2 → ℕ) a + S1x512.size a ≤ S2x512.size a} (n : Fin 512) :
    (View.readAt (Elt Ideal) m.view (Rect.unit (s := S2x512) ![0, 0] S1x512.size inb).toLoadRect (hm.unread x) : FVec Ideal S1x512 .f32) (ix2 0 n)
      = (A.lam n) := by
  rw [load_whole hm]
  refine Eq.trans (congrArg x ?_) (ex n)
  refine (eq_ix2 _).trans (congrArg₂ ix2 (Fin.ext ?_) (Fin.ext ?_))
  · exact ValueKit.rect_emb_unit_val (s := S2x512) ![0, 0] S1x512.size inb (ix2 0 n) 0
  · exact (ValueKit.rect_emb_unit_val (s := S2x512) ![0, 0] S1x512.size inb (ix2 0 n) 1).trans (Nat.zero_add _)

theorem gate_mat {v : View Cert.KernelIdeal.sig .tc .vmem S1x1024x512 .bf16} {L : List (Piece (Elt Ideal) S1x1024x512 .bf16)}
    (hV : PiecesOf (Val := Elt Ideal) (e := .bf16) (m3 fun _ r n => slabV A b j r n) L) (hc : ∀ y : S1x1024x512.Idx, ∃ p ∈ L, y ∈ p.1.set)
    {m : Memref Cert.KernelIdeal.sig .tc .vmem S1x4x128x256 .bf16} (hm : m.IsWhole) {x : FVec Ideal S1x4x128x256 .bf16}
    (ex : x = m4 fun _ h d e => if e < 128 then A.wr h d e else A.wi h d (e - 128)) {o h : ℕ}
    {inb : ∀ a, (![0, 0, o] : Fin 3 → ℕ) a + S1x1024x128.size a ≤ S1x1024x512.size a}
    {inb' : ∀ a, (![0, h, 0, 0] : Fin 4 → ℕ) a + S1x1x128x256.size a ≤ S1x4x128x256.size a} :
    (matmul dot_S1024x128_S128x256_S1024x256_1_0_0_1_n_n none
      (shapeCast S1024x128 (v.readCov L (Rect.unit (s := S1x1024x512) ![0, 0, o] S1x1024x128.size inb).toLoadRect : FVec Ideal S1x1024x128 .bf16)
        shapeCasts_S1x1024x128_S1024x128 : FVec Ideal S1024x128 .bf16)
      (shapeCast S128x256 (View.readAt (Elt Ideal) m.view (Rect.unit (s := S1x4x128x256) ![0, h, 0, 0] S1x1x128x256.size inb').toLoadRect (hm.unread x) :
        FVec Ideal S1x1x128x256 .bf16) shapeCasts_S1x1x128x256_S128x256 : FVec Ideal S128x256 .bf16)
      (constant S1024x256 .f32 0#32) : FVec Ideal S1024x256 .f32)
      = m2 fun r n => ∑ k : Fin 128, slabV A b j r (o + k) * if n < 128 then A.wr h k n else A.wi h k (n - 128) := by
  refine (mat256_val (back3b hV fun _ => hc _) (wg_load hm ex)).trans (m2_congr fun r n _ _ => Finset.sum_congr rfl fun k _ => ?_)
  show slabV A b j (0 + r) (o + k) * _ = _
  simp only [Nat.zero_add, Nat.add_zero]

/-- The arguments of the two gates of a head, halved. -/
theorem rg_val {M : FVec Ideal S1024x256 .f32} {c : FVec Ideal S1x1x128 .f32} {o h : ℕ} (ho : o = 128 * h) (hh : h < 4)
    (eM : M = m2 fun r n => ∑ k : Fin 128, slabV A b j r (o + k) * if n < 128 then A.wr h k n else A.wi h k (n - 128))
    (ec : c = m3 fun _ _ n => half * (if o + n < 512 then A.br (o + n) else A.bi (o + n - 512))) {e : S1024x256.Slices ![0, 0] S1024x128} :
    argT M c e = m2 fun r n => half * pre A A.wr A.br b (slot j r) (o + n) := by
  refine (argT_val eM ec).trans (m2_congr fun r n _ hn => ?_)
  subst ho
  unfold pre
  rw [if_pos (by omega), half_add, half_sum, show (128 * h + n) / 128 = h by omega, show (128 * h + n) % 128 = n by omega]
  refine congrArg (· + _) (Finset.sum_congr rfl fun k _ => ?_)
  rw [if_pos (by omega), Nat.zero_add, slabV, mul_assoc]

theorem ig_val {M : FVec Ideal S1024x256 .f32} {c : FVec Ideal S1x1x128 .f32} {o h o' : ℕ} (ho : o = 128 * h) (hh : h < 4) (ho' : o' = 512 + o)
    (eM : M = m2 fun r n => ∑ k : Fin 128, slabV A b j r (o + k) * if n < 128 then A.wr h k n else A.wi h k (n - 128))
    (ec : c = m3 fun _ _ n => half * (if o' + n < 512 then A.br (o' + n) else A.bi (o' + n - 512))) {e : S1024x256.Slices ![0, 128] S1024x128} :
    argT M c e = m2 fun r n => half * pre A A.wi A.bi b (slot j r) (o + n) := by
  refine (argT_val eM ec).trans (m2_congr fun r n _ hn => ?_)
  subst ho ho'
  unfold pre
  rw [if_neg (by omega), half_add, half_sum, show (128 * h + n) / 128 = h by omega, show (128 * h + n) % 128 = n by omega,
    show 512 + 128 * h + n - 512 = 128 * h + n by omega]
  refine congrArg (· + _) (Finset.sum_congr rfl fun k _ => ?_)
  rw [if_neg (by omega), Nat.add_sub_cancel_left, slabV, mul_assoc]

theorem decay_val {y : FVec Ideal S1024x128 .f32} {P : FVec Ideal S1x512 .f32} {o : ℕ} (ey : y = m2 fun r n => half * pre A A.wr A.br b (slot j r) (o + n))
    (eP : P = m2 fun _ n => rate * spl (-A.lam n)) {h : S1x512.Slices ![0, o] S1x128} (ho : o ≤ 384)
    (hg : ∀ r n, r < 1024 → n < 512 → tiny ≤ gap A b (slot j r) n) :
    decT y P h = m2 fun r n => ((dec A b (slot j r) (o + n) : ℝ) : EReal) :=
  decT_val (g := fun n => -A.lam n) ey eP fun r n hr hn => hg r (o + n) hr (by omega)

theorem bx_val {a y v : FVec Ideal S1024x128 .f32} {o : ℕ} (ea : a = m2 fun r n => ((dec A b (slot j r) (o + n) : ℝ) : EReal))
    (ey : y = m2 fun r n => half * pre A A.wi A.bi b (slot j r) (o + n)) (ev : v = m2 fun r n => slabV A b j r (o + n)) (ho : o ≤ 384)
    (hg : ∀ r n, r < 1024 → n < 512 → tiny ≤ gap A b (slot j r) n) :
    bxT a y v = m2 fun r n => bx A b (slot j r) (o + n) := by
  refine (bxT_val ea ey ev fun r n hr hn => hg r (o + n) hr (by omega)).trans (m2_congr fun r n _ hn => ?_)
  rfl

theorem half_load {v : View Cert.KernelIdeal.sig .tc .vmem S1024x512 .f32} {L : List (Piece (Elt Ideal) S1024x512 .f32)}
    (hV : PiecesOf (Val := Elt Ideal) (e := .f32) (m2 (slabV A b j)) L) (hc : ∀ y : S1024x512.Idx, ∃ p ∈ L, y ∈ p.1.set) {o : ℕ}
    {inb : ∀ a, (![0, o] : Fin 2 → ℕ) a + S1024x128.size a ≤ S1024x512.size a} :
    (v.readCov L (Rect.unit (s := S1024x512) ![0, o] S1024x128.size inb).toLoadRect : FVec Ideal S1024x128 .f32) = m2 fun r n => slabV A b j r (o + n) := by
  refine (back2 hV fun _ => hc _).trans (m2_congr fun p n _ _ => ?_)
  show slabV A b j (0 + p) (o + n) = _
  rw [Nat.zero_add]

theorem slabG_lo {o r n : ℕ} (h : o + n < 512) : ((dec A b (slot j r) (o + n) : ℝ) : EReal) = slabG A b j (0 + r) (o + n) := by
  unfold slabG
  rw [if_pos h, Nat.zero_add]

theorem slabG_hi {o o' r n : ℕ} (h : o' = 512 + o) : bx A b (slot j r) (o + n) = slabG A b j (0 + r) (o' + n) := by
  unfold slabG
  rw [if_neg (by omega), Nat.zero_add]
  congr 1
  omega

/-! ## Covers -/

theorem cover_left {e : EltTy} {s : Shape} {L P : List (Piece (Elt Ideal) s e)} {y : s.Idx} (h : ∃ p ∈ L ++ P, y ∈ p.1.set) (hn : ∀ p ∈ P, y ∉ p.1.set) :
    ∃ p ∈ L, y ∈ p.1.set := by
  obtain ⟨p, hp, hy⟩ := h
  rcases List.mem_append.mp hp with hp | hp
  · exact ⟨p, hp, hy⟩
  · exact absurd hy (hn p hp)

theorem gap_inb (k : Fin 64) : ∀ a, (![k.val / 16, 68 * (k.val % 16) + 64, 0] : Fin 3 → ℕ) a + (![1, 4, 128] : Fin 3 → ℕ) a ≤ S4x1088x128.size a := by
  intro a
  have := k.isLt
  fin_cases a
  · show k.val / 16 + 1 ≤ 4
    omega
  · show 68 * (k.val % 16) + 64 + 4 ≤ 1088
    omega
  · exact le_rfl

/-- The four rows between runs of 64. -/
def gaps : List (Piece (Elt Ideal) S4x1088x128 .f32) :=
  List.ofFn fun k : Fin 64 => ⟨Rect.unit (s := S4x1088x128) ![k.val / 16, 68 * (k.val % 16) + 64, 0] ![1, 4, 128] (gap_inb k), fun _ => (0 : EReal)⟩

theorem cover_runs {L : List (Piece (Elt Ideal) S4x1088x128 .f32)} (h : Piece.tiledBy (L ++ gaps) ![1, 4, 128] = true) {y : S4x1088x128.Idx}
    (hy : (y 1).val % 68 < 64) : ∃ p ∈ L, y ∈ p.1.set := by
  refine cover_left (View.cover_of_tiledBy _ ![1, 4, 128] h y) fun p hp hm => ?_
  obtain ⟨k, rfl⟩ := (List.mem_ofFn' _ _).mp hp
  have h1 := (Rect.mem_set_unit (inb := gap_inb k)).mp hm 1
  have e1 : 68 * (k.val % 16) + 64 ≤ (y 1).val := h1.1
  have e2 : (y 1).val < 68 * (k.val % 16) + 64 + 4 := h1.2
  omega

theorem stride_row {o0 o1 : ℕ} (h : o1 < 64)
    {inb : ∀ a, (![1, 16, 128] : Fin 3 → ℕ) a = 0 ∨ (![o0, o1, 0] : Fin 3 → ℕ) a + (![1, 68, 1] : Fin 3 → ℕ) a * ((![1, 16, 128] : Fin 3 → ℕ) a - 1)
      < S4x1088x128.size a} (y : (⟨![o0, o1, 0], ![1, 16, 128], ![1, 68, 1], inb⟩ : LoadRect S4x1088x128).shape.Idx) :
    ((⟨![o0, o1, 0], ![1, 16, 128], ![1, 68, 1], inb⟩ : LoadRect S4x1088x128).idx y 1).val % 68 < 64 := by
  show (o1 + 68 * (y 1).val) % 68 < 64
  omega

theorem cover_mid {L : List (Piece (Elt Ideal) S1072x512 .f32)} {w0 w1 w2 : FVec Ideal S16x512 .f32}
    {inb0 : ∀ a, (![1056, 0] : Fin 2 → ℕ) a + S16x512.size a ≤ S1072x512.size a} {inb1 : ∀ a, (![16, 0] : Fin 2 → ℕ) a + S16x512.size a ≤ S1072x512.size a}
    {inb2 : ∀ a, (![0, 0] : Fin 2 → ℕ) a + S16x512.size a ≤ S1072x512.size a} {y : S1072x512.Idx}
    (h : ∃ p ∈ ((⟨Rect.unit (s := S1072x512) ![1056, 0] S16x512.size inb0, w0⟩ :: ⟨Rect.unit (s := S1072x512) ![16, 0] S16x512.size inb1, w1⟩ ::
      ⟨Rect.unit (s := S1072x512) ![0, 0] S16x512.size inb2, w2⟩ :: L : List (Piece (Elt Ideal) S1072x512 .f32))), y ∈ p.1.set)
    (h1 : 32 ≤ (y 0).val) (h2 : (y 0).val < 1056) : ∃ p ∈ L, y ∈ p.1.set := by
  obtain ⟨p, hp, hm⟩ := h
  rcases List.mem_cons.mp hp with rfl | hp
  · have e : 1056 ≤ (y 0).val := ((Rect.mem_set_unit (inb := inb0)).mp hm 0).1
    omega
  rcases List.mem_cons.mp hp with rfl | hp
  · have e : (y 0).val < 16 + 16 := ((Rect.mem_set_unit (inb := inb1)).mp hm 0).2
    omega
  rcases List.mem_cons.mp hp with rfl | hp
  · have e : (y 0).val < 0 + 16 := ((Rect.mem_set_unit (inb := inb2)).mp hm 0).2
    omega
  exact ⟨p, hp, hm⟩

/-- A row of a carried buffer. -/
theorem row_load {m : Memref Cert.KernelIdeal.sig .tc .vmem S8x512 .f32} (hm : m.IsWhole) {x : FVec Ideal S8x512 .f32} {o : ℕ} {ho : o < 8} {f : ℕ → EReal}
    (ex : ∀ n : Fin 512, x (ix2 ⟨o, ho⟩ n) = (f n)) {inb : ∀ a, (![o, 0] : Fin 2 → ℕ) a + S1x512.size a ≤ S8x512.size a} :
    (View.readAt (Elt Ideal) m.view (Rect.unit (s := S8x512) ![o, 0] S1x512.size inb).toLoadRect (hm.unread x) : FVec Ideal S1x512 .f32)
      = m2 fun _ n => f n := by
  refine eq_m2 fun p n => ?_
  obtain rfl : p = 0 := Subsingleton.elim _ _
  rw [load_whole hm]
  refine Eq.trans (congrArg x ?_) (ex n)
  refine (eq_ix2 _).trans (congrArg₂ ix2 (Fin.ext ?_) (Fin.ext ?_))
  · exact ValueKit.rect_emb_unit_val (s := S8x512) ![o, 0] S1x512.size inb (ix2 0 n) 0
  · exact (ValueKit.rect_emb_unit_val (s := S8x512) ![o, 0] S1x512.size inb (ix2 0 n) 1).trans (Nat.zero_add _)

theorem zeros_val : (broadcast S8x512 (FloatOps.ofBits .f32 0#32) : FVec Ideal S8x512 .f32) = m2 fun _ _ => 0 :=
  eq_m2 fun _ _ => (by pointwise [] : (FloatOps.ofBits .f32 0#32 : Ideal .f32) = 0)

theorem cast8_val {x : FVec Ideal S8x512 .f32} {f : ℕ → ℕ → EReal} (ex : x = m2 f) :
    (shapeCast S8x512 x shapeCasts_S8x512_S8x512 : FVec Ideal S8x512 .f32) = m2 f := by
  refine eq_m2 fun q r => ?_
  pointwise []
  subst ex
  rfl

theorem up_start (n : ℕ) {t : ℕ} (ht : t < 2) : up A b t n = 0 := by
  unfold up
  rw [if_neg (by omega)]

end Rows

end Cert.Proof.Fwd

end
-- ==== Proof.TileScan.lean ====
/- The recurrence over a tile: sixteen runs of 64 positions side by side, then the states between the runs. -/
module

public import proofs.«01_k».proof.Proof.TileTerms

@[expose] public section

noncomputable section

namespace Cert.Proof.Fwd

open Idealize.ShloMosaic Cert.KernelIdeal Cert.KernelIdeal.Gen
open Idealize.ShloMosaic.View (Piece PiecesOf canon)

/-! ## The recurrence -/

section Scan

variable (A : Args) (b j : ℕ)

/-- The product of the first `s` decays of each of the sixteen runs of 64 positions. -/
def accA : ℕ → ℕ → ℕ → EReal
  | 0, _, _ => 1
  | s + 1, p, n => ((dec A b (1024 * j + 64 * p + s) n : ℝ) : EReal) * accA s p n

/-- The state after `s` positions of each run, from zero. -/
def accH : ℕ → ℕ → ℕ → EReal
  | 0, _, _ => 0
  | s + 1, p, n => ((dec A b (1024 * j + 64 * p + s) n : ℝ) : EReal) * accH s p n + bx A b (1024 * j + 64 * p + s) n

/-- The state `s` positions into a run, from the state before the run. -/
theorem hst_acc (s p n : ℕ) : hst A b n (1024 * j + 64 * p + s) = accH A b j s p n + accA A b j s p n * hst A b n (1024 * j + 64 * p) := by
  induction s with
  | zero => simp [accA, accH]
  | succ s ih =>
    rw [← Nat.add_assoc, hst, ih, accA, accH, coe_mul_add (dec_nonneg ..), mul_assoc, add_assoc, add_assoc, add_comm (_ * (_ * _)), ← add_assoc]

end Scan

/-- A list of stores holds the first `s` slabs of the running products, the last of which is `w`. -/
def ProdTo (A : Args) (b j s : ℕ) (L : List (Piece (Elt Ideal) S1024x512 .f32)) (w : FVec Ideal S16x512 .f32) : Prop :=
  PiecesOf (Val := Elt Ideal) (e := .f32) (m2 fun r n => accA A b j (r / 16 + 1) (r % 16) n) L ∧ w = m2 (accA A b j s)

/-- A list of stores holds the first `s` slabs of the states from zero, the last of which is `w`. -/
def StateTo (A : Args) (b j s : ℕ) (L : List (Piece (Elt Ideal) S1024x512 .f32)) (w : FVec Ideal S16x512 .f32) : Prop :=
  PiecesOf (Val := Elt Ideal) (e := .f32) (m2 fun r n => accH A b j (r / 16 + 1) (r % 16) n) L ∧ w = m2 (accH A b j s)

section Scan

variable {A : Args} {b j : ℕ}

theorem prodTo_zero : ProdTo A b j 0 [] (broadcast S16x512 (FloatOps.ofBits .f32 1065353216#32) : FVec Ideal S16x512 .f32) :=
  ⟨trivial, eq_m2 fun _ _ => bits_one.trans one_coe⟩

theorem stateTo_zero : StateTo A b j 0 [] (broadcast S16x512 (FloatOps.ofBits .f32 0#32) : FVec Ideal S16x512 .f32) :=
  ⟨trivial, eq_m2 fun _ _ => (by pointwise [] : (FloatOps.ofBits .f32 0#32 : Ideal .f32) = 0)⟩

variable {v : View Cert.KernelIdeal.sig .tc .vmem S1024x1024 .f32} {G : List (Piece (Elt Ideal) S1024x1024 .f32)}

theorem gate_load (hG : PiecesOf (Val := Elt Ideal) (e := .f32) (m2 (slabG A b j)) G) (hc : ∀ y : S1024x1024.Idx, ∃ p ∈ G, y ∈ p.1.set) {s o : ℕ}
    {inb : ∀ a, (![s, o] : Fin 2 → ℕ) a + S16x512.size a ≤ S1024x1024.size a} :
    (v.readCov G (Rect.unit (s := S1024x1024) ![s, o] S16x512.size inb).toLoadRect : FVec Ideal S16x512 .f32) = m2 fun p n => slabG A b j (s + p) (o + n) :=
  back2 hG fun _ => hc _

theorem prodTo_succ (hG : PiecesOf (Val := Elt Ideal) (e := .f32) (m2 (slabG A b j)) G) (hc : ∀ y : S1024x1024.Idx, ∃ p ∈ G, y ∈ p.1.set) {s : ℕ}
    {L : List (Piece (Elt Ideal) S1024x512 .f32)} {w : FVec Ideal S16x512 .f32} (h : ProdTo A b j s L w) {o o' : ℕ} (ho : o = 16 * s) (ho' : o' = 16 * s)
    {inb : ∀ a, (![o, 0] : Fin 2 → ℕ) a + S16x512.size a ≤ S1024x1024.size a}
    {inb' : ∀ a, (![o', 0] : Fin 2 → ℕ) a + S16x512.size a ≤ S1024x512.size a} :
    ProdTo A b j (s + 1)
      (⟨Rect.unit (s := S1024x512) ![o', 0] S16x512.size inb',
        (shapeCast S16x512 (mulf (v.readCov G (Rect.unit (s := S1024x1024) ![o, 0] S16x512.size inb).toLoadRect : FVec Ideal S16x512 .f32) w)
          shapeCasts_S16x512_S16x512 : FVec Ideal S16x512 .f32)⟩ :: L)
      (mulf (v.readCov G (Rect.unit (s := S1024x1024) ![o, 0] S16x512.size inb).toLoadRect : FVec Ideal S16x512 .f32) w) := by
  subst ho ho'
  have e : (mulf (v.readCov G (Rect.unit (s := S1024x1024) ![16 * s, 0] S16x512.size inb).toLoadRect : FVec Ideal S16x512 .f32) w) = m2 (accA A b j (s + 1)) := by
    have e1 := gate_load (v := v) hG hc (inb := inb)
    revert e1
    generalize (v.readCov G (Rect.unit (s := S1024x1024) ![16 * s, 0] S16x512.size inb).toLoadRect : FVec Ideal S16x512 .f32) = y
    intro e1
    refine eq_m2 fun p n => ?_
    pointwise []
    rw [h.2, e1]
    simp only [m2_ix]
    have hp := p.isLt
    have hn := n.isLt
    rw [accA, slabG, if_pos (by omega), slot, show (16 * s + p.val) % 16 = p by omega, show (16 * s + p.val) / 16 = s by omega, Nat.zero_add]
  refine ⟨cons2 (cast16_val e) (fun p n hp _ => ?_) h.1, e⟩
  rw [show (16 * s + p) % 16 = p by omega, show (16 * s + p) / 16 = s by omega, Nat.zero_add]

theorem stateTo_succ (hG : PiecesOf (Val := Elt Ideal) (e := .f32) (m2 (slabG A b j)) G) (hc : ∀ y : S1024x1024.Idx, ∃ p ∈ G, y ∈ p.1.set) {s : ℕ}
    {L : List (Piece (Elt Ideal) S1024x512 .f32)} {w : FVec Ideal S16x512 .f32} (h : StateTo A b j s L w) {o o2 o' : ℕ} (ho : o = 16 * s) (ho2 : o2 = 16 * s)
    (ho' : o' = 16 * s) {inb : ∀ a, (![o, 0] : Fin 2 → ℕ) a + S16x512.size a ≤ S1024x1024.size a}
    {inb2 : ∀ a, (![o2, 512] : Fin 2 → ℕ) a + S16x512.size a ≤ S1024x1024.size a}
    {inb' : ∀ a, (![o', 0] : Fin 2 → ℕ) a + S16x512.size a ≤ S1024x512.size a} :
    StateTo A b j (s + 1)
      (⟨Rect.unit (s := S1024x512) ![o', 0] S16x512.size inb',
        (shapeCast S16x512 (addf (mulf (v.readCov G (Rect.unit (s := S1024x1024) ![o, 0] S16x512.size inb).toLoadRect : FVec Ideal S16x512 .f32) w)
            (v.readCov G (Rect.unit (s := S1024x1024) ![o2, 512] S16x512.size inb2).toLoadRect : FVec Ideal S16x512 .f32))
          shapeCasts_S16x512_S16x512 : FVec Ideal S16x512 .f32)⟩ :: L)
      (addf (mulf (v.readCov G (Rect.unit (s := S1024x1024) ![o, 0] S16x512.size inb).toLoadRect : FVec Ideal S16x512 .f32) w)
            (v.readCov G (Rect.unit (s := S1024x1024) ![o2, 512] S16x512.size inb2).toLoadRect : FVec Ideal S16x512 .f32)) := by
  subst ho ho2 ho'
  have e : (addf (mulf (v.readCov G (Rect.unit (s := S1024x1024) ![16 * s, 0] S16x512.size inb).toLoadRect : FVec Ideal S16x512 .f32) w)
      (v.readCov G (Rect.unit (s := S1024x1024) ![16 * s, 512] S16x512.size inb2).toLoadRect : FVec Ideal S16x512 .f32)) = m2 (accH A b j (s + 1)) := by
    have e1 := gate_load (v := v) hG hc (inb := inb)
    have e2 := gate_load (v := v) hG hc (inb := inb2)
    revert e1 e2
    generalize (v.readCov G (Rect.unit (s := S1024x1024) ![16 * s, 0] S16x512.size inb).toLoadRect : FVec Ideal S16x512 .f32) = y
    generalize (v.readCov G (Rect.unit (s := S1024x1024) ![16 * s, 512] S16x512.size inb2).toLoadRect : FVec Ideal S16x512 .f32) = y'
    intro e1 e2
    refine eq_m2 fun p n => ?_
    pointwise []
    rw [h.2, e1, e2]
    simp only [m2_ix]
    have hp := p.isLt
    have hn := n.isLt
    rw [accH, slabG, slabG, if_pos (by omega), if_neg (by omega), slot, show (16 * s + p.val) % 16 = p by omega, show (16 * s + p.val) / 16 = s by omega, Nat.zero_add,
      Nat.add_sub_cancel_left]
  refine ⟨cons2 (cast16_val e) (fun p n hp _ => ?_) h.1, e⟩
  rw [show (16 * s + p) % 16 = p by omega, show (16 * s + p) / 16 = s by omega, Nat.zero_add]

/-! ## The states between runs -/

/-- `c` is the state before run `m`, and the rows of `X` up to `m` are the states before their runs. -/
def Joint (A : Args) (b j m : ℕ) (c : FVec Ideal S1x512 .f32) (X : FVec Ideal S16x512 .f32) : Prop :=
  (c = m2 fun _ n => hst A b n (1024 * j + 64 * m)) ∧
    ∃ f : ℕ → ℕ → EReal, X = m2 f ∧ ∀ p n, p ≤ m → f p n = hst A b n (1024 * j + 64 * p)

/-- One run further. -/
def nextT {m : ℕ} (P H : FVec Ideal S16x512 .f32) (c : FVec Ideal S1x512 .f32) (h h' : S16x512.Slices ![m, 0] S1x512) : FVec Ideal S1x512 .f32 :=
  addf (mulf (extractStridedSlice S1x512 ![m, 0] P h) c) (extractStridedSlice S1x512 ![m, 0] H h')

theorem nextT_val {m : ℕ} {P H : FVec Ideal S16x512 .f32} {c : FVec Ideal S1x512 .f32} {h h' : S16x512.Slices ![m, 0] S1x512}
    (eP : P = m2 (accA A b j 64)) (eH : H = m2 (accH A b j 64)) (ec : c = m2 fun _ n => hst A b n (1024 * j + 64 * m)) :
    nextT P H c h h' = m2 fun _ n => hst A b n (1024 * j + 64 * (m + 1)) := by
  refine eq_m2 fun q n => ?_
  obtain rfl : q = 0 := Subsingleton.elim _ _
  pointwise [nextT]
  subst eP eH ec
  simp only [m2_ix]
  rw [show 1024 * j + 64 * (m + 1) = 1024 * j + 64 * m + 64 by omega, hst_acc A b j 64 m n]
  exact add_comm _ _

theorem pick_val {m : ℕ} {i : _} {c : FVec Ideal S1x512 .f32} {X : FVec Ideal S16x512 .f32} {f : ℕ → EReal} {g : ℕ → ℕ → EReal} (hm : m < 16)
    (ec : c = m2 fun _ n => f n) (eX : X = m2 g) :
    (select (cmpi .eq (iota .tc S16x512 32 [0] i) (broadcast S16x512 (BitVec.ofNat 32 m)))
      (broadcastTo S16x512 (shapeCast S1x512 c shapeCasts_S1x512_S1x512 : FVec Ideal S1x512 .f32) broadcasts_S1x512_S16x512) X : FVec Ideal S16x512 .f32)
      = m2 fun p n => if p = m then f n else g p n := by
  refine eq_m2 fun p n => ?_
  pointwise []
  subst ec eX
  have hp := p.isLt
  unfold Scalar.select
  by_cases h : p.val = m
  · rw [if_pos (by subst h; exact IntOp.cmpi_eq_self _), if_pos h]
    rfl
  · rw [if_neg ?_, if_neg h]
    · rfl
    · intro e
      refine h ?_
      have hb : (BitVec.ofNat 32 p.val == BitVec.ofNat 32 m) = true := by
        by_contra hb
        rw [Bool.not_eq_true] at hb
        simp only [IntOp.cmpi, hb] at e
        exact absurd e (by decide)
      have e2 := congrArg BitVec.toNat (eq_of_beq hb)
      simp only [BitVec.toNat_ofNat] at e2
      omega

theorem joint_zero {c : FVec Ideal S1x512 .f32} (ec : c = m2 fun _ n => hst A b n (1024 * j)) {i : _} :
    Joint A b j 0 c (select (cmpi .eq (iota .tc S16x512 32 [0] i) (broadcast S16x512 (BitVec.ofNat 32 0)))
      (broadcastTo S16x512 (shapeCast S1x512 c shapeCasts_S1x512_S1x512 : FVec Ideal S1x512 .f32) broadcasts_S1x512_S16x512)
      (broadcast S16x512 (FloatOps.ofBits .f32 0#32) : FVec Ideal S16x512 .f32)) :=
  ⟨ec, _, pick_val (by omega) ec (stateTo_zero (A := A) (b := b) (j := j)).2, fun p n hp => by
    obtain rfl : p = 0 := by omega
    exact if_pos rfl⟩

theorem joint_succ {m : ℕ} {P H : FVec Ideal S16x512 .f32} {c : FVec Ideal S1x512 .f32} {X : FVec Ideal S16x512 .f32}
    (eP : P = m2 (accA A b j 64)) (eH : H = m2 (accH A b j 64)) (hJ : Joint A b j m c X) {m' : ℕ} (em : m' = m + 1) (hm : m' < 16)
    {h h' : S16x512.Slices ![m, 0] S1x512} {i : _} :
    Joint A b j (m + 1) (nextT P H c h h') (select (cmpi .eq (iota .tc S16x512 32 [0] i) (broadcast S16x512 (BitVec.ofNat 32 m')))
      (broadcastTo S16x512 (shapeCast S1x512 (nextT P H c h h') shapeCasts_S1x512_S1x512 : FVec Ideal S1x512 .f32) broadcasts_S1x512_S16x512) X) := by
  subst em
  obtain ⟨ec, f, eX, hf⟩ := hJ
  refine ⟨nextT_val eP eH ec, _, pick_val hm (nextT_val eP eH ec) eX, fun p n hp => ?_⟩
  show (if p = m + 1 then _ else _) = _
  split
  · rename_i h; subst h; rfl
  · exact hf p n (by omega)

/-- The rows of sixteen positions: the state from zero and the state before the run carried through. -/
theorem state_val {y p X : FVec Ideal S16x512 .f32} {s : ℕ} {c : FVec Ideal S1x512 .f32} (ey : y = m2 (accH A b j s)) (ep : p = m2 (accA A b j s)) (hJ : Joint A b j 15 c X) :
    (addf y (mulf p X) : FVec Ideal S16x512 .f32) = m2 fun p n => hst A b n (1024 * j + 64 * (p % 16) + s) := by
  obtain ⟨-, f, eX, hf⟩ := hJ
  refine eq_m2 fun q n => ?_
  pointwise []
  subst ey ep eX
  simp only [m2_ix]
  rw [hf _ _ (by have := q.isLt; omega), Nat.mod_eq_of_lt q.isLt, hst_acc]

theorem carry_val {c : FVec Ideal S1x512 .f32} {f : ℕ → EReal} (ec : c = m2 fun _ n => f n) :
    (shapeCast S8x512 (broadcastTo S8x512 (shapeCast S1x512 c shapeCasts_S1x512_S1x512 : FVec Ideal S1x512 .f32) broadcasts_S1x512_S8x512 : FVec Ideal S8x512 .f32)
      shapeCasts_S8x512_S8x512 : FVec Ideal S8x512 .f32) = m2 fun _ n => f n := by
  refine eq_m2 fun q n => ?_
  pointwise []
  subst ec
  rfl

end Scan

end Cert.Proof.Fwd

end
-- ==== Proof.TileA.lean ====
/- The rows of a tile and the padded input of its convolution, at the first tile of a row. -/
module

public import proofs.«01_k».proof.Proof.TileOps
public import proofs.«01_k».proof.Proof.TileScan
public import proofs.«01_k».proof.Proof.Gen.KernelIdeal.Frame.RunA

@[expose] public section

noncomputable section

namespace Cert.Proof.Fwd.A

open Idealize.ShloMosaic Cert.KernelIdeal Cert.KernelIdeal.Gen Cert.KernelIdeal.Gen.kernelRun0_A.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (arg26 : Memref Cert.KernelIdeal.sig .tc .vmem S8x512 .f32)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32}
  (T : Tile A b j x0 x1 x2 x3 x4 x5 x6 x7 x8 x9 x10) (hb : (i 0).val = b) (hj : (i 1).val = j)

include T hb

theorem rows_pieces : PiecesOf (Val := Elt Ideal) (e := .bf16) (m2 (rowHx A b j)) (HS0_17 (F := Ideal) c i arg2 harg2 arg3 harg3 arg4 harg4 arg5 harg5 x0 x1 x2 x3) := by
  unfold HS0_17
  refine cons2b (halo_val (mod8_val (halo_load harg3 T.halo) (scale_load harg4 T.md hb) (shift_load harg4 T.md hb) (gain_load harg5 T.gain)))
    (fun p k hp _ => rowHx_hi p k hp) ?_
  repeat
    refine cons2b (truncCast64_val (mod64_val (x_load harg2 T.x) (scale_load harg4 T.md hb) (shift_load harg4 T.md hb) (gain_load harg5 T.gain)))
      (fun p k hp _ => rowHx_lo p k (by omega)) ?_
  trivial

omit T hb in
theorem rows_cover (y : S1040x1024.Idx) : ∃ p ∈ HS0_17 (F := Ideal) c i arg2 harg2 arg3 harg3 arg4 harg4 arg5 harg5 x0 x1 x2 x3, y ∈ p.1.set :=
  View.cover_of_tiledBy _ ![16, 1024] (by sl_kernel_rfl) y

theorem rows_val : v357 (F := Ideal) c i arg2 harg2 arg3 harg3 arg4 harg4 arg5 harg5 arg6 harg6 arg18 x0 x1 x2 x3 x4 = m2 (rowU A b j) := by
  unfold v357
  refine (mat1040_val (back2b (rows_pieces c arg2 harg2 arg3 harg3 arg4 harg4 arg5 harg5 T hb)
    fun _ => rows_cover c arg2 harg2 arg3 harg3 arg4 harg4 arg5 harg5 _) (w_load harg6 T.w)).trans (m2_congr fun r n _ hn => ?_)
  exact rowU_sum r n hn

theorem runs_pieces : PiecesOf (Val := Elt Ideal) (e := .f32) (m3 (padU A b j))
    (HS1_64 (F := Ideal) c i arg2 harg2 arg3 harg3 arg4 harg4 arg5 harg5 arg6 harg6 arg18 x0 x1 x2 x3 x4) := by
  have e := rows_val c arg2 harg2 arg3 harg3 arg4 harg4 arg5 harg5 arg6 harg6 arg18 T hb
  unfold HS1_64
  repeat
    refine cons3 (padPiece_val e) (fun p q r hp hq _ => padU_row (by decide) (by decide) (by decide) hp hq) ?_
  trivial

omit T hb in
theorem runs_cover {y : S4x1088x128.Idx} (hy : (y 1).val % 68 < 64) :
    ∃ p ∈ HS1_64 (F := Ideal) c i arg2 harg2 arg3 harg3 arg4 harg4 arg5 harg5 arg6 harg6 arg18 x0 x1 x2 x3 x4, y ∈ p.1.set :=
  cover_runs (by sl_kernel_rfl) hy

theorem mid_pieces (hj8 : j < 8) : PiecesOf (Val := Elt Ideal) (e := .f32) (m2 (extU A b j))
    (HS2_256 (F := Ideal) c i arg2 harg2 arg3 harg3 arg4 harg4 arg5 harg5 arg6 harg6 arg18 arg19 x0 x1 x2 x3 x4) := by
  have e := runs_pieces c arg2 harg2 arg3 harg3 arg4 harg4 arg5 harg5 arg6 harg6 arg18 T hb
  unfold HS2_256
  repeat
    refine cons2 (extPiece_val (backStrided e fun y => runs_cover c arg2 harg2 arg3 harg3 arg4 harg4 arg5 harg5 arg6 harg6 arg18
      (stride_row (by decide) y))) (fun p r hp _ => extU_row (by decide) (by decide) (by decide) hj8 hp) ?_
  trivial

omit T hb in
theorem carry_row (hj0 : j = 0) {o k : ℕ} (hk : k < 2) {inb : ∀ a, (![o, 0] : Fin 2 → ℕ) a + S1x512.size a ≤ S8x512.size a} :
    (arg25.view.readCov (HS7_1 (F := Ideal)) (Rect.unit (s := S8x512) ![o, 0] S1x512.size inb).toLoadRect : FVec Ideal S1x512 .f32)
      = m2 fun _ n => up A b (1024 * j + k) n := by
  have e : PiecesOf (Val := Elt Ideal) (e := .f32) (m2 fun _ _ => 0) (HS7_1 (F := Ideal)) := by
    unfold HS7_1
    exact cons2 (cast8_val zeros_val) (fun _ _ _ _ => rfl) trivial
  refine (back2 e fun y => ?_).trans (m2_congr fun p n _ _ => (up_start n ?_).symm)
  · exact View.cover_of_tiledBy (HS7_1 (F := Ideal)) ![8, 512] (by sl_kernel_rfl) _
  · subst hj0
    omega

omit T hb in
theorem ext_cover (y : S1072x512.Idx) : ∃ p ∈ HS2_259 (F := Ideal) c i arg2 harg2 arg3 harg3 arg4 harg4 arg5 harg5 arg6 harg6 arg18 arg19 arg20 arg25 x0 x1 x2 x3 x4, y ∈ p.1.set :=
  View.cover_of_tiledBy _ ![16, 128] (by sl_kernel_rfl) y

omit T hb in
theorem mid_cover {y : S1072x512.Idx} (h : ∃ p ∈ HS2_259 (F := Ideal) c i arg2 harg2 arg3 harg3 arg4 harg4 arg5 harg5 arg6 harg6 arg18 arg19 arg20 arg25 x0 x1 x2 x3 x4, y ∈ p.1.set)
    (h1 : 32 ≤ (y 0).val) (h2 : (y 0).val < 1056) : ∃ p ∈ HS2_256 (F := Ideal) c i arg2 harg2 arg3 harg3 arg4 harg4 arg5 harg5 arg6 harg6 arg18 arg19 x0 x1 x2 x3 x4, y ∈ p.1.set := by
  unfold HS2_259 at h
  exact cover_mid h h1 h2

include hj in
theorem ext_pieces (hj8 : j < 8) (hj0 : j = 0) : PiecesOf (Val := Elt Ideal) (e := .f32) (m2 (extU A b j))
    (HS2_259 (F := Ideal) c i arg2 harg2 arg3 harg3 arg4 harg4 arg5 harg5 arg6 harg6 arg18 arg19 arg20 arg25 x0 x1 x2 x3 x4) := by
  have em := mid_pieces c arg2 harg2 arg3 harg3 arg4 harg4 arg5 harg5 arg6 harg6 arg18 arg19 T hb hj8
  have er := rows_val c arg2 harg2 arg3 harg3 arg4 harg4 arg5 harg5 arg6 harg6 arg18 T hb
  unfold HS2_259
  refine cons2 (after_val (last_val (rowSlice_val er)) (back2 em fun y => mid_cover c arg2 harg2 arg3 harg3 arg4 harg4 arg5 harg5 arg6 harg6 arg18 arg19 arg20 arg25 (ext_cover c arg2 harg2 arg3 harg3 arg4 harg4 arg5 harg5 arg6 harg6 arg18 arg19 arg20 arg25 _) ?_ ?_))
    (fun p n hp _ => after_row (f := fun n => if (i 1).val = 7 then 0 else rowU A b j 1024 n) hj8 (fun n => by rw [hj]) hp (n := n)) ?_
  · exact Nat.le_add_right 32 _
  · show 32 + 1 * (y 0).val < 1056
    have : (y 0).val < 16 := (y 0).isLt
    omega
  refine cons2 (before_val (f := fun n => up A b (1024 * j + 1) n) (carry_row (k := 1) arg25 hj0 (by decide)) (back2 em fun y => mid_cover c arg2 harg2 arg3 harg3 arg4 harg4 arg5 harg5 arg6 harg6 arg18 arg19 arg20 arg25 (ext_cover c arg2 harg2 arg3 harg3 arg4 harg4 arg5 harg5 arg6 harg6 arg18 arg19 arg20 arg25 _) ?_ ?_))
    (fun p n hp _ => before_row (.inr rfl) (fun n => rfl) hp) ?_
  · exact Nat.le_trans (by decide) (Nat.le_add_right 1040 _)
  · show 1040 + 1 * (y 0).val < 1056
    have : (y 0).val < 16 := (y 0).isLt
    omega
  refine cons2 (before_val (f := fun n => up A b (1024 * j) n) (carry_row (k := 0) arg25 hj0 (by decide)) (back2 em fun y => mid_cover c arg2 harg2 arg3 harg3 arg4 harg4 arg5 harg5 arg6 harg6 arg18 arg19 arg20 arg25 (ext_cover c arg2 harg2 arg3 harg3 arg4 harg4 arg5 harg5 arg6 harg6 arg18 arg19 arg20 arg25 _) ?_ ?_))
    (fun p n hp _ => before_row (.inl rfl) (fun n => rfl) hp) ?_
  · exact Nat.le_trans (by decide) (Nat.le_add_right 1024 _)
  · show 1024 + 1 * (y 0).val < 1056
    have : (y 0).val < 16 := (y 0).isLt
    omega
  exact em

end
end Cert.Proof.Fwd.A

end
-- ==== Proof.GateA.lean ====
/- The convolution and the gates of a tile, at the first tile of a row. -/
module

public import proofs.«01_k».proof.Proof.TileA
public import proofs.«01_k».proof.Proof.TileScan
public import proofs.«01_k».proof.Proof.Gen.KernelIdeal.Frame.RunA

@[expose] public section

noncomputable section

namespace Cert.Proof.Fwd.A

open Idealize.ShloMosaic Cert.KernelIdeal Cert.KernelIdeal.Gen Cert.KernelIdeal.Gen.kernelRun0_A.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (arg26 : Memref Cert.KernelIdeal.sig .tc .vmem S8x512 .f32)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32}
  (T : Tile A b j x0 x1 x2 x3 x4 x5 x6 x7 x8 x9 x10) (hb : (i 0).val = b) (hj : (i 1).val = j)

include T hb

include hj

theorem conv_pieces (hj8 : j < 8) (hj0 : j = 0) : PiecesOf (Val := Elt Ideal) (e := .bf16) (m3 fun _ r n => slabV A b j r n)
    (H14_64 (F := Ideal) c i arg2 harg2 arg3 harg3 arg4 harg4 arg5 harg5 arg6 harg6 arg7 harg7 arg8 harg8 arg18 arg19 arg20 arg25 x0 x1 x2 x3 x4 x5 x6) := by
  have eu := ext_pieces c arg2 harg2 arg3 harg3 arg4 harg4 arg5 harg5 arg6 harg6 arg18 arg19 arg20 arg25 T hb hj hj8 hj0
  have hc := fun y => ext_cover c arg2 harg2 arg3 harg3 arg4 harg4 arg5 harg5 arg6 harg6 arg18 arg19 arg20 arg25 (i := i) (x0 := x0) (x1 := x1) (x2 := x2) (x3 := x3) (x4 := x4) y
  unfold H14_64
  repeat
    refine cons3b (out16_val (conv_val (by decide) (cb_load harg8 T.cb) (cw_load harg7 T.cw) (cw_load harg7 T.cw) (cw_load harg7 T.cw) (cw_load harg7 T.cw)
      (ext_load eu hc rfl) (ext_load eu hc rfl) (ext_load eu hc rfl) (ext_load eu hc rfl))) (fun _ q r _ _ _ => by simp only [Nat.zero_add]) ?_
  trivial

theorem half_pieces (hj8 : j < 8) (hj0 : j = 0) : PiecesOf (Val := Elt Ideal) (e := .f32) (m2 (slabV A b j))
    (HS3_64 (F := Ideal) c i arg2 harg2 arg3 harg3 arg4 harg4 arg5 harg5 arg6 harg6 arg7 harg7 arg8 harg8 arg18 arg19 arg20 arg25 x0 x1 x2 x3 x4 x5 x6) := by
  have eu := ext_pieces c arg2 harg2 arg3 harg3 arg4 harg4 arg5 harg5 arg6 harg6 arg18 arg19 arg20 arg25 T hb hj hj8 hj0
  have hc := fun y => ext_cover c arg2 harg2 arg3 harg3 arg4 harg4 arg5 harg5 arg6 harg6 arg18 arg19 arg20 arg25 (i := i) (x0 := x0) (x1 := x1) (x2 := x2) (x3 := x3) (x4 := x4) y
  unfold HS3_64
  repeat
    refine cons2 (cast16_val (conv_val (by decide) (cb_load harg8 T.cb) (cw_load harg7 T.cw) (cw_load harg7 T.cw) (cw_load harg7 T.cw) (cw_load harg7 T.cw)
      (ext_load eu hc rfl) (ext_load eu hc rfl) (ext_load eu hc rfl) (ext_load eu hc rfl))) (fun q r _ _ => by simp only [Nat.zero_add]) ?_
  trivial

omit T hb hj in
theorem conv_cover (y : S1x1024x512.Idx) : ∃ p ∈ H14_64 (F := Ideal) c i arg2 harg2 arg3 harg3 arg4 harg4 arg5 harg5 arg6 harg6 arg7 harg7 arg8 harg8 arg18 arg19 arg20 arg25 x0 x1 x2 x3 x4 x5 x6, y ∈ p.1.set :=
  View.cover_of_tiledL _ ![1, 16, 512] (by sl_kernel_rfl) y

omit T hb hj in
theorem half_cover (y : S1024x512.Idx) : ∃ p ∈ HS3_64 (F := Ideal) c i arg2 harg2 arg3 harg3 arg4 harg4 arg5 harg5 arg6 harg6 arg7 harg7 arg8 harg8 arg18 arg19 arg20 arg25 x0 x1 x2 x3 x4 x5 x6, y ∈ p.1.set :=
  View.cover_of_tiledL _ ![16, 512] (by sl_kernel_rfl) y

theorem gate_pieces (hj8 : j < 8) (hj0 : j = 0) (hg : ∀ r n, r < 1024 → n < 512 → tiny ≤ gap A b (slot j r) n) :
    PiecesOf (Val := Elt Ideal) (e := .f32) (m2 (slabG A b j))
      (HS4_8 (F := Ideal) c i arg2 harg2 arg3 harg3 arg4 harg4 arg5 harg5 arg6 harg6 arg7 harg7 arg8 harg8 arg9 harg9 arg10 harg10 arg11 harg11 arg16 arg18 arg19 arg20 arg21 arg25 x0 x1 x2 x3 x4 x5 x6 x7 x8 x9) := by
  have ev := conv_pieces c arg2 harg2 arg3 harg3 arg4 harg4 arg5 harg5 arg6 harg6 arg7 harg7 arg8 harg8 arg18 arg19 arg20 arg25 T hb hj hj8 hj0
  have hv := fun y => conv_cover c arg2 harg2 arg3 harg3 arg4 harg4 arg5 harg5 arg6 harg6 arg7 harg7 arg8 harg8 arg18 arg19 arg20 arg25 (i := i) (x0 := x0) (x1 := x1) (x2 := x2) (x3 := x3) (x4 := x4) (x5 := x5) (x6 := x6) y
  have ew := half_pieces c arg2 harg2 arg3 harg3 arg4 harg4 arg5 harg5 arg6 harg6 arg7 harg7 arg8 harg8 arg18 arg19 arg20 arg25 T hb hj hj8 hj0
  have hw := fun y => half_cover c arg2 harg2 arg3 harg3 arg4 harg4 arg5 harg5 arg6 harg6 arg7 harg7 arg8 harg8 arg18 arg19 arg20 arg25 (i := i) (x0 := x0) (x1 := x1) (x2 := x2) (x3 := x3) (x4 := x4) (x5 := x5) (x6 := x6) y
  have ep := rate_val (fun n => lam_load harg11 T.lam (inb := inb_S2x512_S1x512_0_0) n)
  unfold HS4_8
  repeat
    refine cons2 (castG_val (bx_val (decay_val (rg_val (by decide) (by decide) (gate_mat ev hv harg9 T.wg) (bg_load harg10 T.bg) (e := slices_S1024x256_o0_0_S1024x128)) ep (by decide) hg)
      (ig_val (by decide) (by decide) (by decide) (gate_mat ev hv harg9 T.wg) (bg_load harg10 T.bg) (e := slices_S1024x256_o0_128_S1024x128)) (half_load ew hw)
      (by decide) hg)) (fun r n _ hn => slabG_hi (by decide)) ?_
    refine cons2 (castG_val (decay_val (rg_val (by decide) (by decide) (gate_mat ev hv harg9 T.wg) (bg_load harg10 T.bg) (e := slices_S1024x256_o0_0_S1024x128)) ep (by decide) hg))
      (fun r n _ hn => slabG_lo (by omega)) ?_
  trivial

omit T hb hj in
theorem gate_cover (y : S1024x1024.Idx) :
    ∃ p ∈ HS4_8 (F := Ideal) c i arg2 harg2 arg3 harg3 arg4 harg4 arg5 harg5 arg6 harg6 arg7 harg7 arg8 harg8 arg9 harg9 arg10 harg10 arg11 harg11 arg16 arg18 arg19 arg20 arg21 arg25 x0 x1 x2 x3 x4 x5 x6 x7 x8 x9, y ∈ p.1.set :=
  View.cover_of_tiledL _ ![1024, 128] (by sl_kernel_rfl) y

end
end Cert.Proof.Fwd.A

end
-- ==== Proof.TileOut.lean ====
/- The results of one tile of the kernel, as they are stored and read back. -/
module

public import proofs.«01_k».proof.Proof.TileOps
public import proofs.«01_k».proof.Proof.TileScan
public import Idealize.ShloMosaic.Lib.WritesUnit

@[expose] public section

noncomputable section

namespace Cert.Proof.Fwd

open Idealize.ShloMosaic Cert.KernelIdeal Cert.KernelIdeal.Gen
open Idealize.ShloMosaic.View (Piece PiecesOf canon)

section Rows

variable {A : Args} {b j : ℕ}

/-! ## The stored results -/

theorem full_sum {o r n : ℕ} (hr : o + r < 1024) (hn : n < 512) :
    (∑ k : Fin 1024, rowHx A b j (o + r) (0 + k) * if (0 + n) % 1024 < 512 then A.w k (0 + n) else half * A.w k (0 + n)) = z A b (1024 * j + (o + r)) n := by
  unfold z
  refine Finset.sum_congr rfl fun k _ => ?_
  rw [if_pos (by omega), rowHx, if_pos hr, Nat.zero_add, Nat.zero_add]

theorem half_cols {o r n c : ℕ} (hr : o + r < 1024) (hn : n < 512) (hc : c % 1024 = 512) :
    (∑ k : Fin 1024, rowHx A b j (o + r) (0 + k) * if (c + n) % 1024 < 512 then A.w k (c + n) else half * A.w k (c + n))
      = half * z A b (1024 * j + (o + r)) (c + n) := by
  unfold z
  rw [half_sum]
  refine Finset.sum_congr rfl fun k _ => ?_
  rw [if_neg (by omega), rowHx, if_pos hr, Nat.zero_add]
  exact mul_left_comm _ _ _

theorem back_state {v : View Cert.KernelIdeal.sig .tc .vmem S1024x512 .f32} {s : ℕ} {L : List (Piece (Elt Ideal) S1024x512 .f32)} {w : FVec Ideal S16x512 .f32}
    (h : StateTo A b j s L w) (hc : ∀ y : S1024x512.Idx, ∃ p ∈ L, y ∈ p.1.set) {o : ℕ} (ho : 16 * (o / 16) = o)
    {inb : ∀ a, (![o, 0] : Fin 2 → ℕ) a + S16x512.size a ≤ S1024x512.size a} :
    (v.readCov L (Rect.unit (s := S1024x512) ![o, 0] S16x512.size inb).toLoadRect : FVec Ideal S16x512 .f32) = m2 (accH A b j (o / 16 + 1)) := by
  refine (back2 h.1 fun _ => hc _).trans (m2_congr fun p n hp _ => ?_)
  show accH A b j ((o + p) / 16 + 1) ((o + p) % 16) (0 + n) = _
  rw [show (o + p) / 16 = o / 16 by omega, show (o + p) % 16 = p by omega, Nat.zero_add]

theorem back_prod {v : View Cert.KernelIdeal.sig .tc .vmem S1024x512 .f32} {s : ℕ} {L : List (Piece (Elt Ideal) S1024x512 .f32)} {w : FVec Ideal S16x512 .f32}
    (h : ProdTo A b j s L w) (hc : ∀ y : S1024x512.Idx, ∃ p ∈ L, y ∈ p.1.set) {o : ℕ} (ho : 16 * (o / 16) = o)
    {inb : ∀ a, (![o, 0] : Fin 2 → ℕ) a + S16x512.size a ≤ S1024x512.size a} :
    (v.readCov L (Rect.unit (s := S1024x512) ![o, 0] S16x512.size inb).toLoadRect : FVec Ideal S16x512 .f32) = m2 (accA A b j (o / 16 + 1)) := by
  refine (back2 h.1 fun _ => hc _).trans (m2_congr fun p n hp _ => ?_)
  show accA A b j ((o + p) / 16 + 1) ((o + p) % 16) (0 + n) = _
  rw [show (o + p) / 16 = o / 16 by omega, show (o + p) % 16 = p by omega, Nat.zero_add]

theorem state_slot {o p n n' : ℕ} (ho : 16 * (o / 16) = o) (hp : p < 16) (hn : n' = n) :
    hst A b n (1024 * j + 64 * (p % 16) + (o / 16 + 1)) = hst A b n' (slot j (o + p) + 1) := by
  subst hn
  unfold slot
  congr 1
  omega

theorem fin_load {m : Memref Cert.KernelIdeal.sig .tc .vmem S1x2x512 .f32} (hm : m.IsWhole) {x : FVec Ideal S1x2x512 .f32}
    (ex : ∀ n : Fin 512, x (ix3 0 0 n) = (A.fin b n)) {inb : ∀ a, (![0, 0, 0] : Fin 3 → ℕ) a + S1x1x512.size a ≤ S1x2x512.size a} :
    (shapeCast S1x512 (View.readAt (Elt Ideal) m.view (Rect.unit (s := S1x2x512) ![0, 0, 0] S1x1x512.size inb).toLoadRect (hm.unread x) :
      FVec Ideal S1x1x512 .f32) shapeCasts_S1x1x512_S1x512 : FVec Ideal S1x512 .f32) = m2 fun _ n => A.fin b n := by
  refine eq_m2 fun p n => ?_
  obtain rfl : p = 0 := Subsingleton.elim _ _
  rw [load_whole hm]
  pointwise []
  exact ex n

/-- A row stored last is read back. -/
theorem read_row {v : View Cert.KernelIdeal.sig .tc .vmem S8x512 .f32} {g : v.ty.Contents (Elt Ideal)} {o : ℕ} {w : FVec Ideal S1x512 .f32}
    {L : List (Piece (Elt Ideal) S8x512 .f32)} {f : ℕ → EReal} (hw : w = m2 fun _ n => f n)
    {inb : ∀ a, (![o, 0] : Fin 2 → ℕ) a + S1x512.size a ≤ S8x512.size a} {p : Fin 8} (hp : p.val = o) (n : Fin 512) :
    v.read (Elt Ideal) (v.writes (Elt Ideal) g (⟨Rect.unit (s := S8x512) ![o, 0] S1x512.size inb, w⟩ :: L)) (ix2 p n) = (f n) := by
  refine (View.read_writes_cons_rows_of_mem v g inb w L (ix2 p n) (ix2 (0 : Fin 1) n) rfl hp rfl).trans ?_
  rw [hw]
  rfl

/-- A row under another one stored later is read back. -/
theorem read_under {v : View Cert.KernelIdeal.sig .tc .vmem S8x512 .f32} {g : v.ty.Contents (Elt Ideal)} {o o' : ℕ} {w w' : FVec Ideal S1x512 .f32}
    {L : List (Piece (Elt Ideal) S8x512 .f32)} {f : ℕ → EReal} (hw : w = m2 fun _ n => f n)
    {inb : ∀ a, (![o, 0] : Fin 2 → ℕ) a + S1x512.size a ≤ S8x512.size a} {inb' : ∀ a, (![o', 0] : Fin 2 → ℕ) a + S1x512.size a ≤ S8x512.size a}
    {p : Fin 8} (hp : p.val = o) (ho : o < o') (n : Fin 512) :
    v.read (Elt Ideal) (v.writes (Elt Ideal) g (⟨Rect.unit (s := S8x512) ![o', 0] S1x512.size inb', w'⟩ ::
      ⟨Rect.unit (s := S8x512) ![o, 0] S1x512.size inb, w⟩ :: L)) (ix2 p n) = (f n) :=
  (View.read_writes_cons_rows_of_not_mem v g inb' w' _ (ix2 p n) rfl rfl (.inl (by show p.val < o'; omega))).trans (read_row hw hp n)

/-- All rows stored last are read back. -/
theorem read_rows {v : View Cert.KernelIdeal.sig .tc .vmem S8x512 .f32} {g : v.ty.Contents (Elt Ideal)} {w : FVec Ideal S8x512 .f32}
    {L : List (Piece (Elt Ideal) S8x512 .f32)} {f : ℕ → EReal} (hw : w = m2 fun _ n => f n)
    {inb : ∀ a, (![0, 0] : Fin 2 → ℕ) a + S8x512.size a ≤ S8x512.size a} (p : Fin 8) (n : Fin 512) :
    v.read (Elt Ideal) (v.writes (Elt Ideal) g (⟨Rect.unit (s := S8x512) ![0, 0] S8x512.size inb, w⟩ :: L)) (ix2 p n) = (f n) := by
  refine (View.read_writes_cons_rows_of_mem v g inb w L (ix2 p n) (ix2 p n) rfl (Nat.zero_add _).symm rfl).trans ?_
  rw [hw]
  rfl

/-- Stores of whole pieces, read back. -/
theorem read_pieces {s : Shape} {e : EltTy} {v : View Cert.KernelIdeal.sig .tc .vmem s e} {L : List (Piece (Elt Ideal) s e)} {G : s.Idx → Elt Ideal e}
    (hL : PiecesOf G L) (hc : ∀ y, ∃ p ∈ L, y ∈ p.1.set) : v.read (Elt Ideal) (v.writes (Elt Ideal) v.junk L) = G := by
  rw [View.read_writes_junk_eq_canon]
  exact funext fun y => View.canon_apply_of_pieces G L hL.mem y (hc y)

theorem carry_up {o r n : ℕ} (hr : r < 1024) (h : o = 1024 * j + r + 2) (hj : j < 8) : rowU A b j r n = up A b o n := by
  rw [rowU_eq hr, up, if_pos (by omega)]
  congr 1
  omega

end Rows

end Cert.Proof.Fwd

end
-- ==== Proof.RunA.lean ====
/- The recurrence and the outputs of a tile, at the first tile of a row. -/
module

public import proofs.«01_k».proof.Proof.GateA
public import proofs.«01_k».proof.Proof.TileOut
public import proofs.«01_k».proof.Proof.Gen.KernelIdeal.Frame

@[expose] public section

noncomputable section

namespace Cert.Proof.Fwd.A

open Idealize.ShloMosaic Cert.KernelIdeal Cert.KernelIdeal.Gen Cert.KernelIdeal.Gen.kernelRun0_A.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (arg26 : Memref Cert.KernelIdeal.sig .tc .vmem S8x512 .f32)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32}
  (T : Tile A b j x0 x1 x2 x3 x4 x5 x6 x7 x8 x9 x10) (hb : (i 0).val = b) (hj : (i 1).val = j)

include T hb

include hj

theorem prod_list (hj8 : j < 8) (hj0 : j = 0) (hg : ∀ r n, r < 1024 → n < 512 → tiny ≤ gap A b (slot j r) n) : ProdTo A b j 64 (HS5_64 (F := Ideal) c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9) (v4709 c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9) := by
  have eg := gate_pieces c arg2 harg2 arg3 harg3 arg4 harg4 arg5 harg5 arg6 harg6 arg7 harg7 arg8 harg8 arg9 harg9 arg10 harg10 arg11 harg11 arg16 arg18 arg19 arg20 arg21 arg25 T hb hj hj8 hj0 hg
  have hc := fun y => gate_cover c arg2 harg2 arg3 harg3 arg4 harg4 arg5 harg5 arg6 harg6 arg7 harg7 arg8 harg8 arg9 harg9 arg10 harg10 arg11 harg11 arg16 arg18 arg19 arg20 arg21 arg25 (i := i) (x0 := x0) (x1 := x1) (x2 := x2) (x3 := x3) (x4 := x4)
    (x5 := x5) (x6 := x6) (x7 := x7) (x8 := x8) (x9 := x9) y
  unfold HS5_64
  iterate 64
    refine prodTo_succ eg hc ?_ (by decide) (by decide)
  exact prodTo_zero

theorem state_list (hj8 : j < 8) (hj0 : j = 0) (hg : ∀ r n, r < 1024 → n < 512 → tiny ≤ gap A b (slot j r) n) : StateTo A b j 64 (HS6_64 (F := Ideal) c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9) (v4711 c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9) := by
  have eg := gate_pieces c arg2 harg2 arg3 harg3 arg4 harg4 arg5 harg5 arg6 harg6 arg7 harg7 arg8 harg8 arg9 harg9 arg10 harg10 arg11 harg11 arg16 arg18 arg19 arg20 arg21 arg25 T hb hj hj8 hj0 hg
  have hc := fun y => gate_cover c arg2 harg2 arg3 harg3 arg4 harg4 arg5 harg5 arg6 harg6 arg7 harg7 arg8 harg8 arg9 harg9 arg10 harg10 arg11 harg11 arg16 arg18 arg19 arg20 arg21 arg25 (i := i) (x0 := x0) (x1 := x1) (x2 := x2) (x3 := x3) (x4 := x4)
    (x5 := x5) (x6 := x6) (x7 := x7) (x8 := x8) (x9 := x9) y
  unfold HS6_64
  iterate 64
    refine stateTo_succ eg hc ?_ (by decide) (by decide) (by decide)
  exact stateTo_zero

omit T hb hj in
theorem prod_cover (y : S1024x512.Idx) : ∃ p ∈ HS5_64 (F := Ideal) c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9, y ∈ p.1.set :=
  View.cover_of_tiledL _ ![16, 512] (by sl_kernel_rfl) y

omit T hb hj in
theorem state_cover (y : S1024x512.Idx) : ∃ p ∈ HS6_64 (F := Ideal) c i arg2 harg2 arg3 harg3 arg4 harg4 arg5 harg5 arg6 harg6 arg7 harg7 arg8 harg8 arg9 harg9 arg10 harg10 arg11 harg11 arg16 arg18 arg19 arg20 arg21 arg22 arg25 x0 x1 x2 x3 x4 x5 x6 x7 x8 x9, y ∈ p.1.set :=
  View.cover_of_tiledL _ ![16, 512] (by sl_kernel_rfl) y

omit hb hj in
theorem start_list : PiecesOf (Val := Elt Ideal) (e := .f32) (m2 fun _ n => A.fin b n) (HS8_1 (F := Ideal) c arg12 harg12 x10) := by
  unfold HS8_1
  exact cons2 (carry_val (fin_load harg12 T.fin)) (fun _ n _ _ => by simp only [Nat.zero_add]) trivial

theorem joint (hj8 : j < 8) (hj0 : j = 0) (hg : ∀ r n, r < 1024 → n < 512 → tiny ≤ gap A b (slot j r) n) :
    Joint A b j 15 (v4855 (F := Ideal) c i arg2 harg2 arg3 harg3 arg4 harg4 arg5 harg5 arg6 harg6 arg7 harg7 arg8 harg8 arg9 harg9 arg10 harg10 arg11 harg11 arg12 harg12 arg16 arg18 arg19 arg20 arg21 arg22 arg25 arg26 x0 x1 x2 x3 x4 x5 x6 x7 x8 x9 x10) (v4860 c i arg2 harg2 arg3 harg3 arg4 harg4 arg5 harg5 arg6 harg6 arg7 harg7 arg8 harg8 arg9 harg9 arg10 harg10 arg11 harg11 arg12 harg12 arg16 arg18 arg19 arg20 arg21 arg22 arg25 arg26 x0 x1 x2 x3 x4 x5 x6 x7 x8 x9 x10) := by
  have eP := (prod_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg).2
  have eH := (state_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg).2
  iterate 15
    refine joint_succ eP eH ?_ rfl (by decide)
  exact joint_zero (((back2 (start_list c arg12 harg12 T) fun y => View.cover_of_tiledL _ ![8, 512] (by sl_kernel_rfl) _).trans (m2_congr fun p n _ _ => by
    subst hj0; show A.fin b (0 + n) = _; rw [Nat.zero_add]; rfl)))

end

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32)
  (harg3 : arg3.IsWhole) (arg4 : Memref Cert.KernelIdeal.sig .tc .vmem S8x3072 .f32) (harg4 : arg4.IsWhole)
  (arg5 : Memref Cert.KernelIdeal.sig .tc .vmem S1x1024 .f32) (harg5 : arg5.IsWhole) (arg6 : Memref Cert.KernelIdeal.sig .tc .vmem S1024x2048 .bf16)
  (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16)
  (harg9 : arg9.IsWhole) (arg10 : Memref Cert.KernelIdeal.sig .tc .vmem S1x1x1024 .f32) (harg10 : arg10.IsWhole)
  (arg11 : Memref Cert.KernelIdeal.sig .tc .vmem S2x512 .f32) (harg11 : arg11.IsWhole) (arg12 : Memref Cert.KernelIdeal.sig .tc .vmem S1x2x512 .f32)
  (harg12 : arg12.IsWhole) (arg13 : Memref Cert.KernelIdeal.sig .tc .vmem S1x1024x512 .bf16) (harg13 : arg13.IsWhole)
  (arg14 : Memref Cert.KernelIdeal.sig .tc .vmem S1x1024x512 .bf16) (harg14 : arg14.IsWhole)
  (arg15 : Memref Cert.KernelIdeal.sig .tc .vmem S1x1024x512 .bf16) (harg15 : arg15.IsWhole)
  (arg16 : Memref Cert.KernelIdeal.sig .tc .vmem S1x1024x512 .bf16) (harg16 : arg16.IsWhole)
  (arg17 : Memref Cert.KernelIdeal.sig .tc .vmem S1x1024x512 .bf16) (harg17 : arg17.IsWhole)
  (arg18 : Memref Cert.KernelIdeal.sig .tc .vmem S1040x1024 .bf16) (harg18 : arg18.IsWhole)
  (arg19 : Memref Cert.KernelIdeal.sig .tc .vmem S4x1088x128 .f32) (harg19 : arg19.IsWhole)
  (arg20 : Memref Cert.KernelIdeal.sig .tc .vmem S1072x512 .f32) (harg20 : arg20.IsWhole)
  (arg21 : Memref Cert.KernelIdeal.sig .tc .vmem S1024x512 .f32) (harg21 : arg21.IsWhole)
  (arg22 : Memref Cert.KernelIdeal.sig .tc .vmem S1024x1024 .f32) (harg22 : arg22.IsWhole)
  (arg23 : Memref Cert.KernelIdeal.sig .tc .vmem S1024x512 .f32) (harg23 : arg23.IsWhole)
  (arg24 : Memref Cert.KernelIdeal.sig .tc .vmem S1024x512 .f32) (harg24 : arg24.IsWhole) (arg25 : Memref Cert.KernelIdeal.sig .tc .vmem S8x512 .f32)
  (harg25 : arg25.IsWhole) (arg26 : Memref Cert.KernelIdeal.sig .tc .vmem S8x512 .f32) (harg26 : arg26.IsWhole) (hc0 : cond0_0 i)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32}
  (T : Tile A b j x0 x1 x2 x3 x4 x5 x6 x7 x8 x9 x10) (hb : (i 0).val = b) (hj : (i 1).val = j)

include T hb

theorem out11 : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = m3 fun _ r n => z A b (1024 * j + r) n := by
  unfold out0_A_11
  refine read_pieces ?_ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)
  refine cons3b (plain_val (mat1024_val (back2b (rows_pieces c arg2 harg2 arg3 harg3 arg4 harg4 arg5 harg5 T hb) fun _ => rows_cover c arg2 harg2 arg3 harg3 arg4 harg4 arg5 harg5 _) (w_load harg6 T.w)))
    (fun p r n hp hr hn => (full_sum (by show 0 + r < 1024; omega) hn).trans (by show z A b (1024 * j + (0 + r)) n = z A b (1024 * j + (0 + r)) (0 + n); rw [Nat.zero_add n])) trivial

theorem out12 (hz : ∀ r n, r < 1024 → n < 512 → z A b (1024 * j + r) (512 + n) ≠ ⊥) : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = m3 fun _ r n => silu (z A b (1024 * j + r) (512 + n)) := by
  unfold out0_A_12
  refine read_pieces ?_ (cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)
  refine cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 512) (c := 512) (show 512 + r < 1024 by omega) hn rfl)) fun r n hr hn => hz (512 + r) n (by omega) hn) (fun p r n hp hr hn => by simp only [Nat.zero_add]) ?_
  exact cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 0) (c := 512) (show 0 + r < 1024 by omega) hn rfl)) fun r n hr hn => hz (0 + r) n (by omega) hn) (fun p r n hp hr hn => by simp only [Nat.zero_add]) trivial

theorem out13 (hz : ∀ r n, r < 1024 → n < 512 → z A b (1024 * j + r) (1536 + n) ≠ ⊥) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = m3 fun _ r n => silu (z A b (1024 * j + r) (1536 + n)) := by
  unfold out0_A_13
  refine read_pieces ?_ (cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)
  refine cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 512) (c := 1536) (show 512 + r < 1024 by omega) hn rfl)) fun r n hr hn => hz (512 + r) n (by omega) hn) (fun p r n hp hr hn => by simp only [Nat.zero_add]) ?_
  exact cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 0) (c := 1536) (show 0 + r < 1024 by omega) hn rfl)) fun r n hr hn => hz (0 + r) n (by omega) hn) (fun p r n hp hr hn => by simp only [Nat.zero_add]) trivial

include hj

theorem out14 (hj8 : j < 8) (hj0 : j = 0) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = m3 fun _ r n => slabV A b j r n := by
  unfold out0_A_14
  exact read_pieces (conv_pieces c arg2 harg2 arg3 harg3 arg4 harg4 arg5 harg5 arg6 harg6 arg7 harg7 arg8 harg8 arg18 arg19 arg20 arg25 T hb hj hj8 hj0) (cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)

omit hj in
theorem last_row (n : Fin 512) (hj8 : j < 8) : sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 (ix2 0 n) = (up A b (1024 * (j + 1) + 1) n) := by
  unfold sout0_A_7
  refine (read_under (cast1_val (rowSlice_val (rows_val c arg2 harg2 arg3 harg3 arg4 harg4 arg5 harg5 arg6 harg6 arg18 T hb))) (o := 0) (o' := 1) (p := 0) (by decide) (by decide) n).trans ?_
  rw [carry_up (o := 1024 * (j + 1) + 1) (by decide) (by omega) hj8]

omit hj in
theorem row_before (n : Fin 512) (hj8 : j < 8) : sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 (ix2 1 n) = (up A b (1024 * (j + 1)) n) := by
  unfold sout0_A_7
  refine (read_row (cast1_val (rowSlice_val (rows_val c arg2 harg2 arg3 harg3 arg4 harg4 arg5 harg5 arg6 harg6 arg18 T hb))) (o := 1) (p := 1) (by decide) n).trans ?_
  rw [carry_up (o := 1024 * (j + 1)) (by decide) (by omega) hj8]

theorem last_state (hj8 : j < 8) (hj0 : j = 0) (hg : ∀ r n, r < 1024 → n < 512 → tiny ≤ gap A b (slot j r) n) (p : Fin 8) (n : Fin 512) :
    sout0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 (ix2 p n) = (hst A b n (1024 * (j + 1))) := by
  have eP := (prod_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg).2
  have eH := (state_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg).2
  have eJ := joint c arg2 harg2 arg3 harg3 arg4 harg4 arg5 harg5 arg6 harg6 arg7 harg7 arg8 harg8 arg9 harg9 arg10 harg10 arg11 harg11 arg12 harg12 arg16 arg18 arg19 arg20 arg21 arg22 arg25 arg26 T hb hj hj8 hj0 hg
  unfold sout0_A_8
  exact read_rows (f := fun n => hst A b n (1024 * j + 64 * (15 + 1))) (carry_val (nextT_val eP eH eJ.1)) p n

end
end Cert.Proof.Fwd.A

end
-- ==== Proof.LastA.lean ====
/- The states that a tile stores, at the first tile of a row. -/
module

public import proofs.«01_k».proof.Proof.RunA
public import proofs.«01_k».proof.Proof.TileOut
public import proofs.«01_k».proof.Proof.Gen.KernelIdeal.Frame

@[expose] public section

noncomputable section

namespace Cert.Proof.Fwd.A

open Idealize.ShloMosaic Cert.KernelIdeal Cert.KernelIdeal.Gen Cert.KernelIdeal.Gen.kernelRun0_A.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32)
  (harg3 : arg3.IsWhole) (arg4 : Memref Cert.KernelIdeal.sig .tc .vmem S8x3072 .f32) (harg4 : arg4.IsWhole)
  (arg5 : Memref Cert.KernelIdeal.sig .tc .vmem S1x1024 .f32) (harg5 : arg5.IsWhole) (arg6 : Memref Cert.KernelIdeal.sig .tc .vmem S1024x2048 .bf16)
  (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16)
  (harg9 : arg9.IsWhole) (arg10 : Memref Cert.KernelIdeal.sig .tc .vmem S1x1x1024 .f32) (harg10 : arg10.IsWhole)
  (arg11 : Memref Cert.KernelIdeal.sig .tc .vmem S2x512 .f32) (harg11 : arg11.IsWhole) (arg12 : Memref Cert.KernelIdeal.sig .tc .vmem S1x2x512 .f32)
  (harg12 : arg12.IsWhole) (arg13 : Memref Cert.KernelIdeal.sig .tc .vmem S1x1024x512 .bf16) (harg13 : arg13.IsWhole)
  (arg14 : Memref Cert.KernelIdeal.sig .tc .vmem S1x1024x512 .bf16) (harg14 : arg14.IsWhole)
  (arg15 : Memref Cert.KernelIdeal.sig .tc .vmem S1x1024x512 .bf16) (harg15 : arg15.IsWhole)
  (arg16 : Memref Cert.KernelIdeal.sig .tc .vmem S1x1024x512 .bf16) (harg16 : arg16.IsWhole)
  (arg17 : Memref Cert.KernelIdeal.sig .tc .vmem S1x1024x512 .bf16) (harg17 : arg17.IsWhole)
  (arg18 : Memref Cert.KernelIdeal.sig .tc .vmem S1040x1024 .bf16) (harg18 : arg18.IsWhole)
  (arg19 : Memref Cert.KernelIdeal.sig .tc .vmem S4x1088x128 .f32) (harg19 : arg19.IsWhole)
  (arg20 : Memref Cert.KernelIdeal.sig .tc .vmem S1072x512 .f32) (harg20 : arg20.IsWhole)
  (arg21 : Memref Cert.KernelIdeal.sig .tc .vmem S1024x512 .f32) (harg21 : arg21.IsWhole)
  (arg22 : Memref Cert.KernelIdeal.sig .tc .vmem S1024x1024 .f32) (harg22 : arg22.IsWhole)
  (arg23 : Memref Cert.KernelIdeal.sig .tc .vmem S1024x512 .f32) (harg23 : arg23.IsWhole)
  (arg24 : Memref Cert.KernelIdeal.sig .tc .vmem S1024x512 .f32) (harg24 : arg24.IsWhole) (arg25 : Memref Cert.KernelIdeal.sig .tc .vmem S8x512 .f32)
  (harg25 : arg25.IsWhole) (arg26 : Memref Cert.KernelIdeal.sig .tc .vmem S8x512 .f32) (harg26 : arg26.IsWhole) (hc0 : cond0_0 i)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32}
  (T : Tile A b j x0 x1 x2 x3 x4 x5 x6 x7 x8 x9 x10) (hb : (i 0).val = b) (hj : (i 1).val = j)

include T hb hj

theorem out15 (hj8 : j < 8) (hj0 : j = 0) (hg : ∀ r n, r < 1024 → n < 512 → tiny ≤ gap A b (slot j r) n) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = m3 fun _ r n => hst A b n (slot j r + 1) := by
  have eP := prod_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg
  have hP := fun y => prod_cover c arg2 harg2 arg3 harg3 arg4 harg4 arg5 harg5 arg6 harg6 arg7 harg7 arg8 harg8 arg9 harg9 arg10 harg10 arg11 harg11 arg16 arg18 arg19 arg20 arg21 arg22 arg25 (i := i) (x0 := x0) (x1 := x1) (x2 := x2) (x3 := x3) (x4 := x4)
    (x5 := x5) (x6 := x6) (x7 := x7) (x8 := x8) (x9 := x9) y
  have eH := state_list c arg2 harg2 arg3 harg3 arg4 harg4 arg5 harg5 arg6 harg6 arg7 harg7 arg8 harg8 arg9 harg9 arg10 harg10 arg11 harg11 arg16 arg18 arg19 arg20 arg21 arg22 arg25 T hb hj hj8 hj0 hg
  have hH := fun y => state_cover c arg2 harg2 arg3 harg3 arg4 harg4 arg5 harg5 arg6 harg6 arg7 harg7 arg8 harg8 arg9 harg9 arg10 harg10 arg11 harg11 arg16 arg18 arg19 arg20 arg21 arg22 arg25 (i := i) (x0 := x0) (x1 := x1) (x2 := x2) (x3 := x3) (x4 := x4)
    (x5 := x5) (x6 := x6) (x7 := x7) (x8 := x8) (x9 := x9) y
  have eJ := joint c arg2 harg2 arg3 harg3 arg4 harg4 arg5 harg5 arg6 harg6 arg7 harg7 arg8 harg8 arg9 harg9 arg10 harg10 arg11 harg11 arg12 harg12 arg16 arg18 arg19 arg20 arg21 arg22 arg25 arg26 T hb hj hj8 hj0 hg
  unfold out0_A_15
  refine read_pieces ?_ (cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)
  repeat
    refine cons3b (out16_val (state_val (back_state eH hH (by decide)) (back_prod eP hP (by decide)) eJ)) (fun _ p n _ hp hn => state_slot (by decide) hp (Nat.zero_add n)) ?_
  trivial

end
end Cert.Proof.Fwd.A

end
-- ==== Proof.TileB.lean ====
/- The rows of a tile and the padded input of its convolution, after the first tile of a row. -/
module

public import proofs.«01_k».proof.Proof.TileOps
public import proofs.«01_k».proof.Proof.TileScan
public import proofs.«01_k».proof.Proof.Gen.KernelIdeal.Frame.RunB

@[expose] public section

noncomputable section

namespace Cert.Proof.Fwd.B

open Idealize.ShloMosaic Cert.KernelIdeal Cert.KernelIdeal.Gen Cert.KernelIdeal.Gen.kernelRun0_B.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (harg25 : arg25.IsWhole) (arg26 : Memref Cert.KernelIdeal.sig .tc .vmem S8x512 .f32) (harg26 : arg26.IsWhole)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32} {xs7 xs8 : FVec Ideal S8x512 .f32}
  (T : Tile A b j x0 x1 x2 x3 x4 x5 x6 x7 x8 x9 x10) (hb : (i 0).val = b) (hj : (i 1).val = j)

include T hb

theorem rows_pieces : PiecesOf (Val := Elt Ideal) (e := .bf16) (m2 (rowHx A b j)) (HS0_17 (F := Ideal) c i arg2 harg2 arg3 harg3 arg4 harg4 arg5 harg5 x0 x1 x2 x3) := by
  unfold HS0_17
  refine cons2b (halo_val (mod8_val (halo_load harg3 T.halo) (scale_load harg4 T.md hb) (shift_load harg4 T.md hb) (gain_load harg5 T.gain)))
    (fun p k hp _ => rowHx_hi p k hp) ?_
  repeat
    refine cons2b (truncCast64_val (mod64_val (x_load harg2 T.x) (scale_load harg4 T.md hb) (shift_load harg4 T.md hb) (gain_load harg5 T.gain)))
      (fun p k hp _ => rowHx_lo p k (by omega)) ?_
  trivial

omit T hb in
theorem rows_cover (y : S1040x1024.Idx) : ∃ p ∈ HS0_17 (F := Ideal) c i arg2 harg2 arg3 harg3 arg4 harg4 arg5 harg5 x0 x1 x2 x3, y ∈ p.1.set :=
  View.cover_of_tiledBy _ ![16, 1024] (by sl_kernel_rfl) y

theorem rows_val : v357 (F := Ideal) c i arg2 harg2 arg3 harg3 arg4 harg4 arg5 harg5 arg6 harg6 arg18 x0 x1 x2 x3 x4 = m2 (rowU A b j) := by
  unfold v357
  refine (mat1040_val (back2b (rows_pieces c arg2 harg2 arg3 harg3 arg4 harg4 arg5 harg5 T hb)
    fun _ => rows_cover c arg2 harg2 arg3 harg3 arg4 harg4 arg5 harg5 _) (w_load harg6 T.w)).trans (m2_congr fun r n _ hn => ?_)
  exact rowU_sum r n hn

theorem runs_pieces : PiecesOf (Val := Elt Ideal) (e := .f32) (m3 (padU A b j))
    (HS1_64 (F := Ideal) c i arg2 harg2 arg3 harg3 arg4 harg4 arg5 harg5 arg6 harg6 arg18 x0 x1 x2 x3 x4) := by
  have e := rows_val c arg2 harg2 arg3 harg3 arg4 harg4 arg5 harg5 arg6 harg6 arg18 T hb
  unfold HS1_64
  repeat
    refine cons3 (padPiece_val e) (fun p q r hp hq _ => padU_row (by decide) (by decide) (by decide) hp hq) ?_
  trivial

omit T hb in
theorem runs_cover {y : S4x1088x128.Idx} (hy : (y 1).val % 68 < 64) :
    ∃ p ∈ HS1_64 (F := Ideal) c i arg2 harg2 arg3 harg3 arg4 harg4 arg5 harg5 arg6 harg6 arg18 x0 x1 x2 x3 x4, y ∈ p.1.set :=
  cover_runs (by sl_kernel_rfl) hy

theorem mid_pieces (hj8 : j < 8) : PiecesOf (Val := Elt Ideal) (e := .f32) (m2 (extU A b j))
    (HS2_256 (F := Ideal) c i arg2 harg2 arg3 harg3 arg4 harg4 arg5 harg5 arg6 harg6 arg18 arg19 x0 x1 x2 x3 x4) := by
  have e := runs_pieces c arg2 harg2 arg3 harg3 arg4 harg4 arg5 harg5 arg6 harg6 arg18 T hb
  unfold HS2_256
  repeat
    refine cons2 (extPiece_val (backStrided e fun y => runs_cover c arg2 harg2 arg3 harg3 arg4 harg4 arg5 harg5 arg6 harg6 arg18
      (stride_row (by decide) y))) (fun p r hp _ => extU_row (by decide) (by decide) (by decide) hj8 hp) ?_
  trivial

omit T hb in
theorem ext_cover (y : S1072x512.Idx) : ∃ p ∈ HS2_259 (F := Ideal) c i arg2 harg2 arg3 harg3 arg4 harg4 arg5 harg5 arg6 harg6 arg18 arg19 arg20 arg25 harg25 x0 x1 x2 x3 x4 xs7, y ∈ p.1.set :=
  View.cover_of_tiledBy _ ![16, 128] (by sl_kernel_rfl) y

omit T hb in
theorem mid_cover {y : S1072x512.Idx} (h : ∃ p ∈ HS2_259 (F := Ideal) c i arg2 harg2 arg3 harg3 arg4 harg4 arg5 harg5 arg6 harg6 arg18 arg19 arg20 arg25 harg25 x0 x1 x2 x3 x4 xs7, y ∈ p.1.set)
    (h1 : 32 ≤ (y 0).val) (h2 : (y 0).val < 1056) : ∃ p ∈ HS2_256 (F := Ideal) c i arg2 harg2 arg3 harg3 arg4 harg4 arg5 harg5 arg6 harg6 arg18 arg19 x0 x1 x2 x3 x4, y ∈ p.1.set := by
  unfold HS2_259 at h
  exact cover_mid h h1 h2

include hj in
theorem ext_pieces (hj8 : j < 8) (hu1 : ∀ n : Fin 512, xs7 (ix2 0 n) = (up A b (1024 * j + 1) n)) (hu0 : ∀ n : Fin 512, xs7 (ix2 1 n) = (up A b (1024 * j) n)) : PiecesOf (Val := Elt Ideal) (e := .f32) (m2 (extU A b j))
    (HS2_259 (F := Ideal) c i arg2 harg2 arg3 harg3 arg4 harg4 arg5 harg5 arg6 harg6 arg18 arg19 arg20 arg25 harg25 x0 x1 x2 x3 x4 xs7) := by
  have em := mid_pieces c arg2 harg2 arg3 harg3 arg4 harg4 arg5 harg5 arg6 harg6 arg18 arg19 T hb hj8
  have er := rows_val c arg2 harg2 arg3 harg3 arg4 harg4 arg5 harg5 arg6 harg6 arg18 T hb
  unfold HS2_259
  refine cons2 (after_val (last_val (rowSlice_val er)) (back2 em fun y => mid_cover c arg2 harg2 arg3 harg3 arg4 harg4 arg5 harg5 arg6 harg6 arg18 arg19 arg20 arg25 harg25 (ext_cover c arg2 harg2 arg3 harg3 arg4 harg4 arg5 harg5 arg6 harg6 arg18 arg19 arg20 arg25 harg25 (xs7 := xs7) _) ?_ ?_))
    (fun p n hp _ => after_row (f := fun n => if (i 1).val = 7 then 0 else rowU A b j 1024 n) hj8 (fun n => by rw [hj]) hp (n := n)) ?_
  · exact Nat.le_add_right 32 _
  · show 32 + 1 * (y 0).val < 1056
    have : (y 0).val < 16 := (y 0).isLt
    omega
  refine cons2 (before_val (f := fun n => up A b (1024 * j + 1) n) (row_load (ho := by decide) (f := fun n => up A b (1024 * j + 1) n) harg25 hu1) (back2 em fun y => mid_cover c arg2 harg2 arg3 harg3 arg4 harg4 arg5 harg5 arg6 harg6 arg18 arg19 arg20 arg25 harg25 (ext_cover c arg2 harg2 arg3 harg3 arg4 harg4 arg5 harg5 arg6 harg6 arg18 arg19 arg20 arg25 harg25 (xs7 := xs7) _) ?_ ?_))
    (fun p n hp _ => before_row (.inr rfl) (fun n => rfl) hp) ?_
  · exact Nat.le_trans (by decide) (Nat.le_add_right 1040 _)
  · show 1040 + 1 * (y 0).val < 1056
    have : (y 0).val < 16 := (y 0).isLt
    omega
  refine cons2 (before_val (f := fun n => up A b (1024 * j) n) (row_load (ho := by decide) (f := fun n => up A b (1024 * j) n) harg25 hu0) (back2 em fun y => mid_cover c arg2 harg2 arg3 harg3 arg4 harg4 arg5 harg5 arg6 harg6 arg18 arg19 arg20 arg25 harg25 (ext_cover c arg2 harg2 arg3 harg3 arg4 harg4 arg5 harg5 arg6 harg6 arg18 arg19 arg20 arg25 harg25 (xs7 := xs7) _) ?_ ?_))
    (fun p n hp _ => before_row (.inl rfl) (fun n => rfl) hp) ?_
  · exact Nat.le_trans (by decide) (Nat.le_add_right 1024 _)
  · show 1024 + 1 * (y 0).val < 1056
    have : (y 0).val < 16 := (y 0).isLt
    omega
  exact em

end
end Cert.Proof.Fwd.B

end
-- ==== Proof.GateB.lean ====
/- The convolution and the gates of a tile, after the first tile of a row. -/
module

public import proofs.«01_k».proof.Proof.TileB
public import proofs.«01_k».proof.Proof.TileScan
public import proofs.«01_k».proof.Proof.Gen.KernelIdeal.Frame.RunB

@[expose] public section

noncomputable section

namespace Cert.Proof.Fwd.B

open Idealize.ShloMosaic Cert.KernelIdeal Cert.KernelIdeal.Gen Cert.KernelIdeal.Gen.kernelRun0_B.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (harg25 : arg25.IsWhole) (arg26 : Memref Cert.KernelIdeal.sig .tc .vmem S8x512 .f32) (harg26 : arg26.IsWhole)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32} {xs7 xs8 : FVec Ideal S8x512 .f32}
  (T : Tile A b j x0 x1 x2 x3 x4 x5 x6 x7 x8 x9 x10) (hb : (i 0).val = b) (hj : (i 1).val = j)

include T hb

include hj

theorem conv_pieces (hj8 : j < 8) (hu1 : ∀ n : Fin 512, xs7 (ix2 0 n) = (up A b (1024 * j + 1) n)) (hu0 : ∀ n : Fin 512, xs7 (ix2 1 n) = (up A b (1024 * j) n)) : PiecesOf (Val := Elt Ideal) (e := .bf16) (m3 fun _ r n => slabV A b j r n)
    (H14_64 (F := Ideal) c i arg2 harg2 arg3 harg3 arg4 harg4 arg5 harg5 arg6 harg6 arg7 harg7 arg8 harg8 arg18 arg19 arg20 arg25 harg25 x0 x1 x2 x3 x4 x5 x6 xs7) := by
  have eu := ext_pieces c arg2 harg2 arg3 harg3 arg4 harg4 arg5 harg5 arg6 harg6 arg18 arg19 arg20 arg25 harg25 T hb hj hj8 hu1 hu0
  have hc := fun y => ext_cover c arg2 harg2 arg3 harg3 arg4 harg4 arg5 harg5 arg6 harg6 arg18 arg19 arg20 arg25 harg25 (i := i) (x0 := x0) (x1 := x1) (x2 := x2) (x3 := x3) (x4 := x4) (xs7 := xs7) y
  unfold H14_64
  repeat
    refine cons3b (out16_val (conv_val (by decide) (cb_load harg8 T.cb) (cw_load harg7 T.cw) (cw_load harg7 T.cw) (cw_load harg7 T.cw) (cw_load harg7 T.cw)
      (ext_load eu hc rfl) (ext_load eu hc rfl) (ext_load eu hc rfl) (ext_load eu hc rfl))) (fun _ q r _ _ _ => by simp only [Nat.zero_add]) ?_
  trivial

theorem half_pieces (hj8 : j < 8) (hu1 : ∀ n : Fin 512, xs7 (ix2 0 n) = (up A b (1024 * j + 1) n)) (hu0 : ∀ n : Fin 512, xs7 (ix2 1 n) = (up A b (1024 * j) n)) : PiecesOf (Val := Elt Ideal) (e := .f32) (m2 (slabV A b j))
    (HS3_64 (F := Ideal) c i arg2 harg2 arg3 harg3 arg4 harg4 arg5 harg5 arg6 harg6 arg7 harg7 arg8 harg8 arg18 arg19 arg20 arg25 harg25 x0 x1 x2 x3 x4 x5 x6 xs7) := by
  have eu := ext_pieces c arg2 harg2 arg3 harg3 arg4 harg4 arg5 harg5 arg6 harg6 arg18 arg19 arg20 arg25 harg25 T hb hj hj8 hu1 hu0
  have hc := fun y => ext_cover c arg2 harg2 arg3 harg3 arg4 harg4 arg5 harg5 arg6 harg6 arg18 arg19 arg20 arg25 harg25 (i := i) (x0 := x0) (x1 := x1) (x2 := x2) (x3 := x3) (x4 := x4) (xs7 := xs7) y
  unfold HS3_64
  repeat
    refine cons2 (cast16_val (conv_val (by decide) (cb_load harg8 T.cb) (cw_load harg7 T.cw) (cw_load harg7 T.cw) (cw_load harg7 T.cw) (cw_load harg7 T.cw)
      (ext_load eu hc rfl) (ext_load eu hc rfl) (ext_load eu hc rfl) (ext_load eu hc rfl))) (fun q r _ _ => by simp only [Nat.zero_add]) ?_
  trivial

omit T hb hj in
theorem conv_cover (y : S1x1024x512.Idx) : ∃ p ∈ H14_64 (F := Ideal) c i arg2 harg2 arg3 harg3 arg4 harg4 arg5 harg5 arg6 harg6 arg7 harg7 arg8 harg8 arg18 arg19 arg20 arg25 harg25 x0 x1 x2 x3 x4 x5 x6 xs7, y ∈ p.1.set :=
  View.cover_of_tiledL _ ![1, 16, 512] (by sl_kernel_rfl) y

omit T hb hj in
theorem half_cover (y : S1024x512.Idx) : ∃ p ∈ HS3_64 (F := Ideal) c i arg2 harg2 arg3 harg3 arg4 harg4 arg5 harg5 arg6 harg6 arg7 harg7 arg8 harg8 arg18 arg19 arg20 arg25 harg25 x0 x1 x2 x3 x4 x5 x6 xs7, y ∈ p.1.set :=
  View.cover_of_tiledL _ ![16, 512] (by sl_kernel_rfl) y

theorem gate_pieces (hj8 : j < 8) (hu1 : ∀ n : Fin 512, xs7 (ix2 0 n) = (up A b (1024 * j + 1) n)) (hu0 : ∀ n : Fin 512, xs7 (ix2 1 n) = (up A b (1024 * j) n)) (hg : ∀ r n, r < 1024 → n < 512 → tiny ≤ gap A b (slot j r) n) :
    PiecesOf (Val := Elt Ideal) (e := .f32) (m2 (slabG A b j))
      (HS4_8 (F := Ideal) c i arg2 harg2 arg3 harg3 arg4 harg4 arg5 harg5 arg6 harg6 arg7 harg7 arg8 harg8 arg9 harg9 arg10 harg10 arg11 harg11 arg16 arg18 arg19 arg20 arg21 arg25 harg25 x0 x1 x2 x3 x4 x5 x6 x7 x8 x9 xs7) := by
  have ev := conv_pieces c arg2 harg2 arg3 harg3 arg4 harg4 arg5 harg5 arg6 harg6 arg7 harg7 arg8 harg8 arg18 arg19 arg20 arg25 harg25 T hb hj hj8 hu1 hu0
  have hv := fun y => conv_cover c arg2 harg2 arg3 harg3 arg4 harg4 arg5 harg5 arg6 harg6 arg7 harg7 arg8 harg8 arg18 arg19 arg20 arg25 harg25 (i := i) (x0 := x0) (x1 := x1) (x2 := x2) (x3 := x3) (x4 := x4) (x5 := x5) (x6 := x6) (xs7 := xs7) y
  have ew := half_pieces c arg2 harg2 arg3 harg3 arg4 harg4 arg5 harg5 arg6 harg6 arg7 harg7 arg8 harg8 arg18 arg19 arg20 arg25 harg25 T hb hj hj8 hu1 hu0
  have hw := fun y => half_cover c arg2 harg2 arg3 harg3 arg4 harg4 arg5 harg5 arg6 harg6 arg7 harg7 arg8 harg8 arg18 arg19 arg20 arg25 harg25 (i := i) (x0 := x0) (x1 := x1) (x2 := x2) (x3 := x3) (x4 := x4) (x5 := x5) (x6 := x6) (xs7 := xs7) y
  have ep := rate_val (fun n => lam_load harg11 T.lam (inb := inb_S2x512_S1x512_0_0) n)
  unfold HS4_8
  repeat
    refine cons2 (castG_val (bx_val (decay_val (rg_val (by decide) (by decide) (gate_mat ev hv harg9 T.wg) (bg_load harg10 T.bg) (e := slices_S1024x256_o0_0_S1024x128)) ep (by decide) hg)
      (ig_val (by decide) (by decide) (by decide) (gate_mat ev hv harg9 T.wg) (bg_load harg10 T.bg) (e := slices_S1024x256_o0_128_S1024x128)) (half_load ew hw)
      (by decide) hg)) (fun r n _ hn => slabG_hi (by decide)) ?_
    refine cons2 (castG_val (decay_val (rg_val (by decide) (by decide) (gate_mat ev hv harg9 T.wg) (bg_load harg10 T.bg) (e := slices_S1024x256_o0_0_S1024x128)) ep (by decide) hg))
      (fun r n _ hn => slabG_lo (by omega)) ?_
  trivial

omit T hb hj in
theorem gate_cover (y : S1024x1024.Idx) :
    ∃ p ∈ HS4_8 (F := Ideal) c i arg2 harg2 arg3 harg3 arg4 harg4 arg5 harg5 arg6 harg6 arg7 harg7 arg8 harg8 arg9 harg9 arg10 harg10 arg11 harg11 arg16 arg18 arg19 arg20 arg21 arg25 harg25 x0 x1 x2 x3 x4 x5 x6 x7 x8 x9 xs7, y ∈ p.1.set :=
  View.cover_of_tiledL _ ![1024, 128] (by sl_kernel_rfl) y

end
end Cert.Proof.Fwd.B

end
-- ==== Proof.RunB.lean ====
/- The recurrence and the outputs of a tile, after the first tile of a row. -/
module

public import proofs.«01_k».proof.Proof.GateB
public import proofs.«01_k».proof.Proof.TileOut
public import proofs.«01_k».proof.Proof.Gen.KernelIdeal.Frame

@[expose] public section

noncomputable section

namespace Cert.Proof.Fwd.B

open Idealize.ShloMosaic Cert.KernelIdeal Cert.KernelIdeal.Gen Cert.KernelIdeal.Gen.kernelRun0_B.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32) (harg3 : arg3.IsWhole)
  (arg4 : Memref Cert.KernelIdeal.sig .tc .vmem S8x3072 .f32) (harg4 : arg4.IsWhole) (arg5 : Memref Cert.KernelIdeal.sig .tc .vmem S1x1024 .f32) (harg5 : arg5.IsWhole)
  (arg6 : Memref Cert.KernelIdeal.sig .tc .vmem S1024x2048 .bf16) (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16) (harg9 : arg9.IsWhole)
  (arg10 : Memref Cert.KernelIdeal.sig .tc .vmem S1x1x1024 .f32) (harg10 : arg10.IsWhole) (arg11 : Memref Cert.KernelIdeal.sig .tc .vmem S2x512 .f32) (harg11 : arg11.IsWhole)
  (arg12 : Memref Cert.KernelIdeal.sig .tc .vmem S1x2x512 .f32) (harg12 : arg12.IsWhole)
  (arg16 : Memref Cert.KernelIdeal.sig .tc .vmem S1x1024x512 .bf16)
  (arg18 : Memref Cert.KernelIdeal.sig .tc .vmem S1040x1024 .bf16) (arg19 : Memref Cert.KernelIdeal.sig .tc .vmem S4x1088x128 .f32)
  (arg20 : Memref Cert.KernelIdeal.sig .tc .vmem S1072x512 .f32) (arg21 : Memref Cert.KernelIdeal.sig .tc .vmem S1024x512 .f32)
  (arg22 : Memref Cert.KernelIdeal.sig .tc .vmem S1024x1024 .f32) (arg23 arg24 : Memref Cert.KernelIdeal.sig .tc .vmem S1024x512 .f32)
  (arg25 : Memref Cert.KernelIdeal.sig .tc .vmem S8x512 .f32) (harg25 : arg25.IsWhole) (arg26 : Memref Cert.KernelIdeal.sig .tc .vmem S8x512 .f32) (harg26 : arg26.IsWhole)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32} {xs7 xs8 : FVec Ideal S8x512 .f32}
  (T : Tile A b j x0 x1 x2 x3 x4 x5 x6 x7 x8 x9 x10) (hb : (i 0).val = b) (hj : (i 1).val = j)

include T hb

include hj

theorem prod_list (hj8 : j < 8) (hu1 : ∀ n : Fin 512, xs7 (ix2 0 n) = (up A b (1024 * j + 1) n)) (hu0 : ∀ n : Fin 512, xs7 (ix2 1 n) = (up A b (1024 * j) n)) (hg : ∀ r n, r < 1024 → n < 512 → tiny ≤ gap A b (slot j r) n) : ProdTo A b j 64 (HS5_64 (F := Ideal) c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7) (v4709 c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7) := by
  have eg := gate_pieces c arg2 harg2 arg3 harg3 arg4 harg4 arg5 harg5 arg6 harg6 arg7 harg7 arg8 harg8 arg9 harg9 arg10 harg10 arg11 harg11 arg16 arg18 arg19 arg20 arg21 arg25 harg25 T hb hj hj8 hu1 hu0 hg
  have hc := fun y => gate_cover c arg2 harg2 arg3 harg3 arg4 harg4 arg5 harg5 arg6 harg6 arg7 harg7 arg8 harg8 arg9 harg9 arg10 harg10 arg11 harg11 arg16 arg18 arg19 arg20 arg21 arg25 harg25 (i := i) (x0 := x0) (x1 := x1) (x2 := x2) (x3 := x3) (x4 := x4)
    (x5 := x5) (x6 := x6) (x7 := x7) (x8 := x8) (x9 := x9) (xs7 := xs7) y
  unfold HS5_64
  iterate 64
    refine prodTo_succ eg hc ?_ (by decide) (by decide)
  exact prodTo_zero

theorem state_list (hj8 : j < 8) (hu1 : ∀ n : Fin 512, xs7 (ix2 0 n) = (up A b (1024 * j + 1) n)) (hu0 : ∀ n : Fin 512, xs7 (ix2 1 n) = (up A b (1024 * j) n)) (hg : ∀ r n, r < 1024 → n < 512 → tiny ≤ gap A b (slot j r) n) : StateTo A b j 64 (HS6_64 (F := Ideal) c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7) (v4711 c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7) := by
  have eg := gate_pieces c arg2 harg2 arg3 harg3 arg4 harg4 arg5 harg5 arg6 harg6 arg7 harg7 arg8 harg8 arg9 harg9 arg10 harg10 arg11 harg11 arg16 arg18 arg19 arg20 arg21 arg25 harg25 T hb hj hj8 hu1 hu0 hg
  have hc := fun y => gate_cover c arg2 harg2 arg3 harg3 arg4 harg4 arg5 harg5 arg6 harg6 arg7 harg7 arg8 harg8 arg9 harg9 arg10 harg10 arg11 harg11 arg16 arg18 arg19 arg20 arg21 arg25 harg25 (i := i) (x0 := x0) (x1 := x1) (x2 := x2) (x3 := x3) (x4 := x4)
    (x5 := x5) (x6 := x6) (x7 := x7) (x8 := x8) (x9 := x9) (xs7 := xs7) y
  unfold HS6_64
  iterate 64
    refine stateTo_succ eg hc ?_ (by decide) (by decide) (by decide)
  exact stateTo_zero

omit T hb hj in
theorem prod_cover (y : S1024x512.Idx) : ∃ p ∈ HS5_64 (F := Ideal) c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7, y ∈ p.1.set :=
  View.cover_of_tiledL _ ![16, 512] (by sl_kernel_rfl) y

omit T hb hj in
theorem state_cover (y : S1024x512.Idx) : ∃ p ∈ HS6_64 (F := Ideal) c i arg2 harg2 arg3 harg3 arg4 harg4 arg5 harg5 arg6 harg6 arg7 harg7 arg8 harg8 arg9 harg9 arg10 harg10 arg11 harg11 arg16 arg18 arg19 arg20 arg21 arg22 arg25 harg25 x0 x1 x2 x3 x4 x5 x6 x7 x8 x9 xs7, y ∈ p.1.set :=
  View.cover_of_tiledL _ ![16, 512] (by sl_kernel_rfl) y

theorem joint (hj8 : j < 8) (hu1 : ∀ n : Fin 512, xs7 (ix2 0 n) = (up A b (1024 * j + 1) n)) (hu0 : ∀ n : Fin 512, xs7 (ix2 1 n) = (up A b (1024 * j) n)) (hh : ∀ n : Fin 512, xs8 (ix2 0 n) = (hst A b n (1024 * j))) (hg : ∀ r n, r < 1024 → n < 512 → tiny ≤ gap A b (slot j r) n) :
    Joint A b j 15 (v4855 (F := Ideal) c i arg2 harg2 arg3 harg3 arg4 harg4 arg5 harg5 arg6 harg6 arg7 harg7 arg8 harg8 arg9 harg9 arg10 harg10 arg11 harg11 arg16 arg18 arg19 arg20 arg21 arg22 arg25 harg25 arg26 harg26 x0 x1 x2 x3 x4 x5 x6 x7 x8 x9 xs7 xs8) (v4860 c i arg2 harg2 arg3 harg3 arg4 harg4 arg5 harg5 arg6 harg6 arg7 harg7 arg8 harg8 arg9 harg9 arg10 harg10 arg11 harg11 arg16 arg18 arg19 arg20 arg21 arg22 arg25 harg25 arg26 harg26 x0 x1 x2 x3 x4 x5 x6 x7 x8 x9 xs7 xs8) := by
  have eP := (prod_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg).2
  have eH := (state_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg).2
  iterate 15
    refine joint_succ eP eH ?_ rfl (by decide)
  exact joint_zero (row_load (ho := by decide) (f := fun n => hst A b n (1024 * j)) harg26 hh)

end

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32)
  (harg3 : arg3.IsWhole) (arg4 : Memref Cert.KernelIdeal.sig .tc .vmem S8x3072 .f32) (harg4 : arg4.IsWhole)
  (arg5 : Memref Cert.KernelIdeal.sig .tc .vmem S1x1024 .f32) (harg5 : arg5.IsWhole) (arg6 : Memref Cert.KernelIdeal.sig .tc .vmem S1024x2048 .bf16)
  (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16)
  (harg9 : arg9.IsWhole) (arg10 : Memref Cert.KernelIdeal.sig .tc .vmem S1x1x1024 .f32) (harg10 : arg10.IsWhole)
  (arg11 : Memref Cert.KernelIdeal.sig .tc .vmem S2x512 .f32) (harg11 : arg11.IsWhole) (arg12 : Memref Cert.KernelIdeal.sig .tc .vmem S1x2x512 .f32)
  (harg12 : arg12.IsWhole) (arg13 : Memref Cert.KernelIdeal.sig .tc .vmem S1x1024x512 .bf16) (harg13 : arg13.IsWhole)
  (arg14 : Memref Cert.KernelIdeal.sig .tc .vmem S1x1024x512 .bf16) (harg14 : arg14.IsWhole)
  (arg15 : Memref Cert.KernelIdeal.sig .tc .vmem S1x1024x512 .bf16) (harg15 : arg15.IsWhole)
  (arg16 : Memref Cert.KernelIdeal.sig .tc .vmem S1x1024x512 .bf16) (harg16 : arg16.IsWhole)
  (arg17 : Memref Cert.KernelIdeal.sig .tc .vmem S1x1024x512 .bf16) (harg17 : arg17.IsWhole)
  (arg18 : Memref Cert.KernelIdeal.sig .tc .vmem S1040x1024 .bf16) (harg18 : arg18.IsWhole)
  (arg19 : Memref Cert.KernelIdeal.sig .tc .vmem S4x1088x128 .f32) (harg19 : arg19.IsWhole)
  (arg20 : Memref Cert.KernelIdeal.sig .tc .vmem S1072x512 .f32) (harg20 : arg20.IsWhole)
  (arg21 : Memref Cert.KernelIdeal.sig .tc .vmem S1024x512 .f32) (harg21 : arg21.IsWhole)
  (arg22 : Memref Cert.KernelIdeal.sig .tc .vmem S1024x1024 .f32) (harg22 : arg22.IsWhole)
  (arg23 : Memref Cert.KernelIdeal.sig .tc .vmem S1024x512 .f32) (harg23 : arg23.IsWhole)
  (arg24 : Memref Cert.KernelIdeal.sig .tc .vmem S1024x512 .f32) (harg24 : arg24.IsWhole) (arg25 : Memref Cert.KernelIdeal.sig .tc .vmem S8x512 .f32)
  (harg25 : arg25.IsWhole) (arg26 : Memref Cert.KernelIdeal.sig .tc .vmem S8x512 .f32) (harg26 : arg26.IsWhole) (hc0 : ¬cond0_0 i)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32} {xs7 xs8 : FVec Ideal S8x512 .f32}
  (T : Tile A b j x0 x1 x2 x3 x4 x5 x6 x7 x8 x9 x10) (hb : (i 0).val = b) (hj : (i 1).val = j)

include T hb

theorem out11 : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 = m3 fun _ r n => z A b (1024 * j + r) n := by
  unfold out0_B_11
  refine read_pieces ?_ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8)
  refine cons3b (plain_val (mat1024_val (back2b (rows_pieces c arg2 harg2 arg3 harg3 arg4 harg4 arg5 harg5 T hb) fun _ => rows_cover c arg2 harg2 arg3 harg3 arg4 harg4 arg5 harg5 _) (w_load harg6 T.w)))
    (fun p r n hp hr hn => (full_sum (by show 0 + r < 1024; omega) hn).trans (by show z A b (1024 * j + (0 + r)) n = z A b (1024 * j + (0 + r)) (0 + n); rw [Nat.zero_add n])) trivial

theorem out12 (hz : ∀ r n, r < 1024 → n < 512 → z A b (1024 * j + r) (512 + n) ≠ ⊥) : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 = m3 fun _ r n => silu (z A b (1024 * j + r) (512 + n)) := by
  unfold out0_B_12
  refine read_pieces ?_ (cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8)
  refine cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 512) (c := 512) (show 512 + r < 1024 by omega) hn rfl)) fun r n hr hn => hz (512 + r) n (by omega) hn) (fun p r n hp hr hn => by simp only [Nat.zero_add]) ?_
  exact cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 0) (c := 512) (show 0 + r < 1024 by omega) hn rfl)) fun r n hr hn => hz (0 + r) n (by omega) hn) (fun p r n hp hr hn => by simp only [Nat.zero_add]) trivial

theorem out13 (hz : ∀ r n, r < 1024 → n < 512 → z A b (1024 * j + r) (1536 + n) ≠ ⊥) : out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 = m3 fun _ r n => silu (z A b (1024 * j + r) (1536 + n)) := by
  unfold out0_B_13
  refine read_pieces ?_ (cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8)
  refine cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 512) (c := 1536) (show 512 + r < 1024 by omega) hn rfl)) fun r n hr hn => hz (512 + r) n (by omega) hn) (fun p r n hp hr hn => by simp only [Nat.zero_add]) ?_
  exact cons3b (silu_val ((mat512_val (back2b (rows_pieces c arg2 harg2 arg3 harg3 arg4 harg4 arg5 harg5 T hb) fun _ => rows_cover c arg2 harg2 arg3 harg3 arg4 harg4 arg5 harg5 _) (w_load harg6 T.w)).trans
    (m2_congr fun r n hr hn => half_cols (b := b) (j := j) (o := 0) (c := 1536) (show 0 + r < 1024 by omega) hn rfl)) fun r n hr hn => hz (0 + r) n (by omega) hn) (fun p r n hp hr hn => by simp only [Nat.zero_add]) trivial

include hj

theorem out14 (hj8 : j < 8) (hu1 : ∀ n : Fin 512, xs7 (ix2 0 n) = (up A b (1024 * j + 1) n)) (hu0 : ∀ n : Fin 512, xs7 (ix2 1 n) = (up A b (1024 * j) n)) : out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 = m3 fun _ r n => slabV A b j r n := by
  unfold out0_B_14
  exact read_pieces (conv_pieces c arg2 harg2 arg3 harg3 arg4 harg4 arg5 harg5 arg6 harg6 arg7 harg7 arg8 harg8 arg18 arg19 arg20 arg25 harg25 T hb hj hj8 hu1 hu0) (cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8)

omit hj in
theorem last_row (n : Fin 512) (hj8 : j < 8) : sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 (ix2 0 n) = (up A b (1024 * (j + 1) + 1) n) := by
  unfold sout0_B_7
  refine (read_under (cast1_val (rowSlice_val (rows_val c arg2 harg2 arg3 harg3 arg4 harg4 arg5 harg5 arg6 harg6 arg18 T hb))) (o := 0) (o' := 1) (p := 0) (by decide) (by decide) n).trans ?_
  rw [carry_up (o := 1024 * (j + 1) + 1) (by decide) (by omega) hj8]

omit hj in
theorem row_before (n : Fin 512) (hj8 : j < 8) : sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 (ix2 1 n) = (up A b (1024 * (j + 1)) n) := by
  unfold sout0_B_7
  refine (read_row (cast1_val (rowSlice_val (rows_val c arg2 harg2 arg3 harg3 arg4 harg4 arg5 harg5 arg6 harg6 arg18 T hb))) (o := 1) (p := 1) (by decide) n).trans ?_
  rw [carry_up (o := 1024 * (j + 1)) (by decide) (by omega) hj8]

theorem last_state (hj8 : j < 8) (hu1 : ∀ n : Fin 512, xs7 (ix2 0 n) = (up A b (1024 * j + 1) n)) (hu0 : ∀ n : Fin 512, xs7 (ix2 1 n) = (up A b (1024 * j) n)) (hh : ∀ n : Fin 512, xs8 (ix2 0 n) = (hst A b n (1024 * j))) (hg : ∀ r n, r < 1024 → n < 512 → tiny ≤ gap A b (slot j r) n) (p : Fin 8) (n : Fin 512) :
    sout0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 (ix2 p n) = (hst A b n (1024 * (j + 1))) := by
  have eP := (prod_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg).2
  have eH := (state_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg).2
  have eJ := joint c arg2 harg2 arg3 harg3 arg4 harg4 arg5 harg5 arg6 harg6 arg7 harg7 arg8 harg8 arg9 harg9 arg10 harg10 arg11 harg11 arg16 arg18 arg19 arg20 arg21 arg22 arg25 harg25 arg26 harg26 T hb hj hj8 hu1 hu0 hh hg
  unfold sout0_B_8
  exact read_rows (f := fun n => hst A b n (1024 * j + 64 * (15 + 1))) (carry_val (nextT_val eP eH eJ.1)) p n

end
end Cert.Proof.Fwd.B

end
-- ==== Proof.LastB.lean ====
/- The states that a tile stores, after the first tile of a row. -/
module

public import proofs.«01_k».proof.Proof.RunB
public import proofs.«01_k».proof.Proof.TileOut
public import proofs.«01_k».proof.Proof.Gen.KernelIdeal.Frame

@[expose] public section

noncomputable section

namespace Cert.Proof.Fwd.B

open Idealize.ShloMosaic Cert.KernelIdeal Cert.KernelIdeal.Gen Cert.KernelIdeal.Gen.kernelRun0_B.sl
open Idealize.ShloMosaic.View (Piece PiecesOf canon)

section

variable {A : Args} {b j : ℕ} (c : Dev nD) {i : grid0.Coords}
  (arg2 : Memref Cert.KernelIdeal.sig .tc .vmem S1x1024x1024 .f32) (harg2 : arg2.IsWhole) (arg3 : Memref Cert.KernelIdeal.sig .tc .vmem S1x8x1024 .f32)
  (harg3 : arg3.IsWhole) (arg4 : Memref Cert.KernelIdeal.sig .tc .vmem S8x3072 .f32) (harg4 : arg4.IsWhole)
  (arg5 : Memref Cert.KernelIdeal.sig .tc .vmem S1x1024 .f32) (harg5 : arg5.IsWhole) (arg6 : Memref Cert.KernelIdeal.sig .tc .vmem S1024x2048 .bf16)
  (harg6 : arg6.IsWhole) (arg7 : Memref Cert.KernelIdeal.sig .tc .vmem S4x16x512 .f32) (harg7 : arg7.IsWhole)
  (arg8 : Memref Cert.KernelIdeal.sig .tc .vmem S16x512 .f32) (harg8 : arg8.IsWhole) (arg9 : Memref Cert.KernelIdeal.sig .tc .vmem S1x4x128x256 .bf16)
  (harg9 : arg9.IsWhole) (arg10 : Memref Cert.KernelIdeal.sig .tc .vmem S1x1x1024 .f32) (harg10 : arg10.IsWhole)
  (arg11 : Memref Cert.KernelIdeal.sig .tc .vmem S2x512 .f32) (harg11 : arg11.IsWhole) (arg12 : Memref Cert.KernelIdeal.sig .tc .vmem S1x2x512 .f32)
  (harg12 : arg12.IsWhole) (arg13 : Memref Cert.KernelIdeal.sig .tc .vmem S1x1024x512 .bf16) (harg13 : arg13.IsWhole)
  (arg14 : Memref Cert.KernelIdeal.sig .tc .vmem S1x1024x512 .bf16) (harg14 : arg14.IsWhole)
  (arg15 : Memref Cert.KernelIdeal.sig .tc .vmem S1x1024x512 .bf16) (harg15 : arg15.IsWhole)
  (arg16 : Memref Cert.KernelIdeal.sig .tc .vmem S1x1024x512 .bf16) (harg16 : arg16.IsWhole)
  (arg17 : Memref Cert.KernelIdeal.sig .tc .vmem S1x1024x512 .bf16) (harg17 : arg17.IsWhole)
  (arg18 : Memref Cert.KernelIdeal.sig .tc .vmem S1040x1024 .bf16) (harg18 : arg18.IsWhole)
  (arg19 : Memref Cert.KernelIdeal.sig .tc .vmem S4x1088x128 .f32) (harg19 : arg19.IsWhole)
  (arg20 : Memref Cert.KernelIdeal.sig .tc .vmem S1072x512 .f32) (harg20 : arg20.IsWhole)
  (arg21 : Memref Cert.KernelIdeal.sig .tc .vmem S1024x512 .f32) (harg21 : arg21.IsWhole)
  (arg22 : Memref Cert.KernelIdeal.sig .tc .vmem S1024x1024 .f32) (harg22 : arg22.IsWhole)
  (arg23 : Memref Cert.KernelIdeal.sig .tc .vmem S1024x512 .f32) (harg23 : arg23.IsWhole)
  (arg24 : Memref Cert.KernelIdeal.sig .tc .vmem S1024x512 .f32) (harg24 : arg24.IsWhole) (arg25 : Memref Cert.KernelIdeal.sig .tc .vmem S8x512 .f32)
  (harg25 : arg25.IsWhole) (arg26 : Memref Cert.KernelIdeal.sig .tc .vmem S8x512 .f32) (harg26 : arg26.IsWhole) (hc0 : ¬cond0_0 i)
  {x0 : FVec Ideal S1x1024x1024 .f32} {x1 : FVec Ideal S1x8x1024 .f32} {x2 : FVec Ideal S8x3072 .f32} {x3 : FVec Ideal S1x1024 .f32}
  {x4 : FVec Ideal S1024x2048 .bf16} {x5 : FVec Ideal S4x16x512 .f32} {x6 : FVec Ideal S16x512 .f32} {x7 : FVec Ideal S1x4x128x256 .bf16}
  {x8 : FVec Ideal S1x1x1024 .f32} {x9 : FVec Ideal S2x512 .f32} {x10 : FVec Ideal S1x2x512 .f32} {xs7 xs8 : FVec Ideal S8x512 .f32}
  (T : Tile A b j x0 x1 x2 x3 x4 x5 x6 x7 x8 x9 x10) (hb : (i 0).val = b) (hj : (i 1).val = j)

include T hb hj

theorem out15 (hj8 : j < 8) (hu1 : ∀ n : Fin 512, xs7 (ix2 0 n) = (up A b (1024 * j + 1) n)) (hu0 : ∀ n : Fin 512, xs7 (ix2 1 n) = (up A b (1024 * j) n)) (hh : ∀ n : Fin 512, xs8 (ix2 0 n) = (hst A b n (1024 * j))) (hg : ∀ r n, r < 1024 → n < 512 → tiny ≤ gap A b (slot j r) n) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8 = m3 fun _ r n => hst A b n (slot j r + 1) := by
  have eP := prod_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg
  have hP := fun y => prod_cover c arg2 harg2 arg3 harg3 arg4 harg4 arg5 harg5 arg6 harg6 arg7 harg7 arg8 harg8 arg9 harg9 arg10 harg10 arg11 harg11 arg16 arg18 arg19 arg20 arg21 arg22 arg25 harg25 (i := i) (x0 := x0) (x1 := x1) (x2 := x2) (x3 := x3) (x4 := x4)
    (x5 := x5) (x6 := x6) (x7 := x7) (x8 := x8) (x9 := x9) (xs7 := xs7) y
  have eH := state_list c arg2 harg2 arg3 harg3 arg4 harg4 arg5 harg5 arg6 harg6 arg7 harg7 arg8 harg8 arg9 harg9 arg10 harg10 arg11 harg11 arg16 arg18 arg19 arg20 arg21 arg22 arg25 harg25 T hb hj hj8 hu1 hu0 hg
  have hH := fun y => state_cover c arg2 harg2 arg3 harg3 arg4 harg4 arg5 harg5 arg6 harg6 arg7 harg7 arg8 harg8 arg9 harg9 arg10 harg10 arg11 harg11 arg16 arg18 arg19 arg20 arg21 arg22 arg25 harg25 (i := i) (x0 := x0) (x1 := x1) (x2 := x2) (x3 := x3) (x4 := x4)
    (x5 := x5) (x6 := x6) (x7 := x7) (x8 := x8) (x9 := x9) (xs7 := xs7) y
  have eJ := joint c arg2 harg2 arg3 harg3 arg4 harg4 arg5 harg5 arg6 harg6 arg7 harg7 arg8 harg8 arg9 harg9 arg10 harg10 arg11 harg11 arg16 arg18 arg19 arg20 arg21 arg22 arg25 harg25 arg26 harg26 T hb hj hj8 hu1 hu0 hh hg
  unfold out0_B_15
  refine read_pieces ?_ (cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs7 xs8)
  repeat
    refine cons3b (out16_val (state_val (back_state eH hH (by decide)) (back_prod eP hP (by decide)) eJ)) (fun _ p n _ hp hn => state_slot (by decide) hp (Nat.zero_add n)) ?_
  trivial

end
end Cert.Proof.Fwd.B

end
-- ==== Proof.KernelRun.lean ====
/- What the kernel leaves in its five results: every grid point's blocks by induction along the grid, then the arrays
   the blocks tile. -/
module

public import proofs.«01_k».proof.Proof.KernelIn
public import proofs.«01_k».proof.Proof.RefRun
public import proofs.«01_k».proof.Proof.LastA
public import proofs.«01_k».proof.Proof.LastB
public import proofs.«01_k».proof.Proof.Gen.KernelIdeal.Value

@[expose] public section

noncomputable section

namespace Cert.Proof.Fwd

open Idealize.ShloMosaic Idealize.ShloMosaic.TcCoe Idealize.SL.Sem
open Cert.Proof.Ref Cert.KernelIdeal Cert.KernelIdeal.Gen Cert.KernelIdeal.Value

/-- What tile `j` of row `b` leaves: its five blocks, the last two rows of the convolution's input, and the state. -/
structure Left (A : Args) (b j : ℕ) (o : FVec Ideal S1x1024x512 .bf16 × FVec Ideal S1x1024x512 .bf16 × FVec Ideal S1x1024x512 .bf16
    × FVec Ideal S1x1024x512 .bf16 × FVec Ideal S1x1024x512 .bf16 × FVec Ideal S8x512 .f32 × FVec Ideal S8x512 .f32) : Prop where
  uf : o.1 = m3 fun _ r n => z A b (1024 * j + r) n
  gf : o.2.1 = m3 fun _ r n => silu (z A b (1024 * j + r) (512 + n))
  gl : o.2.2.1 = m3 fun _ r n => silu (z A b (1024 * j + r) (1536 + n))
  v : o.2.2.2.1 = m3 fun _ r n => slabV A b j r n
  hf : o.2.2.2.2.1 = m3 fun _ r n => hst A b n (slot j r + 1)
  last : ∀ n : Fin 512, o.2.2.2.2.2.1 (ix2 0 n) = (up A b (1024 * (j + 1) + 1) n)
  before : ∀ n : Fin 512, o.2.2.2.2.2.1 (ix2 1 n) = (up A b (1024 * (j + 1)) n)
  state : ∀ (p : Fin 8) (n : Fin 512), o.2.2.2.2.2.2 (ix2 p n) = (hst A b n (1024 * (j + 1)))

variable {m : (ℓ : Loc nD τ Cert.KernelIdeal.sig) → Buf (Elt Ideal) ℓ} {A : Args} {c : Dev nD}

theorem left_first (H : KHolds m A c) (hg : Tame A) (t : Fin cfg0.N) (h0 : t.val % 8 = 0) :
    Left A (t.val / 8) (t.val % 8) (outsAt0 m c t.val t.isLt) := by
  have hN : t.val < 16 := lt_of_lt_of_eq t.isLt N_0
  have hj8 : t.val % 8 < 8 := by omega
  have g : ∀ r n, r < 1024 → n < 512 → tiny ≤ gap A (t.val / 8) (slot (t.val % 8) r) n := fun r n hr hn =>
    hg.gap _ _ _ (by omega) (by unfold slot; omega) hn
  rw [outsAt0_A m c t h0]
  refine ⟨?_, ?_, ?_, ?_, ?_, ?_, ?_, ?_⟩
  · dsimp only
    exact Fwd.A.out11 c _ _ _ _ _ _ _ _ _ _ _ _ _ _ _ _ _ _ _ _ _ _ _ _ _ _ _ _ _ _ _ _ _ _ _ _ _ _ _ _ _ _ _ _ _ _ _ _ _ _ _ (tile_at H t) (coord_row t)
  · dsimp only
    exact Fwd.A.out12 c _ _ _ _ _ _ _ _ _ _ _ _ _ _ _ _ _ _ _ _ _ _ _ _ _ _ _ _ _ _ _ _ _ _ _ _ _ _ _ _ _ _ _ _ _ _ _ _ _ _ _ (tile_at H t) (coord_row t)
      fun r n hr hn => hg.gf _ _ _ (by omega) (by omega) hn
  · dsimp only
    exact Fwd.A.out13 c _ _ _ _ _ _ _ _ _ _ _ _ _ _ _ _ _ _ _ _ _ _ _ _ _ _ _ _ _ _ _ _ _ _ _ _ _ _ _ _ _ _ _ _ _ _ _ _ _ _ _ (tile_at H t) (coord_row t)
      fun r n hr hn => hg.gl _ _ _ (by omega) (by omega) hn
  · dsimp only
    exact Fwd.A.out14 c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 h0
  · dsimp only
    exact Fwd.A.out15 c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 h0 g
  · intro n
    dsimp only
    exact Fwd.A.last_row c _ _ _ _ _ _ _ _ _ _ _ _ _ _ _ _ _ _ _ _ _ _ _ _ _ _ _ _ _ _ _ _ _ _ _ _ _ _ _ _ _ _ _ _ _ _ _ _ _ _ _ (tile_at H t) (coord_row t) n hj8
  · intro n
    dsimp only
    exact Fwd.A.row_before c _ _ _ _ _ _ _ _ _ _ _ _ _ _ _ _ _ _ _ _ _ _ _ _ _ _ _ _ _ _ _ _ _ _ _ _ _ _ _ _ _ _ _ _ _ _ _ _ _ _ _ (tile_at H t) (coord_row t) n hj8
  · intro p n
    dsimp only
    exact Fwd.A.last_state c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 h0 g p n

theorem left_later (H : KHolds m A c) (hg : Tame A) (t : Fin cfg0.N) (h0 : ¬ t.val % 8 = 0)
    (P : Left A ((t.val - 1) / 8) ((t.val - 1) % 8) (outsAt0 m c (t.val - 1) (Nat.lt_of_le_of_lt (Nat.sub_le _ _) t.isLt))) :
    Left A (t.val / 8) (t.val % 8) (outsAt0 m c t.val t.isLt) := by
  have hN : t.val < 16 := lt_of_lt_of_eq t.isLt N_0
  have hj8 : t.val % 8 < 8 := by omega
  have g : ∀ r n, r < 1024 → n < 512 → tiny ≤ gap A (t.val / 8) (slot (t.val % 8) r) n := fun r n hr hn =>
    hg.gap _ _ _ (by omega) (by unfold slot; omega) hn
  have hq : (t.val - 1) / 8 = t.val / 8 := by omega
  have hp : (t.val - 1) % 8 + 1 = t.val % 8 := by omega
  have u1 := P.last
  have u0 := P.before
  have hh := P.state 0
  rw [hp, hq] at u1 u0 hh
  rw [outsAt0_B m c t h0]
  refine ⟨?_, ?_, ?_, ?_, ?_, ?_, ?_, ?_⟩
  · dsimp only
    exact Fwd.B.out11 c _ _ _ _ _ _ _ _ _ _ _ _ _ _ _ _ _ _ _ _ _ _ _ _ _ _ _ _ _ _ _ _ _ _ _ _ _ _ _ _ _ _ _ _ _ _ _ _ _ _ _ (tile_at H t) (coord_row t)
  · dsimp only
    exact Fwd.B.out12 c _ _ _ _ _ _ _ _ _ _ _ _ _ _ _ _ _ _ _ _ _ _ _ _ _ _ _ _ _ _ _ _ _ _ _ _ _ _ _ _ _ _ _ _ _ _ _ _ _ _ _ (tile_at H t) (coord_row t)
      fun r n hr hn => hg.gf _ _ _ (by omega) (by omega) hn
  · dsimp only
    exact Fwd.B.out13 c _ _ _ _ _ _ _ _ _ _ _ _ _ _ _ _ _ _ _ _ _ _ _ _ _ _ _ _ _ _ _ _ _ _ _ _ _ _ _ _ _ _ _ _ _ _ _ _ _ _ _ (tile_at H t) (coord_row t)
      fun r n hr hn => hg.gl _ _ _ (by omega) (by omega) hn
  · dsimp only
    exact Fwd.B.out14 c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 u1 u0
  · dsimp only
    exact Fwd.B.out15 c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 u1 u0 hh g
  · intro n
    dsimp only
    exact Fwd.B.last_row c _ _ _ _ _ _ _ _ _ _ _ _ _ _ _ _ _ _ _ _ _ _ _ _ _ _ _ _ _ _ _ _ _ _ _ _ _ _ _ _ _ _ _ _ _ _ _ _ _ _ _ (tile_at H t) (coord_row t) n hj8
  · intro n
    dsimp only
    exact Fwd.B.row_before c _ _ _ _ _ _ _ _ _ _ _ _ _ _ _ _ _ _ _ _ _ _ _ _ _ _ _ _ _ _ _ _ _ _ _ _ _ _ _ _ _ _ _ _ _ _ _ _ _ _ _ (tile_at H t) (coord_row t) n hj8
  · intro p n
    dsimp only
    exact Fwd.B.last_state c _ _ _ _ _ _ _ _ _ _ _ _ _ _ _ _ _ _ _ _ _ _ _ _ _ _ _ _ _ _ _ _ _ _ _ _ _ _ _ _ _ _ _ _ _ _ _ _ _ _ _ (tile_at H t) (coord_row t) (coord_tile t) hj8 u1 u0 hh g p n

/-- What every point leaves. -/
theorem left_at (H : KHolds m A c) (hg : Tame A) :
    ∀ (n : ℕ) (hn : n < cfg0.N), Left A (n / 8) (n % 8) (outsAt0 m c n hn)
  | 0, hn => left_first H hg ⟨0, hn⟩ rfl
  | n + 1, hn => by
    by_cases h0 : (n + 1) % 8 = 0
    · exact left_first H hg ⟨n + 1, hn⟩ h0
    · exact left_later H hg ⟨n + 1, hn⟩ h0 (left_at H hg n (Nat.lt_of_succ_lt hn))

/-! ## The five arrays -/

theorem slot_unslab {t : ℕ} : slot (t / 1024) (t % 1024) = unslab t := by
  unfold slot unslab
  omega

theorem arrayUf (H : KHolds m A c) (hg : Tame A) :
    (G11 m c : S2x8192x512.Idx → EReal) = arr (outUf A) := by
  refine eq_arr fun b t n => ?_
  have hb := b.isLt
  have ht := t.isLt
  have hn := n.isLt
  have ep : pt11Of (ix3 b t n) = 8 * b.val + t.val / 1024 := by
    show 8 * (b.val / 1 - 0) + 1 * (t.val / 1024 - 0) + 1 * (n.val / 512 - 0) = _
    omega
  have hp : pt11Of (ix3 b t n) < cfg0.N := lt_of_lt_of_eq (by rw [ep]; omega) N_0.symm
  have L := (left_at H hg (pt11Of (ix3 b t n)) hp).uf
  rw [show pt11Of (ix3 b t n) / 8 = b.val by rw [ep]; omega, show pt11Of (ix3 b t n) % 8 = t.val / 1024 by rw [ep]; omega] at L
  unfold G11
  rw [dif_pos hp, ← outsAt0_sweep m c _ hp, L]
  have eT : 1024 * (t.val / 1024) + t.val % 1024 = t.val := Nat.div_add_mod _ _
  have eN : n.val % 512 = n.val := Nat.mod_eq_of_lt hn
  show (z A b.val (1024 * (t.val / 1024) + t.val % 1024) (n.val % 512)) = _
  rw [eN]
  unfold outUf
  rw [eT]

theorem arrayGf (H : KHolds m A c) (hg : Tame A) :
    (G12 m c : S2x8192x512.Idx → EReal) = arr (outGf A) := by
  refine eq_arr fun b t n => ?_
  have hb := b.isLt
  have ht := t.isLt
  have hn := n.isLt
  have ep : pt12Of (ix3 b t n) = 8 * b.val + t.val / 1024 := by
    show 8 * (b.val / 1 - 0) + 1 * (t.val / 1024 - 0) + 1 * (n.val / 512 - 0) = _
    omega
  have hp : pt12Of (ix3 b t n) < cfg0.N := lt_of_lt_of_eq (by rw [ep]; omega) N_0.symm
  have L := (left_at H hg (pt12Of (ix3 b t n)) hp).gf
  rw [show pt12Of (ix3 b t n) / 8 = b.val by rw [ep]; omega, show pt12Of (ix3 b t n) % 8 = t.val / 1024 by rw [ep]; omega] at L
  unfold G12
  rw [dif_pos hp, ← outsAt0_sweep m c _ hp, L]
  have eT : 1024 * (t.val / 1024) + t.val % 1024 = t.val := Nat.div_add_mod _ _
  have eN : n.val % 512 = n.val := Nat.mod_eq_of_lt hn
  show (silu (z A b.val (1024 * (t.val / 1024) + t.val % 1024) (512 + (n.val % 512)))) = _
  rw [eN]
  unfold outGf
  rw [eT]

theorem arrayGl (H : KHolds m A c) (hg : Tame A) :
    (G13 m c : S2x8192x512.Idx → EReal) = arr (outGl A) := by
  refine eq_arr fun b t n => ?_
  have hb := b.isLt
  have ht := t.isLt
  have hn := n.isLt
  have ep : pt13Of (ix3 b t n) = 8 * b.val + t.val / 1024 := by
    show 8 * (b.val / 1 - 0) + 1 * (t.val / 1024 - 0) + 1 * (n.val / 512 - 0) = _
    omega
  have hp : pt13Of (ix3 b t n) < cfg0.N := lt_of_lt_of_eq (by rw [ep]; omega) N_0.symm
  have L := (left_at H hg (pt13Of (ix3 b t n)) hp).gl
  rw [show pt13Of (ix3 b t n) / 8 = b.val by rw [ep]; omega, show pt13Of (ix3 b t n) % 8 = t.val / 1024 by rw [ep]; omega] at L
  unfold G13
  rw [dif_pos hp, ← outsAt0_sweep m c _ hp, L]
  have eT : 1024 * (t.val / 1024) + t.val % 1024 = t.val := Nat.div_add_mod _ _
  have eN : n.val % 512 = n.val := Nat.mod_eq_of_lt hn
  show (silu (z A b.val (1024 * (t.val / 1024) + t.val % 1024) (1536 + (n.val % 512)))) = _
  rw [eN]
  unfold outGl
  rw [eT]

theorem arrayV (H : KHolds m A c) (hg : Tame A) :
    (G14 m c : S2x8192x512.Idx → EReal) = arr (outV A) := by
  refine eq_arr fun b t n => ?_
  have hb := b.isLt
  have ht := t.isLt
  have hn := n.isLt
  have ep : pt14Of (ix3 b t n) = 8 * b.val + t.val / 1024 := by
    show 8 * (b.val / 1 - 0) + 1 * (t.val / 1024 - 0) + 1 * (n.val / 512 - 0) = _
    omega
  have hp : pt14Of (ix3 b t n) < cfg0.N := lt_of_lt_of_eq (by rw [ep]; omega) N_0.symm
  have L := (left_at H hg (pt14Of (ix3 b t n)) hp).v
  rw [show pt14Of (ix3 b t n) / 8 = b.val by rw [ep]; omega, show pt14Of (ix3 b t n) % 8 = t.val / 1024 by rw [ep]; omega] at L
  unfold G14
  rw [dif_pos hp, ← outsAt0_sweep m c _ hp, L]
  have eT : 1024 * (t.val / 1024) + t.val % 1024 = t.val := Nat.div_add_mod _ _
  have eN : n.val % 512 = n.val := Nat.mod_eq_of_lt hn
  show (slabV A b.val (t.val / 1024) (t.val % 1024) (n.val % 512)) = _
  rw [eN]
  unfold outV slabV
  rw [slot_unslab]

theorem arrayHf (H : KHolds m A c) (hg : Tame A) :
    (G15 m c : S2x8192x512.Idx → EReal) = arr (outHf A) := by
  refine eq_arr fun b t n => ?_
  have hb := b.isLt
  have ht := t.isLt
  have hn := n.isLt
  have ep : pt15Of (ix3 b t n) = 8 * b.val + t.val / 1024 := by
    show 8 * (b.val / 1 - 0) + 1 * (t.val / 1024 - 0) + 1 * (n.val / 512 - 0) = _
    omega
  have hp : pt15Of (ix3 b t n) < cfg0.N := lt_of_lt_of_eq (by rw [ep]; omega) N_0.symm
  have L := (left_at H hg (pt15Of (ix3 b t n)) hp).hf
  rw [show pt15Of (ix3 b t n) / 8 = b.val by rw [ep]; omega, show pt15Of (ix3 b t n) % 8 = t.val / 1024 by rw [ep]; omega] at L
  unfold G15
  rw [dif_pos hp, ← outsAt0_sweep m c _ hp, L]
  have eT : 1024 * (t.val / 1024) + t.val % 1024 = t.val := Nat.div_add_mod _ _
  have eN : n.val % 512 = n.val := Nat.mod_eq_of_lt hn
  show (hst A b.val (n.val % 512) (slot (t.val / 1024) (t.val % 1024) + 1)) = _
  rw [eN]
  unfold outHf
  rw [slot_unslab]

end Cert.Proof.Fwd
-- ==== Proof.CtxSpec.lean ====
/- The context rows over the extended reals: the same modulation, projection, convolution and gates on 256 positions of their own, and the
   recurrence run over them once in each direction from zero. The gates and the decays are real numbers whatever the arguments are. -/
module

public import proofs.«01_k».proof.Proof.Spec

@[expose] public section

noncomputable section

namespace Cert.Proof.Ctx

open Idealize.ShloMosaic Cert.Proof.Fwd
open scoped BigOperators

/-- The arguments as functions of natural-number coordinates; what differs between the two directions is indexed by the direction. -/
structure Data where
  x : ℕ → ℕ → ℕ → EReal
  md : ℕ → EReal
  gain : ℕ → EReal
  w : ℕ → ℕ → EReal
  cw : ℕ → ℕ → EReal
  cb : ℕ → EReal
  wr : ℕ → ℕ → ℕ → ℕ → EReal
  br : ℕ → ℕ → EReal
  wi : ℕ → ℕ → ℕ → ℕ → EReal
  bi : ℕ → ℕ → EReal
  lam : ℕ → ℕ → EReal

/-! ## The rows -/

variable (D : Data)

/-- The reciprocal of a row's root mean square. -/
def rms (b t : ℕ) : EReal :=
  Ideal.rsqrt (Ideal.div (∑ k : Fin 1024, D.x b t k * D.x b t k) ((1024 : ℝ) : EReal) + ((eps : ℝ) : EReal))

/-- The normalised and modulated rows. -/
def hx (b t k : ℕ) : EReal := D.x b t k * rms D b t * D.gain k * (((1 : ℝ) : EReal) + D.md (1024 + k)) + D.md k

/-- The projection. -/
def z (b t n : ℕ) : EReal := ∑ k : Fin 1024, hx D b t k * D.w k n

/-- The recurrent branch's input with two zero rows before and one after. -/
def up (b t n : ℕ) : EReal := if 2 ≤ t ∧ t < 258 then z D b (t - 2) (1024 + n) else 0

/-- The centred convolution of width four. -/
def v (b t n : ℕ) : EReal :=
  up D b t n * D.cw 0 n + up D b (t + 1) n * D.cw 1 n + up D b (t + 2) n * D.cw 2 n + up D b (t + 3) n * D.cw 3 n + D.cb n

/-- The argument of a gate. -/
def pre (w : ℕ → ℕ → ℕ → EReal) (c : ℕ → EReal) (b t n : ℕ) : EReal :=
  (∑ d : Fin 128, v D b t (128 * (n / 128) + d) * w (n / 128) d (n % 128)) + c n

/-- The logarithm of a direction's decay. -/
def logA (d b t n : ℕ) : EReal := ((-8 : ℝ) : EReal) * ((sg (pre D (D.wr d) (D.br d) b t n) : ℝ) : EReal) * spl (-D.lam d n)

/-- The decay. -/
def dec (d b t n : ℕ) : ℝ := ex (logA D d b t n)

theorem dec_nonneg (d b t n : ℕ) : 0 ≤ dec D d b t n := ex_nonneg _

/-- `1 - a ^ 2`. -/
def gap (d b t n : ℕ) : ℝ := 1 - dec D d b t n * dec D d b t n

/-- The input term of the recurrence. -/
def bx (d b t n : ℕ) : EReal :=
  ((Real.sqrt (gap D d b t n) : ℝ) : EReal) * (((sg (pre D (D.wi d) (D.bi d) b t n) : ℝ) : EReal) * v D b t n)

/-- The position a direction visits at step `s`. -/
def pos (d s : ℕ) : ℕ := if d = 0 then s else 255 - s

/-- The recurrence: a direction's state before step `s`. -/
def hst (d b n : ℕ) : ℕ → EReal
  | 0 => 0
  | s + 1 => ((dec D d b (pos d s) n : ℝ) : EReal) * hst d b n s + bx D d b (pos d s) n

/-- The states each direction ends in. -/
def fin : (⟨3, ![2, 2, 512]⟩ : Shape).Idx → EReal := fun i => hst D (i 1).val (i 0).val (i 2).val 256

end Cert.Proof.Ctx

end
-- ==== Proof.CtxRef.lean ====
/- The context program's reference: its stages as functions of whole arrays, and each at given arguments. -/
module

public import proofs.«01_k».proof.Proof.Gen.ContextReferenceIdeal.Run
public import proofs.«01_k».proof.Proof.CtxSpec
public import Idealize.ShloMosaic.Lib.Pointwise

@[expose] public section

noncomputable section

namespace Cert.Proof.Ctx

open Idealize.ShloMosaic Idealize.ShloMosaic.TcCoe Cert.ContextReferenceIdeal Cert.ContextReferenceIdeal.Gen Cert.Proof.Fwd

namespace Ref

/-- The normalised and modulated rows. -/
def hxT (x : FVec Ideal S2x256x1024 .f32) (md : FVec Ideal S8x3072 .f32) (g : FVec Ideal S1x1024 .f32) : FVec Ideal S2x256x1024 .f32 :=
  addf (mulf (mulf (mulf x (broadcastInDim S2x256x1024 ![0, 1, 2] bcast_S2x256x1_S2x256x1024_0_1_2
      (Host.rsqrt (addf (Host.divf (broadcastInDim S2x256x1 ![0, 1] bcast_S2x256_S2x256x1_0_1
          (Host.reduceAdd (mulf x x) (constant S_ .f32 0x00000000#32) reducesTo_S2x256x1024_S2x256_d2 h_S_))
        (broadcastInDim S2x256x1 ![] bcast_S_S2x256x1 (constant S_ .f32 0x44800000#32)))
        (broadcastInDim S2x256x1 ![] bcast_S_S2x256x1 (constant S_ .f32 0x358637BD#32))))))
      (broadcastInDim S2x256x1024 ![0, 1, 2] bcast_S1x1x1024_S2x256x1024_0_1_2
        (broadcastInDim S1x1x1024 ![2] bcast_S1024_S1x1x1024_2 (shapeCast S1024 g shapeCasts_S1x1024_S1024))))
      (broadcastInDim S2x256x1024 ![0, 1, 2] bcast_S1x1x1024_S2x256x1024_0_1_2 (broadcastInDim S1x1x1024 ![2] bcast_S1024_S1x1x1024_2
        (addf (broadcastInDim S1024 ![] bcast_S_S1024 (constant S_ .f32 0x3F800000#32))
          (shapeCast S1024 (extractStridedSlice S1x1024 ![2, 1024] md slices_S8x3072_S1x1024_2_1024) shapeCasts_S1x1024_S1024)))))
    (broadcastInDim S2x256x1024 ![0, 1, 2] bcast_S1x1x1024_S2x256x1024_0_1_2 (broadcastInDim S1x1x1024 ![2] bcast_S1024_S1x1x1024_2
      (shapeCast S1024 (extractStridedSlice S1x1024 ![2, 0] md slices_S8x3072_S1x1024_2_0) shapeCasts_S1x1024_S1024)))

/-- The projection. -/
def zT (x : FVec Ideal S2x256x1024 .f32) (md : FVec Ideal S8x3072 .f32) (g : FVec Ideal S1x1024 .f32) (w : FVec Ideal S1x1024x2048 .f32) :
    FVec Ideal S2x256x2048 .f32 :=
  Host.dotGeneral dot_S2x256x1024_S1024x2048_S2x256x2048_2_0_01_1_n_n none (hxT x md g)
    (shapeCast S1024x2048 w shapeCasts_S1x1024x2048_S1024x2048)

/-- The recurrent branch's input, padded along the positions. -/
def upT (z : FVec Ideal S2x256x2048 .f32) : FVec Ideal S2x259x512 .f32 :=
  pad S2x259x512 ![0, 2, 0] ![0, 1, 0] ![0, 0, 0] (extractStridedSlice S2x256x512 ![0, 0, 1024] z slices_S2x256x2048_S2x256x512_0_0_1024)
    (constant S_ .f32 0x00000000#32) pads_S2x256x512_S2x259x512_000_210_000 h_S_

/-- A row of 512 laid along both other axes. -/
def rowT (r : FVec Ideal S512 .f32) : FVec Ideal S2x256x512 .f32 :=
  broadcastInDim S2x256x512 ![0, 1, 2] bcast_S1x1x512_S2x256x512_0_1_2 (broadcastInDim S1x1x512 ![2] bcast_S512_S1x1x512_2 r)

/-- The centred convolution. -/
def vT (u : FVec Ideal S2x259x512 .f32) (cw : FVec Ideal S1x4x512 .f32) (cb : FVec Ideal S1x512 .f32) : FVec Ideal S2x256x512 .f32 :=
  addf (addf (addf (addf
    (mulf (extractStridedSlice S2x256x512 ![0, 0, 0] u slices_S2x259x512_S2x256x512_0_0_0)
      (rowT (shapeCast S512 (extractStridedSlice S1x1x512 ![0, 0, 0] cw slices_S1x4x512_S1x1x512_0_0_0) shapeCasts_S1x1x512_S512)))
    (mulf (extractStridedSlice S2x256x512 ![0, 1, 0] u slices_S2x259x512_S2x256x512_0_1_0)
      (rowT (shapeCast S512 (extractStridedSlice S1x1x512 ![0, 1, 0] cw slices_S1x4x512_S1x1x512_0_1_0) shapeCasts_S1x1x512_S512))))
    (mulf (extractStridedSlice S2x256x512 ![0, 2, 0] u slices_S2x259x512_S2x256x512_0_2_0)
      (rowT (shapeCast S512 (extractStridedSlice S1x1x512 ![0, 2, 0] cw slices_S1x4x512_S1x1x512_0_2_0) shapeCasts_S1x1x512_S512))))
    (mulf (extractStridedSlice S2x256x512 ![0, 3, 0] u slices_S2x259x512_S2x256x512_0_3_0)
      (rowT (shapeCast S512 (extractStridedSlice S1x1x512 ![0, 3, 0] cw slices_S1x4x512_S1x1x512_0_3_0) shapeCasts_S1x1x512_S512))))
    (rowT (shapeCast S512 cb shapeCasts_S1x512_S512))

/-- The argument of a gate: a product with one 128 by 128 matrix for each of four groups of columns, and a bias. -/
def preT (v : FVec Ideal S2x256x512 .f32) (w : FVec Ideal S4x128x128 .f32) (b : FVec Ideal S512 .f32) : FVec Ideal S2x256x512 .f32 :=
  addf (shapeCast S2x256x512 (transpose S2x256x4x128 [2, 3, 0, 1]
      (Host.dotGeneral dot_S4x128x128_S2x256x4x128_S4x128x2x256_1_3_2_01_0_2 none
        w
        (shapeCast S2x256x4x128 v shapeCasts_S2x256x512_S2x256x4x128))
      transposes_S4x128x2x256_S2x256x4x128_2_3_0_1) shapeCasts_S2x256x4x128_S2x256x512)
    (rowT b)

/-- The logistic function. -/
def sigT (y : FVec Ideal S2x256x512 .f32) : FVec Ideal S2x256x512 .f32 :=
  Host.divf (broadcastInDim S2x256x512 ![] bcast_S_S2x256x512 (constant S_ .f32 0x3F800000#32))
    (addf (broadcastInDim S2x256x512 ![] bcast_S_S2x256x512 (constant S_ .f32 0x3F800000#32)) (Host.exp (Host.negf y)))

/-- The softplus function of a row, negated. -/
def softT (lam : FVec Ideal S512 .f32) : FVec Ideal S512 .f32 :=
  addf (maximumf (Host.negf lam)
      (broadcastInDim S512 ![] bcast_S_S512 (constant S_ .f32 0x00000000#32)))
    (Host.log1p (Host.exp (Host.negf (Host.absf (Host.negf
      lam)))))

/-- The logarithm of the decay. -/
def logT (v : FVec Ideal S2x256x512 .f32) (w : FVec Ideal S4x128x128 .f32) (b lam : FVec Ideal S512 .f32) : FVec Ideal S2x256x512 .f32 :=
  mulf (mulf (broadcastInDim S2x256x512 ![] bcast_S_S2x256x512 (constant S_ .f32 0xC1000000#32)) (sigT (preT v w b))) (rowT (softT lam))

/-- One less the decay's square. -/
def gapT (l : FVec Ideal S2x256x512 .f32) : FVec Ideal S2x256x512 .f32 :=
  Host.negf (Host.expm1 (mulf (broadcastInDim S2x256x512 ![] bcast_S_S2x256x512 (constant S_ .f32 0x40000000#32)) l))

/-- The input term of the recurrence. -/
def bxT (l v : FVec Ideal S2x256x512 .f32) (w : FVec Ideal S4x128x128 .f32) (b : FVec Ideal S512 .f32) : FVec Ideal S2x256x512 .f32 :=
  mulf (Host.sqrt (gapT l)) (mulf (sigT (preT v w b)) v)

/-- A direction's gate weights and rows. -/
def w0T (w : FVec Ideal S1x2x4x128x128 .f32) : FVec Ideal S4x128x128 .f32 :=
  shapeCast S4x128x128 (extractStridedSlice S1x1x4x128x128 ![0, 0, 0, 0, 0] w slices_S1x2x4x128x128_S1x1x4x128x128_0_0_0_0_0)
    shapeCasts_S1x1x4x128x128_S4x128x128
def w1T (w : FVec Ideal S1x2x4x128x128 .f32) : FVec Ideal S4x128x128 .f32 :=
  shapeCast S4x128x128 (extractStridedSlice S1x1x4x128x128 ![0, 1, 0, 0, 0] w slices_S1x2x4x128x128_S1x1x4x128x128_0_1_0_0_0)
    shapeCasts_S1x1x4x128x128_S4x128x128
def r0T (b : FVec Ideal S1x2x512 .f32) : FVec Ideal S512 .f32 :=
  shapeCast S512 (extractStridedSlice S1x1x512 ![0, 0, 0] b slices_S1x2x512_S1x1x512_0_0_0) shapeCasts_S1x1x512_S512
def r1T (b : FVec Ideal S1x2x512 .f32) : FVec Ideal S512 .f32 :=
  shapeCast S512 (extractStridedSlice S1x1x512 ![0, 1, 0] b slices_S1x2x512_S1x1x512_0_1_0) shapeCasts_S1x1x512_S512

section Entry

variable (V : Valuation τ sig (Elt Ideal))

abbrev vV : FVec Ideal S2x256x512 .f32 :=
  vT (upT (zT (V (Proc.devRef .tc main_arg0)) (V (Proc.devRef .tc main_arg1)) (V (Proc.devRef .tc main_arg2)) (V (Proc.devRef .tc main_arg3))))
    (V (Proc.devRef .tc main_arg4)) (V (Proc.devRef .tc main_arg5))
abbrev log0 : FVec Ideal S2x256x512 .f32 :=
  logT (vV V) (w0T (V (Proc.devRef .tc main_arg6))) (r0T (V (Proc.devRef .tc main_arg7))) (r0T (V (Proc.devRef .tc main_arg10)))
abbrev log1 : FVec Ideal S2x256x512 .f32 :=
  logT (vV V) (w1T (V (Proc.devRef .tc main_arg6))) (r1T (V (Proc.devRef .tc main_arg7))) (r1T (V (Proc.devRef .tc main_arg10)))

theorem entry_a0 : StableHlo.after hostOps0 V (Proc.devRef .tc main_v176_0) = Host.exp (log0 V) := by
  after_reads_simp; rfl

theorem entry_bx0 : StableHlo.after hostOps0 V (Proc.devRef .tc main_v176_1)
    = bxT (log0 V) (vV V) (w0T (V (Proc.devRef .tc main_arg8))) (r0T (V (Proc.devRef .tc main_arg9))) := by
  after_reads_simp; rfl

theorem entry_a1 : StableHlo.after hostOps0 V (Proc.devRef .tc main_v176_2) = Host.exp (log1 V) := by
  after_reads_simp; rfl

theorem entry_bx1 : StableHlo.after hostOps0 V (Proc.devRef .tc main_v176_3)
    = bxT (log1 V) (vV V) (w1T (V (Proc.devRef .tc main_arg8))) (r1T (V (Proc.devRef .tc main_arg9))) := by
  after_reads_simp; rfl

theorem entry_k : StableHlo.after hostOps0 V (Proc.devRef .tc main_v176_5) = constantI S_ 32 0#32 := by
  after_reads_simp; rfl

theorem entry_h0 : StableHlo.after hostOps0 V (Proc.devRef .tc main_v176_6)
    = (broadcastInDim S2x1x512 ![] bcast_S_S2x1x512 (constant (F := Ideal) S_ .f32 0x00000000#32) : FVec Ideal S2x1x512 .f32) := by
  after_reads_simp; rfl

theorem entry_h1 : StableHlo.after hostOps0 V (Proc.devRef .tc main_v176_7)
    = (broadcastInDim S2x1x512 ![] bcast_S_S2x1x512 (constant (F := Ideal) S_ .f32 0x00000000#32) : FVec Ideal S2x1x512 .f32) := by
  after_reads_simp; rfl

end Entry

/-- The arrays hold the arguments. -/
structure Holds (D : Data) (x : S2x256x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal) : Prop where
  x : ∀ b t k, x (ix3 b t k) = D.x b.val t.val k.val
  md : ∀ k : Fin 3072, md (ix2 2 k) = D.md k.val
  g : ∀ b k, g (ix2 b k) = D.gain k.val
  w : ∀ b k n, w (ix3 b k n) = D.w k.val n.val
  cw : ∀ b k n, cw (ix3 b k n) = D.cw k.val n.val
  cb : ∀ b n, cb (ix2 b n) = D.cb n.val
  wr : ∀ a q h d e, wr (ix5 a q h d e) = D.wr q.val h.val d.val e.val
  br : ∀ a q n, br (ix3 a q n) = D.br q.val n.val
  wi : ∀ a q h d e, wi (ix5 a q h d e) = D.wi q.val h.val d.val e.val
  bi : ∀ a q n, bi (ix3 a q n) = D.bi q.val n.val
  lam : ∀ a q n, lam (ix3 a q n) = D.lam q.val n.val

/-- The arguments of arrays. -/
def argsOf (x : S2x256x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal) : Data where
  x b t k := rdE x ![b, t, k]
  md k := rdE md ![2, k]
  gain k := rdE g ![0, k]
  w k n := rdE w ![0, k, n]
  cw k n := rdE cw ![0, k, n]
  cb n := rdE cb ![0, n]
  wr q h d e := rdE wr ![0, q, h, d, e]
  br q n := rdE br ![0, q, n]
  wi q h d e := rdE wi ![0, q, h, d, e]
  bi q n := rdE bi ![0, q, n]
  lam q n := rdE lam ![0, q, n]

theorem holds_argsOf (x : S2x256x1024.Idx → EReal) (md : S8x3072.Idx → EReal) (g : S1x1024.Idx → EReal)
    (w : S1x1024x2048.Idx → EReal) (cw : S1x4x512.Idx → EReal) (cb : S1x512.Idx → EReal) (wr : S1x2x4x128x128.Idx → EReal)
    (br : S1x2x512.Idx → EReal) (wi : S1x2x4x128x128.Idx → EReal) (bi lam : S1x2x512.Idx → EReal) :
    Holds (argsOf x md g w cw cb wr br wi bi lam) x md g w cw cb wr br wi bi lam := by
  constructor
  · intro b t k; exact rdE_eq _ _ _ fun a => by fin_cases a <;> rfl
  · intro k; exact rdE_eq _ _ _ fun a => by fin_cases a <;> rfl
  · intro b k; rw [Subsingleton.elim b 0]; exact rdE_eq _ _ _ fun a => by fin_cases a <;> rfl
  · intro b k n; rw [Subsingleton.elim b 0]; exact rdE_eq _ _ _ fun a => by fin_cases a <;> rfl
  · intro b k n; rw [Subsingleton.elim b 0]; exact rdE_eq _ _ _ fun a => by fin_cases a <;> rfl
  · intro b n; rw [Subsingleton.elim b 0]; exact rdE_eq _ _ _ fun a => by fin_cases a <;> rfl
  · intro b q h d e; rw [Subsingleton.elim b 0]; exact rdE_eq _ _ _ fun a => by fin_cases a <;> rfl
  · intro b q n; rw [Subsingleton.elim b 0]; exact rdE_eq _ _ _ fun a => by fin_cases a <;> rfl
  · intro b q h d e; rw [Subsingleton.elim b 0]; exact rdE_eq _ _ _ fun a => by fin_cases a <;> rfl
  · intro b q n; rw [Subsingleton.elim b 0]; exact rdE_eq _ _ _ fun a => by fin_cases a <;> rfl
  · intro b q n; rw [Subsingleton.elim b 0]; exact rdE_eq _ _ _ fun a => by fin_cases a <;> rfl

section Stages

variable {D : Data} {x : FVec Ideal S2x256x1024 .f32} {md : FVec Ideal S8x3072 .f32} {g : FVec Ideal S1x1024 .f32}
  {w : FVec Ideal S1x1024x2048 .f32} {cw : FVec Ideal S1x4x512 .f32} {cb : FVec Ideal S1x512 .f32} {wr : FVec Ideal S1x2x4x128x128 .f32}
  {br : FVec Ideal S1x2x512 .f32} {wi : FVec Ideal S1x2x4x128x128 .f32} {bi lam : FVec Ideal S1x2x512 .f32}
  (H : Holds D x md g w cw cb wr br wi bi lam)

include H

theorem hxT_val (b : Fin 2) (t : Fin 256) (k : Fin 1024) : hxT x md g (ix3 b t k) = (hx D b t k) := by
  pointwise [hxT]
  simp only [H.x, H.g, H.md, bits_1024, bits_eps]
  rfl

theorem zT_val (b : Fin 2) (t : Fin 256) (n : Fin 2048) : zT x md g w (ix3 b t n) = (z D b t n) := by
  unfold zT
  have h := hxT_val H
  generalize hxT x md g = X at h
  pointwise []
  simp only [h, H.w]
  rfl

theorem upT_val (b : Fin 2) (t : Fin 259) (n : Fin 512) : upT (zT x md g w) (ix3 b t n) = (up D b t n) := by
  have h := zT_val H
  generalize zT x md g w = Z at h
  pointwise [upT]
  unfold up
  by_cases hp : 2 ≤ t.val ∧ t.val - 2 < 256
  · rw [dif_pos hp, if_pos (by omega), h]
  · rw [dif_neg hp, if_neg (by omega)]

theorem vT_val (b : Fin 2) (t : Fin 256) (n : Fin 512) :
    vT (upT (zT x md g w)) cw cb (ix3 b t n) = (v D b t n) := by
  have h := upT_val H
  generalize upT (zT x md g w) = U at h
  pointwise [vT, rowT]
  simp only [h, H.cw, H.cb]
  unfold v
  simp only [Nat.add_comm _ t.val]
  rfl

omit H in
theorem preT_val {V : FVec Ideal S2x256x512 .f32} (hV : ∀ b t n, V (ix3 b t n) = (v D b t n))
    {W : FVec Ideal S4x128x128 .f32} {c : FVec Ideal S512 .f32} {W' : ℕ → ℕ → ℕ → EReal} {c' : ℕ → EReal}
    (hW : ∀ h d e, W (ix3 h d e) = (W' h.val d.val e.val)) (hc : ∀ n, c (ix1 n) = (c' n.val))
    (b : Fin 2) (t : Fin 256) (n : Fin 512) : preT V W c (ix3 b t n) = (pre D W' c' b t n) := by
  pointwise [preT, rowT]
  simp only [hV, hW, hc]
  unfold pre
  simp only [mul_comm]

omit H in
theorem sigT_val {y : FVec Ideal S2x256x512 .f32} {i : S2x256x512.Idx} {r : EReal} (h : y i = r) : sigT y i = ((sg r : ℝ) : EReal) := by
  idx_vars i
  pointwise [sigT]
  rw [h]
  exact logistic_sg r

omit H in
theorem softT_val {l : FVec Ideal S512 .f32} {f : ℕ → EReal} (hl : ∀ n, l (ix1 n) = f n.val) (n : Fin 512) : softT l (ix1 n) = spl (-f n) := by
  pointwise [softT]
  simp only [hl]
  rfl

end Stages

section Direction

/-- A direction's gate weights and rows hold the given ones. -/
structure Dir (D : Data) (q : ℕ) (W : FVec Ideal S4x128x128 .f32) (c : FVec Ideal S512 .f32) (W' : FVec Ideal S4x128x128 .f32) (c' l : FVec Ideal S512 .f32) : Prop where
  wr : ∀ h d e, W (ix3 h d e) = (D.wr q h.val d.val e.val)
  br : ∀ n, c (ix1 n) = (D.br q n.val)
  wi : ∀ h d e, W' (ix3 h d e) = (D.wi q h.val d.val e.val)
  bi : ∀ n, c' (ix1 n) = (D.bi q n.val)
  lam : ∀ n, l (ix1 n) = (D.lam q n.val)

variable {D : Data} {x : FVec Ideal S2x256x1024 .f32} {md : FVec Ideal S8x3072 .f32} {g : FVec Ideal S1x1024 .f32}
  {w : FVec Ideal S1x1024x2048 .f32} {cw : FVec Ideal S1x4x512 .f32} {cb : FVec Ideal S1x512 .f32} {wr : FVec Ideal S1x2x4x128x128 .f32}
  {br : FVec Ideal S1x2x512 .f32} {wi : FVec Ideal S1x2x4x128x128 .f32} {bi lam : FVec Ideal S1x2x512 .f32}

theorem dir0 (H : Holds D x md g w cw cb wr br wi bi lam) : Dir D 0 (w0T wr) (r0T br) (w0T wi) (r0T bi) (r0T lam) := by
  constructor
  · intro h d e; pointwise [w0T]; exact H.wr _ _ _ _ _
  · intro n; pointwise [r0T]; exact H.br _ _ _
  · intro h d e; pointwise [w0T]; exact H.wi _ _ _ _ _
  · intro n; pointwise [r0T]; exact H.bi _ _ _
  · intro n; pointwise [r0T]; exact H.lam _ _ _

theorem dir1 (H : Holds D x md g w cw cb wr br wi bi lam) : Dir D 1 (w1T wr) (r1T br) (w1T wi) (r1T bi) (r1T lam) := by
  constructor
  · intro h d e; pointwise [w1T]; exact H.wr _ _ _ _ _
  · intro n; pointwise [r1T]; exact H.br _ _ _
  · intro h d e; pointwise [w1T]; exact H.wi _ _ _ _ _
  · intro n; pointwise [r1T]; exact H.bi _ _ _
  · intro n; pointwise [r1T]; exact H.lam _ _ _

variable {q : ℕ} {W W' : FVec Ideal S4x128x128 .f32} {c c' l : FVec Ideal S512 .f32} (K : Dir D q W c W' c' l)
  {V : FVec Ideal S2x256x512 .f32} (hV : ∀ b t n, V (ix3 b t n) = (v D b t n))

include K hV

theorem logT_val (b : Fin 2) (t : Fin 256) (n : Fin 512) : logT V W c l (ix3 b t n) = logA D q b t n := by
  have hs := sigT_val (preT_val hV K.wr K.br b t n)
  have hl := softT_val K.lam n
  unfold logT
  generalize sigT (preT V W c) = S at hs
  generalize softT l = L at hl
  pointwise [rowT]
  rw [hs, hl, bits_neg_eight]
  rfl

theorem gapT_val (b : Fin 2) (t : Fin 256) (n : Fin 512) : gapT (logT V W c l) (ix3 b t n) = ((gap D q b t n : ℝ) : EReal) := by
  have hl := logT_val K hV b t n
  generalize logT V W c l = L at hl
  pointwise [gapT]
  rw [hl, bits_two]
  exact gap_ex (log_ne_top _ _)

theorem decT_val (b : Fin 2) (t : Fin 256) (n : Fin 512) : Host.exp (logT V W c l) (ix3 b t n) = ((dec D q b t n : ℝ) : EReal) := by
  have hl := logT_val K hV b t n
  generalize logT V W c l = L at hl
  pointwise []
  rw [hl]
  exact exp_ex (log_ne_top _ _)

theorem bxT_val (b : Fin 2) (t : Fin 256) (n : Fin 512) (hg : 0 ≤ gap D q b t n) :
    bxT (logT V W c l) V W' c' (ix3 b t n) = bx D q b t n := by
  have hs := sigT_val (preT_val hV K.wi K.bi b t n)
  have hl := gapT_val K hV b t n
  unfold bxT
  generalize sigT (preT V W' c') = S at hs
  generalize gapT (logT V W c l) = L at hl
  pointwise []
  rw [hs, hl, hV, sqrt_coe hg]
  rfl

end Direction

end Ref

end Cert.Proof.Ctx

end
-- ==== Proof.CtxRegular.lean ====
/- What the context call's precondition says: `1 - a ^ 2` is at least the bound everywhere, in both directions. -/
module

public import proofs.«01_k».proof.Pre_regular2
public import proofs.«01_k».proof.Proof.Regular
public import proofs.«01_k».proof.Proof.CtxRef

@[expose] public section

noncomputable section

namespace Cert.Proof.Ctx.Regular

open Idealize.ShloMosaic Cert.ContextReferenceIdeal Cert.Proof.Fwd Cert.Proof.Ctx.Ref

instance facts : Cert.Pre_regular2.Facts := by constructor <;> decide

instance : Subsingleton S_.Idx := ⟨fun a b => funext fun i => i.elim0⟩

theorem gap_of {y : FVec Ideal S2x256x512 .f32} {hb : S_.BroadcastsInDim S2x256x512 ![]} {init : IVec S_ 1}
    {h : S2x256x512.ReducesTo [0, 1, 2] S_} {hu : 0 < S_.numel} {j : S_.Idx}
    (e : Host.reduce IntOp.andi (cmpf .oge y (broadcastInDim S2x256x512 ![] hb (constant S_ .f32 0x0DA24260#32))) init h hu j = 1#1)
    (i : S2x256x512.Idx) : (tiny) ≤ y i := by
  have hi := Host.reduce_andi_all _ _ _ _ _ e i
  replace hi : BitVec.ofBool (decide (Ideal.ofBits .f32 0x0DA24260#32 ≤ y i)) = 1#1 := hi
  rw [bits_tiny] at hi
  by_contra hc
  rw [decide_eq_false hc] at hi
  exact absurd hi (by decide)

variable {x : FVec Ideal S2x256x1024 .f32} {md : FVec Ideal S8x3072 .f32} {g : FVec Ideal S1x1024 .f32}
  {w : FVec Ideal S1x1024x2048 .f32} {cw : FVec Ideal S1x4x512 .f32} {cb : FVec Ideal S1x512 .f32} {wr : FVec Ideal S1x2x4x128x128 .f32}
  {br : FVec Ideal S1x2x512 .f32} {wi : FVec Ideal S1x2x4x128x128 .f32} {bi lam : FVec Ideal S1x2x512 .f32}

theorem regular_gap (h : Cert.Pre_regular2.fn (F := Ideal) x md g w cw cb wr br wi bi lam = fun _ => 1#1) :
    ∀ (q b t n : ℕ), q < 2 → b < 2 → t < 256 → n < 512 → tiny ≤ gap (argsOf x md g w cw cb wr br wi bi lam) q b t n := by
  obtain ⟨g0, g1⟩ := Proof.Regular.and_one (congrFun h ix0)
  have H := holds_argsOf x md g w cw cb wr br wi bi lam
  intro q b t n hq hb ht hn
  have k0 : ∀ (b : Fin 2) (t : Fin 256) (n : Fin 512), tiny ≤ gap (argsOf x md g w cw cb wr br wi bi lam) 0 b t n := by
    intro b t n
    have hv : (tiny) ≤ gapT (logT (vT (upT (zT x md g w)) cw cb) (w0T wr) (r0T br) (r0T lam)) (ix3 b t n) := gap_of g0 (ix3 b t n)
    rw [gapT_val (dir0 H) (vT_val H) b t n] at hv
    exact_mod_cast hv
  have k1 : ∀ (b : Fin 2) (t : Fin 256) (n : Fin 512), tiny ≤ gap (argsOf x md g w cw cb wr br wi bi lam) 1 b t n := by
    intro b t n
    have hv : (tiny) ≤ gapT (logT (vT (upT (zT x md g w)) cw cb) (w1T wr) (r1T br) (r1T lam)) (ix3 b t n) := gap_of g1 (ix3 b t n)
    rw [gapT_val (dir1 H) (vT_val H) b t n] at hv
    exact_mod_cast hv
  interval_cases q
  · exact k0 ⟨b, hb⟩ ⟨t, ht⟩ ⟨n, hn⟩
  · exact k1 ⟨b, hb⟩ ⟨t, ht⟩ ⟨n, hn⟩

end Cert.Proof.Ctx.Regular

end
-- ==== Proof.CtxRefRun.lean ====
/- The context program's reference as a run: after `k` trips of its loop the two states are the recurrence's after `k` steps; it stops,
   keeps its arguments, and leaves the two final states. -/
module

public import proofs.«01_k».proof.Proof.CtxRef
public import Idealize.ShloMosaic.Lib.DynamicIndex
public import Idealize.ShloMosaic.Lib.Quiescent
public import Idealize.ShloMosaic.Lib.StableHlo.RunHlo

@[expose] public section

noncomputable section

namespace Cert.Proof.Ctx.Ref

open Idealize.ShloMosaic Idealize.ShloMosaic.TcCoe Cert.ContextReferenceIdeal Cert.ContextReferenceIdeal.Gen Cert.ContextReferenceIdeal.Value Cert.Proof.Fwd
open Idealize.SL.Sem
open Idealize.ShloMosaic.StableHlo (finalContents)

/-- The three starts of the loop's slices: only the middle one moves. -/
abbrev startsOf (t : IVec S_ 32) : Fin S2x256x512.rank → Int := fun k =>
  ((![constantI S_ 32 0#32, select (cmpi .slt t (constantI S_ 32 0#32)) (addi (id t) (constantI S_ 32 256#32)) t,
    constantI S_ 32 0#32] : Fin 3 → IVec S_ 32) k (Shape.Idx.first h_S_)).toInt

theorem startsOf_eq (k : ℕ) (hk : k < 256) : ∀ a, startsOf (constantI S_ 32 (BitVec.ofNat 32 k)) a = ((![0, k, 0] : Fin 3 → ℕ) a : Int) := by
  intro a
  have hi : (BitVec.ofNat 32 k).toInt = k := toInt_ofNat_of_lt (by omega)
  fin_cases a
  · rfl
  · show (select _ _ _ _ : BitVec 32).toInt = _
    rw [select_slt_zero_of_nonneg]
    · exact hi
    · show 0 ≤ (BitVec.ofNat 32 k).toInt
      omega
  · rfl

theorem sliceAt (y : FVec Ideal S2x256x512 .f32) (k : ℕ) (hk : k < 256) (b : Fin 2) (n : Fin 512) :
    Host.dynamicSlice S2x1x512 y (startsOf (constantI S_ 32 (BitVec.ofNat 32 k))) sliceFits_S2x256x512_S2x1x512 (ix3 b 0 n)
      = y (ix3 b ⟨k, hk⟩ n) := by
  have ho : S2x256x512.Slices ![0, k, 0] S2x1x512 := ⟨rfl, by intro a; fin_cases a <;> simp [Shape.size]; omega⟩
  rw [Host.dynamicSlice_eq_extractStridedSlice _ _ _ ![0, k, 0] _ ho (startsOf_eq k hk)]
  pointwise []

/-- What the loop carries before trip `k`. -/
structure Carried (D : Data) (k : ℕ) (V : Valuation τ sig (Elt Ideal)) : Prop where
  a0 : ∀ b t n, (V (Proc.devRef .tc main_v176_0) : FVec Ideal S2x256x512 .f32) (ix3 b t n) = ((dec D 0 b.val t.val n.val : ℝ) : EReal)
  bx0 : ∀ b t n, (V (Proc.devRef .tc main_v176_1) : FVec Ideal S2x256x512 .f32) (ix3 b t n) = (bx D 0 b.val t.val n.val)
  a1 : ∀ b t n, (V (Proc.devRef .tc main_v176_2) : FVec Ideal S2x256x512 .f32) (ix3 b t n) = ((dec D 1 b.val t.val n.val : ℝ) : EReal)
  bx1 : ∀ b t n, (V (Proc.devRef .tc main_v176_3) : FVec Ideal S2x256x512 .f32) (ix3 b t n) = (bx D 1 b.val t.val n.val)
  ctr : V (Proc.devRef .tc main_v176_5) = constantI S_ 32 (BitVec.ofNat 32 k)
  h0 : ∀ b n, (V (Proc.devRef .tc main_v176_6) : FVec Ideal S2x1x512 .f32) (ix3 b 0 n) = (hst D 0 b.val n.val k)
  h1 : ∀ b n, (V (Proc.devRef .tc main_v176_7) : FVec Ideal S2x1x512 .f32) (ix3 b 0 n) = (hst D 1 b.val n.val k)

theorem back_index {V : Valuation τ sig (Elt Ideal)} {k : ℕ} (hk : k < 256) (h : V (Proc.devRef .tc main_v176_5) = constantI S_ 32 (BitVec.ofNat 32 k)) :
    res_main_while0b_v191 V = constantI S_ 32 (BitVec.ofNat 32 (255 - k)) := by
  unfold res_main_while0b_v191
  rw [h]
  funext i
  show 255#32 - BitVec.ofNat 32 k = BitVec.ofNat 32 (255 - k)
  apply BitVec.eq_of_toNat_eq
  rw [BitVec.toNat_sub, BitVec.toNat_ofNat, BitVec.toNat_ofNat, BitVec.toNat_ofNat]
  omega

theorem Carried.next {D : Data} {k : ℕ} {V : Valuation τ sig (Elt Ideal)} (hk : k < 256) (C : Carried D k V) : Carried D (k + 1) (STEP V) := by
  refine ⟨?_, ?_, ?_, ?_, ?_, ?_, ?_⟩
  · rw [STEP_main_v176_0]; exact C.a0
  · rw [STEP_main_v176_1]; exact C.bx0
  · rw [STEP_main_v176_2]; exact C.a1
  · rw [STEP_main_v176_3]; exact C.bx1
  · rw [STEP_main_v176_5]
    unfold step_main_v176_5
    rw [C.ctr]
    funext i
    show BitVec.ofNat 32 k + 1#32 = BitVec.ofNat 32 (k + 1)
    rw [BitVec.ofNat_add]
  · rw [STEP_main_v176_6]
    intro b n
    unfold step_main_v176_6
    rw [C.ctr]
    show Host.dynamicSlice S2x1x512 _ (startsOf _) _ (ix3 b 0 n) * (V (Proc.devRef .tc main_v176_6) : FVec Ideal S2x1x512 .f32) (ix3 b 0 n)
      + Host.dynamicSlice S2x1x512 _ (startsOf _) _ (ix3 b 0 n) = _
    rw [sliceAt _ k hk, sliceAt _ k hk, C.a0, C.bx0, C.h0]
    rfl
  · rw [STEP_main_v176_7]
    intro b n
    unfold step_main_v176_7
    rw [back_index hk C.ctr]
    show Host.dynamicSlice S2x1x512 _ (startsOf _) _ (ix3 b 0 n) * (V (Proc.devRef .tc main_v176_7) : FVec Ideal S2x1x512 .f32) (ix3 b 0 n)
      + Host.dynamicSlice S2x1x512 _ (startsOf _) _ (ix3 b 0 n) = _
    rw [sliceAt _ (255 - k) (by omega), sliceAt _ (255 - k) (by omega), C.a1, C.bx1, C.h1]
    rfl

theorem Carried.iterate {D : Data} {V : Valuation τ sig (Elt Ideal)} (C : Carried D 0 V) : ∀ k ≤ 256, Carried D k (STEP^[k] V)
  | 0, _ => C
  | k + 1, hk => by
    rw [Function.iterate_succ_apply']
    exact (C.iterate k (by omega)).next (by omega)

theorem atK_keep (m : (ℓ : Loc nD τ sig) → Buf (Elt Ideal) ℓ) (c : Dev nD) {r : Ref sig .tc} (hb : r ∉ while0Ops0_W) (hc : r ∉ condOps_W) :
    ∀ k, atK m k c (Proc.devRef .tc r) = StableHlo.entryContents preI m c (Proc.devRef .tc r)
  | 0 => rfl
  | k + 1 => by
    show StableHlo.after while0Ops0 (StableHlo.after condOps (atK m k c)) (Proc.devRef .tc r) = _
    rw [StableHlo.after_of_writes_sub _ _ while0Ops0_writes hb, StableHlo.after_of_writes_sub _ _ condOps_writes hc]
    exact atK_keep m c hb hc k

variable (m : (ℓ : Loc nD τ sig) → Buf (Elt Ideal) ℓ)

/-- The arguments on a device. -/
abbrev HoldsAt (D : Data) (c : Dev nD) : Prop :=
  Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

section Final

variable {m} {D : Data} {c : Dev nD} (H : HoldsAt m D c)

include H

theorem vV_val (b : Fin 2) (t : Fin 256) (n : Fin 512) : vV (StableHlo.launchContents m c) (ix3 b t n) = (v D b t n) :=
  vT_val H b t n

theorem entry_carried (hg : ∀ (q : ℕ) (b : Fin 2) (t : Fin 256) (n : Fin 512), q < 2 → 0 ≤ gap D q b t n) :
    Carried D 0 (StableHlo.entryContents preI m c) := by
  refine ⟨?_, ?_, ?_, ?_, ?_, ?_, ?_⟩
  · show ∀ b t n, (StableHlo.after hostOps0 (StableHlo.launchContents m c) (Proc.devRef .tc main_v176_0) : FVec Ideal S2x256x512 .f32) (ix3 b t n) = _
    rw [entry_a0]
    exact decT_val (dir0 H) (vV_val H)
  · show ∀ b t n, (StableHlo.after hostOps0 (StableHlo.launchContents m c) (Proc.devRef .tc main_v176_1) : FVec Ideal S2x256x512 .f32) (ix3 b t n) = _
    rw [entry_bx0]
    exact fun b t n => bxT_val (dir0 H) (vV_val H) b t n (hg 0 b t n (by decide))
  · show ∀ b t n, (StableHlo.after hostOps0 (StableHlo.launchContents m c) (Proc.devRef .tc main_v176_2) : FVec Ideal S2x256x512 .f32) (ix3 b t n) = _
    rw [entry_a1]
    exact decT_val (dir1 H) (vV_val H)
  · show ∀ b t n, (StableHlo.after hostOps0 (StableHlo.launchContents m c) (Proc.devRef .tc main_v176_3) : FVec Ideal S2x256x512 .f32) (ix3 b t n) = _
    rw [entry_bx1]
    exact fun b t n => bxT_val (dir1 H) (vV_val H) b t n (hg 1 b t n (by decide))
  · show StableHlo.after hostOps0 (StableHlo.launchContents m c) (Proc.devRef .tc main_v176_5) = _
    rw [entry_k]
  · show ∀ b n, (StableHlo.after hostOps0 (StableHlo.launchContents m c) (Proc.devRef .tc main_v176_6) : FVec Ideal S2x1x512 .f32) (ix3 b 0 n) = _
    rw [entry_h0]
    intro b n
    pointwise []
    rfl
  · show ∀ b n, (StableHlo.after hostOps0 (StableHlo.launchContents m c) (Proc.devRef .tc main_v176_7) : FVec Ideal S2x1x512 .f32) (ix3 b 0 n) = _
    rw [entry_h1]
    intro b n
    pointwise []
    rfl

theorem final_v177 (hg : ∀ (q : ℕ) (b : Fin 2) (t : Fin 256) (n : Fin 512), q < 2 → 0 ≤ gap D q b t n) :
    finalContents condOps preI bodyI postI 256 m c (Proc.devRef .tc main_v177) = Ctx.fin D := by
  have hC := (entry_carried H hg).iterate 256 le_rfl
  show StableHlo.after hostOps0_1 (StableHlo.after condOps (atK m 256 c)) _ = _
  have e0 : StableHlo.after condOps (atK m 256 c) (Proc.devRef .tc main_v176_6) = STEP^[256] (StableHlo.entryContents preI m c) (Proc.devRef .tc main_v176_6) := by
    rw [StableHlo.after_of_writes_sub _ _ condOps_writes (by decide), atK_agree m c 256 main_v176_6 (by decide)]
  have e1 : StableHlo.after condOps (atK m 256 c) (Proc.devRef .tc main_v176_7) = STEP^[256] (StableHlo.entryContents preI m c) (Proc.devRef .tc main_v176_7) := by
    rw [StableHlo.after_of_writes_sub _ _ condOps_writes (by decide), atK_agree m c 256 main_v176_7 (by decide)]
  have h0 := hC.h0
  have h1 := hC.h1
  rw [← e0] at h0
  rw [← e1] at h1
  generalize StableHlo.after condOps (atK m 256 c) = X at h0 h1
  after_reads_simp
  funext i
  idx_vars i
  pointwise []
  split
  · rename_i h
    obtain rfl : i1 = 0 := Fin.ext (by omega)
    exact h0 i0 i2
  · rename_i h
    obtain rfl : i1 = 1 := Fin.ext (by have := i1.isLt; omega)
    exact h1 i0 i2

end Final

/-- A buffer that nothing writes ends as it began. -/
theorem kept (c : Dev nD) {r : Ref sig .tc} (h0 : r ∉ hostOps0_W) (hb : r ∉ while0Ops0_W)
    (hc : r ∉ condOps_W) (h1 : r ∉ hostOps0_1_W) :
    finalContents condOps preI bodyI postI 256 m c (Proc.devRef .tc r) = m ((c.tc : Thread nD τ).loc r) := by
  show StableHlo.after hostOps0_1 (StableHlo.after condOps (atK m 256 c)) _ = _
  rw [StableHlo.after_of_writes_sub _ _ hostOps0_1_writes h1, StableHlo.after_of_writes_sub _ _ condOps_writes hc, atK_keep m c hb hc]
  show StableHlo.after hostOps0 (StableHlo.launchContents m c) _ = _
  rw [StableHlo.after_of_writes_sub _ _ hostOps0_writes h0]

/-- The arguments at the end, as at the start. -/
abbrev Keeps (s : MemSt nD τ sig (Elt Ideal)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)

variable {m} in
theorem keeps_of {s : MemSt nD τ sig (Elt Ideal)}
    (h : ∀ (c : Dev nD) (b : Ref sig .tc), (Proc.devRef .tc b : DevRef τ sig).isScoped = false →
      s.mem ((c.tc : Thread nD τ).loc b) = finalContents condOps preI bodyI postI 256 m c (Proc.devRef .tc b)) (c : Dev nD) : Keeps m s c := by
  refine ⟨?_, ?_, ?_, ?_, ?_, ?_, ?_, ?_, ?_, ?_, ?_⟩ <;>
  exact (h c _ rfl).trans (kept m c (by decide) (by decide) (by decide) (by decide))

variable (ρ : Dev nD → PrngReg)

/-- The reference stops without fault, its arguments as they were and no semaphore raised. -/
theorem frame : θ_run (defs (F := Ideal)) (onTc (τ := τ) (main (F := Ideal))) ⟨m, fun _ => 0, ρ⟩
    (fun r => (∀ c, Keeps m r.2 c) ∧ r.2.sem = fun _ => 0) :=
  θ_run_mono (run_fold m ρ) fun r h => ⟨keeps_of h, sem_eq_zero_of_no_sems rfl r.2⟩

/-- At regular arguments the reference leaves the two final states. -/
theorem run (D : Dev nD → Data) (H : ∀ c, HoldsAt m (D c) c)
    (hg : ∀ c (q : ℕ) (b : Fin 2) (t : Fin 256) (n : Fin 512), q < 2 → 0 ≤ gap (D c) q b t n) :
    θ_run (defs (F := Ideal)) (onTc (τ := τ) (main (F := Ideal))) ⟨m, fun _ => 0, ρ⟩
    (fun r => ∀ c : Dev nD, r.2.mem ((c.tc : Thread nD τ).loc main_v177) = Ctx.fin (D c) ∧ Keeps m r.2 c) :=
  θ_run_mono (run_fold m ρ) fun _ h c => ⟨(h c main_v177 rfl).trans (final_v177 (H c) (hg c)), keeps_of h c⟩

end Cert.Proof.Ctx.Ref

end
-- ==== Proof.CtxBlocks.lean ====
/- Arrays given by functions of natural-number coordinates into the extended reals: the stores that leave one, the loads that read a block
   of one, and the operations that move their elements. -/
module

public import proofs.«01_k».proof.Proof.CtxSpec
public import proofs.«01_k».proof.Proof.TileOut
public import proofs.«01_k».proof.Proof.KernelIn

@[expose] public section

noncomputable section

namespace Cert.Proof.Ctx

open Idealize.ShloMosaic Cert.Proof.Fwd
open Idealize.ShloMosaic.View (Piece PiecesOf canon)

/-- A function of two coordinates as an array. -/
def m2 {n0 n1 : ℕ} (f : ℕ → ℕ → EReal) : (⟨2, ![n0, n1]⟩ : Shape).Idx → EReal := fun i => (f (i 0).val (i 1).val)

/-- A function of three coordinates as an array. -/
def m3 {n0 n1 n2 : ℕ} (f : ℕ → ℕ → ℕ → EReal) : (⟨3, ![n0, n1, n2]⟩ : Shape).Idx → EReal :=
  fun i => (f (i 0).val (i 1).val (i 2).val)

/-- A function of four coordinates as an array. -/
def m4 {n0 n1 n2 n3 : ℕ} (f : ℕ → ℕ → ℕ → ℕ → EReal) : (⟨4, ![n0, n1, n2, n3]⟩ : Shape).Idx → EReal :=
  fun i => (f (i 0).val (i 1).val (i 2).val (i 3).val)

theorem m2_ix {n0 n1 : ℕ} (f : ℕ → ℕ → EReal) (p : Fin n0) (q : Fin n1) : m2 f (ix2 p q) = (f p q) := rfl
theorem m3_ix {n0 n1 n2 : ℕ} (f : ℕ → ℕ → ℕ → EReal) (p : Fin n0) (q : Fin n1) (r : Fin n2) : m3 f (ix3 p q r) = (f p q r) := rfl
theorem m4_ix {n0 n1 n2 n3 : ℕ} (f : ℕ → ℕ → ℕ → ℕ → EReal) (p : Fin n0) (q : Fin n1) (r : Fin n2) (s : Fin n3) :
    m4 f (ix4 p q r s) = (f p q r s) := rfl

theorem eq_m2 {n0 n1 : ℕ} {y : (⟨2, ![n0, n1]⟩ : Shape).Idx → EReal} {f : ℕ → ℕ → EReal}
    (h : ∀ p q, y (ix2 p q) = (f p q)) : y = m2 f := by
  funext i
  rw [eq_ix2 i]
  exact h _ _

theorem eq_m3 {n0 n1 n2 : ℕ} {y : (⟨3, ![n0, n1, n2]⟩ : Shape).Idx → EReal} {f : ℕ → ℕ → ℕ → EReal}
    (h : ∀ p q r, y (ix3 p q r) = (f p q r)) : y = m3 f := by
  funext i
  rw [eq_ix3 i]
  exact h _ _ _

theorem eq_m4 {n0 n1 n2 n3 : ℕ} {y : (⟨4, ![n0, n1, n2, n3]⟩ : Shape).Idx → EReal} {f : ℕ → ℕ → ℕ → ℕ → EReal}
    (h : ∀ p q r s, y (ix4 p q r s) = (f p q r s)) : y = m4 f := by
  funext i
  rw [eq_ix4 i]
  exact h _ _ _ _

theorem m2_congr {n0 n1 : ℕ} {f g : ℕ → ℕ → EReal} (h : ∀ p q, p < n0 → q < n1 → f p q = g p q) : (m2 f : (⟨2, ![n0, n1]⟩ : Shape).Idx → EReal) = m2 g :=
  funext fun i => (h _ _ (i 0).isLt (i 1).isLt)

theorem piece2 {n0 n1 k0 k1 o0 o1 : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {g f : ℕ → ℕ → EReal} (hw : w = m2 g)
    (h : ∀ p q, p < k0 → q < k1 → g p q = f (o0 + p) (o1 + q)) :
    ∀ x : (Rect.unit (s := ⟨2, ![n0, n1]⟩) ![o0, o1] ![k0, k1] inb).shape.Idx,
      w x = m2 f ((Rect.unit (s := ⟨2, ![n0, n1]⟩) ![o0, o1] ![k0, k1] inb).emb x) := by
  subst hw
  intro x
  have h0 := ValueKit.rect_emb_unit_val (s := ⟨2, ![n0, n1]⟩) ![o0, o1] ![k0, k1] inb x 0
  have h1 := ValueKit.rect_emb_unit_val (s := ⟨2, ![n0, n1]⟩) ![o0, o1] ![k0, k1] inb x 1
  refine ((h _ _ (x 0).isLt (x 1).isLt).trans ?_)
  exact congrArg₂ f h0.symm h1.symm

theorem piece3 {n0 n1 n2 k0 k1 k2 o0 o1 o2 : ℕ}
    {inb : ∀ a, (![o0, o1, o2] : Fin 3 → ℕ) a + (![k0, k1, k2] : Fin 3 → ℕ) a ≤ (⟨3, ![n0, n1, n2]⟩ : Shape).size a}
    {w : (⟨3, ![k0, k1, k2]⟩ : Shape).Idx → EReal} {g f : ℕ → ℕ → ℕ → EReal} (hw : w = m3 g)
    (h : ∀ p q r, p < k0 → q < k1 → r < k2 → g p q r = f (o0 + p) (o1 + q) (o2 + r)) :
    ∀ x : (Rect.unit (s := ⟨3, ![n0, n1, n2]⟩) ![o0, o1, o2] ![k0, k1, k2] inb).shape.Idx,
      w x = m3 f ((Rect.unit (s := ⟨3, ![n0, n1, n2]⟩) ![o0, o1, o2] ![k0, k1, k2] inb).emb x) := by
  subst hw
  intro x
  have h0 := ValueKit.rect_emb_unit_val (s := ⟨3, ![n0, n1, n2]⟩) ![o0, o1, o2] ![k0, k1, k2] inb x 0
  have h1 := ValueKit.rect_emb_unit_val (s := ⟨3, ![n0, n1, n2]⟩) ![o0, o1, o2] ![k0, k1, k2] inb x 1
  have h2 := ValueKit.rect_emb_unit_val (s := ⟨3, ![n0, n1, n2]⟩) ![o0, o1, o2] ![k0, k1, k2] inb x 2
  refine ((h _ _ _ (x 0).isLt (x 1).isLt (x 2).isLt).trans ?_)
  have e : ∀ {a a' b b' c c' : ℕ}, a' = a → b' = b → c' = c → f a b c = f a' b' c' := fun h h' h'' => by rw [h, h', h'']
  exact e h0 h1 h2

/-- A further store on a list of blocks. -/
theorem cons2 {n0 n1 k0 k1 o0 o1 : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {g f : ℕ → ℕ → EReal} {L : List (Piece (Elt Ideal) ⟨2, ![n0, n1]⟩ .f32)} (hw : w = m2 g)
    (h : ∀ p q, p < k0 → q < k1 → g p q = f (o0 + p) (o1 + q)) (hL : PiecesOf (Val := Elt Ideal) (e := .f32) (m2 f) L) :
    PiecesOf (Val := Elt Ideal) (e := .f32) (m2 f) (⟨Rect.unit (s := ⟨2, ![n0, n1]⟩) ![o0, o1] ![k0, k1] inb, w⟩ :: L) :=
  ⟨piece2 (inb := inb) hw h, hL⟩

theorem cons3 {n0 n1 n2 k0 k1 k2 o0 o1 o2 : ℕ}
    {inb : ∀ a, (![o0, o1, o2] : Fin 3 → ℕ) a + (![k0, k1, k2] : Fin 3 → ℕ) a ≤ (⟨3, ![n0, n1, n2]⟩ : Shape).size a}
    {w : (⟨3, ![k0, k1, k2]⟩ : Shape).Idx → EReal} {g f : ℕ → ℕ → ℕ → EReal} {L : List (Piece (Elt Ideal) ⟨3, ![n0, n1, n2]⟩ .f32)} (hw : w = m3 g)
    (h : ∀ p q r, p < k0 → q < k1 → r < k2 → g p q r = f (o0 + p) (o1 + q) (o2 + r)) (hL : PiecesOf (Val := Elt Ideal) (e := .f32) (m3 f) L) :
    PiecesOf (Val := Elt Ideal) (e := .f32) (m3 f) (⟨Rect.unit (s := ⟨3, ![n0, n1, n2]⟩) ![o0, o1, o2] ![k0, k1, k2] inb, w⟩ :: L) :=
  ⟨piece3 (inb := inb) hw h, hL⟩

section Loads

variable {sig : RefSig} {κ : Kind} {sp : Space} {e : EltTy} {s : Shape}

theorem idx2 {n0 n1 k0 k1 o0 o1 : ℕ} {off : Fin 2 → ℕ} (f : ℕ → ℕ → EReal) (h0 : off 0 = o0) (h1 : off 1 = o1)
    (inb : ∀ a, off a + (![k0, k1] : Fin 2 → ℕ) a ≤ (⟨2, ![n0, n1]⟩ : Shape).size a) :
    (fun j => m2 f ((Rect.unit (s := ⟨2, ![n0, n1]⟩) off ![k0, k1] inb).toLoadRect.idx j))
      = (m2 fun p q => f (o0 + p) (o1 + q) : (⟨2, ![k0, k1]⟩ : Shape).Idx → EReal) := by
  subst h0 h1
  funext j
  refine (congrArg₂ f ?_ ?_) <;> exact ValueKit.rect_emb_unit_val (s := ⟨2, ![n0, n1]⟩) off ![k0, k1] inb j _

theorem idx3 {n0 n1 n2 k0 k1 k2 : ℕ} {off : Fin 3 → ℕ} (f : ℕ → ℕ → ℕ → EReal)
    (inb : ∀ a, off a + (![k0, k1, k2] : Fin 3 → ℕ) a ≤ (⟨3, ![n0, n1, n2]⟩ : Shape).size a) :
    (fun j => m3 f ((Rect.unit (s := ⟨3, ![n0, n1, n2]⟩) off ![k0, k1, k2] inb).toLoadRect.idx j))
      = (m3 fun p q r => f (off 0 + p) (off 1 + q) (off 2 + r) : (⟨3, ![k0, k1, k2]⟩ : Shape).Idx → EReal) := by
  funext j
  have e : ∀ {a a' b b' c c' : ℕ}, a' = a → b' = b → c' = c → f a' b' c' = f a b c := fun h h' h'' => by rw [h, h', h'']
  refine (e ?_ ?_ ?_) <;> exact ValueKit.rect_emb_unit_val (s := ⟨3, ![n0, n1, n2]⟩) off ![k0, k1, k2] inb j _

theorem idx4 {n0 n1 n2 n3 k0 k1 k2 k3 : ℕ} {off : Fin 4 → ℕ} (f : ℕ → ℕ → ℕ → ℕ → EReal)
    (inb : ∀ a, off a + (![k0, k1, k2, k3] : Fin 4 → ℕ) a ≤ (⟨4, ![n0, n1, n2, n3]⟩ : Shape).size a) :
    (fun j => m4 f ((Rect.unit (s := ⟨4, ![n0, n1, n2, n3]⟩) off ![k0, k1, k2, k3] inb).toLoadRect.idx j))
      = (m4 fun p q r s => f (off 0 + p) (off 1 + q) (off 2 + r) (off 3 + s) : (⟨4, ![k0, k1, k2, k3]⟩ : Shape).Idx → EReal) := by
  funext j
  have e : ∀ {a a' b b' c c' d d' : ℕ}, a' = a → b' = b → c' = c → d' = d → f a' b' c' d' = f a b c d := fun h h' h'' hd => by rw [h, h', h'', hd]
  refine (e ?_ ?_ ?_ ?_) <;> exact ValueKit.rect_emb_unit_val (s := ⟨4, ![n0, n1, n2, n3]⟩) off ![k0, k1, k2, k3] inb j _

theorem load2 {n0 n1 k0 k1 : ℕ} {off : Fin 2 → ℕ} {m : Memref sig κ sp ⟨2, ![n0, n1]⟩ .f32} (hm : m.IsWhole)
    {x : (⟨2, ![n0, n1]⟩ : Shape).Idx → EReal} {f : ℕ → ℕ → EReal} (hx : x = m2 f) (o0 o1 : ℕ) (h0 : off 0 = o0) (h1 : off 1 = o1)
    {inb : ∀ a, off a + (![k0, k1] : Fin 2 → ℕ) a ≤ (⟨2, ![n0, n1]⟩ : Shape).size a} :
    (View.readAt (Elt Ideal) m.view (Rect.unit (s := ⟨2, ![n0, n1]⟩) off ![k0, k1] inb).toLoadRect (hm.unread (Val := Elt Ideal) x) :
      (⟨2, ![k0, k1]⟩ : Shape).Idx → EReal) = m2 fun p q => f (o0 + p) (o1 + q) := by
  subst hx
  exact (load_whole hm _ _).trans (idx2 f h0 h1 inb)

theorem load2b {n0 n1 k0 k1 : ℕ} {off : Fin 2 → ℕ} {m : Memref sig κ sp ⟨2, ![n0, n1]⟩ .bf16} (hm : m.IsWhole)
    {x : (⟨2, ![n0, n1]⟩ : Shape).Idx → EReal} {f : ℕ → ℕ → EReal} (hx : x = m2 f) (o0 o1 : ℕ) (h0 : off 0 = o0) (h1 : off 1 = o1)
    {inb : ∀ a, off a + (![k0, k1] : Fin 2 → ℕ) a ≤ (⟨2, ![n0, n1]⟩ : Shape).size a} :
    (View.readAt (Elt Ideal) m.view (Rect.unit (s := ⟨2, ![n0, n1]⟩) off ![k0, k1] inb).toLoadRect (hm.unread (Val := Elt Ideal) x) :
      (⟨2, ![k0, k1]⟩ : Shape).Idx → EReal) = m2 fun p q => f (o0 + p) (o1 + q) := by
  subst hx
  exact (load_whole hm _ _).trans (idx2 f h0 h1 inb)

theorem load3 {n0 n1 n2 k0 k1 k2 : ℕ} {off : Fin 3 → ℕ} {m : Memref sig κ sp ⟨3, ![n0, n1, n2]⟩ .f32} (hm : m.IsWhole)
    {x : (⟨3, ![n0, n1, n2]⟩ : Shape).Idx → EReal} {f : ℕ → ℕ → ℕ → EReal} (hx : x = m3 f)
    {inb : ∀ a, off a + (![k0, k1, k2] : Fin 3 → ℕ) a ≤ (⟨3, ![n0, n1, n2]⟩ : Shape).size a} :
    (View.readAt (Elt Ideal) m.view (Rect.unit (s := ⟨3, ![n0, n1, n2]⟩) off ![k0, k1, k2] inb).toLoadRect (hm.unread (Val := Elt Ideal) x) :
      (⟨3, ![k0, k1, k2]⟩ : Shape).Idx → EReal) = m3 fun p q r => f (off 0 + p) (off 1 + q) (off 2 + r) := by
  subst hx
  exact (load_whole hm _ _).trans (idx3 f inb)

theorem load4b {n0 n1 n2 n3 k0 k1 k2 k3 : ℕ} {off : Fin 4 → ℕ} {m : Memref sig κ sp ⟨4, ![n0, n1, n2, n3]⟩ .bf16} (hm : m.IsWhole)
    {x : (⟨4, ![n0, n1, n2, n3]⟩ : Shape).Idx → EReal} {f : ℕ → ℕ → ℕ → ℕ → EReal} (hx : x = m4 f)
    {inb : ∀ a, off a + (![k0, k1, k2, k3] : Fin 4 → ℕ) a ≤ (⟨4, ![n0, n1, n2, n3]⟩ : Shape).size a} :
    (View.readAt (Elt Ideal) m.view (Rect.unit (s := ⟨4, ![n0, n1, n2, n3]⟩) off ![k0, k1, k2, k3] inb).toLoadRect (hm.unread (Val := Elt Ideal) x) :
      (⟨4, ![k0, k1, k2, k3]⟩ : Shape).Idx → EReal) = m4 fun p q r s => f (off 0 + p) (off 1 + q) (off 2 + r) (off 3 + s) := by
  subst hx
  exact (load_whole hm _ _).trans (idx4 f inb)

theorem back2 {n0 n1 k0 k1 : ℕ} {off : Fin 2 → ℕ} {v : View sig κ sp ⟨2, ![n0, n1]⟩ .f32} {L : List (Piece (Elt Ideal) ⟨2, ![n0, n1]⟩ .f32)} {f : ℕ → ℕ → EReal}
    (hL : PiecesOf (Val := Elt Ideal) (e := .f32) (m2 f) L) {inb : ∀ a, off a + (![k0, k1] : Fin 2 → ℕ) a ≤ (⟨2, ![n0, n1]⟩ : Shape).size a}
    (hc : ∀ j, ∃ p ∈ L, (Rect.unit (s := ⟨2, ![n0, n1]⟩) off ![k0, k1] inb).toLoadRect.idx j ∈ p.1.set) :
    (v.readCov L (Rect.unit (s := ⟨2, ![n0, n1]⟩) off ![k0, k1] inb).toLoadRect : (⟨2, ![k0, k1]⟩ : Shape).Idx → EReal)
      = m2 fun p q => f (off 0 + p) (off 1 + q) :=
  (readCov_pieces hL hc).trans (idx2 f rfl rfl inb)

/-- A load of every `t`-th row of one slice of a rank-three buffer. -/
theorem backStrided {n0 n1 n2 k t o0 o1 : ℕ} {v : View sig κ sp ⟨3, ![n0, n1, n2]⟩ .f32} {L : List (Piece (Elt Ideal) ⟨3, ![n0, n1, n2]⟩ .f32)}
    {f : ℕ → ℕ → ℕ → EReal} (hL : PiecesOf (Val := Elt Ideal) (e := .f32) (m3 f) L)
    {inb : ∀ a, (![1, k, n2] : Fin 3 → ℕ) a = 0 ∨ (![o0, o1, 0] : Fin 3 → ℕ) a + (![1, t, 1] : Fin 3 → ℕ) a * ((![1, k, n2] : Fin 3 → ℕ) a - 1)
      < (⟨3, ![n0, n1, n2]⟩ : Shape).size a}
    (hc : ∀ j, ∃ p ∈ L, (⟨![o0, o1, 0], ![1, k, n2], ![1, t, 1], inb⟩ : LoadRect ⟨3, ![n0, n1, n2]⟩).idx j ∈ p.1.set) :
    (v.readCov L (⟨![o0, o1, 0], ![1, k, n2], ![1, t, 1], inb⟩ : LoadRect ⟨3, ![n0, n1, n2]⟩) : (⟨3, ![1, k, n2]⟩ : Shape).Idx → EReal)
      = m3 fun _ q r => f o0 (o1 + t * q) r := by
  rw [readCov_pieces hL hc]
  funext j
  have h0 : (j 0).val = 0 := by have : (j 0).val < 1 := (j 0).isLt; omega
  have e : ∀ {a a' b b' c c' : ℕ}, a' = a → b' = b → c' = c → f a' b' c' = f a b c := fun h h' h'' => by rw [h, h', h'']
  refine (e ?_ ?_ ?_)
  · show o0 + 1 * (j 0).val = o0
    omega
  · rfl
  · show 0 + 1 * (j 2).val = _
    omega

end Loads

section Moves

open Cert.KernelIdeal Cert.KernelIdeal.Gen

theorem cast16_val {x : FVec Ideal S16x512 .f32} {f : ℕ → ℕ → EReal} (ex : x = m2 f) :
    (shapeCast S16x512 x shapeCasts_S16x512_S16x512 : FVec Ideal S16x512 .f32) = m2 f := by
  refine eq_m2 fun q r => ?_
  pointwise []
  subst ex
  rfl

theorem wrow_val {x : FVec Ideal S1x16x512 .f32} {f : ℕ → ℕ → ℕ → EReal} (ex : x = m3 f) :
    (shapeCast S16x512 x shapeCasts_S1x16x512_S16x512 : FVec Ideal S16x512 .f32) = m2 fun p n => f 0 p n := by
  refine eq_m2 fun q r => ?_
  pointwise []
  subst ex
  rfl

theorem extPiece_val {x : FVec Ideal S1x16x128 .f32} {f : ℕ → ℕ → ℕ → EReal} (ex : x = m3 f) :
    (shapeCast S16x128 (shapeCast S16x128 x shapeCasts_S1x16x128_S16x128 : FVec Ideal S16x128 .f32) shapeCasts_S16x128_S16x128 : FVec Ideal S16x128 .f32)
      = m2 fun q r => f 0 q r := by
  refine eq_m2 fun q r => ?_
  pointwise []
  subst ex
  rfl

theorem before_val {c : FVec Ideal S1x512 .f32} {u : FVec Ideal S16x512 .f32} {f : ℕ → EReal} {g : ℕ → ℕ → EReal} (ec : c = m2 fun _ n => f n) (eu : u = m2 g) :
    (shapeCast S16x512 (concatenate S16x512 0 [⟨S1x512, c⟩, ⟨S15x512, (extractStridedSlice S15x512 ![0, 0] u slices_S16x512_o0_0_S15x512 : FVec Ideal S15x512 .f32)⟩]
      concatenates_S1x512_S15x512_S16x512_d0 : FVec Ideal S16x512 .f32) shapeCasts_S16x512_S16x512 : FVec Ideal S16x512 .f32)
      = m2 fun p n => if p = 0 then f n else g (p - 1) n := by
  refine eq_m2 fun p n => ?_
  pointwise []
  subst ec eu
  split
  · rename_i h
    have h1 : p.val = 0 := Nat.lt_one_iff.mp h
    exact (congrArg (fun y : EReal => y) (if_pos h1)).symm
  · rename_i h
    have h1 : ¬ p.val = 0 := fun e => h (Nat.lt_one_iff.mpr e)
    refine Eq.trans ?_ (congrArg (fun y : EReal => y) (if_neg h1)).symm
    first | rfl | exact congrArg (fun k => (g k n.val)) (Nat.zero_add _)

theorem after_val {c : FVec Ideal S1x512 .f32} {u : FVec Ideal S16x512 .f32} {f : ℕ → EReal} {g : ℕ → ℕ → EReal} (ec : c = m2 fun _ n => f n) (eu : u = m2 g) :
    (shapeCast S16x512 (concatenate S16x512 0 [⟨S15x512, (extractStridedSlice S15x512 ![1, 0] u slices_S16x512_o1_0_S15x512 : FVec Ideal S15x512 .f32)⟩, ⟨S1x512, c⟩]
      concatenates_S15x512_S1x512_S16x512_d0 : FVec Ideal S16x512 .f32) shapeCasts_S16x512_S16x512 : FVec Ideal S16x512 .f32)
      = m2 fun p n => if p < 15 then g (1 + p) n else f n := by
  refine eq_m2 fun p n => ?_
  pointwise []
  subst ec eu
  split <;> rfl

theorem convT_val {c w0 w1 w2 w3 r0 r1 r2 r3 : FVec Ideal S16x512 .f32} {f0 f1 f2 f3 f4 f5 f6 f7 f8 : ℕ → ℕ → EReal} (e0 : c = m2 f0) (e1 : w0 = m2 f1)
    (e2 : w1 = m2 f2) (e3 : w2 = m2 f3) (e4 : w3 = m2 f4) (e5 : r0 = m2 f5) (e6 : r1 = m2 f6) (e7 : r2 = m2 f7) (e8 : r3 = m2 f8) :
    convT c w0 w1 w2 w3 r0 r1 r2 r3
      = m2 fun p n => f0 p n + f1 p n * f5 p n + f2 p n * f6 p n + f3 p n * f7 p n + f4 p n * f8 p n := by
  refine eq_m2 fun q r => ?_
  pointwise [convT]
  subst e0 e1 e2 e3 e4 e5 e6 e7 e8
  simp only [m2_ix, ← EReal.coe_mul, ← EReal.coe_add]

theorem castk_val {x : FVec Ideal S1x1024 .f32} {f : ℕ → EReal} (ex : x = m2 fun _ n => f n) :
    (shapeCast S1x1024 x shapeCasts_S1x1024_S1x1024 : FVec Ideal S1x1024 .f32) = m2 fun _ n => f n := by
  refine eq_m2 fun q r => ?_
  obtain rfl : q = 0 := Subsingleton.elim _ _
  pointwise []
  subst ex
  rfl

theorem at2 {n0 n1 : ℕ} {X : (⟨2, ![n0, n1]⟩ : Shape).Idx → EReal} {f : ℕ → ℕ → EReal} (h : ∀ p q, X (ix2 p q) = (f p.val q.val))
    (i : (⟨2, ![n0, n1]⟩ : Shape).Idx) {a b : ℕ} (ha : (i 0).val = a) (hb : (i 1).val = b) : X i = (f a b) := by
  subst ha hb
  exact (congrArg X (by funext a; fin_cases a <;> rfl)).trans (h (i 0) (i 1))

theorem at3 {n0 n1 n2 : ℕ} {X : (⟨3, ![n0, n1, n2]⟩ : Shape).Idx → EReal} {f : ℕ → ℕ → ℕ → EReal}
    (h : ∀ p q r, X (ix3 p q r) = (f p.val q.val r.val)) (i : (⟨3, ![n0, n1, n2]⟩ : Shape).Idx) {a b c : ℕ}
    (ha : (i 0).val = a) (hb : (i 1).val = b) (hc : (i 2).val = c) : X i = (f a b c) := by
  subst ha hb hc
  exact (congrArg X (by funext a; fin_cases a <;> rfl)).trans (h (i 0) (i 1) (i 2))

end Moves

end Cert.Proof.Ctx

end
-- ==== Proof.CtxTerms.lean ====
/- The context call's operations on the rows of one batch entry, read element by element. -/
module

public import proofs.«01_k».proof.Proof.CtxBlocks
public import proofs.«01_k».proof.Proof.Gen.ContextIdeal.Frame.RunA

@[expose] public section

noncomputable section

namespace Cert.Proof.Ctx

open Idealize.ShloMosaic Cert.Proof.Fwd Cert.ContextIdeal Cert.ContextIdeal.Gen
open Idealize.ShloMosaic.View (Piece PiecesOf canon)

/-! ## The rows -/

/-- The normalised and modulated rows. -/
def modT (x : FVec Ideal S256x1024 .f32) (sc sh : FVec Ideal S1x1024 .f32) (g : FVec Ideal S1x1024 .f32) : FVec Ideal S256x1024 .f32 :=
  addf (mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (FloatOps.ofBits .f32 1149239296#32)))
      (broadcast S256x1 (FloatOps.ofBits .f32 897988541#32)))) broadcasts_S256x1_S256x1024))
    (broadcastTo S256x1024 (mulf g (addf (broadcast S1x1024 (FloatOps.ofBits .f32 1065353216#32)) sc)) broadcasts_S1x1024_S256x1024))
    (broadcastTo S256x1024 sh broadcasts_S1x1024_S256x1024)

theorem modT_val {D : Data} {b : ℕ} {x : FVec Ideal S256x1024 .f32} {sc sh g : FVec Ideal S1x1024 .f32}
    (ex : x = m2 fun p k => D.x b p k) (esc : sc = m2 fun _ k => D.md (1024 + k)) (esh : sh = m2 fun _ k => D.md k)
    (eg : g = m2 fun _ k => D.gain k) : modT x sc sh g = m2 fun p k => hx D b p k := by
  refine eq_m2 fun p k => ?_
  pointwise [modT]
  subst ex esc esh eg
  simp only [m2_ix, bits_1024, bits_eps, bits_one]
  unfold hx rms
  rw [mul_assoc (D.x b p k * _)]
  rfl

theorem proj_val {x : FVec Ideal S256x1024 .f32} {w : FVec Ideal S1024x512 .bf16} {f g : ℕ → ℕ → EReal} (ex : x = m2 f) (ew : w = m2 g) :
    (matmul dot_S256x1024_S1024x512_S256x512_1_0_0_1_n_n none (truncf .bf16 x bitsLt_bf16_f32 : FVec Ideal S256x1024 .bf16)
      (shapeCast S1024x512 w shapeCasts_S1024x512_S1024x512 : FVec Ideal S1024x512 .bf16)
      (constant S256x512 .f32 0#32) : FVec Ideal S256x512 .f32) = m2 fun r n => ∑ k : Fin 1024, f r k * g k n := by
  refine eq_m2 fun p n => ?_
  pointwise []
  subst ex ew
  simp only [m2_ix]

theorem rows_cast {x : FVec Ideal S1x256x1024 .f32} {f : ℕ → ℕ → ℕ → EReal} (ex : x = m3 f) :
    (shapeCast S256x1024 x shapeCasts_S1x256x1024_S256x1024 : FVec Ideal S256x1024 .f32) = m2 fun p k => f 0 p k := by
  refine eq_m2 fun q r => ?_
  pointwise []
  subst ex
  rfl

theorem runPiece_val {o0 o1 : ℕ} {u : FVec Ideal S256x512 .f32} {f : ℕ → ℕ → EReal} (eu : u = m2 f) {h : S256x512.Slices ![o0, o1] S16x128} :
    (shapeCast S1x16x128 (extractStridedSlice S16x128 ![o0, o1] u h : FVec Ideal S16x128 .f32) shapeCasts_S16x128_S1x16x128 : FVec Ideal S1x16x128 .f32)
      = m3 fun _ q r => f (o0 + q) (o1 + r) := by
  refine eq_m3 fun o q r => ?_
  pointwise []
  subst eu
  rfl

theorem zero_row : (broadcast S1x512 (FloatOps.ofBits .f32 0#32) : FVec Ideal S1x512 .f32) = m2 fun _ _ => 0 :=
  eq_m2 fun _ _ => (by pointwise [] : (FloatOps.ofBits .f32 0#32 : Ideal .f32) = 0)

/-! ## The slab order -/

section Rows

variable (D : Data) (b d : ℕ)

/-- The recurrent branch's columns, in four groups, each run of sixteen rows followed by four rows that are not used. -/
def padU (p q r : ℕ) : EReal := z D b (16 * (q / 20) + q % 20) (1024 + (128 * p + r))

/-- The position kept in a row of the slab order. -/
def slot (r : ℕ) : ℕ := 16 * (r % 16) + r / 16

/-- The padded input of the convolution in the slab order. -/
def extU (r n : ℕ) : EReal := up D b (slot r) n

/-- Half of the convolution in the slab order. -/
def slabV (r n : ℕ) : EReal := half * v D b (slot r) n

/-- A direction's decay and the input term of its recurrence in the slab order. -/
def slabG (r n : ℕ) : EReal := if n < 512 then ((dec D d b (slot r) n : ℝ) : EReal) else bx D d b (slot r) (n - 512)

end Rows

section Rows

variable {D : Data} {b d : ℕ}

theorem padU_row {o0 o1 o2 o3 : ℕ} (h : o0 = 16 * (o3 / 20)) (h' : o3 % 20 = 0) (h'' : o1 = 128 * o2) {p q r : ℕ} (hp : p < 1) (hq : q < 16) :
    z D b (o0 + q) (1024 + (o1 + r)) = padU D b (o2 + p) (o3 + q) (0 + r) := by
  obtain rfl : p = 0 := by omega
  unfold padU
  rw [show (o3 + q) / 20 = o3 / 20 by omega, show (o3 + q) % 20 = q by omega, h, h'', Nat.add_zero, Nat.zero_add]

theorem extU_row {o0 o1 o2 o3 : ℕ} (h : o2 = 16 * (o1 + 2)) (h' : o1 < 16) (h'' : o3 = 128 * o0) {p r : ℕ} (hp : p < 16) :
    padU D b o0 (o1 + 20 * p) r = extU D b (o2 + p) (o3 + r) := by
  unfold padU extU up slot
  rw [show (o1 + 20 * p) / 20 = p by omega, show (o1 + 20 * p) % 20 = o1 by omega, if_pos (by omega), h'']
  congr 1
  omega

theorem before_row {o : ℕ} (ho : o = 0 ∨ o = 16) {p n : ℕ} (hp : p < 16) :
    (if p = 0 then 0 else extU D b (o + 256 + (p - 1)) (0 + n)) = extU D b (o + p) (0 + n) := by
  unfold extU
  split
  · rename_i h
    subst h
    unfold up
    rw [if_neg (by unfold slot; omega)]
  · congr 1
    unfold slot
    omega

theorem after_row {p n : ℕ} (hp : p < 16) :
    (if p < 15 then extU D b (32 + (1 + p)) (0 + n) else 0) = extU D b (288 + p) (0 + n) := by
  unfold extU
  split
  · congr 1
    unfold slot
    omega
  · unfold up
    rw [if_neg (by unfold slot; omega)]

theorem conv_slot {r p n : ℕ} (hr : r % 16 = 0) (hp : p < 16) :
    half * D.cb n + half * D.cw 0 n * extU D b (r + p) n + half * D.cw 1 n * extU D b (r + 16 + p) n
      + half * D.cw 2 n * extU D b (r + 32 + p) n + half * D.cw 3 n * extU D b (r + 48 + p) n = slabV D b (r + p) n := by
  unfold extU slabV slot v
  rw [show (r + 16 + p) % 16 = (r + p) % 16 by omega, show (r + 32 + p) % 16 = (r + p) % 16 by omega, show (r + 48 + p) % 16 = (r + p) % 16 by omega,
    show (r + 16 + p) / 16 = (r + p) / 16 + 1 by omega, show (r + 32 + p) / 16 = (r + p) / 16 + 2 by omega, show (r + 48 + p) / 16 = (r + p) / 16 + 3 by omega]
  simp only [← Nat.add_assoc, half_add, mul_assoc, mul_comm (D.cw _ _)]
  rw [add_comm (half * D.cb n)]
  abel

end Rows

/-! ## The gates -/

theorem gateMat_val {o : ℕ} {x : FVec Ideal S256x512 .f32} {w : FVec Ideal S1x1x128x256 .bf16} {f : ℕ → ℕ → EReal} {g : ℕ → ℕ → ℕ → ℕ → EReal} (ex : x = m2 f)
    (ew : w = m4 g) {h : S256x512.Slices ![0, o] S256x128} :
    (matmul dot_S256x128_S128x256_S256x256_1_0_0_1_n_n none
      (extractStridedSlice S256x128 ![0, o] (truncf .bf16 x bitsLt_bf16_f32 : FVec Ideal S256x512 .bf16) h : FVec Ideal S256x128 .bf16)
      (shapeCast S128x256 w shapeCasts_S1x1x128x256_S128x256 : FVec Ideal S128x256 .bf16)
      (constant S256x256 .f32 0#32) : FVec Ideal S256x256 .f32) = m2 fun r n => ∑ k : Fin 128, f r (o + k) * g 0 0 k n := by
  refine eq_m2 fun p n => ?_
  pointwise []
  subst ex ew
  simp only [m2_ix, m4_ix]
  refine Finset.sum_congr rfl fun k _ => ?_
  exact congrArg₂ (· * ·) (congrArg₂ f rfl rfl) rfl

theorem rate0_val {x : FVec Ideal S1x512 .f32} {f : ℕ → EReal} (ex : ∀ n, x (ix2 0 n) = (f n.val)) :
    k0_pay174 (F := Ideal) x = m2 fun _ n => rate * spl (-f n) := by
  refine eq_m2 fun o n => ?_
  obtain rfl : o = 0 := Subsingleton.elim _ _
  pointwise [k0_pay174]
  simp only [ex, zero_sub]
  rfl

theorem rate1_val {x : FVec Ideal S1x512 .f32} {f : ℕ → EReal} (ex : ∀ n, x (ix2 0 n) = (f n.val)) :
    k0_pay267 (F := Ideal) x = m2 fun _ n => rate * spl (-f n) := by
  refine eq_m2 fun o n => ?_
  obtain rfl : o = 0 := Subsingleton.elim _ _
  pointwise [k0_pay267]
  simp only [ex, zero_sub]
  rfl

/-- The argument of a gate. -/
def argT {o : ℕ} (M : FVec Ideal S256x256 .f32) (c : FVec Ideal S1x1x128 .f32) (h : S256x256.Slices ![0, o] S256x128) : FVec Ideal S256x128 .f32 :=
  addf (extractStridedSlice S256x128 ![0, o] M h)
    (broadcastTo S256x128 (shapeCast S1x128 c shapeCasts_S1x1x128_S1x128 : FVec Ideal S1x128 .f32) broadcasts_S1x128_S256x128)

theorem argT_val {o : ℕ} {M : FVec Ideal S256x256 .f32} {c : FVec Ideal S1x1x128 .f32} {f : ℕ → ℕ → EReal} {g : ℕ → ℕ → ℕ → EReal} (eM : M = m2 f) (ec : c = m3 g)
    {h : S256x256.Slices ![0, o] S256x128} : argT M c h = m2 fun r n => f r (o + n) + g 0 0 n := by
  refine eq_m2 fun q r => ?_
  pointwise [argT]
  subst eM ec
  simp only [m2_ix, m3_ix]
  rfl

/-- The decay from the argument of its gate. -/
def decT {o : ℕ} (y : FVec Ideal S256x128 .f32) (P : FVec Ideal S1x512 .f32) (h : S1x512.Slices ![0, o] S1x128) : FVec Ideal S256x128 .f32 :=
  exp2 (addf (mulf (tanh y) (broadcastTo S256x128 (extractStridedSlice S1x128 ![0, o] P h : FVec Ideal S1x128 .f32) broadcasts_S1x128_S256x128))
    (broadcastTo S256x128 (extractStridedSlice S1x128 ![0, o] P h : FVec Ideal S1x128 .f32) broadcasts_S1x128_S256x128))

theorem decT_val {o : ℕ} {y : FVec Ideal S256x128 .f32} {P : FVec Ideal S1x512 .f32} {f : ℕ → ℕ → EReal} {g : ℕ → EReal} (ey : y = m2 fun r n => half * f r n)
    (eP : P = m2 fun _ n => rate * spl (g n)) {h : S1x512.Slices ![0, o] S1x128}
    (hg : ∀ r n, r < 256 → n < 128 → tiny ≤ 1 - ex (((-8 : ℝ) : EReal) * ((sg (f r n) : ℝ) : EReal) * spl (g (o + n)))
      * ex (((-8 : ℝ) : EReal) * ((sg (f r n) : ℝ) : EReal) * spl (g (o + n)))) :
    decT y P h = m2 fun r n => ((ex (((-8 : ℝ) : EReal) * ((sg (f r n) : ℝ) : EReal) * spl (g (o + n))) : ℝ) : EReal) := by
  refine eq_m2 fun q r => ?_
  pointwise [decT]
  subst ey eP
  simp only [m2_ix]
  exact exp2_ex _ _ (hg q r q.isLt r.isLt)

/-- The input term of the recurrence from the decay, the argument of its gate and half the convolution. -/
def bxT (a y v : FVec Ideal S256x128 .f32) : FVec Ideal S256x128 .f32 :=
  mulf (mulf (subf (broadcast S256x128 (FloatOps.ofBits .f32 1065353216#32)) (mulf a a))
    (rsqrt (maximumf (subf (broadcast S256x128 (FloatOps.ofBits .f32 1065353216#32)) (mulf a a)) (broadcast S256x128 (FloatOps.ofBits .f32 228737632#32)))))
    (mulf (addf (tanh y) (broadcast S256x128 (FloatOps.ofBits .f32 1065353216#32))) v)

theorem bxT_val {a y v : FVec Ideal S256x128 .f32} {f : ℕ → ℕ → ℝ} {g w : ℕ → ℕ → EReal} (ea : a = m2 fun r n => ((f r n : ℝ) : EReal))
    (ey : y = m2 fun r n => half * g r n) (ev : v = m2 fun r n => half * w r n) (hg : ∀ r n, r < 256 → n < 128 → tiny ≤ 1 - f r n * f r n) :
    bxT a y v = m2 fun r n => ((Real.sqrt (1 - f r n * f r n) : ℝ) : EReal) * (((sg (g r n) : ℝ) : EReal) * w r n) := by
  refine eq_m2 fun q r => ?_
  pointwise [bxT]
  subst ea ey ev
  have h := hg q r q.isLt r.isLt
  simp only [m2_ix, bits_one, one_coe, bits_tiny, tanh_sg, ← EReal.coe_mul, ← EReal.coe_add, ← EReal.coe_sub, max_coe]
  rw [rsqrt_coe (lt_max_of_lt_right tiny_pos), ← EReal.coe_mul, mul_inv_sqrt tiny_pos h]
  unfold half
  rw [← mul_assoc (((_ : ℝ) : EReal)) (((1 / 2 : ℝ) : EReal)), ← EReal.coe_mul]
  congr 3
  ring

theorem castG_val {x : FVec Ideal S256x128 .f32} {f : ℕ → ℕ → EReal} (ex : x = m2 f) :
    (shapeCast S256x128 x shapeCasts_S256x128_S256x128 : FVec Ideal S256x128 .f32) = m2 f := by
  refine eq_m2 fun q r => ?_
  pointwise []
  subst ex
  rfl

theorem out1_val {x : FVec Ideal S1x512 .f32} {f : ℕ → EReal} (ex : x = m2 fun _ n => f n) :
    (shapeCast S1x1x512 x shapeCasts_S1x512_S1x1x512 : FVec Ideal S1x1x512 .f32) = m3 fun _ _ n => f n := by
  refine eq_m3 fun o q r => ?_
  obtain rfl : q = 0 := Subsingleton.elim _ _
  pointwise []
  subst ex
  rfl

end Cert.Proof.Ctx

end
-- ==== Proof.CtxIn.lean ====
/- The blocks the context call is given for one batch entry, its loads of them, and the operations on what it loads. -/
module

public import proofs.«01_k».proof.Proof.CtxTerms

@[expose] public section

noncomputable section

namespace Cert.Proof.Ctx

open Idealize.ShloMosaic Cert.Proof.Fwd Cert.ContextIdeal Cert.ContextIdeal.Gen
open Idealize.ShloMosaic.View (Piece PiecesOf canon)

/-- The blocks of batch entry `b`. -/
structure Tile (D : Data) (b : ℕ) (x0 : FVec Ideal S1x256x1024 .f32) (x1 : FVec Ideal S8x3072 .f32) (x2 : FVec Ideal S1x1024 .f32)
    (x3 : FVec Ideal S1024x512 .bf16) (x4 : FVec Ideal S4x16x512 .f32) (x5 : FVec Ideal S16x512 .f32)
    (x6 : FVec Ideal S1x4x128x256 .bf16) (x7 : FVec Ideal S1x1x1024 .f32) (x8 : FVec Ideal S1x4x128x256 .bf16) (x9 : FVec Ideal S1x1x1024 .f32)
    (x10 : FVec Ideal S2x512 .f32) : Prop where
  x : x0 = m3 fun _ p k => D.x b p k
  md : ∀ k : Fin 3072, x1 (ix2 2 k) = D.md k
  gain : x2 = m2 fun _ n => D.gain n
  w : x3 = m2 fun k n => D.w k (1024 + n)
  cw : x4 = m3 fun m _ n => half * D.cw m n
  cb : x5 = m2 fun _ n => half * D.cb n
  wg0 : x6 = m4 fun _ h d e => if e < 128 then D.wr 0 h d e else D.wi 0 h d (e - 128)
  bg0 : x7 = m3 fun _ _ n => half * (if n < 512 then D.br 0 n else D.bi 0 (n - 512))
  wg1 : x8 = m4 fun _ h d e => if e < 128 then D.wr 1 h d e else D.wi 1 h d (e - 128)
  bg1 : x9 = m3 fun _ _ n => half * (if n < 512 then D.br 1 n else D.bi 1 (n - 512))
  lam : x10 = m2 fun d n => D.lam d n

section Loads

variable {D : Data} {b d : ℕ}

theorem x_load {m : Memref Cert.ContextIdeal.sig .tc .vmem S1x256x1024 .f32} (hm : m.IsWhole) {x : FVec Ideal S1x256x1024 .f32}
    (ex : x = m3 fun _ p k => D.x b p k) {inb : ∀ a, (![0, 0, 0] : Fin 3 → ℕ) a + S1x256x1024.size a ≤ S1x256x1024.size a} :
    (shapeCast S256x1024 (View.readAt (Elt Ideal) m.view (Rect.unit (s := S1x256x1024) ![0, 0, 0] S1x256x1024.size inb).toLoadRect (hm.unread x) :
      FVec Ideal S1x256x1024 .f32) shapeCasts_S1x256x1024_S256x1024 : FVec Ideal S256x1024 .f32) = m2 fun p k => D.x b p k := by
  refine (rows_cast (load3 hm ex)).trans (m2_congr fun p k _ _ => ?_)
  show D.x b (0 + p) (0 + k) = _
  rw [Nat.zero_add, Nat.zero_add]

theorem gain_load {m : Memref Cert.ContextIdeal.sig .tc .vmem S1x1024 .f32} (hm : m.IsWhole) {x : FVec Ideal S1x1024 .f32}
    (ex : x = m2 fun _ n => D.gain n) {inb : ∀ a, (![0, 0] : Fin 2 → ℕ) a + S1x1024.size a ≤ S1x1024.size a} :
    (shapeCast S1x1024 (View.readAt (Elt Ideal) m.view (Rect.unit (s := S1x1024) ![0, 0] S1x1024.size inb).toLoadRect (hm.unread x) :
      FVec Ideal S1x1024 .f32) shapeCasts_S1x1024_S1x1024 : FVec Ideal S1x1024 .f32) = m2 fun _ k => D.gain k := by
  refine (castk_val (f := D.gain) ((load2 hm ex 0 0 rfl rfl).trans (m2_congr fun p k _ _ => ?_)))
  rw [Nat.zero_add]

/-- The row of the modulation the context uses. -/
theorem md_load {m : Memref Cert.ContextIdeal.sig .tc .vmem S8x3072 .f32} (hm : m.IsWhole) {x : FVec Ideal S8x3072 .f32}
    (ex : ∀ k : Fin 3072, x (ix2 2 k) = (D.md k)) {o : ℕ} {inb : ∀ a, (![2, o] : Fin 2 → ℕ) a + S1x1024.size a ≤ S8x3072.size a} :
    (View.readAt (Elt Ideal) m.view (Rect.unit (s := S8x3072) ![2, o] S1x1024.size inb).toLoadRect (hm.unread x) :
      FVec Ideal S1x1024 .f32) = m2 fun _ k => D.md (o + k) := by
  refine eq_m2 fun p n => ?_
  obtain rfl : p = 0 := Subsingleton.elim _ _
  have ho : o + n.val < 3072 := by
    have h1 : o + 1024 ≤ 3072 := inb 1
    have := n.isLt
    omega
  rw [load_whole hm]
  refine Eq.trans (congrArg x ?_) (ex ⟨o + n.val, ho⟩)
  refine (eq_ix2 _).trans (congrArg₂ ix2 (Fin.ext ?_) (Fin.ext ?_))
  · exact ValueKit.rect_emb_unit_val (s := S8x3072) ![2, o] S1x1024.size inb (ix2 0 n) 0
  · exact ValueKit.rect_emb_unit_val (s := S8x3072) ![2, o] S1x1024.size inb (ix2 0 n) 1

theorem scale_load {m : Memref Cert.ContextIdeal.sig .tc .vmem S8x3072 .f32} (hm : m.IsWhole) {x : FVec Ideal S8x3072 .f32}
    (ex : ∀ k : Fin 3072, x (ix2 2 k) = (D.md k)) {inb : ∀ a, (![2, 1024] : Fin 2 → ℕ) a + S1x1024.size a ≤ S8x3072.size a} :
    (View.readAt (Elt Ideal) m.view (Rect.unit (s := S8x3072) ![2, 1024] S1x1024.size inb).toLoadRect (hm.unread x) :
      FVec Ideal S1x1024 .f32) = m2 fun _ k => D.md (1024 + k) := md_load hm ex

theorem shift_load {m : Memref Cert.ContextIdeal.sig .tc .vmem S8x3072 .f32} (hm : m.IsWhole) {x : FVec Ideal S8x3072 .f32}
    (ex : ∀ k : Fin 3072, x (ix2 2 k) = (D.md k)) {inb : ∀ a, (![2, 0] : Fin 2 → ℕ) a + S1x1024.size a ≤ S8x3072.size a} :
    (View.readAt (Elt Ideal) m.view (Rect.unit (s := S8x3072) ![2, 0] S1x1024.size inb).toLoadRect (hm.unread x) :
      FVec Ideal S1x1024 .f32) = m2 fun _ k => D.md k :=
  (md_load hm ex).trans (m2_congr fun p k _ _ => by rw [Nat.zero_add])

theorem w_load {m : Memref Cert.ContextIdeal.sig .tc .vmem S1024x512 .bf16} (hm : m.IsWhole) {x : FVec Ideal S1024x512 .bf16}
    (ex : x = m2 fun k n => D.w k (1024 + n)) {inb : ∀ a, (![0, 0] : Fin 2 → ℕ) a + S1024x512.size a ≤ S1024x512.size a} :
    (View.readAt (Elt Ideal) m.view (Rect.unit (s := S1024x512) ![0, 0] S1024x512.size inb).toLoadRect (hm.unread x) :
      FVec Ideal S1024x512 .bf16) = m2 fun k n => D.w k (1024 + n) :=
  (load2b hm ex 0 0 rfl rfl).trans (m2_congr fun p k _ _ => by rw [Nat.zero_add, Nat.zero_add])

theorem cw_load {m : Memref Cert.ContextIdeal.sig .tc .vmem S4x16x512 .f32} (hm : m.IsWhole) {x : FVec Ideal S4x16x512 .f32}
    (ex : x = m3 fun m _ n => half * D.cw m n) {o : ℕ} {inb : ∀ a, (![o, 0, 0] : Fin 3 → ℕ) a + S1x16x512.size a ≤ S4x16x512.size a} :
    (shapeCast S16x512 (View.readAt (Elt Ideal) m.view (Rect.unit (s := S4x16x512) ![o, 0, 0] S1x16x512.size inb).toLoadRect (hm.unread x) :
      FVec Ideal S1x16x512 .f32) shapeCasts_S1x16x512_S16x512 : FVec Ideal S16x512 .f32) = m2 fun _ n => half * D.cw o n := by
  refine (wrow_val (load3 hm ex)).trans (m2_congr fun p k _ _ => ?_)
  show half * D.cw (o + 0) (0 + k) = _
  rw [Nat.add_zero, Nat.zero_add]

theorem cb_load {m : Memref Cert.ContextIdeal.sig .tc .vmem S16x512 .f32} (hm : m.IsWhole) {x : FVec Ideal S16x512 .f32}
    (ex : x = m2 fun _ n => half * D.cb n) {inb : ∀ a, (![0, 0] : Fin 2 → ℕ) a + S16x512.size a ≤ S16x512.size a} :
    (shapeCast S16x512 (View.readAt (Elt Ideal) m.view (Rect.unit (s := S16x512) ![0, 0] S16x512.size inb).toLoadRect (hm.unread x) :
      FVec Ideal S16x512 .f32) shapeCasts_S16x512_S16x512 : FVec Ideal S16x512 .f32) = m2 fun _ n => half * D.cb n := by
  refine (cast16_val (load2 hm ex 0 0 rfl rfl)).trans (m2_congr fun p k _ _ => ?_)
  rw [Nat.zero_add]

theorem ext_load {v : View Cert.ContextIdeal.sig .tc .vmem S304x512 .f32} {L : List (Piece (Elt Ideal) S304x512 .f32)}
    (hU : PiecesOf (Val := Elt Ideal) (e := .f32) (m2 (extU D b)) L) (hc : ∀ y : S304x512.Idx, ∃ p ∈ L, y ∈ p.1.set) {o r : ℕ} (ho : o = r)
    {inb : ∀ a, (![o, 0] : Fin 2 → ℕ) a + S16x512.size a ≤ S304x512.size a} :
    (v.readCov L (Rect.unit (s := S304x512) ![o, 0] S16x512.size inb).toLoadRect : FVec Ideal S16x512 .f32) = m2 fun p n => extU D b (r + p) n := by
  subst ho
  refine (back2 hU fun _ => hc _).trans (m2_congr fun p n _ _ => ?_)
  show extU D b (o + p) (0 + n) = _
  rw [Nat.zero_add]

theorem conv_val {c w0 w1 w2 w3 r0 r1 r2 r3 : FVec Ideal S16x512 .f32} {r : ℕ} (hr : r % 16 = 0) (e0 : c = m2 fun _ n => half * D.cb n)
    (e1 : w0 = m2 fun _ n => half * D.cw 0 n) (e2 : w1 = m2 fun _ n => half * D.cw 1 n) (e3 : w2 = m2 fun _ n => half * D.cw 2 n)
    (e4 : w3 = m2 fun _ n => half * D.cw 3 n) (e5 : r0 = m2 fun p n => extU D b (r + p) n) (e6 : r1 = m2 fun p n => extU D b (r + 16 + p) n)
    (e7 : r2 = m2 fun p n => extU D b (r + 32 + p) n) (e8 : r3 = m2 fun p n => extU D b (r + 48 + p) n) :
    convT c w0 w1 w2 w3 r0 r1 r2 r3 = m2 fun p n => slabV D b (r + p) n :=
  (convT_val e0 e1 e2 e3 e4 e5 e6 e7 e8).trans (m2_congr fun _ _ hp _ => conv_slot hr hp)

/-! ## The gates -/

theorem bg_load {m : Memref Cert.ContextIdeal.sig .tc .vmem S1x1x1024 .f32} (hm : m.IsWhole) {x : FVec Ideal S1x1x1024 .f32}
    (ex : x = m3 fun _ _ n => half * (if n < 512 then D.br d n else D.bi d (n - 512))) {o : ℕ}
    {inb : ∀ a, (![0, 0, o] : Fin 3 → ℕ) a + S1x1x128.size a ≤ S1x1x1024.size a} :
    (View.readAt (Elt Ideal) m.view (Rect.unit (s := S1x1x1024) ![0, 0, o] S1x1x128.size inb).toLoadRect (hm.unread x) :
      FVec Ideal S1x1x128 .f32) = m3 fun _ _ n => half * (if o + n < 512 then D.br d (o + n) else D.bi d (o + n - 512)) :=
  load3 hm ex

theorem wg_load {m : Memref Cert.ContextIdeal.sig .tc .vmem S1x4x128x256 .bf16} (hm : m.IsWhole) {x : FVec Ideal S1x4x128x256 .bf16}
    (ex : x = m4 fun _ h k e => if e < 128 then D.wr d h k e else D.wi d h k (e - 128)) {o : ℕ}
    {inb : ∀ a, (![0, o, 0, 0] : Fin 4 → ℕ) a + S1x1x128x256.size a ≤ S1x4x128x256.size a} :
    (View.readAt (Elt Ideal) m.view (Rect.unit (s := S1x4x128x256) ![0, o, 0, 0] S1x1x128x256.size inb).toLoadRect (hm.unread x) :
      FVec Ideal S1x1x128x256 .bf16) = m4 fun _ h k e => if 0 + e < 128 then D.wr d (o + h) (0 + k) (0 + e) else D.wi d (o + h) (0 + k) (0 + e - 128) :=
  load4b hm ex

theorem lam_load {m : Memref Cert.ContextIdeal.sig .tc .vmem S2x512 .f32} (hm : m.IsWhole) {x : FVec Ideal S2x512 .f32}
    (ex : x = m2 fun d n => D.lam d n) {inb : ∀ a, (![d, 0] : Fin 2 → ℕ) a + S1x512.size a ≤ S2x512.size a} (n : Fin 512) :
    (View.readAt (Elt Ideal) m.view (Rect.unit (s := S2x512) ![d, 0] S1x512.size inb).toLoadRect (hm.unread x) : FVec Ideal S1x512 .f32) (ix2 0 n)
      = (D.lam d n) := by
  have e := load2 hm ex d 0 rfl rfl (inb := inb)
  refine (congrFun e (ix2 0 n)).trans ?_
  show (D.lam (d + 0) (0 + n)) = _
  rw [Nat.add_zero, Nat.zero_add]

theorem gate_mat {v : View Cert.ContextIdeal.sig .tc .vmem S256x512 .f32} {L : List (Piece (Elt Ideal) S256x512 .f32)}
    (hV : PiecesOf (Val := Elt Ideal) (e := .f32) (m2 (slabV D b)) L) (hc : ∀ y : S256x512.Idx, ∃ p ∈ L, y ∈ p.1.set)
    {m : Memref Cert.ContextIdeal.sig .tc .vmem S1x4x128x256 .bf16} (hm : m.IsWhole) {x : FVec Ideal S1x4x128x256 .bf16}
    (ex : x = m4 fun _ h k e => if e < 128 then D.wr d h k e else D.wi d h k (e - 128)) {o h : ℕ}
    {inb : ∀ a, (![0, 0] : Fin 2 → ℕ) a + S256x512.size a ≤ S256x512.size a} {hs : S256x512.Slices ![0, o] S256x128}
    {inb' : ∀ a, (![0, h, 0, 0] : Fin 4 → ℕ) a + S1x1x128x256.size a ≤ S1x4x128x256.size a} :
    (matmul dot_S256x128_S128x256_S256x256_1_0_0_1_n_n none
      (extractStridedSlice S256x128 ![0, o] (truncf .bf16 (v.readCov L (Rect.unit (s := S256x512) ![0, 0] S256x512.size inb).toLoadRect : FVec Ideal S256x512 .f32)
        bitsLt_bf16_f32 : FVec Ideal S256x512 .bf16) hs : FVec Ideal S256x128 .bf16)
      (shapeCast S128x256 (View.readAt (Elt Ideal) m.view (Rect.unit (s := S1x4x128x256) ![0, h, 0, 0] S1x1x128x256.size inb').toLoadRect (hm.unread x) :
        FVec Ideal S1x1x128x256 .bf16) shapeCasts_S1x1x128x256_S128x256 : FVec Ideal S128x256 .bf16)
      (constant S256x256 .f32 0#32) : FVec Ideal S256x256 .f32)
      = m2 fun r n => ∑ k : Fin 128, slabV D b r (o + k) * if n < 128 then D.wr d h k n else D.wi d h k (n - 128) := by
  refine (gateMat_val (back2 hV fun _ => hc _) (wg_load hm ex)).trans (m2_congr fun r n _ _ => Finset.sum_congr rfl fun k _ => ?_)
  show slabV D b (0 + r) (0 + (o + k)) * _ = _
  simp only [Nat.zero_add, Nat.add_zero]

/-- The arguments of the two gates of a head, halved. -/
theorem rg_val {M : FVec Ideal S256x256 .f32} {c : FVec Ideal S1x1x128 .f32} {o h : ℕ} (ho : o = 128 * h) (hh : h < 4)
    (eM : M = m2 fun r n => ∑ k : Fin 128, slabV D b r (o + k) * if n < 128 then D.wr d h k n else D.wi d h k (n - 128))
    (ec : c = m3 fun _ _ n => half * (if o + n < 512 then D.br d (o + n) else D.bi d (o + n - 512))) {e : S256x256.Slices ![0, 0] S256x128} :
    argT M c e = m2 fun r n => half * pre D (D.wr d) (D.br d) b (slot r) (o + n) := by
  refine (argT_val eM ec).trans (m2_congr fun r n _ hn => ?_)
  subst ho
  unfold pre
  rw [if_pos (by omega), half_add, half_sum, show (128 * h + n) / 128 = h by omega, show (128 * h + n) % 128 = n by omega]
  refine congrArg (· + _) (Finset.sum_congr rfl fun k _ => ?_)
  rw [if_pos (by omega), Nat.zero_add, slabV, mul_assoc]

theorem ig_val {M : FVec Ideal S256x256 .f32} {c : FVec Ideal S1x1x128 .f32} {o h o' : ℕ} (ho : o = 128 * h) (hh : h < 4) (ho' : o' = 512 + o)
    (eM : M = m2 fun r n => ∑ k : Fin 128, slabV D b r (o + k) * if n < 128 then D.wr d h k n else D.wi d h k (n - 128))
    (ec : c = m3 fun _ _ n => half * (if o' + n < 512 then D.br d (o' + n) else D.bi d (o' + n - 512))) {e : S256x256.Slices ![0, 128] S256x128} :
    argT M c e = m2 fun r n => half * pre D (D.wi d) (D.bi d) b (slot r) (o + n) := by
  refine (argT_val eM ec).trans (m2_congr fun r n _ hn => ?_)
  subst ho ho'
  unfold pre
  rw [if_neg (by omega), half_add, half_sum, show (128 * h + n) / 128 = h by omega, show (128 * h + n) % 128 = n by omega,
    show 512 + 128 * h + n - 512 = 128 * h + n by omega]
  refine congrArg (· + _) (Finset.sum_congr rfl fun k _ => ?_)
  rw [if_neg (by omega), Nat.add_sub_cancel_left, slabV, mul_assoc]

theorem decay_val {y : FVec Ideal S256x128 .f32} {P : FVec Ideal S1x512 .f32} {o : ℕ}
    (ey : y = m2 fun r n => half * pre D (D.wr d) (D.br d) b (slot r) (o + n))
    (eP : P = m2 fun _ n => rate * spl (-D.lam d n)) (ho : o ≤ 384) (hg : ∀ r n, r < 256 → n < 512 → tiny ≤ gap D d b (slot r) n)
    {h : S1x512.Slices ![0, o] S1x128} :
    decT y P h = m2 fun r n => ((dec D d b (slot r) (o + n) : ℝ) : EReal) :=
  decT_val ey eP fun r n hr hn => hg r (o + n) hr (by omega)

theorem bx_val {a y v : FVec Ideal S256x128 .f32} {o : ℕ} (ea : a = m2 fun r n => ((dec D d b (slot r) (o + n) : ℝ) : EReal))
    (ey : y = m2 fun r n => half * pre D (D.wi d) (D.bi d) b (slot r) (o + n)) (ev : v = m2 fun r n => slabV D b r (o + n)) (ho : o ≤ 384)
    (hg : ∀ r n, r < 256 → n < 512 → tiny ≤ gap D d b (slot r) n) :
    bxT a y v = m2 fun r n => bx D d b (slot r) (o + n) :=
  bxT_val ea ey ev fun r n hr hn => hg r (o + n) hr (by omega)

theorem half_load {v : View Cert.ContextIdeal.sig .tc .vmem S256x512 .f32} {L : List (Piece (Elt Ideal) S256x512 .f32)}
    (hV : PiecesOf (Val := Elt Ideal) (e := .f32) (m2 (slabV D b)) L) (hc : ∀ y : S256x512.Idx, ∃ p ∈ L, y ∈ p.1.set) {o : ℕ}
    {inb : ∀ a, (![0, o] : Fin 2 → ℕ) a + S256x128.size a ≤ S256x512.size a} :
    (v.readCov L (Rect.unit (s := S256x512) ![0, o] S256x128.size inb).toLoadRect : FVec Ideal S256x128 .f32) = m2 fun r n => slabV D b r (o + n) := by
  refine (back2 hV fun _ => hc _).trans (m2_congr fun p n _ _ => ?_)
  show slabV D b (0 + p) (o + n) = _
  rw [Nat.zero_add]

theorem slabG_lo {o r n : ℕ} (h : o + n < 512) : ((dec D d b (slot r) (o + n) : ℝ) : EReal) = slabG D b d (0 + r) (o + n) := by
  unfold slabG
  rw [if_pos h, Nat.zero_add]

theorem slabG_hi {o o' r n : ℕ} (h : o' = 512 + o) : bx D d b (slot r) (o + n) = slabG D b d (0 + r) (o' + n) := by
  unfold slabG
  rw [if_neg (by omega), Nat.zero_add]
  congr 1
  omega

end Loads

/-! ## Covers -/

theorem gap_inb (k : Fin 64) : ∀ a, (![k.val / 16, 20 * (k.val % 16) + 16, 0] : Fin 3 → ℕ) a + (![1, 4, 128] : Fin 3 → ℕ) a ≤ S4x320x128.size a := by
  intro a
  have := k.isLt
  fin_cases a
  · show k.val / 16 + 1 ≤ 4
    omega
  · show 20 * (k.val % 16) + 16 + 4 ≤ 320
    omega
  · exact le_rfl

/-- The four rows between runs of sixteen. -/
def gaps : List (Piece (Elt Ideal) S4x320x128 .f32) :=
  List.ofFn fun k : Fin 64 => ⟨Rect.unit (s := S4x320x128) ![k.val / 16, 20 * (k.val % 16) + 16, 0] ![1, 4, 128] (gap_inb k), fun _ => (0 : EReal)⟩

theorem cover_runs {L : List (Piece (Elt Ideal) S4x320x128 .f32)} (h : Piece.tiledBy (L ++ gaps) ![1, 4, 128] = true) {y : S4x320x128.Idx}
    (hy : (y 1).val % 20 < 16) : ∃ p ∈ L, y ∈ p.1.set := by
  refine cover_left (View.cover_of_tiledBy _ ![1, 4, 128] h y) fun p hp hm => ?_
  obtain ⟨k, rfl⟩ := (List.mem_ofFn' _ _).mp hp
  have h1 := (Rect.mem_set_unit (inb := gap_inb k)).mp hm 1
  have e1 : 20 * (k.val % 16) + 16 ≤ (y 1).val := h1.1
  have e2 : (y 1).val < 20 * (k.val % 16) + 16 + 4 := h1.2
  omega

theorem stride_row {o0 o1 : ℕ} (h : o1 < 16)
    {inb : ∀ a, (![1, 16, 128] : Fin 3 → ℕ) a = 0 ∨ (![o0, o1, 0] : Fin 3 → ℕ) a + (![1, 20, 1] : Fin 3 → ℕ) a * ((![1, 16, 128] : Fin 3 → ℕ) a - 1)
      < S4x320x128.size a} (y : (⟨![o0, o1, 0], ![1, 16, 128], ![1, 20, 1], inb⟩ : LoadRect S4x320x128).shape.Idx) :
    ((⟨![o0, o1, 0], ![1, 16, 128], ![1, 20, 1], inb⟩ : LoadRect S4x320x128).idx y 1).val % 20 < 16 := by
  show (o1 + 20 * (y 1).val) % 20 < 16
  omega

theorem cover_mid {L : List (Piece (Elt Ideal) S304x512 .f32)} {w0 w1 w2 : FVec Ideal S16x512 .f32}
    {inb0 : ∀ a, (![288, 0] : Fin 2 → ℕ) a + S16x512.size a ≤ S304x512.size a} {inb1 : ∀ a, (![16, 0] : Fin 2 → ℕ) a + S16x512.size a ≤ S304x512.size a}
    {inb2 : ∀ a, (![0, 0] : Fin 2 → ℕ) a + S16x512.size a ≤ S304x512.size a} {y : S304x512.Idx}
    (h : ∃ p ∈ ((⟨Rect.unit (s := S304x512) ![288, 0] S16x512.size inb0, w0⟩ :: ⟨Rect.unit (s := S304x512) ![16, 0] S16x512.size inb1, w1⟩ ::
      ⟨Rect.unit (s := S304x512) ![0, 0] S16x512.size inb2, w2⟩ :: L : List (Piece (Elt Ideal) S304x512 .f32))), y ∈ p.1.set)
    (h1 : 32 ≤ (y 0).val) (h2 : (y 0).val < 288) : ∃ p ∈ L, y ∈ p.1.set := by
  obtain ⟨p, hp, hm⟩ := h
  rcases List.mem_cons.mp hp with rfl | hp
  · have e : 288 ≤ (y 0).val := ((Rect.mem_set_unit (inb := inb0)).mp hm 0).1
    omega
  rcases List.mem_cons.mp hp with rfl | hp
  · have e : (y 0).val < 16 + 16 := ((Rect.mem_set_unit (inb := inb1)).mp hm 0).2
    omega
  rcases List.mem_cons.mp hp with rfl | hp
  · have e : (y 0).val < 0 + 16 := ((Rect.mem_set_unit (inb := inb2)).mp hm 0).2
    omega
  exact ⟨p, hp, hm⟩

/-! ## Stores over older stores -/

/-- The newest `k` stores of a list hold the contents `G`. -/
def Newest {s : Shape} {e : EltTy} (G : s.Idx → Elt Ideal e) (k : ℕ) (L : List (Piece (Elt Ideal) s e)) : Prop := PiecesOf G (L.take k)

theorem canon_newest {s : Shape} {e : EltTy} {G : s.Idx → Elt Ideal e} {y : s.Idx} : ∀ {k : ℕ} {L : List (Piece (Elt Ideal) s e)},
    Newest G k L → (∃ p ∈ L.take k, y ∈ p.1.set) → canon L y = G y
  | 0, L, _, h => by
    obtain ⟨p, hp, _⟩ := h
    simp at hp
  | k + 1, [], _, h => by
    obtain ⟨p, hp, _⟩ := h
    simp at hp
  | k + 1, p :: L, hN, h => by
    by_cases hy : y ∈ p.1.set
    · obtain ⟨x, rfl⟩ := p.1.exists_idx_of_mem hy
      rw [show p.1.idx x = p.1.emb x from rfl, View.canon_cons_emb]
      exact hN.1 x
    · rw [View.canon_cons_of_not_mem _ _ hy]
      refine canon_newest hN.2 ?_
      obtain ⟨q, hq, hm⟩ := h
      rcases List.mem_cons.mp hq with rfl | hq
      · exact absurd hm hy
      · exact ⟨q, hq, hm⟩

theorem newest_cons {n0 n1 k0 k1 o0 o1 k : ℕ} {inb : ∀ a, (![o0, o1] : Fin 2 → ℕ) a + (![k0, k1] : Fin 2 → ℕ) a ≤ (⟨2, ![n0, n1]⟩ : Shape).size a}
    {w : (⟨2, ![k0, k1]⟩ : Shape).Idx → EReal} {f g : ℕ → ℕ → EReal} (hw : w = m2 g) (hg : ∀ p q, p < k0 → q < k1 → g p q = f (o0 + p) (o1 + q))
    {L : List (Piece (Elt Ideal) ⟨2, ![n0, n1]⟩ .f32)} (hL : Newest (e := .f32) (m2 f) k L) :
    Newest (s := ⟨2, ![n0, n1]⟩) (e := .f32) (m2 f) (k + 1) (⟨Rect.unit (s := ⟨2, ![n0, n1]⟩) ![o0, o1] ![k0, k1] inb, w⟩ :: L) :=
  cons2 hw hg hL

theorem newest_load {v : View Cert.ContextIdeal.sig .tc .vmem S256x1024 .f32} {G : List (Piece (Elt Ideal) S256x1024 .f32)} {f : ℕ → ℕ → EReal} {k : ℕ}
    (hG : Newest (e := .f32) (m2 f) k G) (hc : ∀ y : S256x1024.Idx, ∃ p ∈ G.take k, y ∈ p.1.set) {s o : ℕ}
    {inb : ∀ a, (![s, o] : Fin 2 → ℕ) a + S16x512.size a ≤ S256x1024.size a} :
    (v.readCov G (Rect.unit (s := S256x1024) ![s, o] S16x512.size inb).toLoadRect : FVec Ideal S16x512 .f32) = m2 fun p n => f (s + p) (o + n) := by
  rw [View.readCov_eq_canon']
  refine Eq.trans (funext fun j => canon_newest hG (hc _)) ?_
  exact idx2 f rfl rfl inb

end Cert.Proof.Ctx

end
-- ==== Proof.CtxScan.lean ====
/- The recurrence of one direction over the sixteen runs of sixteen positions: from zero within each run, then carried from run to run. -/
module

public import proofs.«01_k».proof.Proof.CtxIn

@[expose] public section

noncomputable section

namespace Cert.Proof.Ctx

open Idealize.ShloMosaic Cert.Proof.Fwd Cert.ContextIdeal Cert.ContextIdeal.Gen
open Idealize.ShloMosaic.View (Piece PiecesOf canon)

section Scan

variable (D : Data) (b d : ℕ)

/-- The sixteen steps within a run, and the sixteen runs, in the order a direction visits them. -/
def nth (s : ℕ) : ℕ := if d = 0 then s else 15 - s

/-- The product of the first `s` decays of each run. -/
def accA : ℕ → ℕ → ℕ → ℝ
  | 0, _, _ => 1
  | s + 1, p, n => dec D d b (16 * p + nth d s) n * accA s p n

/-- The state after `s` positions of each run, from zero. -/
def accH : ℕ → ℕ → ℕ → EReal
  | 0, _, _ => 0
  | s + 1, p, n => ((dec D d b (16 * p + nth d s) n : ℝ) : EReal) * accH s p n + bx D d b (16 * p + nth d s) n

theorem pos_nth {m s : ℕ} (hm : m < 16) (hs : s < 16) : pos d (16 * m + s) = 16 * nth d m + nth d s := by
  unfold pos nth
  split <;> omega

/-- The state `s` positions into a run, from the state before the run. -/
theorem hst_acc {m : ℕ} (hm : m < 16) (n : ℕ) : ∀ s, s ≤ 16 →
    hst D d b n (16 * m + s) = accH D b d s (nth d m) n + ((accA D b d s (nth d m) n : ℝ) : EReal) * hst D d b n (16 * m)
  | 0, _ => by simp [accA, accH]
  | s + 1, hs => by
    rw [← Nat.add_assoc, hst, hst_acc hm n s (by omega), accA, accH, pos_nth d hm (by omega), coe_mul_add (dec_nonneg ..), EReal.coe_mul,
      mul_assoc, add_assoc, add_assoc, add_comm (_ * (_ * _))]

end Scan

section Scan

variable {D : Data} {b d : ℕ}

/-- The products of the first `s` decays, or the states from zero, on all runs at once. -/
def ProdTo (D : Data) (b d s : ℕ) (w : FVec Ideal S16x512 .f32) : Prop := w = m2 fun p n => ((accA D b d s p n : ℝ) : EReal)
def StateTo (D : Data) (b d s : ℕ) (w : FVec Ideal S16x512 .f32) : Prop := w = m2 (accH D b d s)

/-- The state a direction reaches after `m` runs. -/
def CarryTo (D : Data) (b d m : ℕ) (w : FVec Ideal S1x512 .f32) : Prop := w = m2 fun _ n => hst D d b n (16 * m)

theorem prodTo_zero : ProdTo D b d 0 (broadcast S16x512 (FloatOps.ofBits .f32 1065353216#32) : FVec Ideal S16x512 .f32) :=
  eq_m2 fun _ _ => bits_one.trans one_coe

theorem stateTo_zero : StateTo D b d 0 (broadcast S16x512 (FloatOps.ofBits .f32 0#32) : FVec Ideal S16x512 .f32) :=
  eq_m2 fun _ _ => (by pointwise [] : (FloatOps.ofBits .f32 0#32 : Ideal .f32) = 0)

theorem carryTo_zero : CarryTo D b d 0 (broadcast S1x512 (FloatOps.ofBits .f32 0#32) : FVec Ideal S1x512 .f32) := zero_row

/-- What the loads of the gates' buffer give. -/
abbrev Loads (D : Data) (b d : ℕ) (v : View Cert.ContextIdeal.sig .tc .vmem S256x1024 .f32) (G : List (Piece (Elt Ideal) S256x1024 .f32)) : Prop :=
  ∀ {s o : ℕ} {inb : ∀ a, (![s, o] : Fin 2 → ℕ) a + S16x512.size a ≤ S256x1024.size a},
    (v.readCov G (Rect.unit (s := S256x1024) ![s, o] S16x512.size inb).toLoadRect : FVec Ideal S16x512 .f32) = m2 fun p n => slabG D b d (s + p) (o + n)

variable {v : View Cert.ContextIdeal.sig .tc .vmem S256x1024 .f32} {G : List (Piece (Elt Ideal) S256x1024 .f32)}

theorem prodTo_succ (hG : Loads D b d v G) {s : ℕ} {w : FVec Ideal S16x512 .f32} (h : ProdTo D b d s w) {o : ℕ} (ho : o = 16 * nth d s) (hs : s < 16)
    {inb : ∀ a, (![o, 0] : Fin 2 → ℕ) a + S16x512.size a ≤ S256x1024.size a} :
    ProdTo D b d (s + 1) (mulf (v.readCov G (Rect.unit (s := S256x1024) ![o, 0] S16x512.size inb).toLoadRect : FVec Ideal S16x512 .f32) w) := by
  have e1 := hG (inb := inb)
  revert e1
  generalize (v.readCov G (Rect.unit (s := S256x1024) ![o, 0] S16x512.size inb).toLoadRect : FVec Ideal S16x512 .f32) = y
  intro e1
  refine eq_m2 fun p n => ?_
  pointwise []
  rw [show w = _ from h, e1]
  simp only [m2_ix]
  have hp := p.isLt
  have hn := n.isLt
  have hk : nth d s < 16 := by unfold nth; split <;> omega
  rw [accA, EReal.coe_mul, slabG, if_pos (by omega), slot, show (o + p.val) % 16 = p by omega, show (o + p.val) / 16 = nth d s by omega, Nat.zero_add]

theorem stateTo_succ (hG : Loads D b d v G) {s : ℕ} {w : FVec Ideal S16x512 .f32} (h : StateTo D b d s w) {o o2 : ℕ} (ho : o = 16 * nth d s)
    (ho2 : o2 = 16 * nth d s) (hs : s < 16)
    {inb : ∀ a, (![o, 0] : Fin 2 → ℕ) a + S16x512.size a ≤ S256x1024.size a}
    {inb2 : ∀ a, (![o2, 512] : Fin 2 → ℕ) a + S16x512.size a ≤ S256x1024.size a} :
    StateTo D b d (s + 1) (addf (mulf (v.readCov G (Rect.unit (s := S256x1024) ![o, 0] S16x512.size inb).toLoadRect : FVec Ideal S16x512 .f32) w)
      (v.readCov G (Rect.unit (s := S256x1024) ![o2, 512] S16x512.size inb2).toLoadRect : FVec Ideal S16x512 .f32)) := by
  have e1 := hG (inb := inb)
  have e2 := hG (inb := inb2)
  revert e1 e2
  generalize (v.readCov G (Rect.unit (s := S256x1024) ![o, 0] S16x512.size inb).toLoadRect : FVec Ideal S16x512 .f32) = y
  generalize (v.readCov G (Rect.unit (s := S256x1024) ![o2, 512] S16x512.size inb2).toLoadRect : FVec Ideal S16x512 .f32) = y'
  intro e1 e2
  refine eq_m2 fun p n => ?_
  pointwise []
  rw [show w = _ from h, e1, e2]
  simp only [m2_ix]
  have hp := p.isLt
  have hn := n.isLt
  have hk : nth d s < 16 := by unfold nth; split <;> omega
  rw [accH, slabG, slabG, if_pos (by omega), if_neg (by omega), slot, slot, show (o + p.val) % 16 = p by omega, show (o + p.val) / 16 = nth d s by omega,
    show (o2 + p.val) % 16 = p by omega, show (o2 + p.val) / 16 = nth d s by omega, Nat.zero_add, Nat.add_sub_cancel_left]

theorem carryTo_succ {P H : FVec Ideal S16x512 .f32} (eP : ProdTo D b d 16 P) (eH : StateTo D b d 16 H) {m : ℕ} {c : FVec Ideal S1x512 .f32}
    (ec : CarryTo D b d m c) {o : ℕ} (ho : o = nth d m) (hm : m < 16) {h h' : S16x512.Slices ![o, 0] S1x512} :
    CarryTo D b d (m + 1) (nextT P H c h h') := by
  refine eq_m2 fun q n => ?_
  obtain rfl : q = 0 := Subsingleton.elim _ _
  pointwise [nextT]
  rw [show P = _ from eP, show H = _ from eH, show c = _ from ec]
  simp only [m2_ix]
  rw [show 16 * (m + 1) = 16 * m + 16 by omega, hst_acc D b d hm n 16 le_rfl, ← ho, add_comm]

end Scan

end Cert.Proof.Ctx

end
-- ==== Proof.CtxTile.lean ====
/- The rows of one batch entry, the padded input of its convolution, and the gates of the two directions. -/
module

public import proofs.«01_k».proof.Proof.CtxScan

@[expose] public section

noncomputable section

namespace Cert.Proof.Ctx

open Idealize.ShloMosaic Cert.Proof.Fwd Cert.ContextIdeal Cert.ContextIdeal.Gen Cert.ContextIdeal.Gen.kernelRun0_A.sl
open Idealize.ShloMosaic.View (Piece PiecesOf canon)

section

variable {D : Data} {b : ℕ} (c : Dev nD)
  (arg1 : Memref Cert.ContextIdeal.sig .tc .vmem S1x256x1024 .f32) (harg1 : arg1.IsWhole)
  (arg2 : Memref Cert.ContextIdeal.sig .tc .vmem S8x3072 .f32) (harg2 : arg2.IsWhole)
  (arg3 : Memref Cert.ContextIdeal.sig .tc .vmem S1x1024 .f32) (harg3 : arg3.IsWhole)
  (arg4 : Memref Cert.ContextIdeal.sig .tc .vmem S1024x512 .bf16) (harg4 : arg4.IsWhole)
  (arg5 : Memref Cert.ContextIdeal.sig .tc .vmem S4x16x512 .f32) (harg5 : arg5.IsWhole)
  (arg6 : Memref Cert.ContextIdeal.sig .tc .vmem S16x512 .f32) (harg6 : arg6.IsWhole)
  (arg7 : Memref Cert.ContextIdeal.sig .tc .vmem S1x4x128x256 .bf16) (harg7 : arg7.IsWhole)
  (arg8 : Memref Cert.ContextIdeal.sig .tc .vmem S1x1x1024 .f32) (harg8 : arg8.IsWhole)
  (arg9 : Memref Cert.ContextIdeal.sig .tc .vmem S1x4x128x256 .bf16) (harg9 : arg9.IsWhole)
  (arg10 : Memref Cert.ContextIdeal.sig .tc .vmem S1x1x1024 .f32) (harg10 : arg10.IsWhole)
  (arg11 : Memref Cert.ContextIdeal.sig .tc .vmem S2x512 .f32) (harg11 : arg11.IsWhole)
  (arg13 : Memref Cert.ContextIdeal.sig .tc .vmem S4x320x128 .f32) (arg14 : Memref Cert.ContextIdeal.sig .tc .vmem S304x512 .f32)
  (arg15 : Memref Cert.ContextIdeal.sig .tc .vmem S256x512 .f32) (arg16 : Memref Cert.ContextIdeal.sig .tc .vmem S256x1024 .f32)
  {x0 : FVec Ideal S1x256x1024 .f32}
  {x1 : FVec Ideal S8x3072 .f32}
  {x2 : FVec Ideal S1x1024 .f32}
  {x3 : FVec Ideal S1024x512 .bf16}
  {x4 : FVec Ideal S4x16x512 .f32}
  {x5 : FVec Ideal S16x512 .f32}
  {x6 : FVec Ideal S1x4x128x256 .bf16}
  {x7 : FVec Ideal S1x1x1024 .f32}
  {x8 : FVec Ideal S1x4x128x256 .bf16}
  {x9 : FVec Ideal S1x1x1024 .f32}
  {x10 : FVec Ideal S2x512 .f32}
  (T : Tile D b x0 x1 x2 x3 x4 x5 x6 x7 x8 x9 x10)

include T

theorem rows_val : v26 (F := Ideal) c arg1 harg1 arg2 harg2 arg3 harg3 arg4 harg4 x0 x1 x2 x3 = m2 fun r n => z D b r (1024 + n) := by
  unfold v26
  exact proj_val (modT_val (x_load harg1 T.x) (scale_load harg2 T.md) (shift_load harg2 T.md) (gain_load harg3 T.gain)) (w_load harg4 T.w)

theorem runs_pieces : PiecesOf (Val := Elt Ideal) (e := .f32) (m3 (padU D b)) (HS0_64 (F := Ideal) c arg1 harg1 arg2 harg2 arg3 harg3 arg4 harg4 x0 x1 x2 x3) := by
  have e := rows_val c arg1 harg1 arg2 harg2 arg3 harg3 arg4 harg4 T
  unfold HS0_64
  repeat
    refine cons3 (runPiece_val e) (fun p q r hp hq _ => padU_row (by decide) (by decide) (by decide) hp hq) ?_
  trivial

omit T in
theorem runs_cover {y : S4x320x128.Idx} (hy : (y 1).val % 20 < 16) : ∃ p ∈ (HS0_64 (F := Ideal) c arg1 harg1 arg2 harg2 arg3 harg3 arg4 harg4 x0 x1 x2 x3), y ∈ p.1.set :=
  cover_runs (by sl_kernel_rfl) hy

theorem mid_pieces : PiecesOf (Val := Elt Ideal) (e := .f32) (m2 (extU D b)) (HS1_64 (F := Ideal) c arg1 harg1 arg2 harg2 arg3 harg3 arg4 harg4 arg13 x0 x1 x2 x3) := by
  have e := runs_pieces c arg1 harg1 arg2 harg2 arg3 harg3 arg4 harg4 T
  unfold HS1_64
  repeat
    refine cons2 (extPiece_val (backStrided e fun y => runs_cover c arg1 harg1 arg2 harg2 arg3 harg3 arg4 harg4 (stride_row (by decide) y)))
      (fun p r hp _ => extU_row (by decide) (by decide) (by decide) hp) ?_
  trivial

omit T in
theorem ext_cover (y : S304x512.Idx) : ∃ p ∈ (HS1_67 (F := Ideal) c arg1 harg1 arg2 harg2 arg3 harg3 arg4 harg4 arg13 arg14 x0 x1 x2 x3), y ∈ p.1.set :=
  View.cover_of_tiledBy _ ![16, 128] (by sl_kernel_rfl) y

omit T in
theorem mid_cover {y : S304x512.Idx} (h : ∃ p ∈ (HS1_67 (F := Ideal) c arg1 harg1 arg2 harg2 arg3 harg3 arg4 harg4 arg13 arg14 x0 x1 x2 x3), y ∈ p.1.set)
    (h1 : 32 ≤ (y 0).val) (h2 : (y 0).val < 288) : ∃ p ∈ (HS1_64 (F := Ideal) c arg1 harg1 arg2 harg2 arg3 harg3 arg4 harg4 arg13 x0 x1 x2 x3), y ∈ p.1.set := by
  unfold HS1_67 at h
  exact cover_mid h h1 h2

theorem ext_pieces : PiecesOf (Val := Elt Ideal) (e := .f32) (m2 (extU D b)) (HS1_67 (F := Ideal) c arg1 harg1 arg2 harg2 arg3 harg3 arg4 harg4 arg13 arg14 x0 x1 x2 x3) := by
  have em := mid_pieces c arg1 harg1 arg2 harg2 arg3 harg3 arg4 harg4 arg13 T
  unfold HS1_67
  refine cons2 (after_val (f := fun _ => 0) zero_row (back2 em fun y => mid_cover c arg1 harg1 arg2 harg2 arg3 harg3 arg4 harg4 arg13 arg14 (ext_cover c arg1 harg1 arg2 harg2 arg3 harg3 arg4 harg4 arg13 arg14 _) ?_ ?_))
    (fun p n hp _ => after_row hp) ?_
  · exact Nat.le_add_right 32 _
  · show 32 + 1 * (y 0).val < 288
    have : (y 0).val < 16 := (y 0).isLt
    omega
  refine cons2 (before_val (f := fun _ => 0) zero_row (back2 em fun y => mid_cover c arg1 harg1 arg2 harg2 arg3 harg3 arg4 harg4 arg13 arg14 (ext_cover c arg1 harg1 arg2 harg2 arg3 harg3 arg4 harg4 arg13 arg14 _) ?_ ?_))
    (fun p n hp _ => before_row (.inr rfl) hp) ?_
  · exact Nat.le_trans (by decide) (Nat.le_add_right 272 _)
  · show 272 + 1 * (y 0).val < 288
    have : (y 0).val < 16 := (y 0).isLt
    omega
  refine cons2 (before_val (f := fun _ => 0) zero_row (back2 em fun y => mid_cover c arg1 harg1 arg2 harg2 arg3 harg3 arg4 harg4 arg13 arg14 (ext_cover c arg1 harg1 arg2 harg2 arg3 harg3 arg4 harg4 arg13 arg14 _) ?_ ?_))
    (fun p n hp _ => before_row (.inl rfl) hp) ?_
  · exact Nat.le_trans (by decide) (Nat.le_add_right 256 _)
  · show 256 + 1 * (y 0).val < 288
    have : (y 0).val < 16 := (y 0).isLt
    omega
  exact em

theorem half_pieces : PiecesOf (Val := Elt Ideal) (e := .f32) (m2 (slabV D b)) (HS2_16 (F := Ideal) c arg1 harg1 arg2 harg2 arg3 harg3 arg4 harg4 arg5 harg5 arg6 harg6 arg13 arg14 x0 x1 x2 x3 x4 x5) := by
  have eu := ext_pieces c arg1 harg1 arg2 harg2 arg3 harg3 arg4 harg4 arg13 arg14 T
  have hc := fun y => ext_cover c arg1 harg1 arg2 harg2 arg3 harg3 arg4 harg4 arg13 arg14 (x0 := x0) (x1 := x1) (x2 := x2) (x3 := x3) y
  unfold HS2_16
  repeat
    refine cons2 (cast16_val (conv_val (by decide) (cb_load harg6 T.cb) (cw_load harg5 T.cw) (cw_load harg5 T.cw) (cw_load harg5 T.cw) (cw_load harg5 T.cw)
      (ext_load eu hc rfl) (ext_load eu hc rfl) (ext_load eu hc rfl) (ext_load eu hc rfl))) (fun q r _ _ => by simp only [Nat.zero_add]) ?_
  trivial

omit T in
theorem half_cover (y : S256x512.Idx) : ∃ p ∈ (HS2_16 (F := Ideal) c arg1 harg1 arg2 harg2 arg3 harg3 arg4 harg4 arg5 harg5 arg6 harg6 arg13 arg14 x0 x1 x2 x3 x4 x5), y ∈ p.1.set :=
  View.cover_of_tiledL _ ![16, 512] (by sl_kernel_rfl) y

end
end Cert.Proof.Ctx

end
-- ==== Proof.CtxGate.lean ====
/- The gates of the two directions. -/
module

public import proofs.«01_k».proof.Proof.CtxTile

@[expose] public section

noncomputable section

namespace Cert.Proof.Ctx

open Idealize.ShloMosaic Cert.Proof.Fwd Cert.ContextIdeal Cert.ContextIdeal.Gen Cert.ContextIdeal.Gen.kernelRun0_A.sl
open Idealize.ShloMosaic.View (Piece PiecesOf canon)

section

variable {D : Data} {b : ℕ} (c : Dev nD)
  (arg1 : Memref Cert.ContextIdeal.sig .tc .vmem S1x256x1024 .f32) (harg1 : arg1.IsWhole)
  (arg2 : Memref Cert.ContextIdeal.sig .tc .vmem S8x3072 .f32) (harg2 : arg2.IsWhole)
  (arg3 : Memref Cert.ContextIdeal.sig .tc .vmem S1x1024 .f32) (harg3 : arg3.IsWhole)
  (arg4 : Memref Cert.ContextIdeal.sig .tc .vmem S1024x512 .bf16) (harg4 : arg4.IsWhole)
  (arg5 : Memref Cert.ContextIdeal.sig .tc .vmem S4x16x512 .f32) (harg5 : arg5.IsWhole)
  (arg6 : Memref Cert.ContextIdeal.sig .tc .vmem S16x512 .f32) (harg6 : arg6.IsWhole)
  (arg7 : Memref Cert.ContextIdeal.sig .tc .vmem S1x4x128x256 .bf16) (harg7 : arg7.IsWhole)
  (arg8 : Memref Cert.ContextIdeal.sig .tc .vmem S1x1x1024 .f32) (harg8 : arg8.IsWhole)
  (arg9 : Memref Cert.ContextIdeal.sig .tc .vmem S1x4x128x256 .bf16) (harg9 : arg9.IsWhole)
  (arg10 : Memref Cert.ContextIdeal.sig .tc .vmem S1x1x1024 .f32) (harg10 : arg10.IsWhole)
  (arg11 : Memref Cert.ContextIdeal.sig .tc .vmem S2x512 .f32) (harg11 : arg11.IsWhole)
  (arg13 : Memref Cert.ContextIdeal.sig .tc .vmem S4x320x128 .f32) (arg14 : Memref Cert.ContextIdeal.sig .tc .vmem S304x512 .f32)
  (arg15 : Memref Cert.ContextIdeal.sig .tc .vmem S256x512 .f32) (arg16 : Memref Cert.ContextIdeal.sig .tc .vmem S256x1024 .f32)
  {x0 : FVec Ideal S1x256x1024 .f32}
  {x1 : FVec Ideal S8x3072 .f32}
  {x2 : FVec Ideal S1x1024 .f32}
  {x3 : FVec Ideal S1024x512 .bf16}
  {x4 : FVec Ideal S4x16x512 .f32}
  {x5 : FVec Ideal S16x512 .f32}
  {x6 : FVec Ideal S1x4x128x256 .bf16}
  {x7 : FVec Ideal S1x1x1024 .f32}
  {x8 : FVec Ideal S1x4x128x256 .bf16}
  {x9 : FVec Ideal S1x1x1024 .f32}
  {x10 : FVec Ideal S2x512 .f32}
  (T : Tile D b x0 x1 x2 x3 x4 x5 x6 x7 x8 x9 x10)

include T

theorem gate0_pieces (hg : ∀ r n, r < 256 → n < 512 → tiny ≤ gap D 0 b (slot r) n) :
    PiecesOf (Val := Elt Ideal) (e := .f32) (m2 (slabG D b 0)) (HS3_8 (F := Ideal) c arg1 harg1 arg2 harg2 arg3 harg3 arg4 harg4 arg5 harg5 arg6 harg6 arg7 harg7 arg8 harg8 arg11 harg11 arg13 arg14 arg15 x0 x1 x2 x3 x4 x5 x6 x7 x10) := by
  have ew := half_pieces c arg1 harg1 arg2 harg2 arg3 harg3 arg4 harg4 arg5 harg5 arg6 harg6 arg13 arg14 T
  have hw := fun y => half_cover c arg1 harg1 arg2 harg2 arg3 harg3 arg4 harg4 arg5 harg5 arg6 harg6 arg13 arg14 (x0 := x0) (x1 := x1) (x2 := x2) (x3 := x3) (x4 := x4) (x5 := x5) y
  have ep := rate0_val (fun n => lam_load harg11 T.lam (inb := inb_S2x512_S1x512_0_0) n)
  unfold HS3_8
  repeat
    refine cons2 (castG_val (bx_val (decay_val (rg_val (by decide) (by decide) (gate_mat ew hw harg7 T.wg0) (bg_load harg8 T.bg0) (e := slices_S256x256_o0_0_S256x128)) ep (by decide) hg)
      (ig_val (by decide) (by decide) (by decide) (gate_mat ew hw harg7 T.wg0) (bg_load harg8 T.bg0) (e := slices_S256x256_o0_128_S256x128)) (half_load ew hw)
      (by decide) hg)) (fun r n _ hn => slabG_hi (by decide)) ?_
    refine cons2 (castG_val (decay_val (rg_val (by decide) (by decide) (gate_mat ew hw harg7 T.wg0) (bg_load harg8 T.bg0) (e := slices_S256x256_o0_0_S256x128)) ep (by decide) hg))
      (fun r n _ hn => slabG_lo (by omega)) ?_
  trivial

theorem gate1_pieces (hg : ∀ r n, r < 256 → n < 512 → tiny ≤ gap D 1 b (slot r) n) :
    Newest (e := .f32) (m2 (slabG D b 1)) 8 (HS3_16 (F := Ideal) c arg1 harg1 arg2 harg2 arg3 harg3 arg4 harg4 arg5 harg5 arg6 harg6 arg7 harg7 arg8 harg8 arg9 harg9 arg10 harg10 arg11 harg11 arg13 arg14 arg15 x0 x1 x2 x3 x4 x5 x6 x7 x8 x9 x10) := by
  have ew := half_pieces c arg1 harg1 arg2 harg2 arg3 harg3 arg4 harg4 arg5 harg5 arg6 harg6 arg13 arg14 T
  have hw := fun y => half_cover c arg1 harg1 arg2 harg2 arg3 harg3 arg4 harg4 arg5 harg5 arg6 harg6 arg13 arg14 (x0 := x0) (x1 := x1) (x2 := x2) (x3 := x3) (x4 := x4) (x5 := x5) y
  have ep := rate1_val (fun n => lam_load harg11 T.lam (inb := inb_S2x512_S1x512_1_0) n)
  unfold HS3_16 HS3_15 HS3_14 HS3_13 HS3_12 HS3_11 HS3_10 HS3_9
  iterate 4
    refine newest_cons (castG_val (bx_val (decay_val (rg_val (by decide) (by decide) (gate_mat ew hw harg9 T.wg1) (bg_load harg10 T.bg1) (e := slices_S256x256_o0_0_S256x128)) ep (by decide) hg)
      (ig_val (by decide) (by decide) (by decide) (gate_mat ew hw harg9 T.wg1) (bg_load harg10 T.bg1) (e := slices_S256x256_o0_128_S256x128)) (half_load ew hw)
      (by decide) hg)) (fun r n _ hn => slabG_hi (by decide)) ?_
    refine newest_cons (castG_val (decay_val (rg_val (by decide) (by decide) (gate_mat ew hw harg9 T.wg1) (bg_load harg10 T.bg1) (e := slices_S256x256_o0_0_S256x128)) ep (by decide) hg))
      (fun r n _ hn => slabG_lo (by omega)) ?_
  trivial

omit T in
theorem gate0_cover (y : S256x1024.Idx) : ∃ p ∈ (HS3_8 (F := Ideal) c arg1 harg1 arg2 harg2 arg3 harg3 arg4 harg4 arg5 harg5 arg6 harg6 arg7 harg7 arg8 harg8 arg11 harg11 arg13 arg14 arg15 x0 x1 x2 x3 x4 x5 x6 x7 x10), y ∈ p.1.set :=
  View.cover_of_tiledL _ ![256, 128] (by sl_kernel_rfl) y

omit T in
theorem gate1_cover (y : S256x1024.Idx) : ∃ p ∈ (HS3_16 (F := Ideal) c arg1 harg1 arg2 harg2 arg3 harg3 arg4 harg4 arg5 harg5 arg6 harg6 arg7 harg7 arg8 harg8 arg9 harg9 arg10 harg10 arg11 harg11 arg13 arg14 arg15 x0 x1 x2 x3 x4 x5 x6 x7 x8 x9 x10).take 8, y ∈ p.1.set :=
  View.cover_of_tiledL _ ![256, 128] (by sl_kernel_rfl) y

theorem gate0_loads (hg : ∀ r n, r < 256 → n < 512 → tiny ≤ gap D 0 b (slot r) n) (v : View Cert.ContextIdeal.sig .tc .vmem S256x1024 .f32) :
    Loads D b 0 v (HS3_8 (F := Ideal) c arg1 harg1 arg2 harg2 arg3 harg3 arg4 harg4 arg5 harg5 arg6 harg6 arg7 harg7 arg8 harg8 arg11 harg11 arg13 arg14 arg15 x0 x1 x2 x3 x4 x5 x6 x7 x10) :=
  back2 (gate0_pieces c arg1 harg1 arg2 harg2 arg3 harg3 arg4 harg4 arg5 harg5 arg6 harg6 arg7 harg7 arg8 harg8 arg11 harg11 arg13 arg14 arg15 T hg) fun _ => gate0_cover c arg1 harg1 arg2 harg2 arg3 harg3 arg4 harg4 arg5 harg5 arg6 harg6 arg7 harg7 arg8 harg8 arg11 harg11 arg13 arg14 arg15 _

theorem gate1_loads (hg : ∀ r n, r < 256 → n < 512 → tiny ≤ gap D 1 b (slot r) n) (v : View Cert.ContextIdeal.sig .tc .vmem S256x1024 .f32) :
    Loads D b 1 v (HS3_16 (F := Ideal) c arg1 harg1 arg2 harg2 arg3 harg3 arg4 harg4 arg5 harg5 arg6 harg6 arg7 harg7 arg8 harg8 arg9 harg9 arg10 harg10 arg11 harg11 arg13 arg14 arg15 x0 x1 x2 x3 x4 x5 x6 x7 x8 x9 x10) :=
  newest_load (gate1_pieces c arg1 harg1 arg2 harg2 arg3 harg3 arg4 harg4 arg5 harg5 arg6 harg6 arg7 harg7 arg8 harg8 arg9 harg9 arg10 harg10 arg11 harg11 arg13 arg14 arg15 T hg) fun _ => gate1_cover c arg1 harg1 arg2 harg2 arg3 harg3 arg4 harg4 arg5 harg5 arg6 harg6 arg7 harg7 arg8 harg8 arg9 harg9 arg10 harg10 arg11 harg11 arg13 arg14 arg15 _

end
end Cert.Proof.Ctx

end
-- ==== Proof.CtxOut.lean ====
/- What the context call leaves for one batch entry: the state each direction ends in. -/
module

public import proofs.«01_k».proof.Proof.CtxGate
public import proofs.«01_k».proof.Proof.Gen.ContextIdeal.Frame

@[expose] public section

noncomputable section

namespace Cert.Proof.Ctx

open Idealize.ShloMosaic Cert.Proof.Fwd Cert.ContextIdeal Cert.ContextIdeal.Gen Cert.ContextIdeal.Gen.kernelRun0_A.sl
open Idealize.ShloMosaic.View (Piece PiecesOf canon)

theorem read_pieces' {s : Shape} {e : EltTy} {v : View Cert.ContextIdeal.sig .tc .vmem s e} {L : List (Piece (Elt Ideal) s e)} {G : s.Idx → Elt Ideal e}
    (hL : PiecesOf G L) (hc : ∀ y, ∃ p ∈ L, y ∈ p.1.set) : v.read (Elt Ideal) (v.writes (Elt Ideal) v.junk L) = G := by
  rw [View.read_writes_junk_eq_canon]
  exact funext fun y => View.canon_apply_of_pieces G L hL.mem y (hc y)

section

variable {D : Data} {b : ℕ} (c : Dev nD)
  (arg1 : Memref Cert.ContextIdeal.sig .tc .vmem S1x256x1024 .f32) (harg1 : arg1.IsWhole)
  (arg2 : Memref Cert.ContextIdeal.sig .tc .vmem S8x3072 .f32) (harg2 : arg2.IsWhole)
  (arg3 : Memref Cert.ContextIdeal.sig .tc .vmem S1x1024 .f32) (harg3 : arg3.IsWhole)
  (arg4 : Memref Cert.ContextIdeal.sig .tc .vmem S1024x512 .bf16) (harg4 : arg4.IsWhole)
  (arg5 : Memref Cert.ContextIdeal.sig .tc .vmem S4x16x512 .f32) (harg5 : arg5.IsWhole)
  (arg6 : Memref Cert.ContextIdeal.sig .tc .vmem S16x512 .f32) (harg6 : arg6.IsWhole)
  (arg7 : Memref Cert.ContextIdeal.sig .tc .vmem S1x4x128x256 .bf16) (harg7 : arg7.IsWhole)
  (arg8 : Memref Cert.ContextIdeal.sig .tc .vmem S1x1x1024 .f32) (harg8 : arg8.IsWhole)
  (arg9 : Memref Cert.ContextIdeal.sig .tc .vmem S1x4x128x256 .bf16) (harg9 : arg9.IsWhole)
  (arg10 : Memref Cert.ContextIdeal.sig .tc .vmem S1x1x1024 .f32) (harg10 : arg10.IsWhole)
  (arg11 : Memref Cert.ContextIdeal.sig .tc .vmem S2x512 .f32) (harg11 : arg11.IsWhole)
  (arg13 : Memref Cert.ContextIdeal.sig .tc .vmem S4x320x128 .f32) (arg14 : Memref Cert.ContextIdeal.sig .tc .vmem S304x512 .f32)
  (arg15 : Memref Cert.ContextIdeal.sig .tc .vmem S256x512 .f32) (arg16 : Memref Cert.ContextIdeal.sig .tc .vmem S256x1024 .f32)
  {x0 : FVec Ideal S1x256x1024 .f32}
  {x1 : FVec Ideal S8x3072 .f32}
  {x2 : FVec Ideal S1x1024 .f32}
  {x3 : FVec Ideal S1024x512 .bf16}
  {x4 : FVec Ideal S4x16x512 .f32}
  {x5 : FVec Ideal S16x512 .f32}
  {x6 : FVec Ideal S1x4x128x256 .bf16}
  {x7 : FVec Ideal S1x1x1024 .f32}
  {x8 : FVec Ideal S1x4x128x256 .bf16}
  {x9 : FVec Ideal S1x1x1024 .f32}
  {x10 : FVec Ideal S2x512 .f32}
  (T : Tile D b x0 x1 x2 x3 x4 x5 x6 x7 x8 x9 x10)
include T

theorem prod0 (hg : ∀ r n, r < 256 → n < 512 → tiny ≤ gap D 0 b (slot r) n) : ProdTo D b 0 16 (v1367 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) := by
  iterate 16
    refine prodTo_succ (gate0_loads c arg1 harg1 arg2 harg2 arg3 harg3 arg4 harg4 arg5 harg5 arg6 harg6 arg7 harg7 arg8 harg8 arg11 harg11 arg13 arg14 arg15 T hg arg16.view) ?_ (by decide) (by decide)
  exact prodTo_zero

theorem state0 (hg : ∀ r n, r < 256 → n < 512 → tiny ≤ gap D 0 b (slot r) n) : StateTo D b 0 16 (v1369 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) := by
  iterate 16
    refine stateTo_succ (gate0_loads c arg1 harg1 arg2 harg2 arg3 harg3 arg4 harg4 arg5 harg5 arg6 harg6 arg7 harg7 arg8 harg8 arg11 harg11 arg13 arg14 arg15 T hg arg16.view) ?_ (by decide) (by decide) (by decide)
  exact stateTo_zero

theorem prod1 (hg : ∀ r n, r < 256 → n < 512 → tiny ≤ gap D 1 b (slot r) n) : ProdTo D b 1 16 (v1786 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) := by
  iterate 16
    refine prodTo_succ (gate1_loads c arg1 harg1 arg2 harg2 arg3 harg3 arg4 harg4 arg5 harg5 arg6 harg6 arg7 harg7 arg8 harg8 arg9 harg9 arg10 harg10 arg11 harg11 arg13 arg14 arg15 T hg arg16.view) ?_ (by decide) (by decide)
  exact prodTo_zero

theorem state1 (hg : ∀ r n, r < 256 → n < 512 → tiny ≤ gap D 1 b (slot r) n) : StateTo D b 1 16 (v1788 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) := by
  iterate 16
    refine stateTo_succ (gate1_loads c arg1 harg1 arg2 harg2 arg3 harg3 arg4 harg4 arg5 harg5 arg6 harg6 arg7 harg7 arg8 harg8 arg9 harg9 arg10 harg10 arg11 harg11 arg13 arg14 arg15 T hg arg16.view) ?_ (by decide) (by decide) (by decide)
  exact stateTo_zero

theorem row0 (hg : ∀ r n, r < 256 → n < 512 → tiny ≤ gap D 0 b (slot r) n) :
    k0_pay266 (v1367 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) (v1369 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) (v1427 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) (v1428 (F := Ideal) c arg1 harg1 arg2 harg2 arg3 harg3 arg4 harg4 arg5 harg5 arg6 harg6 arg7 harg7 arg8 harg8 arg11 harg11 arg13 arg14 arg15 arg16 x0 x1 x2 x3 x4 x5 x6 x7 x10) = m3 fun _ _ n => hst D 0 b n (16 * 16) := by
  have hp := prod0 c arg1 harg1 arg2 harg2 arg3 harg3 arg4 harg4 arg5 harg5 arg6 harg6 arg7 harg7 arg8 harg8 arg11 harg11 arg13 arg14 arg15 arg16 T hg
  have hh := state0 c arg1 harg1 arg2 harg2 arg3 harg3 arg4 harg4 arg5 harg5 arg6 harg6 arg7 harg7 arg8 harg8 arg11 harg11 arg13 arg14 arg15 arg16 T hg
  refine out1_val (show CarryTo D b 0 16 _ from ?_)
  iterate 16
    refine carryTo_succ hp hh ?_ (by decide) (by decide)
  exact carryTo_zero

theorem row1 (hg : ∀ r n, r < 256 → n < 512 → tiny ≤ gap D 1 b (slot r) n) :
    k0_pay1 (v1786 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) (v1788 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) (r_7 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) (r_8 (F := Ideal) c arg1 harg1 arg2 harg2 arg3 harg3 arg4 harg4 arg5 harg5 arg6 harg6 arg7 harg7 arg8 harg8 arg9 harg9 arg10 harg10 arg11 harg11 arg13 arg14 arg15 arg16 x0 x1 x2 x3 x4 x5 x6 x7 x8 x9 x10) = m3 fun _ _ n => hst D 1 b n (16 * 16) := by
  have hp := prod1 c arg1 harg1 arg2 harg2 arg3 harg3 arg4 harg4 arg5 harg5 arg6 harg6 arg7 harg7 arg8 harg8 arg9 harg9 arg10 harg10 arg11 harg11 arg13 arg14 arg15 arg16 T hg
  have hh := state1 c arg1 harg1 arg2 harg2 arg3 harg3 arg4 harg4 arg5 harg5 arg6 harg6 arg7 harg7 arg8 harg8 arg9 harg9 arg10 harg10 arg11 harg11 arg13 arg14 arg15 arg16 T hg
  refine out1_val (show CarryTo D b 1 16 _ from ?_)
  iterate 6
    refine carryTo_succ hp hh ?_ (by decide) (by decide)
  refine carryTo_succ hp hh ?_ (by decide) (by decide) (h := slices_S16x512_o6_0_S1x512)
  iterate 9
    refine carryTo_succ hp hh ?_ (by decide) (by decide)
  exact carryTo_zero

variable (i : grid0.Coords) (harg13 : arg13.IsWhole) (harg14 : arg14.IsWhole) (harg15 : arg15.IsWhole) (harg16 : arg16.IsWhole)
  (arg12 : Memref Cert.ContextIdeal.sig .tc .vmem S1x2x512 .f32) (harg12 : arg12.IsWhole)
  (arg17 : Memref Cert.ContextIdeal.sig .tc .vmem S256x512 .f32) (harg17 : arg17.IsWhole)
  (arg18 : Memref Cert.ContextIdeal.sig .tc .vmem S256x512 .f32) (harg18 : arg18.IsWhole)

theorem out_val (hg : ∀ q r n, q < 2 → r < 256 → n < 512 → tiny ≤ gap D q b (slot r) n) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 = m3 fun _ d n => hst D d b n 256 := by
  unfold out0_A_11
  refine read_pieces' ?_ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)
  refine cons3 (row1 c arg1 harg1 arg2 harg2 arg3 harg3 arg4 harg4 arg5 harg5 arg6 harg6 arg7 harg7 arg8 harg8 arg9 harg9 arg10 harg10 arg11 harg11 arg13 arg14 arg15 arg16 T fun r n => hg 1 r n (by decide)) (fun p q r hp hq _ => ?_)
    (cons3 (row0 c arg1 harg1 arg2 harg2 arg3 harg3 arg4 harg4 arg5 harg5 arg6 harg6 arg7 harg7 arg8 harg8 arg11 harg11 arg13 arg14 arg15 arg16 T fun r n => hg 0 r n (by decide)) (fun p q r hp hq _ => ?_) trivial)
  · obtain rfl : q = 0 := by omega
    show hst D 1 b r (16 * 16) = hst D (1 + 0) b (0 + r) 256
    rw [Nat.zero_add]
  · obtain rfl : q = 0 := by omega
    show hst D 0 b r 256 = hst D 0 b (0 + r) 256
    rw [Nat.zero_add r]

end
end Cert.Proof.Ctx

end
-- ==== Proof.CtxKernelIn.lean ====
/- What the context call's windows hold at each of its two points: the blocks of one batch entry. -/
module

public import proofs.«01_k».proof.Proof.CtxIn
public import proofs.«01_k».proof.Proof.CtxRef
public import proofs.«01_k».proof.Proof.KernelIn
public import proofs.«01_k».proof.Proof.Gen.ContextIdeal.Frame

@[expose] public section

noncomputable section

namespace Cert.Proof.Ctx

open Idealize.ShloMosaic Idealize.ShloMosaic.TcCoe Idealize.SL.Sem
open Cert.Proof.Fwd (half)
open Cert.Proof.Ref Cert.ContextIdeal Cert.ContextIdeal.Gen

theorem half_mul (y : EReal) : Ideal.ofBits .f32 0x3F000000#32 * y = half * y := by
  rw [Fwd.bits_half]
  rfl

section Host

variable {D : Data} {V : Valuation τ Cert.ContextIdeal.sig (Elt Ideal)}

/-- The arguments the valuation holds are the given ones. -/
abbrev Given (D : Data) (V : Valuation τ Cert.ContextIdeal.sig (Elt Ideal)) : Prop :=
  Ctx.Ref.Holds D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10))

theorem host_gain (H : Given D V) : (StableHlo.after hostOps0 V (Proc.devRef .tc main_v33) : _ → EReal) = (m2 fun _ n => D.gain n : FVec Ideal S1x1024 .f32) := by
  after_reads_simp
  refine eq_m2 fun p k => ?_
  obtain rfl : p = 0 := Subsingleton.elim _ _
  pointwise []
  exact H.g _ _

theorem host_lam (H : Given D V) : (StableHlo.after hostOps0 V (Proc.devRef .tc main_v34) : _ → EReal) = (m2 fun d n => D.lam d n : FVec Ideal S2x512 .f32) := by
  after_reads_simp
  refine eq_m2 fun p k => ?_
  pointwise []
  exact H.lam _ _ _

theorem host_cb (H : Given D V) : (StableHlo.after hostOps0 V (Proc.devRef .tc main_v31) : _ → EReal) = (m2 fun _ n => half * D.cb n : FVec Ideal S16x512 .f32) := by
  after_reads_simp
  refine eq_m2 fun p k => ?_
  pointwise []
  rw [H.cb]
  exact half_mul _

theorem host_cw (H : Given D V) : (StableHlo.after hostOps0 V (Proc.devRef .tc main_v28) : _ → EReal) = (m3 fun m _ n => half * D.cw m n : FVec Ideal S4x16x512 .f32) := by
  after_reads_simp
  refine eq_m3 fun p q k => ?_
  pointwise []
  rw [H.cw]
  exact half_mul _

theorem host_bg (H : Given D V) (d : Fin 2) (n : Fin 1024) : (StableHlo.after hostOps0 V (Proc.devRef .tc main_v23) : FVec Ideal S2x1x1024 .f32) (ix3 d 0 n)
    = (half * (if n.val < 512 then D.br d n.val else D.bi d (n.val - 512))) := by
  after_reads_simp
  pointwise []
  rw [← half_mul]
  congr 1
  split
  · after_reads_simp
    pointwise []
    exact H.br _ _ _
  · after_reads_simp
    pointwise []
    exact H.bi _ _ _

theorem host_wg (H : Given D V) (q : Fin 2) (h : Fin 4) (d : Fin 128) (e : Fin 256) :
    (StableHlo.after hostOps0 V (Proc.devRef .tc main_v17) : FVec Ideal S2x4x128x256 .bf16) (ix4 q h d e)
      = (if e.val < 128 then D.wr q h d e.val else D.wi q h d (e.val - 128)) := by
  after_reads_simp
  pointwise []
  split
  · after_reads_simp
    pointwise []
    exact H.wr _ _ _ _ _
  · after_reads_simp
    pointwise []
    exact H.wi _ _ _ _ _

/-- The recurrent branch's columns are kept as they are. -/
theorem host_w (H : Given D V) (p : Fin 1024) (k : Fin 2048) (h0 : 1024 ≤ k.val) (h1 : k.val < 1536) :
    (StableHlo.after hostOps0 V (Proc.devRef .tc main_v13) : FVec Ideal S1024x2048 .bf16) (ix2 p k) = (D.w p k) := by
  after_reads_simp
  pointwise []
  split
  · rename_i g1
    exact absurd g1 (by show ¬ k.val < 512; omega)
  split
  · rename_i g1 g2
    exact absurd g2 (by show ¬ k.val - 512 < 512; omega)
  split
  · after_reads_simp
    pointwise []
    refine (H.w _ _ _).trans ?_
    refine congrArg (fun y : EReal => y) (congrArg₂ D.w rfl ?_)
    show 1024 + (k.val - 512 - 512) = k.val
    omega
  · rename_i g1 g2 g3
    exact absurd (show k.val - 512 - 512 < 512 by omega) g3

end Host

/-! ## The windows -/

theorem index_x : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

section Windows

variable {m : (ℓ : Loc nD τ Cert.ContextIdeal.sig) → Buf (Elt Ideal) ℓ} {D : Data} {c : Dev nD}

/-- The kernel's arguments in the memory are the given ones. -/
abbrev KHolds (m : (ℓ : Loc nD τ Cert.ContextIdeal.sig) → Buf (Elt Ideal) ℓ) (D : Data) (c : Dev nD) : Prop := Given D (fun b => m (c, b))

theorem block_x (H : KHolds m D c) (t : Fin cfg0.N) :
    (iblk m c 0 t : FVec Ideal S1x256x1024 .f32) = m3 fun _ p k => D.x t.val p k := by
  refine eq_m3 fun a p k => ?_
  unfold iblk
  rw [View.read_apply]
  show (V m c main_arg0 : S2x256x1024.Idx → EReal) _ = _
  rw [V_main_arg0]
  obtain ⟨h0, h1, h2⟩ := index_x t
  refine at3 (f := D.x) H.x _ ?_ ?_ ?_
  · show win0_0.index t 0 * 1 + 1 * a.val = t.val
    omega
  · show win0_0.index t 1 * 256 + 1 * p.val = p.val
    omega
  · show win0_0.index t 2 * 1024 + 1 * k.val = k.val
    omega

theorem block_md (H : KHolds m D c) (t : Fin cfg0.N) (k : Fin 3072) :
    (iblk m c 1 t : FVec Ideal S8x3072 .f32) (ix2 2 k) = (D.md k) := by
  unfold iblk
  rw [View.read_apply]
  show (V m c main_arg1 : S8x3072.Idx → EReal) _ = _
  rw [V_main_arg1]
  refine Eq.trans (congrArg _ ?_) (H.md k)
  funext a
  apply Fin.ext
  match a with
  | ⟨0, _⟩ => rfl
  | ⟨1, _⟩ =>
    show 0 * 3072 + 1 * k.val = k.val
    omega

theorem block_gain (H : KHolds m D c) (t : Fin cfg0.N) : (iblk m c 2 t : FVec Ideal S1x1024 .f32) = m2 fun _ n => D.gain n := by
  refine eq_m2 fun p k => ?_
  unfold iblk
  rw [View.read_apply]
  show (V m c main_v33 : S1x1024.Idx → EReal) _ = _
  rw [show (V m c main_v33 : S1x1024.Idx → EReal) = _ from host_gain H]
  refine at2 (f := fun _ n => D.gain n) (fun _ _ => rfl) _ rfl ?_
  show 0 * 1024 + 1 * k.val = k.val
  omega

theorem block_w (H : KHolds m D c) (t : Fin cfg0.N) : (iblk m c 3 t : FVec Ideal S1024x512 .bf16) = m2 fun k n => D.w k (1024 + n) := by
  refine eq_m2 fun p k => ?_
  have hk := k.isLt
  unfold iblk
  rw [View.read_apply]
  show (V m c main_v13 : S1024x2048.Idx → EReal) _ = _
  refine Eq.trans (congrArg _ ?_) (host_w H p ⟨1024 + k.val, by omega⟩ (Nat.le_add_right _ _) (by show 1024 + k.val < 1536; omega))
  funext a
  apply Fin.ext
  match a with
  | ⟨0, _⟩ =>
    show 0 * 1024 + 1 * p.val = p.val
    omega
  | ⟨1, _⟩ =>
    show 2 * 512 + 1 * k.val = 1024 + k.val
    omega

theorem block_cw (H : KHolds m D c) (t : Fin cfg0.N) : (iblk m c 4 t : FVec Ideal S4x16x512 .f32) = m3 fun m _ n => half * D.cw m n := by
  refine eq_m3 fun p q k => ?_
  unfold iblk
  rw [View.read_apply]
  show (V m c main_v28 : S4x16x512.Idx → EReal) _ = _
  rw [show (V m c main_v28 : S4x16x512.Idx → EReal) = _ from host_cw H]
  refine at3 (f := fun m _ n => half * D.cw m n) (fun _ _ _ => rfl) _ ?_ rfl ?_
  · show 0 * 4 + 1 * p.val = p.val
    omega
  · show 0 * 512 + 1 * k.val = k.val
    omega

theorem block_cb (H : KHolds m D c) (t : Fin cfg0.N) : (iblk m c 5 t : FVec Ideal S16x512 .f32) = m2 fun _ n => half * D.cb n := by
  refine eq_m2 fun p k => ?_
  unfold iblk
  rw [View.read_apply]
  show (V m c main_v31 : S16x512.Idx → EReal) _ = _
  rw [show (V m c main_v31 : S16x512.Idx → EReal) = _ from host_cb H]
  refine at2 (f := fun _ n => half * D.cb n) (fun _ _ => rfl) _ rfl ?_
  show 0 * 512 + 1 * k.val = k.val
  omega

theorem block_lam (H : KHolds m D c) (t : Fin cfg0.N) : (iblk m c 10 t : FVec Ideal S2x512 .f32) = m2 fun d n => D.lam d n := by
  refine eq_m2 fun p k => ?_
  unfold iblk
  rw [View.read_apply]
  show (V m c main_v34 : S2x512.Idx → EReal) _ = _
  rw [show (V m c main_v34 : S2x512.Idx → EReal) = _ from host_lam H]
  refine at2 (f := fun d n => D.lam d n) (fun _ _ => rfl) _ ?_ ?_
  · show 0 * 2 + 1 * p.val = p.val
    omega
  · show 0 * 512 + 1 * k.val = k.val
    omega

theorem block_bg0 (H : KHolds m D c) (t : Fin cfg0.N) :
    (iblk m c 7 t : FVec Ideal S1x1x1024 .f32) = m3 fun _ _ n => half * (if n < 512 then D.br 0 n else D.bi 0 (n - 512)) := by
  refine eq_m3 fun p q n => ?_
  obtain rfl : p = 0 := Subsingleton.elim _ _
  obtain rfl : q = 0 := Subsingleton.elim _ _
  unfold iblk
  rw [View.read_apply]
  show (V m c main_v23 : S2x1x1024.Idx → EReal) _ = _
  refine Eq.trans (congrArg _ ?_) (host_bg H 0 n)
  funext a
  apply Fin.ext
  match a with
  | ⟨0, _⟩ => rfl
  | ⟨1, _⟩ => rfl
  | ⟨2, _⟩ =>
    show 0 * 1024 + 1 * n.val = n.val
    omega

theorem block_wg0 (H : KHolds m D c) (t : Fin cfg0.N) :
    (iblk m c 6 t : FVec Ideal S1x4x128x256 .bf16) = m4 fun _ h d e => if e < 128 then D.wr 0 h d e else D.wi 0 h d (e - 128) := by
  refine eq_m4 fun p h d e => ?_
  obtain rfl : p = 0 := Subsingleton.elim _ _
  unfold iblk
  rw [View.read_apply]
  show (V m c main_v17 : S2x4x128x256.Idx → EReal) _ = _
  refine Eq.trans (congrArg _ ?_) (host_wg H 0 h d e)
  funext a
  apply Fin.ext
  match a with
  | ⟨0, _⟩ => rfl
  | ⟨1, _⟩ =>
    show 0 * 4 + 1 * h.val = h.val
    omega
  | ⟨2, _⟩ =>
    show 0 * 128 + 1 * d.val = d.val
    omega
  | ⟨3, _⟩ =>
    show 0 * 256 + 1 * e.val = e.val
    omega

theorem block_bg1 (H : KHolds m D c) (t : Fin cfg0.N) :
    (iblk m c 9 t : FVec Ideal S1x1x1024 .f32) = m3 fun _ _ n => half * (if n < 512 then D.br 1 n else D.bi 1 (n - 512)) := by
  refine eq_m3 fun p q n => ?_
  obtain rfl : p = 0 := Subsingleton.elim _ _
  obtain rfl : q = 0 := Subsingleton.elim _ _
  unfold iblk
  rw [View.read_apply]
  show (V m c main_v23 : S2x1x1024.Idx → EReal) _ = _
  refine Eq.trans (congrArg _ ?_) (host_bg H 1 n)
  funext a
  apply Fin.ext
  match a with
  | ⟨0, _⟩ => rfl
  | ⟨1, _⟩ => rfl
  | ⟨2, _⟩ =>
    show 0 * 1024 + 1 * n.val = n.val
    omega

theorem block_wg1 (H : KHolds m D c) (t : Fin cfg0.N) :
    (iblk m c 8 t : FVec Ideal S1x4x128x256 .bf16) = m4 fun _ h d e => if e < 128 then D.wr 1 h d e else D.wi 1 h d (e - 128) := by
  refine eq_m4 fun p h d e => ?_
  obtain rfl : p = 0 := Subsingleton.elim _ _
  unfold iblk
  rw [View.read_apply]
  show (V m c main_v17 : S2x4x128x256.Idx → EReal) _ = _
  refine Eq.trans (congrArg _ ?_) (host_wg H 1 h d e)
  funext a
  apply Fin.ext
  match a with
  | ⟨0, _⟩ => rfl
  | ⟨1, _⟩ =>
    show 0 * 4 + 1 * h.val = h.val
    omega
  | ⟨2, _⟩ =>
    show 0 * 128 + 1 * d.val = d.val
    omega
  | ⟨3, _⟩ =>
    show 0 * 256 + 1 * e.val = e.val
    omega

/-- The blocks of a point are those of its batch entry. -/
theorem tile_at (H : KHolds m D c) (t : Fin cfg0.N) :
    Tile D t.val (iblk m c 0 t) (iblk m c 1 t) (iblk m c 2 t) (iblk m c 3 t) (iblk m c 4 t) (iblk m c 5 t) (iblk m c 6 t)
      (iblk m c 7 t) (iblk m c 8 t) (iblk m c 9 t) (iblk m c 10 t) :=
  ⟨block_x H t, block_md H t, block_gain H t, block_w H t, block_cw H t, block_cb H t, block_wg0 H t, block_bg0 H t, block_wg1 H t, block_bg1 H t,
    block_lam H t⟩

end Windows

end Cert.Proof.Ctx
-- ==== Proof.CtxKernelRun.lean ====
/- The context call's result array: every batch entry's two states after its 256 steps. -/
module

public import proofs.«01_k».proof.Proof.CtxOut
public import proofs.«01_k».proof.Proof.CtxKernelIn
public import proofs.«01_k».proof.Proof.Gen.ContextIdeal.Value

@[expose] public section

noncomputable section

namespace Cert.Proof.Ctx

open Idealize.ShloMosaic Idealize.ShloMosaic.TcCoe Idealize.SL.Sem
open Cert.Proof.Fwd (tiny)
open Cert.ContextIdeal Cert.ContextIdeal.Gen Cert.ContextIdeal.Value

variable {m : (ℓ : Loc nD τ Cert.ContextIdeal.sig) → Buf (Elt Ideal) ℓ} {D : Data} {c : Dev nD}

theorem slot_lt {r : ℕ} (hr : r < 256) : slot r < 256 := by
  unfold slot
  omega

theorem outsAt_val (H : KHolds m D c) (hg : ∀ q b t n, q < 2 → b < 2 → t < 256 → n < 512 → tiny ≤ gap D q b t n) (t : Fin cfg0.N) :
    (outsAt0 m c t : FVec Ideal S1x2x512 .f32) = m3 fun _ d n => hst D d t.val n 256 :=
  out_val c _ _ _ _ _ _ _ _ _ _ _ _ _ _ _ _ _ _ _ _ _ _ _ _ _ _ (tile_at H t) _ _ _ _ _ _ _ _ _ _ _
    fun q r n hq hr hn => hg q t.val (slot r) n hq t.isLt (slot_lt hr) hn

theorem flush_all : ∀ t : Fin cfg0.N, (cfg0.win 11).flush t = true :=
  (by decide +kernel : ∀ t : Fin grid0.N, win0_11.flush t = true)

theorem index_out : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)

/-- THE RESULT ARRAY after the run. -/
theorem arr_val (H : KHolds m D c) (hg : ∀ q b t n, q < 2 → b < 2 → t < 256 → n < 512 → tiny ≤ gap D q b t n) :
    (dats m 0 c).arrAt 11 cfg0.N = Ctx.fin D := by
  refine funext fun (y : S2x2x512.Idx) => ?_
  obtain ⟨b, d, n, rfl⟩ : ∃ b d n, y = ix3 b d n := ⟨y 0, y 1, y 2, eq_ix3 y⟩
  obtain ⟨t, ht⟩ : ∃ t : Fin cfg0.N, t.val = b.val := ⟨⟨b.val, b.isLt⟩, rfl⟩
  have e := congrFun ((blocks11 m c t (flush_all t)).trans (flushed11 m c t)) (ix3 0 d n)
  rw [View.read_apply] at e
  obtain ⟨h0, h1, h2⟩ := index_out t
  have he : ((cfg0.win 11).blk t).view.emb (ix3 0 d n) = ix3 b d n := by
    funext a
    apply Fin.ext
    match a with
    | ⟨0, _⟩ =>
      show win0_11.index t 0 * 1 + 1 * 0 = b.val
      omega
    | ⟨1, _⟩ =>
      show win0_11.index t 1 * 2 + 1 * d.val = d.val
      omega
    | ⟨2, _⟩ =>
      show win0_11.index t 2 * 512 + 1 * n.val = n.val
      omega
  rw [he] at e
  refine e.trans ?_
  show (outsAt0 m c t : FVec Ideal S1x2x512 .f32) (ix3 0 d n) = _
  rw [outsAt_val H hg t]
  show (hst D d.val t.val n.val 256) = (hst D d.val b.val n.val 256)
  rw [ht]

end Cert.Proof.Ctx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Context
public import proofs.«01_k».proof.Proof.Gen.Context.Skeleton
public import proofs.«01_k».proof.Proof.Gen.Context.Launch
public import proofs.«01_k».proof.Proof.Gen.Context.Points
public import proofs.«01_k».proof.Proof.Gen.Context.Frame
public import proofs.«01_k».proof.Proof.Gen.ContextIdeal
public import proofs.«01_k».proof.Proof.Gen.ContextIdeal.Skeleton
public import proofs.«01_k».proof.Proof.Gen.ContextIdeal.Launch
public import proofs.«01_k».proof.Proof.Gen.ContextIdeal.Points
public import proofs.«01_k».proof.Proof.Gen.ContextIdeal.Frame
public import proofs.«01_k».proof.Proof.Gen.ContextIdeal.Value
public import proofs.«01_k».proof.Proof.Gen.ContextReferenceIdeal
public import proofs.«01_k».proof.Proof.Gen.ContextReferenceIdeal.Run
public import proofs.«01_k».proof.Proof.Regular
public import proofs.«01_k».proof.Proof.RefFrame
public import proofs.«01_k».proof.Proof.KernelRun
public import proofs.«01_k».proof.Proof.CtxRegular
public import proofs.«01_k».proof.Proof.CtxRefRun
public import proofs.«01_k».proof.Proof.CtxKernelRun
public import Idealize.ShloMosaic.Adequacy
public import Idealize.ShloMosaic.Init

@[expose] public section

noncomputable section

namespace Cert.Proof

open Idealize.ShloMosaic Idealize.ShloMosaic.TcCoe Idealize.SL.Sem
open Cert.Proof.Fwd

theorem frame_p : Cert.quiescent_Kernel := fun m ρ _ => Cert.Kernel.Gen.frame m ρ

theorem frame_pi : Cert.quiescent_KernelIdeal := fun m ρ _ => Cert.KernelIdeal.Gen.frame m ρ

theorem frame_pi_regular : Cert.quiescent_KernelIdeal_pre_regular := fun m ρ _ => Cert.KernelIdeal.Gen.frame m ρ

theorem frame_ri : Cert.quiescent_ReferenceIdeal := fun m ρ _ => Cert.Proof.Ref.frame m ρ

theorem frame_ri_regular : Cert.quiescent_ReferenceIdeal_pre_regular := fun m ρ _ => Cert.Proof.Ref.frame m ρ

/-- The constant the kernel prints is the one named `half_decay`, `-4 / log 2`. -/
theorem preserves : Cert.preserves_Kernel_KernelIdeal :=
  IdealRules.named_const.statement Cert.KernelIdeal.κ "half_decay" .f32 0xC0B8AA3B#32 (((-4) * (Real.log 2)⁻¹ : ℝ) : EReal) rfl

section Value

variable (m : (ℓ : Loc Cert.KernelIdeal.nD Cert.KernelIdeal.τ Cert.KernelIdeal.sig) → Buf (Elt Ideal) ℓ)

/-- The arguments in the memory of core `c`. -/
def fwdArgs (c : Dev Cert.KernelIdeal.nD) : Args :=
  Ref.argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))

variable {m}

theorem args_hold (c : Dev Cert.KernelIdeal.nD) : KHolds m (fwdArgs m c) c := Ref.holds_argsOf ..

theorem args_tame (h : Cert.Pre_KernelIdeal_regular m) (c : Dev Cert.KernelIdeal.nD) : Tame (fwdArgs m c) := Regular.regular_tame (h c)

/-- Where the precondition holds, both programs leave the forward pass over the extended reals. -/
theorem algebraic : Cert.algebraic_KernelIdeal_ReferenceIdeal_pre_regular := by
  intro m ρ m' ρ' h hagree
  refine ⟨fun c => arr (outUf (fwdArgs m c)), fun c => arr (outGf (fwdArgs m c)), fun c => arr (outGl (fwdArgs m c)),
    fun c => arr (outV (fwdArgs m c)), fun c => arr (outHf (fwdArgs m c)), ?_, ?_⟩
  · refine (θ_run Cert.KernelIdeal.defs _ _).mono (fun r k c => ?_) (Cert.KernelIdeal.Value.run (F := Ideal) m ρ)
    obtain ⟨k0, k1, k2, k3, k4, rest⟩ := k c
    exact ⟨k0.trans (arrayUf (args_hold c) (args_tame h c)), k1.trans (arrayGf (args_hold c) (args_tame h c)), k2.trans (arrayGl (args_hold c) (args_tame h c)),
      k3.trans (arrayV (args_hold c) (args_tame h c)), k4.trans (arrayHf (args_hold c) (args_tame h c)), rest⟩
  · refine Ref.run m' ρ' (fun c => fwdArgs m c) (fun c => ?_) (fun c b t n => le_trans tiny_pos.le ((args_tame h c).gap b t n b.isLt t.isLt n.isLt))
    obtain ⟨e0, e1, e2, e3, e4, e5, e6, e7, e8, e9, e10, e11⟩ := hagree c
    unfold Ref.HoldsAt
    rw [e0, e1, e2, e3, e4, e5, e6, e7, e8, e9, e10, e11]
    exact args_hold c

end Value

/-! ## The context call -/

theorem frame_p2 : Cert.quiescent_Context := fun m ρ _ => Cert.Context.Gen.frame m ρ

theorem frame_pi2 : Cert.quiescent_ContextIdeal := fun m ρ _ => Cert.ContextIdeal.Gen.frame m ρ

theorem frame_pi2_regular2 : Cert.quiescent_ContextIdeal_pre_regular2 := fun m ρ _ => Cert.ContextIdeal.Gen.frame m ρ

theorem frame_ri2 : Cert.quiescent_ContextReferenceIdeal := fun m ρ _ => Ctx.Ref.frame m ρ

theorem frame_ri2_regular2 : Cert.quiescent_ContextReferenceIdeal_pre_regular2 := fun m ρ _ => Ctx.Ref.frame m ρ

/-- The constant the context call prints is the one named `half_decay`, `-4 / log 2`. -/
theorem preserves2 : Cert.preserves_Context_ContextIdeal :=
  IdealRules.named_const.statement Cert.ContextIdeal.κ "half_decay" .f32 0xC0B8AA3B#32 (((-4) * (Real.log 2)⁻¹ : ℝ) : EReal) rfl

section Value2

variable (m : (ℓ : Loc Cert.ContextIdeal.nD Cert.ContextIdeal.τ Cert.ContextIdeal.sig) → Buf (Elt Ideal) ℓ)

/-- The arguments of the context call in the memory of core `c`. -/
def ctxData (c : Dev Cert.ContextIdeal.nD) : Ctx.Data :=
  Ctx.Ref.argsOf
    (m ((c.tc : Thread Cert.ContextIdeal.nD Cert.ContextIdeal.τ).loc Cert.ContextIdeal.main_arg0))
    (m ((c.tc : Thread Cert.ContextIdeal.nD Cert.ContextIdeal.τ).loc Cert.ContextIdeal.main_arg1))
    (m ((c.tc : Thread Cert.ContextIdeal.nD Cert.ContextIdeal.τ).loc Cert.ContextIdeal.main_arg2))
    (m ((c.tc : Thread Cert.ContextIdeal.nD Cert.ContextIdeal.τ).loc Cert.ContextIdeal.main_arg3))
    (m ((c.tc : Thread Cert.ContextIdeal.nD Cert.ContextIdeal.τ).loc Cert.ContextIdeal.main_arg4))
    (m ((c.tc : Thread Cert.ContextIdeal.nD Cert.ContextIdeal.τ).loc Cert.ContextIdeal.main_arg5))
    (m ((c.tc : Thread Cert.ContextIdeal.nD Cert.ContextIdeal.τ).loc Cert.ContextIdeal.main_arg6))
    (m ((c.tc : Thread Cert.ContextIdeal.nD Cert.ContextIdeal.τ).loc Cert.ContextIdeal.main_arg7))
    (m ((c.tc : Thread Cert.ContextIdeal.nD Cert.ContextIdeal.τ).loc Cert.ContextIdeal.main_arg8))
    (m ((c.tc : Thread Cert.ContextIdeal.nD Cert.ContextIdeal.τ).loc Cert.ContextIdeal.main_arg9))
    (m ((c.tc : Thread Cert.ContextIdeal.nD Cert.ContextIdeal.τ).loc Cert.ContextIdeal.main_arg10))

variable {m}

theorem data_holds (c : Dev Cert.ContextIdeal.nD) : Ctx.KHolds m (ctxData m c) c := Ctx.Ref.holds_argsOf ..

theorem data_gap (h : Cert.Pre_ContextIdeal_regular2 m) (c : Dev Cert.ContextIdeal.nD) (q b t n : ℕ) (hq : q < 2) (hb : b < 2) (ht : t < 256)
    (hn : n < 512) : tiny ≤ Ctx.gap (ctxData m c) q b t n :=
  Ctx.Regular.regular_gap (h c) q b t n hq hb ht hn

/-- Where `1 - a ^ 2` stays above the bound, both programs leave the states the context ends in, at infinite arguments too. -/
theorem algebraic2 : Cert.algebraic_ContextIdeal_ContextReferenceIdeal_pre_regular2 := by
  intro m ρ m' ρ' h hagree
  refine ⟨fun c => Ctx.fin (ctxData m c), ?_, ?_⟩
  · refine (θ_run Cert.ContextIdeal.defs _ _).mono (fun r k c => ?_) (Cert.ContextIdeal.Value.run_blocks (F := Ideal) m ρ)
    obtain ⟨k0, rest⟩ := k c
    exact ⟨k0.trans (Ctx.arr_val (data_holds c) (data_gap h c)), rest⟩
  · refine Ctx.Ref.run m' ρ' (fun c => ctxData m c) (fun c => ?_)
      (fun c q b t n hq => le_trans tiny_pos.le (data_gap h c q b t n hq b.isLt t.isLt n.isLt))
    obtain ⟨e0, e1, e2, e3, e4, e5, e6, e7, e8, e9, e10⟩ := hagree c
    unfold Ctx.Ref.HoldsAt
    rw [e0, e1, e2, e3, e4, e5, e6, e7, e8, e9, e10]
    exact data_holds c

end Value2

theorem claim : Cert.Claim :=
  ⟨Cert.Kernel.Gen.facts, Cert.KernelIdeal.Gen.facts, Cert.ReferenceIdeal.Gen.facts,
    Cert.Context.Gen.facts, Cert.ContextIdeal.Gen.facts, Cert.ContextReferenceIdeal.Gen.facts, Regular.facts, Ctx.Regular.facts,
    frame_p, frame_pi, frame_pi_regular, frame_ri, frame_ri_regular, frame_p2, frame_pi2, frame_pi2_regular2, frame_ri2, frame_ri2_regular2,
    preserves, algebraic, preserves2, algebraic2⟩

end Cert.Proof

end
